-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "q_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)) (v7 : (c : Dev Cert.Kernel3Ideal.nD) → Buf (Elt Ideal) ((c.tc : Thread Cert.Kernel3Ideal.nD Cert.Kernel3Ideal.τ).loc Cert.Kernel3Ideal.main_v13_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_v13_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_v50) = v3 c
          ∧ r.2.mem ((c.tc : Thread Cert.Reference3Ideal.nD Cert.Reference3Ideal.τ).loc Cert.Reference3Ideal.main_v51) = v4 c
          ∧ r.2.mem ((c.tc : Thread Cert.Reference3Ideal.nD Cert.Reference3Ideal.τ).loc Cert.Reference3Ideal.main_v52) = v5 c
          ∧ r.2.mem ((c.tc : Thread Cert.Reference3Ideal.nD Cert.Reference3Ideal.τ).loc Cert.Reference3Ideal.main_v48) = v6 c
          ∧ r.2.mem ((c.tc : Thread Cert.Reference3Ideal.nD Cert.Reference3Ideal.τ).loc Cert.Reference3Ideal.main_v53) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v42)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v42) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v127) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite5 : Cert.Pre_finite5.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite5.lean ====
abbrev S2x8192x1024 : Shape := ⟨3, ![2, 8192, 1024]⟩
abbrev S2x8192x512 : Shape := ⟨3, ![2, 8192, 512]⟩
abbrev S2x8192x128 : Shape := ⟨3, ![2, 8192, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S2x8192x8 : Shape := ⟨3, ![2, 8192, 8]⟩
abbrev S_ : Shape := ⟨0, ![]⟩

class Facts : Prop where
  slices_S2x8192x128_S2x8192x8_0_0_72 : S2x8192x128.Slices ![0, 0, 72] S2x8192x8
  bcast_S_S2x8192x8 : S_.BroadcastsInDim S2x8192x8 (![] : Fin 0 → Fin S2x8192x8.rank)
  reducesTo_S2x8192x8_S_d0_1_2 : S2x8192x8.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2x8192x1024 .f32) (main_arg1 : FVec F S2x8192x512 .f32) (main_arg2 : FVec F S2x8192x128 .f32) (main_arg3 : FVec F S4x1024 .f32) (main_arg4 : FVec F S1024 .f32) (main_arg5 : FVec F S8 .f32) (main_arg6 : FVec F S8 .f32) (main_arg7 : FVec F S8 .f32) (main_arg8 : FVec F S512 .f32) : IVec S_ 1 :=
  let main_v0 : FVec F S2x8192x8 .f32 := (extractStridedSlice S2x8192x8 ![0, 0, 72] · slices_S2x8192x128_S2x8192x8_0_0_72) main_arg2
  let main_v1 : FVec F S2x8192x8 .f32 := Host.absf main_v0
  let main_cst : FVec F S_ .f32 := constant S_ .f32 0x7F800000#32
  let main_v2 : FVec F S2x8192x8 .f32 := broadcastInDim S2x8192x8 ![] bcast_S_S2x8192x8 main_cst
  let main_v3 : IVec S2x8192x8 1 := cmpf .olt main_v1 main_v2
  let main_c : IVec S_ 1 := constantI S_ 1 1#1
  let main_v4 : IVec S_ 1 := (fun x v => Host.reduce IntOp.andi x v reducesTo_S2x8192x8_S_d0_1_2 h_S_) main_v3 main_c
  let main_v5 : FVec F S8 .f32 := Host.absf main_arg5
  let main_cst_0 : FVec F S_ .f32 := constant S_ .f32 0x7F800000#32
  let main_v6 : FVec F S8 .f32 := broadcastInDim S8 ![] bcast_S_S8 main_cst_0
  let main_v7 : IVec S8 1 := cmpf .olt main_v5 main_v6
  let main_c_1 : IVec S_ 1 := constantI S_ 1 1#1
  let main_v8 : IVec S_ 1 := (fun x v => Host.reduce IntOp.andi x v reducesTo_S8_S_d0 h_S_) main_v7 main_c_1
  let main_v9 : IVec S_ 1 := andi main_v4 main_v8
  let main_v10 : FVec F S8 .f32 := Host.absf main_arg6
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v9 main_v13
  main_v14
-- ==== Kernel.lean ====
abbrev S32x8 : Shape := ⟨2, ![32, 8]⟩
abbrev S2x64x2x64x512 : Shape := ⟨5, ![2, 64, 2, 64, 512]⟩
abbrev S2x64x64x1024 : Shape := ⟨4, ![2, 64, 64, 1024]⟩
abbrev S2x8192x128 : Shape := ⟨3, ![2, 8192, 128]⟩
abbrev S2x64x2x80x128 : Shape := ⟨5, ![2, 64, 2, 80, 128]⟩
abbrev S512x128 : Shape := ⟨2, ![512, 128]⟩
abbrev S2x128x128 : Shape := ⟨3, ![2, 128, 128]⟩
abbrev S2x64x512x128 : Shape := ⟨4, ![2, 64, 512, 128]⟩
abbrev S1x1x2x64x512 : Shape := ⟨5, ![1, 1, 2, 64, 512]⟩
abbrev S1x1x64x1024 : Shape := ⟨4, ![1, 1, 64, 1024]⟩
abbrev S1x128x128 : Shape := ⟨3, ![1, 128, 128]⟩
abbrev S1x8192x128 : Shape := ⟨3, ![1, 8192, 128]⟩
abbrev S1x64x2x80x128 : Shape := ⟨5, ![1, 64, 2, 80, 128]⟩
abbrev S1x1x512x128 : Shape := ⟨4, ![1, 1, 512, 128]⟩
abbrev S32x256x128 : Shape := ⟨3, ![32, 256, 128]⟩
abbrev S256x128 : Shape := ⟨2, ![256, 128]⟩
abbrev S2x1x128 : Shape := ⟨3, ![2, 1, 128]⟩
abbrev S3x2x128x512 : Shape := ⟨4, ![3, 2, 128, 512]⟩
abbrev S2x64x512 : Shape := ⟨3, ![2, 64, 512]⟩
abbrev S64x1024 : Shape := ⟨2, ![64, 1024]⟩
abbrev S8x1024 : Shape := ⟨2, ![8, 1024]⟩
abbrev S2x1x512 : Shape := ⟨3, ![2, 1, 512]⟩
abbrev S2x80x512 : Shape := ⟨3, ![2, 80, 512]⟩
abbrev S3x2x512x512 : Shape := ⟨4, ![3, 2, 512, 512]⟩
abbrev S128x128 : Shape := ⟨2, ![128, 128]⟩
abbrev S1x1 : Shape := ⟨2, ![1, 1]⟩
abbrev S1x1x128x128 : Shape := ⟨4, ![1, 1, 128, 128]⟩
abbrev S2x128x512 : Shape := ⟨3, ![2, 128, 512]⟩
abbrev S1x2x128x512 : Shape := ⟨4, ![1, 2, 128, 512]⟩
abbrev S1x256x128 : Shape := ⟨3, ![1, 256, 128]⟩
abbrev S2x512x512 : Shape := ⟨3, ![2, 512, 512]⟩
abbrev S1x2x512x512 : Shape := ⟨4, ![1, 2, 512, 512]⟩
abbrev S8x128 : Shape := ⟨2, ![8, 128]⟩
abbrev S1x128 : Shape := ⟨2, ![1, 128]⟩
abbrev S1x512x64 : Shape := ⟨3, ![1, 512, 64]⟩
abbrev S512x64 : Shape := ⟨2, ![512, 64]⟩
abbrev S512x1024 : Shape := ⟨2, ![512, 1024]⟩
abbrev S1x1024 : Shape := ⟨2, ![1, 1024]⟩
abbrev S1x512x128 : Shape := ⟨3, ![1, 512, 128]⟩
abbrev S2x32x8x128 : Shape := ⟨4, ![2, 32, 8, 128]⟩
abbrev S2x1x8x128 : Shape := ⟨4, ![2, 1, 8, 128]⟩
abbrev S2x8x128 : Shape := ⟨3, ![2, 8, 128]⟩
abbrev S16x128 : Shape := ⟨2, ![16, 128]⟩
abbrev S1x16x128 : Shape := ⟨3, ![1, 16, 128]⟩
abbrev S128 : Shape := ⟨1, ![128]⟩
abbrev S1x1x128 : Shape := ⟨3, ![1, 1, 128]⟩
abbrev S1 : Shape := ⟨1, ![1]⟩
abbrev S64x128 : Shape := ⟨2, ![64, 128]⟩
abbrev S32x128 : Shape := ⟨2, ![32, 128]⟩
abbrev S1x1x1x64x512 : Shape := ⟨5, ![1, 1, 1, 64, 512]⟩
abbrev S64x512 : Shape := ⟨2, ![64, 512]⟩
abbrev S1x64x512 : Shape := ⟨3, ![1, 64, 512]⟩
abbrev S80x512 : Shape := ⟨2, ![80, 512]⟩
abbrev S1x80x512 : Shape := ⟨3, ![1, 80, 512]⟩
abbrev S1x1x1x80x128 : Shape := ⟨5, ![1, 1, 1, 80, 128]⟩
abbrev S80x128 : Shape := ⟨2, ![80, 128]⟩
abbrev S1x1x512x512 : Shape := ⟨4, ![1, 1, 512, 512]⟩
abbrev S512x512 : Shape := ⟨2, ![512, 512]⟩
abbrev S1x1x128x512 : Shape := ⟨4, ![1, 1, 128, 512]⟩
abbrev S128x512 : Shape := ⟨2, ![128, 512]⟩
abbrev S1x32x128 : Shape := ⟨3, ![1, 32, 128]⟩
abbrev S48x128 : Shape := ⟨2, ![48, 128]⟩
abbrev S1x48x128 : Shape := ⟨3, ![1, 48, 128]⟩
abbrev S1x64x128 : Shape := ⟨3, ![1, 64, 128]⟩
abbrev S1x80x128 : Shape := ⟨3, ![1, 80, 128]⟩
abbrev S96x128 : Shape := ⟨2, ![96, 128]⟩
abbrev S1x96x128 : Shape := ⟨3, ![1, 96, 128]⟩
abbrev S112x128 : Shape := ⟨2, ![112, 128]⟩
abbrev S1x112x128 : Shape := ⟨3, ![1, 112, 128]⟩
abbrev S144x128 : Shape := ⟨2, ![144, 128]⟩
abbrev S1x144x128 : Shape := ⟨3, ![1, 144, 128]⟩
abbrev S160x128 : Shape := ⟨2, ![160, 128]⟩
abbrev S1x160x128 : Shape := ⟨3, ![1, 160, 128]⟩
abbrev S176x128 : Shape := ⟨2, ![176, 128]⟩
abbrev S1x176x128 : Shape := ⟨3, ![1, 176, 128]⟩
abbrev S192x128 : Shape := ⟨2, ![192, 128]⟩
abbrev S1x192x128 : Shape := ⟨3, ![1, 192, 128]⟩
abbrev S208x128 : Shape := ⟨2, ![208, 128]⟩
abbrev S1x208x128 : Shape := ⟨3, ![1, 208, 128]⟩
abbrev S224x128 : Shape := ⟨2, ![224, 128]⟩
abbrev S1x224x128 : Shape := ⟨3, ![1, 224, 128]⟩
abbrev S240x128 : Shape := ⟨2, ![240, 128]⟩
abbrev S1x240x128 : Shape := ⟨3, ![1, 240, 128]⟩
abbrev S1x512 : Shape := ⟨2, ![1, 512]⟩
abbrev S512 : Shape := ⟨1, ![512]⟩
abbrev S1x1x512 : Shape := ⟨3, ![1, 1, 512]⟩

abbrev nBuf : Space → Nat
  | .hbm => 10
  | .vmem => 32
  | .smem => 1
  | _ => 0

abbrev bufTy : (tb : Table) → Fin (tcTables nBuf tb) → BufTy
  | .hbm, ⟨0, _⟩ => ⟨S32x8, .f32⟩
  | .hbm, ⟨1, _⟩ => ⟨S2x64x2x64x512, .bf16⟩
  | .hbm, ⟨2, _⟩ => ⟨S2x64x64x1024, .bf16⟩
  | .hbm, ⟨3, _⟩ => ⟨S2x8192x128, .f32⟩
  | .hbm, ⟨4, _⟩ => ⟨S2x8192x128, .bf16⟩
  | .hbm, ⟨5, _⟩ => ⟨S2x64x2x80x128, .bf16⟩
  | .hbm, ⟨6, _⟩ => ⟨S2x8192x128, .bf16⟩
  | .hbm, ⟨7, _⟩ => ⟨S512x128, .f32⟩
  | .hbm, ⟨8, _⟩ => ⟨S2x128x128, .i32⟩
  | .hbm, ⟨9, _⟩ => ⟨S2x64x512x128, .bf16⟩
  | .local _ .vmem, ⟨0, _⟩ => ⟨S2x128x128, .i32⟩
  | .local _ .vmem, ⟨1, _⟩ => ⟨S1x1x2x64x512, .bf16⟩
  | .local _ .vmem, ⟨2, _⟩ => ⟨S1x1x2x64x512, .bf16⟩
  | .local _ .vmem, ⟨3, _⟩ => ⟨S1x1x64x1024, .bf16⟩
  | .local _ .vmem, ⟨4, _⟩ => ⟨S1x1x64x1024, .bf16⟩
  | .local _ .vmem, ⟨5, _⟩ => ⟨S1x128x128, .f32⟩
  | .local _ .vmem, ⟨6, _⟩ => ⟨S1x128x128, .f32⟩
  | .local _ .vmem, ⟨7, _⟩ => ⟨S1x1x64x1024, .bf16⟩
  | .local _ .vmem, ⟨8, _⟩ => ⟨S1x1x64x1024, .bf16⟩
  | .local _ .vmem, ⟨9, _⟩ => ⟨S1x128x128, .f32⟩
  | .local _ .vmem, ⟨10, _⟩ => ⟨S1x128x128, .f32⟩
  | .local _ .vmem, ⟨11, _⟩ => ⟨S1x8192x128, .bf16⟩
  | .local _ .vmem, ⟨12, _⟩ => ⟨S1x8192x128, .bf16⟩
  | .local _ .vmem, ⟨13, _⟩ => ⟨S1x64x2x80x128, .bf16⟩
  | .local _ .vmem, ⟨14, _⟩ => ⟨S1x64x2x80x128, .bf16⟩
  | .local _ .vmem, ⟨15, _⟩ => ⟨S1x8192x128, .bf16⟩
  | .local _ .vmem, ⟨16, _⟩ => ⟨S1x8192x128, .bf16⟩
  | .local _ .vmem, ⟨17, _⟩ => ⟨S512x128, .f32⟩
  | .local _ .vmem, ⟨18, _⟩ => ⟨S1x1x512x128, .bf16⟩
  | .local _ .vmem, ⟨19, _⟩ => ⟨S1x1x512x128, .bf16⟩
  | .local _ .vmem, ⟨20, _⟩ => ⟨S2x8192x128, .i32⟩
  | .local _ .vmem, ⟨21, _⟩ => ⟨S32x256x128, .i32⟩
  | .local _ .vmem, ⟨22, _⟩ => ⟨S256x128, .i32⟩
  | .local _ .vmem, ⟨23, _⟩ => ⟨S2x1x128, .i32⟩
  | .local _ .vmem, ⟨24, _⟩ => ⟨S2x1x128, .i32⟩
  | .local _ .vmem, ⟨25, _⟩ => ⟨S3x2x128x512, .f32⟩
  | .local _ .vmem, ⟨26, _⟩ => ⟨S2x64x512, .bf16⟩
  | .local _ .vmem, ⟨27, _⟩ => ⟨S64x1024, .bf16⟩
  | .local _ .vmem, ⟨28, _⟩ => ⟨S8x1024, .f32⟩
  | .local _ .vmem, ⟨29, _⟩ => ⟨S2x1x512, .f32⟩
  | .local _ .vmem, ⟨30, _⟩ => ⟨S2x80x512, .f32⟩
  | .local _ .vmem, ⟨31, _⟩ => ⟨S3x2x512x512, .bf16⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [BitOps F]

abbrev grid0 : Pipeline.Grid := ⟨2, ![2, 64], ![false, false]⟩

def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def k0_mult1 : BitVec 32 :=
  let c0_i32_769 : BitVec 32 := 0#32
  c0_i32_769
def k0_mult2 : BitVec 32 :=
  let c0_i32_786 : BitVec 32 := 0#32
  c0_i32_786
def k0_mult3 : BitVec 32 :=
  let c0_i32_1030 : BitVec 32 := 0#32
  c0_i32_1030
@[reducible] def k0_t1_loop : Scf.Loop 32 :=
  let c0_i32_1107 : BitVec 32 := 0#32
  let c32_i32_1108 : BitVec 32 := 32#32
  let v2819 : BitVec 32 := Scalar.addi c0_i32_1107 c32_i32_1108
  let c1_i32_1109 : BitVec 32 := 1#32
  ⟨c0_i32_1107, v2819, c1_i32_1109⟩
def k0_off1 (k0_t1 : Fin k0_t1_loop.trips) : Fin 3 → Nat :=
  let c0_i32_1107 : BitVec 32 := 0#32
  let c1_i32_1109 : BitVec 32 := 1#32
  let arg26 : BitVec 32 := Scf.iv c0_i32_1107 c1_i32_1109 k0_t1
  let v2863 : Index := Scalar.indexCast arg26
  let c0_1142 : Index := 0#32
  let c0_1143 : Index := 0#32
  ![v2863.toNat, 0, 0]
def k0_off2 (k0_t1 : Fin k0_t1_loop.trips) : Fin 3 → Nat :=
  let c0_i32_1107 : BitVec 32 := 0#32
  let c1_i32_1109 : BitVec 32 := 1#32
  let arg26 : BitVec 32 := Scf.iv c0_i32_1107 c1_i32_1109 k0_t1
  let c1_i32_1148 : BitVec 32 := 1#32
  let v2875 : BitVec 32 := Scalar.addi arg26 c1_i32_1148
  let c31_i32_1149 : BitVec 32 := 31#32
  let v2876 : BitVec 32 := Scalar.minsi v2875 c31_i32_1149
  let v2877 : Index := Scalar.indexCast v2876
  let c0_1150 : Index := 0#32
  let c0_1151 : Index := 0#32
  ![v2877.toNat, 0, 0]
@[reducible] def k0_t2_loop : Scf.Loop 32 :=
  let c0_i32_1138 : BitVec 32 := 0#32
  let c13_i32 : BitVec 32 := 13#32
  let v2853 : BitVec 32 := Scalar.addi c0_i32_1138 c13_i32
  let c1_i32_1139 : BitVec 32 := 1#32
  ⟨c0_i32_1138, v2853, c1_i32_1139⟩
def k0_mult4 : BitVec 32 :=
  let c0_i32_1151 : BitVec 32 := 0#32
  let c512_i32_1152 : BitVec 32 := 512#32
  let v2878 : BitVec 32 := Scalar.muli c0_i32_1151 c512_i32_1152
  v2878
def k0_off3 : Fin 3 → Nat :=
  let c0_1153 : Index := 0#32
  let c0_i32_1151 : BitVec 32 := 0#32
  let c512_i32_1152 : BitVec 32 := 512#32
  let v2878 : BitVec 32 := Scalar.muli c0_i32_1151 c512_i32_1152
  let v2879 : BitVec 32 := v2878
  let v2880 : Index := Scalar.indexCast v2879
  let c0_1154 : Index := 0#32
  ![0, v2880.toNat, 0]
def k0_mult5 : BitVec 32 :=
  let c0_i32_1141 : BitVec 32 := 0#32
  let c512_i32_1142 : BitVec 32 := 512#32
  let v2855 : BitVec 32 := Scalar.muli c0_i32_1141 c512_i32_1142
  v2855
def k0_off4 : Fin 3 → Nat :=
  let c0_1143 : Index := 0#32
  let c0_i32_1141 : BitVec 32 := 0#32
  let c512_i32_1142 : BitVec 32 := 512#32
  let v2855 : BitVec 32 := Scalar.muli c0_i32_1141 c512_i32_1142
  let v2856 : BitVec 32 := v2855
  let v2857 : Index := Scalar.indexCast v2856
  let c0_1144 : Index := 0#32
  ![0, v2857.toNat, 0]
def k0_off5 (i : grid0.Coords) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v118 : Index := Scalar.indexCast v19
  let c0_42 : Index := 0#32
  let c0_43 : Index := 0#32
  ![v118.toNat, 0, 0]
def k0_mult6 : BitVec 32 :=
  let c0_i32_67 : BitVec 32 := 0#32
  c0_i32_67
def k0_off6 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v183 : Index := Scalar.indexCast v20
  let c0_i32_67 : BitVec 32 := 0#32
  let v139 : BitVec 32 := c0_i32_67
  let v184 : Index := Scalar.indexCast v139
  let c0_78 : Index := 0#32
  ![v183.toNat, 0, 0]
@[reducible] def k0_t3_loop (i : grid0.Coords) : Scf.Loop 32 :=
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_98 : BitVec 32 := 1#32
  ⟨c0_i32_96, v228, c1_i32_98⟩
def k0_mult7 (i : grid0.Coords) (k0_t3 : Fin (k0_t3_loop i).trips) : BitVec 32 :=
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c512_i32_745 : BitVec 32 := 512#32
  let v1746 : BitVec 32 := Scalar.muli v1745 c512_i32_745
  v1746
def k0_off7 (i : grid0.Coords) (k0_t3 : Fin (k0_t3_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1748 : Index := Scalar.indexCast v20
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c512_i32_745 : BitVec 32 := 512#32
  let v1746 : BitVec 32 := Scalar.muli v1745 c512_i32_745
  let v1747 : BitVec 32 := v1746
  let v1749 : Index := Scalar.indexCast v1747
  let c0_746 : Index := 0#32
  ![v1748.toNat, v1749.toNat, 0]
def k0_mult8 (i : grid0.Coords) (k0_t3 : Fin (k0_t3_loop i).trips) : BitVec 32 :=
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  v2539
def k0_off8 (i : grid0.Coords) (k0_t3 : Fin (k0_t3_loop i).trips) : Fin 3 → Nat :=
  let c0_989 : Index := 0#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2542 : Index := Scalar.indexCast v2540
  let c0_990 : Index := 0#32
  ![0, v2542.toNat, 0]
def k0_off9 (i : grid0.Coords) (k0_t3 : Fin (k0_t3_loop i).trips) : Fin 3 → Nat :=
  let c1_991 : Index := 1#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2547 : Index := Scalar.indexCast v2540
  let c0_992 : Index := 0#32
  ![1, v2547.toNat, 0]
def k0_off10 (i : grid0.Coords) (k0_t3 : Fin (k0_t3_loop i).trips) : Fin 3 → Nat :=
  let c2_993 : Index := 2#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2552 : Index := Scalar.indexCast v2540
  let c0_994 : Index := 0#32
  ![2, v2552.toNat, 0]
def k0_off11 (i : grid0.Coords) (k0_t3 : Fin (k0_t3_loop i).trips) : Fin 3 → Nat :=
  let c3_995 : Index := 3#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2557 : Index := Scalar.indexCast v2540
  let c0_996 : Index := 0#32
  ![3, v2557.toNat, 0]
def k0_off12 (i : grid0.Coords) (k0_t3 : Fin (k0_t3_loop i).trips) : Fin 3 → Nat :=
  let c4_997 : Index := 4#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2562 : Index := Scalar.indexCast v2540
  let c0_998 : Index := 0#32
  ![4, v2562.toNat, 0]
def k0_off13 (i : grid0.Coords) (k0_t3 : Fin (k0_t3_loop i).trips) : Fin 3 → Nat :=
  let c5_999 : Index := 5#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2567 : Index := Scalar.indexCast v2540
  let c0_1000 : Index := 0#32
  ![5, v2567.toNat, 0]
def k0_off14 (i : grid0.Coords) (k0_t3 : Fin (k0_t3_loop i).trips) : Fin 3 → Nat :=
  let c6_1001 : Index := 6#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2572 : Index := Scalar.indexCast v2540
  let c0_1002 : Index := 0#32
  ![6, v2572.toNat, 0]
def k0_off15 (i : grid0.Coords) (k0_t3 : Fin (k0_t3_loop i).trips) : Fin 3 → Nat :=
  let c7_1003 : Index := 7#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2577 : Index := Scalar.indexCast v2540
  let c0_1004 : Index := 0#32
  ![7, v2577.toNat, 0]
def k0_off16 (i : grid0.Coords) (k0_t3 : Fin (k0_t3_loop i).trips) : Fin 3 → Nat :=
  let c8_1005 : Index := 8#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2582 : Index := Scalar.indexCast v2540
  let c0_1006 : Index := 0#32
  ![8, v2582.toNat, 0]
def k0_off17 (i : grid0.Coords) (k0_t3 : Fin (k0_t3_loop i).trips) : Fin 3 → Nat :=
  let c9_1007 : Index := 9#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2587 : Index := Scalar.indexCast v2540
  let c0_1008 : Index := 0#32
  ![9, v2587.toNat, 0]
def k0_off18 (i : grid0.Coords) (k0_t3 : Fin (k0_t3_loop i).trips) : Fin 3 → Nat :=
  let c10_1009 : Index := 10#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2592 : Index := Scalar.indexCast v2540
  let c0_1010 : Index := 0#32
  ![10, v2592.toNat, 0]
def k0_off19 (i : grid0.Coords) (k0_t3 : Fin (k0_t3_loop i).trips) : Fin 3 → Nat :=
  let c11_1011 : Index := 11#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2597 : Index := Scalar.indexCast v2540
  let c0_1012 : Index := 0#32
  ![11, v2597.toNat, 0]
def k0_off20 (i : grid0.Coords) (k0_t3 : Fin (k0_t3_loop i).trips) : Fin 3 → Nat :=
  let c12_1013 : Index := 12#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2602 : Index := Scalar.indexCast v2540
  let c0_1014 : Index := 0#32
  ![12, v2602.toNat, 0]
def k0_off21 (i : grid0.Coords) (k0_t3 : Fin (k0_t3_loop i).trips) : Fin 3 → Nat :=
  let c13_1015 : Index := 13#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2607 : Index := Scalar.indexCast v2540
  let c0_1016 : Index := 0#32
  ![13, v2607.toNat, 0]
def k0_off22 (i : grid0.Coords) (k0_t3 : Fin (k0_t3_loop i).trips) : Fin 3 → Nat :=
  let c14_1017 : Index := 14#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2612 : Index := Scalar.indexCast v2540
  let c0_1018 : Index := 0#32
  ![14, v2612.toNat, 0]
def k0_off23 (i : grid0.Coords) (k0_t3 : Fin (k0_t3_loop i).trips) : Fin 3 → Nat :=
  let c15_1019 : Index := 15#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2617 : Index := Scalar.indexCast v2540
  let c0_1020 : Index := 0#32
  ![15, v2617.toNat, 0]
def k0_off24 (i : grid0.Coords) (k0_t3 : Fin (k0_t3_loop i).trips) : Fin 3 → Nat :=
  let c16_1021 : Index := 16#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2622 : Index := Scalar.indexCast v2540
  let c0_1022 : Index := 0#32
  ![16, v2622.toNat, 0]
def k0_off25 (i : grid0.Coords) (k0_t3 : Fin (k0_t3_loop i).trips) : Fin 3 → Nat :=
  let c17_1023 : Index := 17#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2627 : Index := Scalar.indexCast v2540
  let c0_1024 : Index := 0#32
  ![17, v2627.toNat, 0]
def k0_off26 (i : grid0.Coords) (k0_t3 : Fin (k0_t3_loop i).trips) : Fin 3 → Nat :=
  let c18_1025 : Index := 18#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2632 : Index := Scalar.indexCast v2540
  let c0_1026 : Index := 0#32
  ![18, v2632.toNat, 0]
def k0_off27 (i : grid0.Coords) (k0_t3 : Fin (k0_t3_loop i).trips) : Fin 3 → Nat :=
  let c19_1027 : Index := 19#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2637 : Index := Scalar.indexCast v2540
  let c0_1028 : Index := 0#32
  ![19, v2637.toNat, 0]
def k0_off28 (i : grid0.Coords) (k0_t3 : Fin (k0_t3_loop i).trips) : Fin 3 → Nat :=
  let c20_1029 : Index := 20#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2642 : Index := Scalar.indexCast v2540
  let c0_1030 : Index := 0#32
  ![20, v2642.toNat, 0]
def k0_off29 (i : grid0.Coords) (k0_t3 : Fin (k0_t3_loop i).trips) : Fin 3 → Nat :=
  let c21_1031 : Index := 21#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2647 : Index := Scalar.indexCast v2540
  let c0_1032 : Index := 0#32
  ![21, v2647.toNat, 0]
def k0_off30 (i : grid0.Coords) (k0_t3 : Fin (k0_t3_loop i).trips) : Fin 3 → Nat :=
  let c22_1033 : Index := 22#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2652 : Index := Scalar.indexCast v2540
  let c0_1034 : Index := 0#32
  ![22, v2652.toNat, 0]
def k0_off31 (i : grid0.Coords) (k0_t3 : Fin (k0_t3_loop i).trips) : Fin 3 → Nat :=
  let c23_1035 : Index := 23#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2657 : Index := Scalar.indexCast v2540
  let c0_1036 : Index := 0#32
  ![23, v2657.toNat, 0]
def k0_off32 (i : grid0.Coords) (k0_t3 : Fin (k0_t3_loop i).trips) : Fin 3 → Nat :=
  let c24_1037 : Index := 24#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2662 : Index := Scalar.indexCast v2540
  let c0_1038 : Index := 0#32
  ![24, v2662.toNat, 0]
def k0_off33 (i : grid0.Coords) (k0_t3 : Fin (k0_t3_loop i).trips) : Fin 3 → Nat :=
  let c25_1039 : Index := 25#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2667 : Index := Scalar.indexCast v2540
  let c0_1040 : Index := 0#32
  ![25, v2667.toNat, 0]
def k0_off34 (i : grid0.Coords) (k0_t3 : Fin (k0_t3_loop i).trips) : Fin 3 → Nat :=
  let c26_1041 : Index := 26#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2672 : Index := Scalar.indexCast v2540
  let c0_1042 : Index := 0#32
  ![26, v2672.toNat, 0]
def k0_off35 (i : grid0.Coords) (k0_t3 : Fin (k0_t3_loop i).trips) : Fin 3 → Nat :=
  let c27_1043 : Index := 27#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2677 : Index := Scalar.indexCast v2540
  let c0_1044 : Index := 0#32
  ![27, v2677.toNat, 0]
def k0_off36 (i : grid0.Coords) (k0_t3 : Fin (k0_t3_loop i).trips) : Fin 3 → Nat :=
  let c28_1045 : Index := 28#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2682 : Index := Scalar.indexCast v2540
  let c0_1046 : Index := 0#32
  ![28, v2682.toNat, 0]
def k0_off37 (i : grid0.Coords) (k0_t3 : Fin (k0_t3_loop i).trips) : Fin 3 → Nat :=
  let c29_1047 : Index := 29#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2687 : Index := Scalar.indexCast v2540
  let c0_1048 : Index := 0#32
  ![29, v2687.toNat, 0]
def k0_off38 (i : grid0.Coords) (k0_t3 : Fin (k0_t3_loop i).trips) : Fin 3 → Nat :=
  let c30_1049 : Index := 30#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2692 : Index := Scalar.indexCast v2540
  let c0_1050 : Index := 0#32
  ![30, v2692.toNat, 0]
def k0_off39 (i : grid0.Coords) (k0_t3 : Fin (k0_t3_loop i).trips) : Fin 3 → Nat :=
  let c31_1051 : Index := 31#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2697 : Index := Scalar.indexCast v2540
  let c0_1052 : Index := 0#32
  ![31, v2697.toNat, 0]
def k0_off40 (i : grid0.Coords) (k0_t3 : Fin (k0_t3_loop i).trips) (c0_i32_1062 : BitVec 32) : Fin 5 → Nat :=
  let c0_1063 : Index := 0#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c1_i32_1056 : BitVec 32 := 1#32
  let v2703 : BitVec 32 := Scalar.subi v1745 c1_i32_1056
  let c0_i32_1057 : BitVec 32 := 0#32
  let v2704 : BitVec 32 := Scalar.maxsi v2703 c0_i32_1057
  let c4_i32_1061 : BitVec 32 := 4#32
  let v2707 : BitVec 32 := Scalar.muli v2704 c4_i32_1061
  let v2708 : BitVec 32 := Scalar.addi v2707 c0_i32_1062
  let v2709 : Index := Scalar.indexCast v2708
  let c0_1064 : Index := 0#32
  let c0_1065 : Index := 0#32
  let c0_1066 : Index := 0#32
  ![0, v2709.toNat, 0, 0, 0]
def k0_off41 (i : grid0.Coords) (k0_t3 : Fin (k0_t3_loop i).trips) : Fin 4 → Nat :=
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c0_i32_1053 : BitVec 32 := 0#32
  let v2701 : BitVec 1 := Scalar.cmpi .eq v1745 c0_i32_1053
  let c2_i32_1054 : BitVec 32 := 2#32
  let c1_i32_1055 : BitVec 32 := 1#32
  let v2702 : BitVec 32 := Scalar.select v2701 c2_i32_1054 c1_i32_1055
  let v2728 : Index := Scalar.indexCast v2702
  let c0_1085 : Index := 0#32
  let c0_1086 : Index := 0#32
  let c0_1087 : Index := 0#32
  ![v2728.toNat, 0, 0, 0]
def k0_off42 (i : grid0.Coords) (k0_t3 : Fin (k0_t3_loop i).trips) (c0_i32_1096 : BitVec 32) : Fin 5 → Nat :=
  let c0_1097 : Index := 0#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c1_i32_1056 : BitVec 32 := 1#32
  let v2703 : BitVec 32 := Scalar.subi v1745 c1_i32_1056
  let c0_i32_1057 : BitVec 32 := 0#32
  let v2704 : BitVec 32 := Scalar.maxsi v2703 c0_i32_1057
  let c4_i32_1095 : BitVec 32 := 4#32
  let v2738 : BitVec 32 := Scalar.muli v2704 c4_i32_1095
  let v2739 : BitVec 32 := Scalar.addi v2738 c0_i32_1096
  let v2740 : Index := Scalar.indexCast v2739
  let c1_1098 : Index := 1#32
  let c0_1099 : Index := 0#32
  let c0_1100 : Index := 0#32
  ![0, v2740.toNat, 1, 0, 0]
def k0_off43 (i : grid0.Coords) (k0_t3 : Fin (k0_t3_loop i).trips) : Fin 4 → Nat :=
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c0_i32_1053 : BitVec 32 := 0#32
  let v2701 : BitVec 1 := Scalar.cmpi .eq v1745 c0_i32_1053
  let c2_i32_1054 : BitVec 32 := 2#32
  let c1_i32_1055 : BitVec 32 := 1#32
  let v2702 : BitVec 32 := Scalar.select v2701 c2_i32_1054 c1_i32_1055
  let v2759 : Index := Scalar.indexCast v2702
  let c1_1119 : Index := 1#32
  let c0_1120 : Index := 0#32
  let c0_1121 : Index := 0#32
  ![v2759.toNat, 1, 0, 0]
def k0_mult9 (i : grid0.Coords) (k0_t3 : Fin (k0_t3_loop i).trips) : BitVec 32 :=
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c512_i32_1126 : BitVec 32 := 512#32
  let v2767 : BitVec 32 := Scalar.muli v1745 c512_i32_1126
  v2767
def k0_off44 (i : grid0.Coords) (k0_t3 : Fin (k0_t3_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2769 : Index := Scalar.indexCast v19
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c512_i32_1126 : BitVec 32 := 512#32
  let v2767 : BitVec 32 := Scalar.muli v1745 c512_i32_1126
  let v2768 : BitVec 32 := v2767
  let v2770 : Index := Scalar.indexCast v2768
  let c0_1127 : Index := 0#32
  ![v2769.toNat, v2770.toNat, 0]
def k0_off45 (i : grid0.Coords) (k0_t3 : Fin (k0_t3_loop i).trips) : Fin 3 → Nat :=
  let c0_1130 : Index := 0#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c512_i32_1126 : BitVec 32 := 512#32
  let v2767 : BitVec 32 := Scalar.muli v1745 c512_i32_1126
  let v2768 : BitVec 32 := v2767
  let v2779 : Index := Scalar.indexCast v2768
  let c0_1131 : Index := 0#32
  ![0, v2779.toNat, 0]
def k0_mult10 (i : grid0.Coords) (k0_t3 : Fin (k0_t3_loop i).trips) : BitVec 32 :=
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c1_i32_1148 : BitVec 32 := 1#32
  let v2802 : BitVec 32 := Scalar.addi v1745 c1_i32_1148
  let c512_i32_1149 : BitVec 32 := 512#32
  let v2803 : BitVec 32 := Scalar.muli v2802 c512_i32_1149
  v2803
def k0_off46 (i : grid0.Coords) (k0_t3 : Fin (k0_t3_loop i).trips) : Fin 3 → Nat :=
  let c0_1150 : Index := 0#32
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c1_i32_1148 : BitVec 32 := 1#32
  let v2802 : BitVec 32 := Scalar.addi v1745 c1_i32_1148
  let c512_i32_1149 : BitVec 32 := 512#32
  let v2803 : BitVec 32 := Scalar.muli v2802 c512_i32_1149
  let v2804 : BitVec 32 := v2803
  let v2805 : Index := Scalar.indexCast v2804
  let c0_1151 : Index := 0#32
  ![0, v2805.toNat, 0]
def k0_off47 (i : grid0.Coords) (k0_t3 : Fin (k0_t3_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2848 : Index := Scalar.indexCast v20
  let c2_i32_744 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v1745 : BitVec 32 := Scalar.muli c2_i32_744 v1744
  let c1_i32_1148 : BitVec 32 := 1#32
  let v2802 : BitVec 32 := Scalar.addi v1745 c1_i32_1148
  let c512_i32_1149 : BitVec 32 := 512#32
  let v2803 : BitVec 32 := Scalar.muli v2802 c512_i32_1149
  let v2804 : BitVec 32 := v2803
  let v2849 : Index := Scalar.indexCast v2804
  let c0_1164 : Index := 0#32
  ![v2848.toNat, v2849.toNat, 0]
def k0_mult11 (i : grid0.Coords) (k0_t3 : Fin (k0_t3_loop i).trips) : BitVec 32 :=
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1167 : BitVec 32 := 512#32
  let v2855 : BitVec 32 := Scalar.muli v2854 c512_i32_1167
  v2855
def k0_mult12 (i : grid0.Coords) (k0_t3 : Fin (k0_t3_loop i).trips) : BitVec 32 :=
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  v3648
def k0_off48 (i : grid0.Coords) (k0_t3 : Fin (k0_t3_loop i).trips) : Fin 3 → Nat :=
  let c0_1411 : Index := 0#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3651 : Index := Scalar.indexCast v3649
  let c0_1412 : Index := 0#32
  ![0, v3651.toNat, 0]
def k0_off49 (i : grid0.Coords) (k0_t3 : Fin (k0_t3_loop i).trips) : Fin 3 → Nat :=
  let c1_1413 : Index := 1#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3656 : Index := Scalar.indexCast v3649
  let c0_1414 : Index := 0#32
  ![1, v3656.toNat, 0]
def k0_off50 (i : grid0.Coords) (k0_t3 : Fin (k0_t3_loop i).trips) : Fin 3 → Nat :=
  let c2_1415 : Index := 2#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3661 : Index := Scalar.indexCast v3649
  let c0_1416 : Index := 0#32
  ![2, v3661.toNat, 0]
def k0_off51 (i : grid0.Coords) (k0_t3 : Fin (k0_t3_loop i).trips) : Fin 3 → Nat :=
  let c3_1417 : Index := 3#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3666 : Index := Scalar.indexCast v3649
  let c0_1418 : Index := 0#32
  ![3, v3666.toNat, 0]
def k0_off52 (i : grid0.Coords) (k0_t3 : Fin (k0_t3_loop i).trips) : Fin 3 → Nat :=
  let c4_1419 : Index := 4#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3671 : Index := Scalar.indexCast v3649
  let c0_1420 : Index := 0#32
  ![4, v3671.toNat, 0]
def k0_off53 (i : grid0.Coords) (k0_t3 : Fin (k0_t3_loop i).trips) : Fin 3 → Nat :=
  let c5_1421 : Index := 5#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3676 : Index := Scalar.indexCast v3649
  let c0_1422 : Index := 0#32
  ![5, v3676.toNat, 0]
def k0_off54 (i : grid0.Coords) (k0_t3 : Fin (k0_t3_loop i).trips) : Fin 3 → Nat :=
  let c6_1423 : Index := 6#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3681 : Index := Scalar.indexCast v3649
  let c0_1424 : Index := 0#32
  ![6, v3681.toNat, 0]
def k0_off55 (i : grid0.Coords) (k0_t3 : Fin (k0_t3_loop i).trips) : Fin 3 → Nat :=
  let c7_1425 : Index := 7#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3686 : Index := Scalar.indexCast v3649
  let c0_1426 : Index := 0#32
  ![7, v3686.toNat, 0]
def k0_off56 (i : grid0.Coords) (k0_t3 : Fin (k0_t3_loop i).trips) : Fin 3 → Nat :=
  let c8_1427 : Index := 8#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3691 : Index := Scalar.indexCast v3649
  let c0_1428 : Index := 0#32
  ![8, v3691.toNat, 0]
def k0_off57 (i : grid0.Coords) (k0_t3 : Fin (k0_t3_loop i).trips) : Fin 3 → Nat :=
  let c9_1429 : Index := 9#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3696 : Index := Scalar.indexCast v3649
  let c0_1430 : Index := 0#32
  ![9, v3696.toNat, 0]
def k0_off58 (i : grid0.Coords) (k0_t3 : Fin (k0_t3_loop i).trips) : Fin 3 → Nat :=
  let c10_1431 : Index := 10#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3701 : Index := Scalar.indexCast v3649
  let c0_1432 : Index := 0#32
  ![10, v3701.toNat, 0]
def k0_off59 (i : grid0.Coords) (k0_t3 : Fin (k0_t3_loop i).trips) : Fin 3 → Nat :=
  let c11_1433 : Index := 11#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3706 : Index := Scalar.indexCast v3649
  let c0_1434 : Index := 0#32
  ![11, v3706.toNat, 0]
def k0_off60 (i : grid0.Coords) (k0_t3 : Fin (k0_t3_loop i).trips) : Fin 3 → Nat :=
  let c12_1435 : Index := 12#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3711 : Index := Scalar.indexCast v3649
  let c0_1436 : Index := 0#32
  ![12, v3711.toNat, 0]
def k0_off61 (i : grid0.Coords) (k0_t3 : Fin (k0_t3_loop i).trips) : Fin 3 → Nat :=
  let c13_1437 : Index := 13#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3716 : Index := Scalar.indexCast v3649
  let c0_1438 : Index := 0#32
  ![13, v3716.toNat, 0]
def k0_off62 (i : grid0.Coords) (k0_t3 : Fin (k0_t3_loop i).trips) : Fin 3 → Nat :=
  let c14_1439 : Index := 14#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3721 : Index := Scalar.indexCast v3649
  let c0_1440 : Index := 0#32
  ![14, v3721.toNat, 0]
def k0_off63 (i : grid0.Coords) (k0_t3 : Fin (k0_t3_loop i).trips) : Fin 3 → Nat :=
  let c15_1441 : Index := 15#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3726 : Index := Scalar.indexCast v3649
  let c0_1442 : Index := 0#32
  ![15, v3726.toNat, 0]
def k0_off64 (i : grid0.Coords) (k0_t3 : Fin (k0_t3_loop i).trips) : Fin 3 → Nat :=
  let c16_1443 : Index := 16#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3731 : Index := Scalar.indexCast v3649
  let c0_1444 : Index := 0#32
  ![16, v3731.toNat, 0]
def k0_off65 (i : grid0.Coords) (k0_t3 : Fin (k0_t3_loop i).trips) : Fin 3 → Nat :=
  let c17_1445 : Index := 17#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3736 : Index := Scalar.indexCast v3649
  let c0_1446 : Index := 0#32
  ![17, v3736.toNat, 0]
def k0_off66 (i : grid0.Coords) (k0_t3 : Fin (k0_t3_loop i).trips) : Fin 3 → Nat :=
  let c18_1447 : Index := 18#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3741 : Index := Scalar.indexCast v3649
  let c0_1448 : Index := 0#32
  ![18, v3741.toNat, 0]
def k0_off67 (i : grid0.Coords) (k0_t3 : Fin (k0_t3_loop i).trips) : Fin 3 → Nat :=
  let c19_1449 : Index := 19#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3746 : Index := Scalar.indexCast v3649
  let c0_1450 : Index := 0#32
  ![19, v3746.toNat, 0]
def k0_off68 (i : grid0.Coords) (k0_t3 : Fin (k0_t3_loop i).trips) : Fin 3 → Nat :=
  let c20_1451 : Index := 20#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3751 : Index := Scalar.indexCast v3649
  let c0_1452 : Index := 0#32
  ![20, v3751.toNat, 0]
def k0_off69 (i : grid0.Coords) (k0_t3 : Fin (k0_t3_loop i).trips) : Fin 3 → Nat :=
  let c21_1453 : Index := 21#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3756 : Index := Scalar.indexCast v3649
  let c0_1454 : Index := 0#32
  ![21, v3756.toNat, 0]
def k0_off70 (i : grid0.Coords) (k0_t3 : Fin (k0_t3_loop i).trips) : Fin 3 → Nat :=
  let c22_1455 : Index := 22#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3761 : Index := Scalar.indexCast v3649
  let c0_1456 : Index := 0#32
  ![22, v3761.toNat, 0]
def k0_off71 (i : grid0.Coords) (k0_t3 : Fin (k0_t3_loop i).trips) : Fin 3 → Nat :=
  let c23_1457 : Index := 23#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3766 : Index := Scalar.indexCast v3649
  let c0_1458 : Index := 0#32
  ![23, v3766.toNat, 0]
def k0_off72 (i : grid0.Coords) (k0_t3 : Fin (k0_t3_loop i).trips) : Fin 3 → Nat :=
  let c24_1459 : Index := 24#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3771 : Index := Scalar.indexCast v3649
  let c0_1460 : Index := 0#32
  ![24, v3771.toNat, 0]
def k0_off73 (i : grid0.Coords) (k0_t3 : Fin (k0_t3_loop i).trips) : Fin 3 → Nat :=
  let c25_1461 : Index := 25#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3776 : Index := Scalar.indexCast v3649
  let c0_1462 : Index := 0#32
  ![25, v3776.toNat, 0]
def k0_off74 (i : grid0.Coords) (k0_t3 : Fin (k0_t3_loop i).trips) : Fin 3 → Nat :=
  let c26_1463 : Index := 26#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3781 : Index := Scalar.indexCast v3649
  let c0_1464 : Index := 0#32
  ![26, v3781.toNat, 0]
def k0_off75 (i : grid0.Coords) (k0_t3 : Fin (k0_t3_loop i).trips) : Fin 3 → Nat :=
  let c27_1465 : Index := 27#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3786 : Index := Scalar.indexCast v3649
  let c0_1466 : Index := 0#32
  ![27, v3786.toNat, 0]
def k0_off76 (i : grid0.Coords) (k0_t3 : Fin (k0_t3_loop i).trips) : Fin 3 → Nat :=
  let c28_1467 : Index := 28#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3791 : Index := Scalar.indexCast v3649
  let c0_1468 : Index := 0#32
  ![28, v3791.toNat, 0]
def k0_off77 (i : grid0.Coords) (k0_t3 : Fin (k0_t3_loop i).trips) : Fin 3 → Nat :=
  let c29_1469 : Index := 29#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3796 : Index := Scalar.indexCast v3649
  let c0_1470 : Index := 0#32
  ![29, v3796.toNat, 0]
def k0_off78 (i : grid0.Coords) (k0_t3 : Fin (k0_t3_loop i).trips) : Fin 3 → Nat :=
  let c30_1471 : Index := 30#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3801 : Index := Scalar.indexCast v3649
  let c0_1472 : Index := 0#32
  ![30, v3801.toNat, 0]
def k0_off79 (i : grid0.Coords) (k0_t3 : Fin (k0_t3_loop i).trips) : Fin 3 → Nat :=
  let c31_1473 : Index := 31#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3806 : Index := Scalar.indexCast v3649
  let c0_1474 : Index := 0#32
  ![31, v3806.toNat, 0]
def k0_off80 (i : grid0.Coords) (k0_t3 : Fin (k0_t3_loop i).trips) (c0_i32_1481 : BitVec 32) : Fin 5 → Nat :=
  let c0_1482 : Index := 0#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1475 : BitVec 32 := 1#32
  let v3810 : BitVec 32 := Scalar.subi v2854 c1_i32_1475
  let c0_i32_1476 : BitVec 32 := 0#32
  let v3811 : BitVec 32 := Scalar.maxsi v3810 c0_i32_1476
  let c4_i32_1480 : BitVec 32 := 4#32
  let v3814 : BitVec 32 := Scalar.muli v3811 c4_i32_1480
  let v3815 : BitVec 32 := Scalar.addi v3814 c0_i32_1481
  let v3816 : Index := Scalar.indexCast v3815
  let c0_1483 : Index := 0#32
  let c0_1484 : Index := 0#32
  let c0_1485 : Index := 0#32
  ![0, v3816.toNat, 0, 0, 0]
def k0_off81 (i : grid0.Coords) (k0_t3 : Fin (k0_t3_loop i).trips) (c0_i32_1516 : BitVec 32) : Fin 5 → Nat :=
  let c0_1517 : Index := 0#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1475 : BitVec 32 := 1#32
  let v3810 : BitVec 32 := Scalar.subi v2854 c1_i32_1475
  let c0_i32_1476 : BitVec 32 := 0#32
  let v3811 : BitVec 32 := Scalar.maxsi v3810 c0_i32_1476
  let c4_i32_1515 : BitVec 32 := 4#32
  let v3844 : BitVec 32 := Scalar.muli v3811 c4_i32_1515
  let v3845 : BitVec 32 := Scalar.addi v3844 c0_i32_1516
  let v3846 : Index := Scalar.indexCast v3845
  let c1_1518 : Index := 1#32
  let c0_1519 : Index := 0#32
  let c0_1520 : Index := 0#32
  ![0, v3846.toNat, 1, 0, 0]
def k0_mult13 (i : grid0.Coords) (k0_t3 : Fin (k0_t3_loop i).trips) : BitVec 32 :=
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1547 : BitVec 32 := 512#32
  let v3872 : BitVec 32 := Scalar.muli v2854 c512_i32_1547
  v3872
def k0_off82 (i : grid0.Coords) (k0_t3 : Fin (k0_t3_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v3874 : Index := Scalar.indexCast v19
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1547 : BitVec 32 := 512#32
  let v3872 : BitVec 32 := Scalar.muli v2854 c512_i32_1547
  let v3873 : BitVec 32 := v3872
  let v3875 : Index := Scalar.indexCast v3873
  let c0_1548 : Index := 0#32
  ![v3874.toNat, v3875.toNat, 0]
def k0_off83 (i : grid0.Coords) (k0_t3 : Fin (k0_t3_loop i).trips) : Fin 3 → Nat :=
  let c0_1551 : Index := 0#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1547 : BitVec 32 := 512#32
  let v3872 : BitVec 32 := Scalar.muli v2854 c512_i32_1547
  let v3873 : BitVec 32 := v3872
  let v3884 : Index := Scalar.indexCast v3873
  let c0_1552 : Index := 0#32
  ![0, v3884.toNat, 0]
def k0_mult14 (i : grid0.Coords) (k0_t3 : Fin (k0_t3_loop i).trips) : BitVec 32 :=
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1569 : BitVec 32 := 1#32
  let v3907 : BitVec 32 := Scalar.addi v2854 c1_i32_1569
  let c512_i32_1570 : BitVec 32 := 512#32
  let v3908 : BitVec 32 := Scalar.muli v3907 c512_i32_1570
  v3908
def k0_off84 (i : grid0.Coords) (k0_t3 : Fin (k0_t3_loop i).trips) : Fin 3 → Nat :=
  let c0_1571 : Index := 0#32
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1569 : BitVec 32 := 1#32
  let v3907 : BitVec 32 := Scalar.addi v2854 c1_i32_1569
  let c512_i32_1570 : BitVec 32 := 512#32
  let v3908 : BitVec 32 := Scalar.muli v3907 c512_i32_1570
  let v3909 : BitVec 32 := v3908
  let v3910 : Index := Scalar.indexCast v3909
  let c0_1572 : Index := 0#32
  ![0, v3910.toNat, 0]
def k0_off85 (i : grid0.Coords) (k0_t3 : Fin (k0_t3_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v3953 : Index := Scalar.indexCast v20
  let c2_i32_1165 : BitVec 32 := 2#32
  let c2_i32_743 : BitVec 32 := 2#32
  let c0_i32_96 : BitVec 32 := 0#32
  let c1_i32_98 : BitVec 32 := 1#32
  let arg26 : BitVec 32 := Scf.iv c0_i32_96 c1_i32_98 k0_t3
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1569 : BitVec 32 := 1#32
  let v3907 : BitVec 32 := Scalar.addi v2854 c1_i32_1569
  let c512_i32_1570 : BitVec 32 := 512#32
  let v3908 : BitVec 32 := Scalar.muli v3907 c512_i32_1570
  let v3909 : BitVec 32 := v3908
  let v3954 : Index := Scalar.indexCast v3909
  let c0_1585 : Index := 0#32
  ![v3953.toNat, v3954.toNat, 0]
def k0_mult15 (i : grid0.Coords) (k0_t3 : Fin (k0_t3_loop i).trips) : BitVec 32 :=
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1589 : BitVec 32 := 512#32
  let v3961 : BitVec 32 := Scalar.muli v3960 c512_i32_1589
  v3961
def k0_off86 (i : grid0.Coords) (k0_t3 : Fin (k0_t3_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v3963 : Index := Scalar.indexCast v20
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1589 : BitVec 32 := 512#32
  let v3961 : BitVec 32 := Scalar.muli v3960 c512_i32_1589
  let v3962 : BitVec 32 := v3961
  let v3964 : Index := Scalar.indexCast v3962
  let c0_1590 : Index := 0#32
  ![v3963.toNat, v3964.toNat, 0]
def k0_mult16 (i : grid0.Coords) (k0_t3 : Fin (k0_t3_loop i).trips) : BitVec 32 :=
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  v4754
def k0_off87 (i : grid0.Coords) (k0_t3 : Fin (k0_t3_loop i).trips) : Fin 3 → Nat :=
  let c0_1833 : Index := 0#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4757 : Index := Scalar.indexCast v4755
  let c0_1834 : Index := 0#32
  ![0, v4757.toNat, 0]
def k0_off88 (i : grid0.Coords) (k0_t3 : Fin (k0_t3_loop i).trips) : Fin 3 → Nat :=
  let c1_1835 : Index := 1#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4762 : Index := Scalar.indexCast v4755
  let c0_1836 : Index := 0#32
  ![1, v4762.toNat, 0]
def k0_off89 (i : grid0.Coords) (k0_t3 : Fin (k0_t3_loop i).trips) : Fin 3 → Nat :=
  let c2_1837 : Index := 2#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4767 : Index := Scalar.indexCast v4755
  let c0_1838 : Index := 0#32
  ![2, v4767.toNat, 0]
def k0_off90 (i : grid0.Coords) (k0_t3 : Fin (k0_t3_loop i).trips) : Fin 3 → Nat :=
  let c3_1839 : Index := 3#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4772 : Index := Scalar.indexCast v4755
  let c0_1840 : Index := 0#32
  ![3, v4772.toNat, 0]
def k0_off91 (i : grid0.Coords) (k0_t3 : Fin (k0_t3_loop i).trips) : Fin 3 → Nat :=
  let c4_1841 : Index := 4#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4777 : Index := Scalar.indexCast v4755
  let c0_1842 : Index := 0#32
  ![4, v4777.toNat, 0]
def k0_off92 (i : grid0.Coords) (k0_t3 : Fin (k0_t3_loop i).trips) : Fin 3 → Nat :=
  let c5_1843 : Index := 5#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4782 : Index := Scalar.indexCast v4755
  let c0_1844 : Index := 0#32
  ![5, v4782.toNat, 0]
def k0_off93 (i : grid0.Coords) (k0_t3 : Fin (k0_t3_loop i).trips) : Fin 3 → Nat :=
  let c6_1845 : Index := 6#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4787 : Index := Scalar.indexCast v4755
  let c0_1846 : Index := 0#32
  ![6, v4787.toNat, 0]
def k0_off94 (i : grid0.Coords) (k0_t3 : Fin (k0_t3_loop i).trips) : Fin 3 → Nat :=
  let c7_1847 : Index := 7#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4792 : Index := Scalar.indexCast v4755
  let c0_1848 : Index := 0#32
  ![7, v4792.toNat, 0]
def k0_off95 (i : grid0.Coords) (k0_t3 : Fin (k0_t3_loop i).trips) : Fin 3 → Nat :=
  let c8_1849 : Index := 8#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4797 : Index := Scalar.indexCast v4755
  let c0_1850 : Index := 0#32
  ![8, v4797.toNat, 0]
def k0_off96 (i : grid0.Coords) (k0_t3 : Fin (k0_t3_loop i).trips) : Fin 3 → Nat :=
  let c9_1851 : Index := 9#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4802 : Index := Scalar.indexCast v4755
  let c0_1852 : Index := 0#32
  ![9, v4802.toNat, 0]
def k0_off97 (i : grid0.Coords) (k0_t3 : Fin (k0_t3_loop i).trips) : Fin 3 → Nat :=
  let c10_1853 : Index := 10#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4807 : Index := Scalar.indexCast v4755
  let c0_1854 : Index := 0#32
  ![10, v4807.toNat, 0]
def k0_off98 (i : grid0.Coords) (k0_t3 : Fin (k0_t3_loop i).trips) : Fin 3 → Nat :=
  let c11_1855 : Index := 11#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4812 : Index := Scalar.indexCast v4755
  let c0_1856 : Index := 0#32
  ![11, v4812.toNat, 0]
def k0_off99 (i : grid0.Coords) (k0_t3 : Fin (k0_t3_loop i).trips) : Fin 3 → Nat :=
  let c12_1857 : Index := 12#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4817 : Index := Scalar.indexCast v4755
  let c0_1858 : Index := 0#32
  ![12, v4817.toNat, 0]
def k0_off100 (i : grid0.Coords) (k0_t3 : Fin (k0_t3_loop i).trips) : Fin 3 → Nat :=
  let c13_1859 : Index := 13#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4822 : Index := Scalar.indexCast v4755
  let c0_1860 : Index := 0#32
  ![13, v4822.toNat, 0]
def k0_off101 (i : grid0.Coords) (k0_t3 : Fin (k0_t3_loop i).trips) : Fin 3 → Nat :=
  let c14_1861 : Index := 14#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4827 : Index := Scalar.indexCast v4755
  let c0_1862 : Index := 0#32
  ![14, v4827.toNat, 0]
def k0_off102 (i : grid0.Coords) (k0_t3 : Fin (k0_t3_loop i).trips) : Fin 3 → Nat :=
  let c15_1863 : Index := 15#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4832 : Index := Scalar.indexCast v4755
  let c0_1864 : Index := 0#32
  ![15, v4832.toNat, 0]
def k0_off103 (i : grid0.Coords) (k0_t3 : Fin (k0_t3_loop i).trips) : Fin 3 → Nat :=
  let c16_1865 : Index := 16#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4837 : Index := Scalar.indexCast v4755
  let c0_1866 : Index := 0#32
  ![16, v4837.toNat, 0]
def k0_off104 (i : grid0.Coords) (k0_t3 : Fin (k0_t3_loop i).trips) : Fin 3 → Nat :=
  let c17_1867 : Index := 17#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4842 : Index := Scalar.indexCast v4755
  let c0_1868 : Index := 0#32
  ![17, v4842.toNat, 0]
def k0_off105 (i : grid0.Coords) (k0_t3 : Fin (k0_t3_loop i).trips) : Fin 3 → Nat :=
  let c18_1869 : Index := 18#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4847 : Index := Scalar.indexCast v4755
  let c0_1870 : Index := 0#32
  ![18, v4847.toNat, 0]
def k0_off106 (i : grid0.Coords) (k0_t3 : Fin (k0_t3_loop i).trips) : Fin 3 → Nat :=
  let c19_1871 : Index := 19#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4852 : Index := Scalar.indexCast v4755
  let c0_1872 : Index := 0#32
  ![19, v4852.toNat, 0]
def k0_off107 (i : grid0.Coords) (k0_t3 : Fin (k0_t3_loop i).trips) : Fin 3 → Nat :=
  let c20_1873 : Index := 20#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4857 : Index := Scalar.indexCast v4755
  let c0_1874 : Index := 0#32
  ![20, v4857.toNat, 0]
def k0_off108 (i : grid0.Coords) (k0_t3 : Fin (k0_t3_loop i).trips) : Fin 3 → Nat :=
  let c21_1875 : Index := 21#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4862 : Index := Scalar.indexCast v4755
  let c0_1876 : Index := 0#32
  ![21, v4862.toNat, 0]
def k0_off109 (i : grid0.Coords) (k0_t3 : Fin (k0_t3_loop i).trips) : Fin 3 → Nat :=
  let c22_1877 : Index := 22#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4867 : Index := Scalar.indexCast v4755
  let c0_1878 : Index := 0#32
  ![22, v4867.toNat, 0]
def k0_off110 (i : grid0.Coords) (k0_t3 : Fin (k0_t3_loop i).trips) : Fin 3 → Nat :=
  let c23_1879 : Index := 23#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4872 : Index := Scalar.indexCast v4755
  let c0_1880 : Index := 0#32
  ![23, v4872.toNat, 0]
def k0_off111 (i : grid0.Coords) (k0_t3 : Fin (k0_t3_loop i).trips) : Fin 3 → Nat :=
  let c24_1881 : Index := 24#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4877 : Index := Scalar.indexCast v4755
  let c0_1882 : Index := 0#32
  ![24, v4877.toNat, 0]
def k0_off112 (i : grid0.Coords) (k0_t3 : Fin (k0_t3_loop i).trips) : Fin 3 → Nat :=
  let c25_1883 : Index := 25#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4882 : Index := Scalar.indexCast v4755
  let c0_1884 : Index := 0#32
  ![25, v4882.toNat, 0]
def k0_off113 (i : grid0.Coords) (k0_t3 : Fin (k0_t3_loop i).trips) : Fin 3 → Nat :=
  let c26_1885 : Index := 26#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4887 : Index := Scalar.indexCast v4755
  let c0_1886 : Index := 0#32
  ![26, v4887.toNat, 0]
def k0_off114 (i : grid0.Coords) (k0_t3 : Fin (k0_t3_loop i).trips) : Fin 3 → Nat :=
  let c27_1887 : Index := 27#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4892 : Index := Scalar.indexCast v4755
  let c0_1888 : Index := 0#32
  ![27, v4892.toNat, 0]
def k0_off115 (i : grid0.Coords) (k0_t3 : Fin (k0_t3_loop i).trips) : Fin 3 → Nat :=
  let c28_1889 : Index := 28#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4897 : Index := Scalar.indexCast v4755
  let c0_1890 : Index := 0#32
  ![28, v4897.toNat, 0]
def k0_off116 (i : grid0.Coords) (k0_t3 : Fin (k0_t3_loop i).trips) : Fin 3 → Nat :=
  let c29_1891 : Index := 29#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4902 : Index := Scalar.indexCast v4755
  let c0_1892 : Index := 0#32
  ![29, v4902.toNat, 0]
def k0_off117 (i : grid0.Coords) (k0_t3 : Fin (k0_t3_loop i).trips) : Fin 3 → Nat :=
  let c30_1893 : Index := 30#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4907 : Index := Scalar.indexCast v4755
  let c0_1894 : Index := 0#32
  ![30, v4907.toNat, 0]
def k0_off118 (i : grid0.Coords) (k0_t3 : Fin (k0_t3_loop i).trips) : Fin 3 → Nat :=
  let c31_1895 : Index := 31#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4912 : Index := Scalar.indexCast v4755
  let c0_1896 : Index := 0#32
  ![31, v4912.toNat, 0]
def k0_off119 (i : grid0.Coords) (k0_t3 : Fin (k0_t3_loop i).trips) (c0_i32_1906 : BitVec 32) : Fin 5 → Nat :=
  let c0_1907 : Index := 0#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1900 : BitVec 32 := 1#32
  let v4918 : BitVec 32 := Scalar.subi v3960 c1_i32_1900
  let c0_i32_1901 : BitVec 32 := 0#32
  let v4919 : BitVec 32 := Scalar.maxsi v4918 c0_i32_1901
  let c4_i32_1905 : BitVec 32 := 4#32
  let v4922 : BitVec 32 := Scalar.muli v4919 c4_i32_1905
  let v4923 : BitVec 32 := Scalar.addi v4922 c0_i32_1906
  let v4924 : Index := Scalar.indexCast v4923
  let c0_1908 : Index := 0#32
  let c0_1909 : Index := 0#32
  let c0_1910 : Index := 0#32
  ![0, v4924.toNat, 0, 0, 0]
def k0_off120 (i : grid0.Coords) (k0_t3 : Fin (k0_t3_loop i).trips) : Fin 4 → Nat :=
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c0_i32_1897 : BitVec 32 := 0#32
  let v4916 : BitVec 1 := Scalar.cmpi .eq v3960 c0_i32_1897
  let c2_i32_1898 : BitVec 32 := 2#32
  let c1_i32_1899 : BitVec 32 := 1#32
  let v4917 : BitVec 32 := Scalar.select v4916 c2_i32_1898 c1_i32_1899
  let v4943 : Index := Scalar.indexCast v4917
  let c0_1929 : Index := 0#32
  let c0_1930 : Index := 0#32
  let c0_1931 : Index := 0#32
  ![v4943.toNat, 0, 0, 0]
def k0_off121 (i : grid0.Coords) (k0_t3 : Fin (k0_t3_loop i).trips) (c0_i32_1940 : BitVec 32) : Fin 5 → Nat :=
  let c0_1941 : Index := 0#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1900 : BitVec 32 := 1#32
  let v4918 : BitVec 32 := Scalar.subi v3960 c1_i32_1900
  let c0_i32_1901 : BitVec 32 := 0#32
  let v4919 : BitVec 32 := Scalar.maxsi v4918 c0_i32_1901
  let c4_i32_1939 : BitVec 32 := 4#32
  let v4953 : BitVec 32 := Scalar.muli v4919 c4_i32_1939
  let v4954 : BitVec 32 := Scalar.addi v4953 c0_i32_1940
  let v4955 : Index := Scalar.indexCast v4954
  let c1_1942 : Index := 1#32
  let c0_1943 : Index := 0#32
  let c0_1944 : Index := 0#32
  ![0, v4955.toNat, 1, 0, 0]
def k0_off122 (i : grid0.Coords) (k0_t3 : Fin (k0_t3_loop i).trips) : Fin 4 → Nat :=
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c0_i32_1897 : BitVec 32 := 0#32
  let v4916 : BitVec 1 := Scalar.cmpi .eq v3960 c0_i32_1897
  let c2_i32_1898 : BitVec 32 := 2#32
  let c1_i32_1899 : BitVec 32 := 1#32
  let v4917 : BitVec 32 := Scalar.select v4916 c2_i32_1898 c1_i32_1899
  let v4974 : Index := Scalar.indexCast v4917
  let c1_1963 : Index := 1#32
  let c0_1964 : Index := 0#32
  let c0_1965 : Index := 0#32
  ![v4974.toNat, 1, 0, 0]
def k0_mult17 (i : grid0.Coords) (k0_t3 : Fin (k0_t3_loop i).trips) : BitVec 32 :=
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1970 : BitVec 32 := 512#32
  let v4982 : BitVec 32 := Scalar.muli v3960 c512_i32_1970
  v4982
def k0_off123 (i : grid0.Coords) (k0_t3 : Fin (k0_t3_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v4984 : Index := Scalar.indexCast v19
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1970 : BitVec 32 := 512#32
  let v4982 : BitVec 32 := Scalar.muli v3960 c512_i32_1970
  let v4983 : BitVec 32 := v4982
  let v4985 : Index := Scalar.indexCast v4983
  let c0_1971 : Index := 0#32
  ![v4984.toNat, v4985.toNat, 0]
def k0_off124 (i : grid0.Coords) (k0_t3 : Fin (k0_t3_loop i).trips) : Fin 3 → Nat :=
  let c0_1974 : Index := 0#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1970 : BitVec 32 := 512#32
  let v4982 : BitVec 32 := Scalar.muli v3960 c512_i32_1970
  let v4983 : BitVec 32 := v4982
  let v4994 : Index := Scalar.indexCast v4983
  let c0_1975 : Index := 0#32
  ![0, v4994.toNat, 0]
def k0_mult18 (i : grid0.Coords) (k0_t3 : Fin (k0_t3_loop i).trips) : BitVec 32 :=
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1992 : BitVec 32 := 1#32
  let v5017 : BitVec 32 := Scalar.addi v3960 c1_i32_1992
  let c512_i32_1993 : BitVec 32 := 512#32
  let v5018 : BitVec 32 := Scalar.muli v5017 c512_i32_1993
  v5018
def k0_off125 (i : grid0.Coords) (k0_t3 : Fin (k0_t3_loop i).trips) : Fin 3 → Nat :=
  let c0_1994 : Index := 0#32
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1992 : BitVec 32 := 1#32
  let v5017 : BitVec 32 := Scalar.addi v3960 c1_i32_1992
  let c512_i32_1993 : BitVec 32 := 512#32
  let v5018 : BitVec 32 := Scalar.muli v5017 c512_i32_1993
  let v5019 : BitVec 32 := v5018
  let v5020 : Index := Scalar.indexCast v5019
  let c0_1995 : Index := 0#32
  ![0, v5020.toNat, 0]
def k0_off126 (i : grid0.Coords) (k0_t3 : Fin (k0_t3_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v5063 : Index := Scalar.indexCast v20
  let c2_i32_1588 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1992 : BitVec 32 := 1#32
  let v5017 : BitVec 32 := Scalar.addi v3960 c1_i32_1992
  let c512_i32_1993 : BitVec 32 := 512#32
  let v5018 : BitVec 32 := Scalar.muli v5017 c512_i32_1993
  let v5019 : BitVec 32 := v5018
  let v5064 : Index := Scalar.indexCast v5019
  let c0_2008 : Index := 0#32
  ![v5063.toNat, v5064.toNat, 0]
def k0_mult19 (i : grid0.Coords) (k0_t3 : Fin (k0_t3_loop i).trips) : BitVec 32 :=
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2011 : BitVec 32 := 512#32
  let v5070 : BitVec 32 := Scalar.muli v5069 c512_i32_2011
  v5070
def k0_mult20 (i : grid0.Coords) (k0_t3 : Fin (k0_t3_loop i).trips) : BitVec 32 :=
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  v5863
def k0_off127 (i : grid0.Coords) (k0_t3 : Fin (k0_t3_loop i).trips) : Fin 3 → Nat :=
  let c0_2255 : Index := 0#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5866 : Index := Scalar.indexCast v5864
  let c0_2256 : Index := 0#32
  ![0, v5866.toNat, 0]
def k0_off128 (i : grid0.Coords) (k0_t3 : Fin (k0_t3_loop i).trips) : Fin 3 → Nat :=
  let c1_2257 : Index := 1#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5871 : Index := Scalar.indexCast v5864
  let c0_2258 : Index := 0#32
  ![1, v5871.toNat, 0]
def k0_off129 (i : grid0.Coords) (k0_t3 : Fin (k0_t3_loop i).trips) : Fin 3 → Nat :=
  let c2_2259 : Index := 2#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5876 : Index := Scalar.indexCast v5864
  let c0_2260 : Index := 0#32
  ![2, v5876.toNat, 0]
def k0_off130 (i : grid0.Coords) (k0_t3 : Fin (k0_t3_loop i).trips) : Fin 3 → Nat :=
  let c3_2261 : Index := 3#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5881 : Index := Scalar.indexCast v5864
  let c0_2262 : Index := 0#32
  ![3, v5881.toNat, 0]
def k0_off131 (i : grid0.Coords) (k0_t3 : Fin (k0_t3_loop i).trips) : Fin 3 → Nat :=
  let c4_2263 : Index := 4#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5886 : Index := Scalar.indexCast v5864
  let c0_2264 : Index := 0#32
  ![4, v5886.toNat, 0]
def k0_off132 (i : grid0.Coords) (k0_t3 : Fin (k0_t3_loop i).trips) : Fin 3 → Nat :=
  let c5_2265 : Index := 5#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5891 : Index := Scalar.indexCast v5864
  let c0_2266 : Index := 0#32
  ![5, v5891.toNat, 0]
def k0_off133 (i : grid0.Coords) (k0_t3 : Fin (k0_t3_loop i).trips) : Fin 3 → Nat :=
  let c6_2267 : Index := 6#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5896 : Index := Scalar.indexCast v5864
  let c0_2268 : Index := 0#32
  ![6, v5896.toNat, 0]
def k0_off134 (i : grid0.Coords) (k0_t3 : Fin (k0_t3_loop i).trips) : Fin 3 → Nat :=
  let c7_2269 : Index := 7#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5901 : Index := Scalar.indexCast v5864
  let c0_2270 : Index := 0#32
  ![7, v5901.toNat, 0]
def k0_off135 (i : grid0.Coords) (k0_t3 : Fin (k0_t3_loop i).trips) : Fin 3 → Nat :=
  let c8_2271 : Index := 8#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5906 : Index := Scalar.indexCast v5864
  let c0_2272 : Index := 0#32
  ![8, v5906.toNat, 0]
def k0_off136 (i : grid0.Coords) (k0_t3 : Fin (k0_t3_loop i).trips) : Fin 3 → Nat :=
  let c9_2273 : Index := 9#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5911 : Index := Scalar.indexCast v5864
  let c0_2274 : Index := 0#32
  ![9, v5911.toNat, 0]
def k0_off137 (i : grid0.Coords) (k0_t3 : Fin (k0_t3_loop i).trips) : Fin 3 → Nat :=
  let c10_2275 : Index := 10#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5916 : Index := Scalar.indexCast v5864
  let c0_2276 : Index := 0#32
  ![10, v5916.toNat, 0]
def k0_off138 (i : grid0.Coords) (k0_t3 : Fin (k0_t3_loop i).trips) : Fin 3 → Nat :=
  let c11_2277 : Index := 11#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5921 : Index := Scalar.indexCast v5864
  let c0_2278 : Index := 0#32
  ![11, v5921.toNat, 0]
def k0_off139 (i : grid0.Coords) (k0_t3 : Fin (k0_t3_loop i).trips) : Fin 3 → Nat :=
  let c12_2279 : Index := 12#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5926 : Index := Scalar.indexCast v5864
  let c0_2280 : Index := 0#32
  ![12, v5926.toNat, 0]
def k0_off140 (i : grid0.Coords) (k0_t3 : Fin (k0_t3_loop i).trips) : Fin 3 → Nat :=
  let c13_2281 : Index := 13#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5931 : Index := Scalar.indexCast v5864
  let c0_2282 : Index := 0#32
  ![13, v5931.toNat, 0]
def k0_off141 (i : grid0.Coords) (k0_t3 : Fin (k0_t3_loop i).trips) : Fin 3 → Nat :=
  let c14_2283 : Index := 14#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5936 : Index := Scalar.indexCast v5864
  let c0_2284 : Index := 0#32
  ![14, v5936.toNat, 0]
def k0_off142 (i : grid0.Coords) (k0_t3 : Fin (k0_t3_loop i).trips) : Fin 3 → Nat :=
  let c15_2285 : Index := 15#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5941 : Index := Scalar.indexCast v5864
  let c0_2286 : Index := 0#32
  ![15, v5941.toNat, 0]
def k0_off143 (i : grid0.Coords) (k0_t3 : Fin (k0_t3_loop i).trips) : Fin 3 → Nat :=
  let c16_2287 : Index := 16#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5946 : Index := Scalar.indexCast v5864
  let c0_2288 : Index := 0#32
  ![16, v5946.toNat, 0]
def k0_off144 (i : grid0.Coords) (k0_t3 : Fin (k0_t3_loop i).trips) : Fin 3 → Nat :=
  let c17_2289 : Index := 17#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5951 : Index := Scalar.indexCast v5864
  let c0_2290 : Index := 0#32
  ![17, v5951.toNat, 0]
def k0_off145 (i : grid0.Coords) (k0_t3 : Fin (k0_t3_loop i).trips) : Fin 3 → Nat :=
  let c18_2291 : Index := 18#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5956 : Index := Scalar.indexCast v5864
  let c0_2292 : Index := 0#32
  ![18, v5956.toNat, 0]
def k0_off146 (i : grid0.Coords) (k0_t3 : Fin (k0_t3_loop i).trips) : Fin 3 → Nat :=
  let c19_2293 : Index := 19#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5961 : Index := Scalar.indexCast v5864
  let c0_2294 : Index := 0#32
  ![19, v5961.toNat, 0]
def k0_off147 (i : grid0.Coords) (k0_t3 : Fin (k0_t3_loop i).trips) : Fin 3 → Nat :=
  let c20_2295 : Index := 20#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5966 : Index := Scalar.indexCast v5864
  let c0_2296 : Index := 0#32
  ![20, v5966.toNat, 0]
def k0_off148 (i : grid0.Coords) (k0_t3 : Fin (k0_t3_loop i).trips) : Fin 3 → Nat :=
  let c21_2297 : Index := 21#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5971 : Index := Scalar.indexCast v5864
  let c0_2298 : Index := 0#32
  ![21, v5971.toNat, 0]
def k0_off149 (i : grid0.Coords) (k0_t3 : Fin (k0_t3_loop i).trips) : Fin 3 → Nat :=
  let c22_2299 : Index := 22#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5976 : Index := Scalar.indexCast v5864
  let c0_2300 : Index := 0#32
  ![22, v5976.toNat, 0]
def k0_off150 (i : grid0.Coords) (k0_t3 : Fin (k0_t3_loop i).trips) : Fin 3 → Nat :=
  let c23_2301 : Index := 23#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5981 : Index := Scalar.indexCast v5864
  let c0_2302 : Index := 0#32
  ![23, v5981.toNat, 0]
def k0_off151 (i : grid0.Coords) (k0_t3 : Fin (k0_t3_loop i).trips) : Fin 3 → Nat :=
  let c24_2303 : Index := 24#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5986 : Index := Scalar.indexCast v5864
  let c0_2304 : Index := 0#32
  ![24, v5986.toNat, 0]
def k0_off152 (i : grid0.Coords) (k0_t3 : Fin (k0_t3_loop i).trips) : Fin 3 → Nat :=
  let c25_2305 : Index := 25#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5991 : Index := Scalar.indexCast v5864
  let c0_2306 : Index := 0#32
  ![25, v5991.toNat, 0]
def k0_off153 (i : grid0.Coords) (k0_t3 : Fin (k0_t3_loop i).trips) : Fin 3 → Nat :=
  let c26_2307 : Index := 26#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5996 : Index := Scalar.indexCast v5864
  let c0_2308 : Index := 0#32
  ![26, v5996.toNat, 0]
def k0_off154 (i : grid0.Coords) (k0_t3 : Fin (k0_t3_loop i).trips) : Fin 3 → Nat :=
  let c27_2309 : Index := 27#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6001 : Index := Scalar.indexCast v5864
  let c0_2310 : Index := 0#32
  ![27, v6001.toNat, 0]
def k0_off155 (i : grid0.Coords) (k0_t3 : Fin (k0_t3_loop i).trips) : Fin 3 → Nat :=
  let c28_2311 : Index := 28#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6006 : Index := Scalar.indexCast v5864
  let c0_2312 : Index := 0#32
  ![28, v6006.toNat, 0]
def k0_off156 (i : grid0.Coords) (k0_t3 : Fin (k0_t3_loop i).trips) : Fin 3 → Nat :=
  let c29_2313 : Index := 29#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6011 : Index := Scalar.indexCast v5864
  let c0_2314 : Index := 0#32
  ![29, v6011.toNat, 0]
def k0_off157 (i : grid0.Coords) (k0_t3 : Fin (k0_t3_loop i).trips) : Fin 3 → Nat :=
  let c30_2315 : Index := 30#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6016 : Index := Scalar.indexCast v5864
  let c0_2316 : Index := 0#32
  ![30, v6016.toNat, 0]
def k0_off158 (i : grid0.Coords) (k0_t3 : Fin (k0_t3_loop i).trips) : Fin 3 → Nat :=
  let c31_2317 : Index := 31#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6021 : Index := Scalar.indexCast v5864
  let c0_2318 : Index := 0#32
  ![31, v6021.toNat, 0]
def k0_off159 (i : grid0.Coords) (k0_t3 : Fin (k0_t3_loop i).trips) (c0_i32_2325 : BitVec 32) : Fin 5 → Nat :=
  let c0_2326 : Index := 0#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2319 : BitVec 32 := 1#32
  let v6025 : BitVec 32 := Scalar.subi v5069 c1_i32_2319
  let c0_i32_2320 : BitVec 32 := 0#32
  let v6026 : BitVec 32 := Scalar.maxsi v6025 c0_i32_2320
  let c4_i32_2324 : BitVec 32 := 4#32
  let v6029 : BitVec 32 := Scalar.muli v6026 c4_i32_2324
  let v6030 : BitVec 32 := Scalar.addi v6029 c0_i32_2325
  let v6031 : Index := Scalar.indexCast v6030
  let c0_2327 : Index := 0#32
  let c0_2328 : Index := 0#32
  let c0_2329 : Index := 0#32
  ![0, v6031.toNat, 0, 0, 0]
def k0_off160 (i : grid0.Coords) (k0_t3 : Fin (k0_t3_loop i).trips) (c0_i32_2360 : BitVec 32) : Fin 5 → Nat :=
  let c0_2361 : Index := 0#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2319 : BitVec 32 := 1#32
  let v6025 : BitVec 32 := Scalar.subi v5069 c1_i32_2319
  let c0_i32_2320 : BitVec 32 := 0#32
  let v6026 : BitVec 32 := Scalar.maxsi v6025 c0_i32_2320
  let c4_i32_2359 : BitVec 32 := 4#32
  let v6059 : BitVec 32 := Scalar.muli v6026 c4_i32_2359
  let v6060 : BitVec 32 := Scalar.addi v6059 c0_i32_2360
  let v6061 : Index := Scalar.indexCast v6060
  let c1_2362 : Index := 1#32
  let c0_2363 : Index := 0#32
  let c0_2364 : Index := 0#32
  ![0, v6061.toNat, 1, 0, 0]
def k0_mult21 (i : grid0.Coords) (k0_t3 : Fin (k0_t3_loop i).trips) : BitVec 32 :=
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2391 : BitVec 32 := 512#32
  let v6087 : BitVec 32 := Scalar.muli v5069 c512_i32_2391
  v6087
def k0_off161 (i : grid0.Coords) (k0_t3 : Fin (k0_t3_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v6089 : Index := Scalar.indexCast v19
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2391 : BitVec 32 := 512#32
  let v6087 : BitVec 32 := Scalar.muli v5069 c512_i32_2391
  let v6088 : BitVec 32 := v6087
  let v6090 : Index := Scalar.indexCast v6088
  let c0_2392 : Index := 0#32
  ![v6089.toNat, v6090.toNat, 0]
def k0_off162 (i : grid0.Coords) (k0_t3 : Fin (k0_t3_loop i).trips) : Fin 3 → Nat :=
  let c0_2395 : Index := 0#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2391 : BitVec 32 := 512#32
  let v6087 : BitVec 32 := Scalar.muli v5069 c512_i32_2391
  let v6088 : BitVec 32 := v6087
  let v6099 : Index := Scalar.indexCast v6088
  let c0_2396 : Index := 0#32
  ![0, v6099.toNat, 0]
def k0_mult22 (i : grid0.Coords) (k0_t3 : Fin (k0_t3_loop i).trips) : BitVec 32 :=
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2413 : BitVec 32 := 1#32
  let v6122 : BitVec 32 := Scalar.addi v5069 c1_i32_2413
  let c512_i32_2414 : BitVec 32 := 512#32
  let v6123 : BitVec 32 := Scalar.muli v6122 c512_i32_2414
  v6123
def k0_off163 (i : grid0.Coords) (k0_t3 : Fin (k0_t3_loop i).trips) : Fin 3 → Nat :=
  let c0_2415 : Index := 0#32
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2413 : BitVec 32 := 1#32
  let v6122 : BitVec 32 := Scalar.addi v5069 c1_i32_2413
  let c512_i32_2414 : BitVec 32 := 512#32
  let v6123 : BitVec 32 := Scalar.muli v6122 c512_i32_2414
  let v6124 : BitVec 32 := v6123
  let v6125 : Index := Scalar.indexCast v6124
  let c0_2416 : Index := 0#32
  ![0, v6125.toNat, 0]
def k0_off164 (i : grid0.Coords) (k0_t3 : Fin (k0_t3_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v6168 : Index := Scalar.indexCast v20
  let c2_i32_2009 : BitVec 32 := 2#32
  let c2_i32_1586 : BitVec 32 := 2#32
  let c0_i32_96 : BitVec 32 := 0#32
  let c1_i32_98 : BitVec 32 := 1#32
  let arg26 : BitVec 32 := Scf.iv c0_i32_96 c1_i32_98 k0_t3
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2413 : BitVec 32 := 1#32
  let v6122 : BitVec 32 := Scalar.addi v5069 c1_i32_2413
  let c512_i32_2414 : BitVec 32 := 512#32
  let v6123 : BitVec 32 := Scalar.muli v6122 c512_i32_2414
  let v6124 : BitVec 32 := v6123
  let v6169 : Index := Scalar.indexCast v6124
  let c0_2429 : Index := 0#32
  ![v6168.toNat, v6169.toNat, 0]
@[reducible] def k0_t4_loop (i : grid0.Coords) : Scf.Loop 32 :=
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let v225 : BitVec 32 := Scalar.addi c0_i32_96 v224
  let c1_i32_99 : BitVec 32 := 1#32
  ⟨v228, v225, c1_i32_99⟩
def k0_mult23 (i : grid0.Coords) (k0_t4 : Fin (k0_t4_loop i).trips) : BitVec 32 :=
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c512_i32_745 : BitVec 32 := 512#32
  let v1746 : BitVec 32 := Scalar.muli v1745 c512_i32_745
  v1746
def k0_off165 (i : grid0.Coords) (k0_t4 : Fin (k0_t4_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1748 : Index := Scalar.indexCast v20
  let c2_i32_744 : BitVec 32 := 2#32
  let c2_i32_743 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c512_i32_745 : BitVec 32 := 512#32
  let v1746 : BitVec 32 := Scalar.muli v1745 c512_i32_745
  let v1747 : BitVec 32 := v1746
  let v1749 : Index := Scalar.indexCast v1747
  let c0_746 : Index := 0#32
  ![v1748.toNat, v1749.toNat, 0]
def k0_mult24 (i : grid0.Coords) (k0_t4 : Fin (k0_t4_loop i).trips) : BitVec 32 :=
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  v2539
def k0_off166 (i : grid0.Coords) (k0_t4 : Fin (k0_t4_loop i).trips) : Fin 3 → Nat :=
  let c0_989 : Index := 0#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2542 : Index := Scalar.indexCast v2540
  let c0_990 : Index := 0#32
  ![0, v2542.toNat, 0]
def k0_off167 (i : grid0.Coords) (k0_t4 : Fin (k0_t4_loop i).trips) : Fin 3 → Nat :=
  let c1_991 : Index := 1#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2547 : Index := Scalar.indexCast v2540
  let c0_992 : Index := 0#32
  ![1, v2547.toNat, 0]
def k0_off168 (i : grid0.Coords) (k0_t4 : Fin (k0_t4_loop i).trips) : Fin 3 → Nat :=
  let c2_993 : Index := 2#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2552 : Index := Scalar.indexCast v2540
  let c0_994 : Index := 0#32
  ![2, v2552.toNat, 0]
def k0_off169 (i : grid0.Coords) (k0_t4 : Fin (k0_t4_loop i).trips) : Fin 3 → Nat :=
  let c3_995 : Index := 3#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2557 : Index := Scalar.indexCast v2540
  let c0_996 : Index := 0#32
  ![3, v2557.toNat, 0]
def k0_off170 (i : grid0.Coords) (k0_t4 : Fin (k0_t4_loop i).trips) : Fin 3 → Nat :=
  let c4_997 : Index := 4#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2562 : Index := Scalar.indexCast v2540
  let c0_998 : Index := 0#32
  ![4, v2562.toNat, 0]
def k0_off171 (i : grid0.Coords) (k0_t4 : Fin (k0_t4_loop i).trips) : Fin 3 → Nat :=
  let c5_999 : Index := 5#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2567 : Index := Scalar.indexCast v2540
  let c0_1000 : Index := 0#32
  ![5, v2567.toNat, 0]
def k0_off172 (i : grid0.Coords) (k0_t4 : Fin (k0_t4_loop i).trips) : Fin 3 → Nat :=
  let c6_1001 : Index := 6#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2572 : Index := Scalar.indexCast v2540
  let c0_1002 : Index := 0#32
  ![6, v2572.toNat, 0]
def k0_off173 (i : grid0.Coords) (k0_t4 : Fin (k0_t4_loop i).trips) : Fin 3 → Nat :=
  let c7_1003 : Index := 7#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2577 : Index := Scalar.indexCast v2540
  let c0_1004 : Index := 0#32
  ![7, v2577.toNat, 0]
def k0_off174 (i : grid0.Coords) (k0_t4 : Fin (k0_t4_loop i).trips) : Fin 3 → Nat :=
  let c8_1005 : Index := 8#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2582 : Index := Scalar.indexCast v2540
  let c0_1006 : Index := 0#32
  ![8, v2582.toNat, 0]
def k0_off175 (i : grid0.Coords) (k0_t4 : Fin (k0_t4_loop i).trips) : Fin 3 → Nat :=
  let c9_1007 : Index := 9#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2587 : Index := Scalar.indexCast v2540
  let c0_1008 : Index := 0#32
  ![9, v2587.toNat, 0]
def k0_off176 (i : grid0.Coords) (k0_t4 : Fin (k0_t4_loop i).trips) : Fin 3 → Nat :=
  let c10_1009 : Index := 10#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2592 : Index := Scalar.indexCast v2540
  let c0_1010 : Index := 0#32
  ![10, v2592.toNat, 0]
def k0_off177 (i : grid0.Coords) (k0_t4 : Fin (k0_t4_loop i).trips) : Fin 3 → Nat :=
  let c11_1011 : Index := 11#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2597 : Index := Scalar.indexCast v2540
  let c0_1012 : Index := 0#32
  ![11, v2597.toNat, 0]
def k0_off178 (i : grid0.Coords) (k0_t4 : Fin (k0_t4_loop i).trips) : Fin 3 → Nat :=
  let c12_1013 : Index := 12#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2602 : Index := Scalar.indexCast v2540
  let c0_1014 : Index := 0#32
  ![12, v2602.toNat, 0]
def k0_off179 (i : grid0.Coords) (k0_t4 : Fin (k0_t4_loop i).trips) : Fin 3 → Nat :=
  let c13_1015 : Index := 13#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2607 : Index := Scalar.indexCast v2540
  let c0_1016 : Index := 0#32
  ![13, v2607.toNat, 0]
def k0_off180 (i : grid0.Coords) (k0_t4 : Fin (k0_t4_loop i).trips) : Fin 3 → Nat :=
  let c14_1017 : Index := 14#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2612 : Index := Scalar.indexCast v2540
  let c0_1018 : Index := 0#32
  ![14, v2612.toNat, 0]
def k0_off181 (i : grid0.Coords) (k0_t4 : Fin (k0_t4_loop i).trips) : Fin 3 → Nat :=
  let c15_1019 : Index := 15#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2617 : Index := Scalar.indexCast v2540
  let c0_1020 : Index := 0#32
  ![15, v2617.toNat, 0]
def k0_off182 (i : grid0.Coords) (k0_t4 : Fin (k0_t4_loop i).trips) : Fin 3 → Nat :=
  let c16_1021 : Index := 16#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2622 : Index := Scalar.indexCast v2540
  let c0_1022 : Index := 0#32
  ![16, v2622.toNat, 0]
def k0_off183 (i : grid0.Coords) (k0_t4 : Fin (k0_t4_loop i).trips) : Fin 3 → Nat :=
  let c17_1023 : Index := 17#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2627 : Index := Scalar.indexCast v2540
  let c0_1024 : Index := 0#32
  ![17, v2627.toNat, 0]
def k0_off184 (i : grid0.Coords) (k0_t4 : Fin (k0_t4_loop i).trips) : Fin 3 → Nat :=
  let c18_1025 : Index := 18#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2632 : Index := Scalar.indexCast v2540
  let c0_1026 : Index := 0#32
  ![18, v2632.toNat, 0]
def k0_off185 (i : grid0.Coords) (k0_t4 : Fin (k0_t4_loop i).trips) : Fin 3 → Nat :=
  let c19_1027 : Index := 19#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2637 : Index := Scalar.indexCast v2540
  let c0_1028 : Index := 0#32
  ![19, v2637.toNat, 0]
def k0_off186 (i : grid0.Coords) (k0_t4 : Fin (k0_t4_loop i).trips) : Fin 3 → Nat :=
  let c20_1029 : Index := 20#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2642 : Index := Scalar.indexCast v2540
  let c0_1030 : Index := 0#32
  ![20, v2642.toNat, 0]
def k0_off187 (i : grid0.Coords) (k0_t4 : Fin (k0_t4_loop i).trips) : Fin 3 → Nat :=
  let c21_1031 : Index := 21#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2647 : Index := Scalar.indexCast v2540
  let c0_1032 : Index := 0#32
  ![21, v2647.toNat, 0]
def k0_off188 (i : grid0.Coords) (k0_t4 : Fin (k0_t4_loop i).trips) : Fin 3 → Nat :=
  let c22_1033 : Index := 22#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2652 : Index := Scalar.indexCast v2540
  let c0_1034 : Index := 0#32
  ![22, v2652.toNat, 0]
def k0_off189 (i : grid0.Coords) (k0_t4 : Fin (k0_t4_loop i).trips) : Fin 3 → Nat :=
  let c23_1035 : Index := 23#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2657 : Index := Scalar.indexCast v2540
  let c0_1036 : Index := 0#32
  ![23, v2657.toNat, 0]
def k0_off190 (i : grid0.Coords) (k0_t4 : Fin (k0_t4_loop i).trips) : Fin 3 → Nat :=
  let c24_1037 : Index := 24#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2662 : Index := Scalar.indexCast v2540
  let c0_1038 : Index := 0#32
  ![24, v2662.toNat, 0]
def k0_off191 (i : grid0.Coords) (k0_t4 : Fin (k0_t4_loop i).trips) : Fin 3 → Nat :=
  let c25_1039 : Index := 25#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2667 : Index := Scalar.indexCast v2540
  let c0_1040 : Index := 0#32
  ![25, v2667.toNat, 0]
def k0_off192 (i : grid0.Coords) (k0_t4 : Fin (k0_t4_loop i).trips) : Fin 3 → Nat :=
  let c26_1041 : Index := 26#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2672 : Index := Scalar.indexCast v2540
  let c0_1042 : Index := 0#32
  ![26, v2672.toNat, 0]
def k0_off193 (i : grid0.Coords) (k0_t4 : Fin (k0_t4_loop i).trips) : Fin 3 → Nat :=
  let c27_1043 : Index := 27#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2677 : Index := Scalar.indexCast v2540
  let c0_1044 : Index := 0#32
  ![27, v2677.toNat, 0]
def k0_off194 (i : grid0.Coords) (k0_t4 : Fin (k0_t4_loop i).trips) : Fin 3 → Nat :=
  let c28_1045 : Index := 28#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2682 : Index := Scalar.indexCast v2540
  let c0_1046 : Index := 0#32
  ![28, v2682.toNat, 0]
def k0_off195 (i : grid0.Coords) (k0_t4 : Fin (k0_t4_loop i).trips) : Fin 3 → Nat :=
  let c29_1047 : Index := 29#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2687 : Index := Scalar.indexCast v2540
  let c0_1048 : Index := 0#32
  ![29, v2687.toNat, 0]
def k0_off196 (i : grid0.Coords) (k0_t4 : Fin (k0_t4_loop i).trips) : Fin 3 → Nat :=
  let c30_1049 : Index := 30#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2692 : Index := Scalar.indexCast v2540
  let c0_1050 : Index := 0#32
  ![30, v2692.toNat, 0]
def k0_off197 (i : grid0.Coords) (k0_t4 : Fin (k0_t4_loop i).trips) : Fin 3 → Nat :=
  let c31_1051 : Index := 31#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c16_i32_988 : BitVec 32 := 16#32
  let v2539 : BitVec 32 := Scalar.muli v1745 c16_i32_988
  let v2540 : BitVec 32 := v2539
  let v2697 : Index := Scalar.indexCast v2540
  let c0_1052 : Index := 0#32
  ![31, v2697.toNat, 0]
def k0_off198 (i : grid0.Coords) (k0_t4 : Fin (k0_t4_loop i).trips) (c0_i32_1062 : BitVec 32) : Fin 5 → Nat :=
  let c0_1063 : Index := 0#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c1_i32_1056 : BitVec 32 := 1#32
  let v2703 : BitVec 32 := Scalar.subi v1745 c1_i32_1056
  let c0_i32_1057 : BitVec 32 := 0#32
  let v2704 : BitVec 32 := Scalar.maxsi v2703 c0_i32_1057
  let c4_i32_1061 : BitVec 32 := 4#32
  let v2707 : BitVec 32 := Scalar.muli v2704 c4_i32_1061
  let v2708 : BitVec 32 := Scalar.addi v2707 c0_i32_1062
  let v2709 : Index := Scalar.indexCast v2708
  let c0_1064 : Index := 0#32
  let c0_1065 : Index := 0#32
  let c0_1066 : Index := 0#32
  ![0, v2709.toNat, 0, 0, 0]
def k0_off199 (i : grid0.Coords) (k0_t4 : Fin (k0_t4_loop i).trips) : Fin 4 → Nat :=
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c0_i32_1053 : BitVec 32 := 0#32
  let v2701 : BitVec 1 := Scalar.cmpi .eq v1745 c0_i32_1053
  let c2_i32_1054 : BitVec 32 := 2#32
  let c1_i32_1055 : BitVec 32 := 1#32
  let v2702 : BitVec 32 := Scalar.select v2701 c2_i32_1054 c1_i32_1055
  let v2728 : Index := Scalar.indexCast v2702
  let c0_1085 : Index := 0#32
  let c0_1086 : Index := 0#32
  let c0_1087 : Index := 0#32
  ![v2728.toNat, 0, 0, 0]
def k0_off200 (i : grid0.Coords) (k0_t4 : Fin (k0_t4_loop i).trips) (c0_i32_1096 : BitVec 32) : Fin 5 → Nat :=
  let c0_1097 : Index := 0#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c1_i32_1056 : BitVec 32 := 1#32
  let v2703 : BitVec 32 := Scalar.subi v1745 c1_i32_1056
  let c0_i32_1057 : BitVec 32 := 0#32
  let v2704 : BitVec 32 := Scalar.maxsi v2703 c0_i32_1057
  let c4_i32_1095 : BitVec 32 := 4#32
  let v2738 : BitVec 32 := Scalar.muli v2704 c4_i32_1095
  let v2739 : BitVec 32 := Scalar.addi v2738 c0_i32_1096
  let v2740 : Index := Scalar.indexCast v2739
  let c1_1098 : Index := 1#32
  let c0_1099 : Index := 0#32
  let c0_1100 : Index := 0#32
  ![0, v2740.toNat, 1, 0, 0]
def k0_off201 (i : grid0.Coords) (k0_t4 : Fin (k0_t4_loop i).trips) : Fin 4 → Nat :=
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c0_i32_1053 : BitVec 32 := 0#32
  let v2701 : BitVec 1 := Scalar.cmpi .eq v1745 c0_i32_1053
  let c2_i32_1054 : BitVec 32 := 2#32
  let c1_i32_1055 : BitVec 32 := 1#32
  let v2702 : BitVec 32 := Scalar.select v2701 c2_i32_1054 c1_i32_1055
  let v2759 : Index := Scalar.indexCast v2702
  let c1_1119 : Index := 1#32
  let c0_1120 : Index := 0#32
  let c0_1121 : Index := 0#32
  ![v2759.toNat, 1, 0, 0]
def k0_mult25 (i : grid0.Coords) (k0_t4 : Fin (k0_t4_loop i).trips) : BitVec 32 :=
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c512_i32_1126 : BitVec 32 := 512#32
  let v2767 : BitVec 32 := Scalar.muli v1745 c512_i32_1126
  v2767
def k0_off202 (i : grid0.Coords) (k0_t4 : Fin (k0_t4_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2769 : Index := Scalar.indexCast v19
  let c2_i32_744 : BitVec 32 := 2#32
  let c2_i32_743 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c512_i32_1126 : BitVec 32 := 512#32
  let v2767 : BitVec 32 := Scalar.muli v1745 c512_i32_1126
  let v2768 : BitVec 32 := v2767
  let v2770 : Index := Scalar.indexCast v2768
  let c0_1127 : Index := 0#32
  ![v2769.toNat, v2770.toNat, 0]
def k0_off203 (i : grid0.Coords) (k0_t4 : Fin (k0_t4_loop i).trips) : Fin 3 → Nat :=
  let c0_1130 : Index := 0#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c512_i32_1126 : BitVec 32 := 512#32
  let v2767 : BitVec 32 := Scalar.muli v1745 c512_i32_1126
  let v2768 : BitVec 32 := v2767
  let v2779 : Index := Scalar.indexCast v2768
  let c0_1131 : Index := 0#32
  ![0, v2779.toNat, 0]
def k0_mult26 (i : grid0.Coords) (k0_t4 : Fin (k0_t4_loop i).trips) : BitVec 32 :=
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c1_i32_1148 : BitVec 32 := 1#32
  let v2802 : BitVec 32 := Scalar.addi v1745 c1_i32_1148
  let c512_i32_1149 : BitVec 32 := 512#32
  let v2803 : BitVec 32 := Scalar.muli v2802 c512_i32_1149
  v2803
def k0_off204 (i : grid0.Coords) (k0_t4 : Fin (k0_t4_loop i).trips) : Fin 3 → Nat :=
  let c0_1150 : Index := 0#32
  let c2_i32_744 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c1_i32_1148 : BitVec 32 := 1#32
  let v2802 : BitVec 32 := Scalar.addi v1745 c1_i32_1148
  let c512_i32_1149 : BitVec 32 := 512#32
  let v2803 : BitVec 32 := Scalar.muli v2802 c512_i32_1149
  let v2804 : BitVec 32 := v2803
  let v2805 : Index := Scalar.indexCast v2804
  let c0_1151 : Index := 0#32
  ![0, v2805.toNat, 0]
def k0_off205 (i : grid0.Coords) (k0_t4 : Fin (k0_t4_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2848 : Index := Scalar.indexCast v20
  let c2_i32_744 : BitVec 32 := 2#32
  let c2_i32_743 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v1745 : BitVec 32 := Scalar.muli c2_i32_744 v1744
  let c1_i32_1148 : BitVec 32 := 1#32
  let v2802 : BitVec 32 := Scalar.addi v1745 c1_i32_1148
  let c512_i32_1149 : BitVec 32 := 512#32
  let v2803 : BitVec 32 := Scalar.muli v2802 c512_i32_1149
  let v2804 : BitVec 32 := v2803
  let v2849 : Index := Scalar.indexCast v2804
  let c0_1164 : Index := 0#32
  ![v2848.toNat, v2849.toNat, 0]
def k0_mult27 (i : grid0.Coords) (k0_t4 : Fin (k0_t4_loop i).trips) : BitVec 32 :=
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1167 : BitVec 32 := 512#32
  let v2855 : BitVec 32 := Scalar.muli v2854 c512_i32_1167
  v2855
def k0_mult28 (i : grid0.Coords) (k0_t4 : Fin (k0_t4_loop i).trips) : BitVec 32 :=
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  v3648
def k0_off206 (i : grid0.Coords) (k0_t4 : Fin (k0_t4_loop i).trips) : Fin 3 → Nat :=
  let c0_1411 : Index := 0#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3651 : Index := Scalar.indexCast v3649
  let c0_1412 : Index := 0#32
  ![0, v3651.toNat, 0]
def k0_off207 (i : grid0.Coords) (k0_t4 : Fin (k0_t4_loop i).trips) : Fin 3 → Nat :=
  let c1_1413 : Index := 1#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3656 : Index := Scalar.indexCast v3649
  let c0_1414 : Index := 0#32
  ![1, v3656.toNat, 0]
def k0_off208 (i : grid0.Coords) (k0_t4 : Fin (k0_t4_loop i).trips) : Fin 3 → Nat :=
  let c2_1415 : Index := 2#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3661 : Index := Scalar.indexCast v3649
  let c0_1416 : Index := 0#32
  ![2, v3661.toNat, 0]
def k0_off209 (i : grid0.Coords) (k0_t4 : Fin (k0_t4_loop i).trips) : Fin 3 → Nat :=
  let c3_1417 : Index := 3#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3666 : Index := Scalar.indexCast v3649
  let c0_1418 : Index := 0#32
  ![3, v3666.toNat, 0]
def k0_off210 (i : grid0.Coords) (k0_t4 : Fin (k0_t4_loop i).trips) : Fin 3 → Nat :=
  let c4_1419 : Index := 4#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3671 : Index := Scalar.indexCast v3649
  let c0_1420 : Index := 0#32
  ![4, v3671.toNat, 0]
def k0_off211 (i : grid0.Coords) (k0_t4 : Fin (k0_t4_loop i).trips) : Fin 3 → Nat :=
  let c5_1421 : Index := 5#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3676 : Index := Scalar.indexCast v3649
  let c0_1422 : Index := 0#32
  ![5, v3676.toNat, 0]
def k0_off212 (i : grid0.Coords) (k0_t4 : Fin (k0_t4_loop i).trips) : Fin 3 → Nat :=
  let c6_1423 : Index := 6#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3681 : Index := Scalar.indexCast v3649
  let c0_1424 : Index := 0#32
  ![6, v3681.toNat, 0]
def k0_off213 (i : grid0.Coords) (k0_t4 : Fin (k0_t4_loop i).trips) : Fin 3 → Nat :=
  let c7_1425 : Index := 7#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3686 : Index := Scalar.indexCast v3649
  let c0_1426 : Index := 0#32
  ![7, v3686.toNat, 0]
def k0_off214 (i : grid0.Coords) (k0_t4 : Fin (k0_t4_loop i).trips) : Fin 3 → Nat :=
  let c8_1427 : Index := 8#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3691 : Index := Scalar.indexCast v3649
  let c0_1428 : Index := 0#32
  ![8, v3691.toNat, 0]
def k0_off215 (i : grid0.Coords) (k0_t4 : Fin (k0_t4_loop i).trips) : Fin 3 → Nat :=
  let c9_1429 : Index := 9#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3696 : Index := Scalar.indexCast v3649
  let c0_1430 : Index := 0#32
  ![9, v3696.toNat, 0]
def k0_off216 (i : grid0.Coords) (k0_t4 : Fin (k0_t4_loop i).trips) : Fin 3 → Nat :=
  let c10_1431 : Index := 10#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3701 : Index := Scalar.indexCast v3649
  let c0_1432 : Index := 0#32
  ![10, v3701.toNat, 0]
def k0_off217 (i : grid0.Coords) (k0_t4 : Fin (k0_t4_loop i).trips) : Fin 3 → Nat :=
  let c11_1433 : Index := 11#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3706 : Index := Scalar.indexCast v3649
  let c0_1434 : Index := 0#32
  ![11, v3706.toNat, 0]
def k0_off218 (i : grid0.Coords) (k0_t4 : Fin (k0_t4_loop i).trips) : Fin 3 → Nat :=
  let c12_1435 : Index := 12#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3711 : Index := Scalar.indexCast v3649
  let c0_1436 : Index := 0#32
  ![12, v3711.toNat, 0]
def k0_off219 (i : grid0.Coords) (k0_t4 : Fin (k0_t4_loop i).trips) : Fin 3 → Nat :=
  let c13_1437 : Index := 13#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3716 : Index := Scalar.indexCast v3649
  let c0_1438 : Index := 0#32
  ![13, v3716.toNat, 0]
def k0_off220 (i : grid0.Coords) (k0_t4 : Fin (k0_t4_loop i).trips) : Fin 3 → Nat :=
  let c14_1439 : Index := 14#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3721 : Index := Scalar.indexCast v3649
  let c0_1440 : Index := 0#32
  ![14, v3721.toNat, 0]
def k0_off221 (i : grid0.Coords) (k0_t4 : Fin (k0_t4_loop i).trips) : Fin 3 → Nat :=
  let c15_1441 : Index := 15#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3726 : Index := Scalar.indexCast v3649
  let c0_1442 : Index := 0#32
  ![15, v3726.toNat, 0]
def k0_off222 (i : grid0.Coords) (k0_t4 : Fin (k0_t4_loop i).trips) : Fin 3 → Nat :=
  let c16_1443 : Index := 16#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3731 : Index := Scalar.indexCast v3649
  let c0_1444 : Index := 0#32
  ![16, v3731.toNat, 0]
def k0_off223 (i : grid0.Coords) (k0_t4 : Fin (k0_t4_loop i).trips) : Fin 3 → Nat :=
  let c17_1445 : Index := 17#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3736 : Index := Scalar.indexCast v3649
  let c0_1446 : Index := 0#32
  ![17, v3736.toNat, 0]
def k0_off224 (i : grid0.Coords) (k0_t4 : Fin (k0_t4_loop i).trips) : Fin 3 → Nat :=
  let c18_1447 : Index := 18#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3741 : Index := Scalar.indexCast v3649
  let c0_1448 : Index := 0#32
  ![18, v3741.toNat, 0]
def k0_off225 (i : grid0.Coords) (k0_t4 : Fin (k0_t4_loop i).trips) : Fin 3 → Nat :=
  let c19_1449 : Index := 19#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3746 : Index := Scalar.indexCast v3649
  let c0_1450 : Index := 0#32
  ![19, v3746.toNat, 0]
def k0_off226 (i : grid0.Coords) (k0_t4 : Fin (k0_t4_loop i).trips) : Fin 3 → Nat :=
  let c20_1451 : Index := 20#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3751 : Index := Scalar.indexCast v3649
  let c0_1452 : Index := 0#32
  ![20, v3751.toNat, 0]
def k0_off227 (i : grid0.Coords) (k0_t4 : Fin (k0_t4_loop i).trips) : Fin 3 → Nat :=
  let c21_1453 : Index := 21#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3756 : Index := Scalar.indexCast v3649
  let c0_1454 : Index := 0#32
  ![21, v3756.toNat, 0]
def k0_off228 (i : grid0.Coords) (k0_t4 : Fin (k0_t4_loop i).trips) : Fin 3 → Nat :=
  let c22_1455 : Index := 22#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3761 : Index := Scalar.indexCast v3649
  let c0_1456 : Index := 0#32
  ![22, v3761.toNat, 0]
def k0_off229 (i : grid0.Coords) (k0_t4 : Fin (k0_t4_loop i).trips) : Fin 3 → Nat :=
  let c23_1457 : Index := 23#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3766 : Index := Scalar.indexCast v3649
  let c0_1458 : Index := 0#32
  ![23, v3766.toNat, 0]
def k0_off230 (i : grid0.Coords) (k0_t4 : Fin (k0_t4_loop i).trips) : Fin 3 → Nat :=
  let c24_1459 : Index := 24#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3771 : Index := Scalar.indexCast v3649
  let c0_1460 : Index := 0#32
  ![24, v3771.toNat, 0]
def k0_off231 (i : grid0.Coords) (k0_t4 : Fin (k0_t4_loop i).trips) : Fin 3 → Nat :=
  let c25_1461 : Index := 25#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3776 : Index := Scalar.indexCast v3649
  let c0_1462 : Index := 0#32
  ![25, v3776.toNat, 0]
def k0_off232 (i : grid0.Coords) (k0_t4 : Fin (k0_t4_loop i).trips) : Fin 3 → Nat :=
  let c26_1463 : Index := 26#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3781 : Index := Scalar.indexCast v3649
  let c0_1464 : Index := 0#32
  ![26, v3781.toNat, 0]
def k0_off233 (i : grid0.Coords) (k0_t4 : Fin (k0_t4_loop i).trips) : Fin 3 → Nat :=
  let c27_1465 : Index := 27#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3786 : Index := Scalar.indexCast v3649
  let c0_1466 : Index := 0#32
  ![27, v3786.toNat, 0]
def k0_off234 (i : grid0.Coords) (k0_t4 : Fin (k0_t4_loop i).trips) : Fin 3 → Nat :=
  let c28_1467 : Index := 28#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3791 : Index := Scalar.indexCast v3649
  let c0_1468 : Index := 0#32
  ![28, v3791.toNat, 0]
def k0_off235 (i : grid0.Coords) (k0_t4 : Fin (k0_t4_loop i).trips) : Fin 3 → Nat :=
  let c29_1469 : Index := 29#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3796 : Index := Scalar.indexCast v3649
  let c0_1470 : Index := 0#32
  ![29, v3796.toNat, 0]
def k0_off236 (i : grid0.Coords) (k0_t4 : Fin (k0_t4_loop i).trips) : Fin 3 → Nat :=
  let c30_1471 : Index := 30#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3801 : Index := Scalar.indexCast v3649
  let c0_1472 : Index := 0#32
  ![30, v3801.toNat, 0]
def k0_off237 (i : grid0.Coords) (k0_t4 : Fin (k0_t4_loop i).trips) : Fin 3 → Nat :=
  let c31_1473 : Index := 31#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c16_i32_1410 : BitVec 32 := 16#32
  let v3648 : BitVec 32 := Scalar.muli v2854 c16_i32_1410
  let v3649 : BitVec 32 := v3648
  let v3806 : Index := Scalar.indexCast v3649
  let c0_1474 : Index := 0#32
  ![31, v3806.toNat, 0]
def k0_off238 (i : grid0.Coords) (k0_t4 : Fin (k0_t4_loop i).trips) (c0_i32_1481 : BitVec 32) : Fin 5 → Nat :=
  let c0_1482 : Index := 0#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1475 : BitVec 32 := 1#32
  let v3810 : BitVec 32 := Scalar.subi v2854 c1_i32_1475
  let c0_i32_1476 : BitVec 32 := 0#32
  let v3811 : BitVec 32 := Scalar.maxsi v3810 c0_i32_1476
  let c4_i32_1480 : BitVec 32 := 4#32
  let v3814 : BitVec 32 := Scalar.muli v3811 c4_i32_1480
  let v3815 : BitVec 32 := Scalar.addi v3814 c0_i32_1481
  let v3816 : Index := Scalar.indexCast v3815
  let c0_1483 : Index := 0#32
  let c0_1484 : Index := 0#32
  let c0_1485 : Index := 0#32
  ![0, v3816.toNat, 0, 0, 0]
def k0_off239 (i : grid0.Coords) (k0_t4 : Fin (k0_t4_loop i).trips) (c0_i32_1516 : BitVec 32) : Fin 5 → Nat :=
  let c0_1517 : Index := 0#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1475 : BitVec 32 := 1#32
  let v3810 : BitVec 32 := Scalar.subi v2854 c1_i32_1475
  let c0_i32_1476 : BitVec 32 := 0#32
  let v3811 : BitVec 32 := Scalar.maxsi v3810 c0_i32_1476
  let c4_i32_1515 : BitVec 32 := 4#32
  let v3844 : BitVec 32 := Scalar.muli v3811 c4_i32_1515
  let v3845 : BitVec 32 := Scalar.addi v3844 c0_i32_1516
  let v3846 : Index := Scalar.indexCast v3845
  let c1_1518 : Index := 1#32
  let c0_1519 : Index := 0#32
  let c0_1520 : Index := 0#32
  ![0, v3846.toNat, 1, 0, 0]
def k0_mult29 (i : grid0.Coords) (k0_t4 : Fin (k0_t4_loop i).trips) : BitVec 32 :=
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1547 : BitVec 32 := 512#32
  let v3872 : BitVec 32 := Scalar.muli v2854 c512_i32_1547
  v3872
def k0_off240 (i : grid0.Coords) (k0_t4 : Fin (k0_t4_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v3874 : Index := Scalar.indexCast v19
  let c2_i32_1165 : BitVec 32 := 2#32
  let c2_i32_743 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1547 : BitVec 32 := 512#32
  let v3872 : BitVec 32 := Scalar.muli v2854 c512_i32_1547
  let v3873 : BitVec 32 := v3872
  let v3875 : Index := Scalar.indexCast v3873
  let c0_1548 : Index := 0#32
  ![v3874.toNat, v3875.toNat, 0]
def k0_off241 (i : grid0.Coords) (k0_t4 : Fin (k0_t4_loop i).trips) : Fin 3 → Nat :=
  let c0_1551 : Index := 0#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c512_i32_1547 : BitVec 32 := 512#32
  let v3872 : BitVec 32 := Scalar.muli v2854 c512_i32_1547
  let v3873 : BitVec 32 := v3872
  let v3884 : Index := Scalar.indexCast v3873
  let c0_1552 : Index := 0#32
  ![0, v3884.toNat, 0]
def k0_mult30 (i : grid0.Coords) (k0_t4 : Fin (k0_t4_loop i).trips) : BitVec 32 :=
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1569 : BitVec 32 := 1#32
  let v3907 : BitVec 32 := Scalar.addi v2854 c1_i32_1569
  let c512_i32_1570 : BitVec 32 := 512#32
  let v3908 : BitVec 32 := Scalar.muli v3907 c512_i32_1570
  v3908
def k0_off242 (i : grid0.Coords) (k0_t4 : Fin (k0_t4_loop i).trips) : Fin 3 → Nat :=
  let c0_1571 : Index := 0#32
  let c2_i32_1165 : BitVec 32 := 2#32
  let c2_i32_743 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1569 : BitVec 32 := 1#32
  let v3907 : BitVec 32 := Scalar.addi v2854 c1_i32_1569
  let c512_i32_1570 : BitVec 32 := 512#32
  let v3908 : BitVec 32 := Scalar.muli v3907 c512_i32_1570
  let v3909 : BitVec 32 := v3908
  let v3910 : Index := Scalar.indexCast v3909
  let c0_1572 : Index := 0#32
  ![0, v3910.toNat, 0]
def k0_off243 (i : grid0.Coords) (k0_t4 : Fin (k0_t4_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v3953 : Index := Scalar.indexCast v20
  let c2_i32_1165 : BitVec 32 := 2#32
  let c2_i32_743 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v1744 : BitVec 32 := Scalar.muli c2_i32_743 arg26
  let v2853 : BitVec 32 := Scalar.muli c2_i32_1165 v1744
  let c1_i32_1166 : BitVec 32 := 1#32
  let v2854 : BitVec 32 := Scalar.addi v2853 c1_i32_1166
  let c1_i32_1569 : BitVec 32 := 1#32
  let v3907 : BitVec 32 := Scalar.addi v2854 c1_i32_1569
  let c512_i32_1570 : BitVec 32 := 512#32
  let v3908 : BitVec 32 := Scalar.muli v3907 c512_i32_1570
  let v3909 : BitVec 32 := v3908
  let v3954 : Index := Scalar.indexCast v3909
  let c0_1585 : Index := 0#32
  ![v3953.toNat, v3954.toNat, 0]
def k0_mult31 (i : grid0.Coords) (k0_t4 : Fin (k0_t4_loop i).trips) : BitVec 32 :=
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1589 : BitVec 32 := 512#32
  let v3961 : BitVec 32 := Scalar.muli v3960 c512_i32_1589
  v3961
def k0_off244 (i : grid0.Coords) (k0_t4 : Fin (k0_t4_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v3963 : Index := Scalar.indexCast v20
  let c2_i32_1588 : BitVec 32 := 2#32
  let c2_i32_1586 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1589 : BitVec 32 := 512#32
  let v3961 : BitVec 32 := Scalar.muli v3960 c512_i32_1589
  let v3962 : BitVec 32 := v3961
  let v3964 : Index := Scalar.indexCast v3962
  let c0_1590 : Index := 0#32
  ![v3963.toNat, v3964.toNat, 0]
def k0_mult32 (i : grid0.Coords) (k0_t4 : Fin (k0_t4_loop i).trips) : BitVec 32 :=
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  v4754
def k0_off245 (i : grid0.Coords) (k0_t4 : Fin (k0_t4_loop i).trips) : Fin 3 → Nat :=
  let c0_1833 : Index := 0#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4757 : Index := Scalar.indexCast v4755
  let c0_1834 : Index := 0#32
  ![0, v4757.toNat, 0]
def k0_off246 (i : grid0.Coords) (k0_t4 : Fin (k0_t4_loop i).trips) : Fin 3 → Nat :=
  let c1_1835 : Index := 1#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4762 : Index := Scalar.indexCast v4755
  let c0_1836 : Index := 0#32
  ![1, v4762.toNat, 0]
def k0_off247 (i : grid0.Coords) (k0_t4 : Fin (k0_t4_loop i).trips) : Fin 3 → Nat :=
  let c2_1837 : Index := 2#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4767 : Index := Scalar.indexCast v4755
  let c0_1838 : Index := 0#32
  ![2, v4767.toNat, 0]
def k0_off248 (i : grid0.Coords) (k0_t4 : Fin (k0_t4_loop i).trips) : Fin 3 → Nat :=
  let c3_1839 : Index := 3#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4772 : Index := Scalar.indexCast v4755
  let c0_1840 : Index := 0#32
  ![3, v4772.toNat, 0]
def k0_off249 (i : grid0.Coords) (k0_t4 : Fin (k0_t4_loop i).trips) : Fin 3 → Nat :=
  let c4_1841 : Index := 4#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4777 : Index := Scalar.indexCast v4755
  let c0_1842 : Index := 0#32
  ![4, v4777.toNat, 0]
def k0_off250 (i : grid0.Coords) (k0_t4 : Fin (k0_t4_loop i).trips) : Fin 3 → Nat :=
  let c5_1843 : Index := 5#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4782 : Index := Scalar.indexCast v4755
  let c0_1844 : Index := 0#32
  ![5, v4782.toNat, 0]
def k0_off251 (i : grid0.Coords) (k0_t4 : Fin (k0_t4_loop i).trips) : Fin 3 → Nat :=
  let c6_1845 : Index := 6#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4787 : Index := Scalar.indexCast v4755
  let c0_1846 : Index := 0#32
  ![6, v4787.toNat, 0]
def k0_off252 (i : grid0.Coords) (k0_t4 : Fin (k0_t4_loop i).trips) : Fin 3 → Nat :=
  let c7_1847 : Index := 7#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4792 : Index := Scalar.indexCast v4755
  let c0_1848 : Index := 0#32
  ![7, v4792.toNat, 0]
def k0_off253 (i : grid0.Coords) (k0_t4 : Fin (k0_t4_loop i).trips) : Fin 3 → Nat :=
  let c8_1849 : Index := 8#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4797 : Index := Scalar.indexCast v4755
  let c0_1850 : Index := 0#32
  ![8, v4797.toNat, 0]
def k0_off254 (i : grid0.Coords) (k0_t4 : Fin (k0_t4_loop i).trips) : Fin 3 → Nat :=
  let c9_1851 : Index := 9#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4802 : Index := Scalar.indexCast v4755
  let c0_1852 : Index := 0#32
  ![9, v4802.toNat, 0]
def k0_off255 (i : grid0.Coords) (k0_t4 : Fin (k0_t4_loop i).trips) : Fin 3 → Nat :=
  let c10_1853 : Index := 10#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4807 : Index := Scalar.indexCast v4755
  let c0_1854 : Index := 0#32
  ![10, v4807.toNat, 0]
def k0_off256 (i : grid0.Coords) (k0_t4 : Fin (k0_t4_loop i).trips) : Fin 3 → Nat :=
  let c11_1855 : Index := 11#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4812 : Index := Scalar.indexCast v4755
  let c0_1856 : Index := 0#32
  ![11, v4812.toNat, 0]
def k0_off257 (i : grid0.Coords) (k0_t4 : Fin (k0_t4_loop i).trips) : Fin 3 → Nat :=
  let c12_1857 : Index := 12#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4817 : Index := Scalar.indexCast v4755
  let c0_1858 : Index := 0#32
  ![12, v4817.toNat, 0]
def k0_off258 (i : grid0.Coords) (k0_t4 : Fin (k0_t4_loop i).trips) : Fin 3 → Nat :=
  let c13_1859 : Index := 13#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4822 : Index := Scalar.indexCast v4755
  let c0_1860 : Index := 0#32
  ![13, v4822.toNat, 0]
def k0_off259 (i : grid0.Coords) (k0_t4 : Fin (k0_t4_loop i).trips) : Fin 3 → Nat :=
  let c14_1861 : Index := 14#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4827 : Index := Scalar.indexCast v4755
  let c0_1862 : Index := 0#32
  ![14, v4827.toNat, 0]
def k0_off260 (i : grid0.Coords) (k0_t4 : Fin (k0_t4_loop i).trips) : Fin 3 → Nat :=
  let c15_1863 : Index := 15#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4832 : Index := Scalar.indexCast v4755
  let c0_1864 : Index := 0#32
  ![15, v4832.toNat, 0]
def k0_off261 (i : grid0.Coords) (k0_t4 : Fin (k0_t4_loop i).trips) : Fin 3 → Nat :=
  let c16_1865 : Index := 16#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4837 : Index := Scalar.indexCast v4755
  let c0_1866 : Index := 0#32
  ![16, v4837.toNat, 0]
def k0_off262 (i : grid0.Coords) (k0_t4 : Fin (k0_t4_loop i).trips) : Fin 3 → Nat :=
  let c17_1867 : Index := 17#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4842 : Index := Scalar.indexCast v4755
  let c0_1868 : Index := 0#32
  ![17, v4842.toNat, 0]
def k0_off263 (i : grid0.Coords) (k0_t4 : Fin (k0_t4_loop i).trips) : Fin 3 → Nat :=
  let c18_1869 : Index := 18#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4847 : Index := Scalar.indexCast v4755
  let c0_1870 : Index := 0#32
  ![18, v4847.toNat, 0]
def k0_off264 (i : grid0.Coords) (k0_t4 : Fin (k0_t4_loop i).trips) : Fin 3 → Nat :=
  let c19_1871 : Index := 19#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4852 : Index := Scalar.indexCast v4755
  let c0_1872 : Index := 0#32
  ![19, v4852.toNat, 0]
def k0_off265 (i : grid0.Coords) (k0_t4 : Fin (k0_t4_loop i).trips) : Fin 3 → Nat :=
  let c20_1873 : Index := 20#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4857 : Index := Scalar.indexCast v4755
  let c0_1874 : Index := 0#32
  ![20, v4857.toNat, 0]
def k0_off266 (i : grid0.Coords) (k0_t4 : Fin (k0_t4_loop i).trips) : Fin 3 → Nat :=
  let c21_1875 : Index := 21#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4862 : Index := Scalar.indexCast v4755
  let c0_1876 : Index := 0#32
  ![21, v4862.toNat, 0]
def k0_off267 (i : grid0.Coords) (k0_t4 : Fin (k0_t4_loop i).trips) : Fin 3 → Nat :=
  let c22_1877 : Index := 22#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4867 : Index := Scalar.indexCast v4755
  let c0_1878 : Index := 0#32
  ![22, v4867.toNat, 0]
def k0_off268 (i : grid0.Coords) (k0_t4 : Fin (k0_t4_loop i).trips) : Fin 3 → Nat :=
  let c23_1879 : Index := 23#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4872 : Index := Scalar.indexCast v4755
  let c0_1880 : Index := 0#32
  ![23, v4872.toNat, 0]
def k0_off269 (i : grid0.Coords) (k0_t4 : Fin (k0_t4_loop i).trips) : Fin 3 → Nat :=
  let c24_1881 : Index := 24#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4877 : Index := Scalar.indexCast v4755
  let c0_1882 : Index := 0#32
  ![24, v4877.toNat, 0]
def k0_off270 (i : grid0.Coords) (k0_t4 : Fin (k0_t4_loop i).trips) : Fin 3 → Nat :=
  let c25_1883 : Index := 25#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4882 : Index := Scalar.indexCast v4755
  let c0_1884 : Index := 0#32
  ![25, v4882.toNat, 0]
def k0_off271 (i : grid0.Coords) (k0_t4 : Fin (k0_t4_loop i).trips) : Fin 3 → Nat :=
  let c26_1885 : Index := 26#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4887 : Index := Scalar.indexCast v4755
  let c0_1886 : Index := 0#32
  ![26, v4887.toNat, 0]
def k0_off272 (i : grid0.Coords) (k0_t4 : Fin (k0_t4_loop i).trips) : Fin 3 → Nat :=
  let c27_1887 : Index := 27#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4892 : Index := Scalar.indexCast v4755
  let c0_1888 : Index := 0#32
  ![27, v4892.toNat, 0]
def k0_off273 (i : grid0.Coords) (k0_t4 : Fin (k0_t4_loop i).trips) : Fin 3 → Nat :=
  let c28_1889 : Index := 28#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4897 : Index := Scalar.indexCast v4755
  let c0_1890 : Index := 0#32
  ![28, v4897.toNat, 0]
def k0_off274 (i : grid0.Coords) (k0_t4 : Fin (k0_t4_loop i).trips) : Fin 3 → Nat :=
  let c29_1891 : Index := 29#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4902 : Index := Scalar.indexCast v4755
  let c0_1892 : Index := 0#32
  ![29, v4902.toNat, 0]
def k0_off275 (i : grid0.Coords) (k0_t4 : Fin (k0_t4_loop i).trips) : Fin 3 → Nat :=
  let c30_1893 : Index := 30#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4907 : Index := Scalar.indexCast v4755
  let c0_1894 : Index := 0#32
  ![30, v4907.toNat, 0]
def k0_off276 (i : grid0.Coords) (k0_t4 : Fin (k0_t4_loop i).trips) : Fin 3 → Nat :=
  let c31_1895 : Index := 31#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c16_i32_1832 : BitVec 32 := 16#32
  let v4754 : BitVec 32 := Scalar.muli v3960 c16_i32_1832
  let v4755 : BitVec 32 := v4754
  let v4912 : Index := Scalar.indexCast v4755
  let c0_1896 : Index := 0#32
  ![31, v4912.toNat, 0]
def k0_off277 (i : grid0.Coords) (k0_t4 : Fin (k0_t4_loop i).trips) (c0_i32_1906 : BitVec 32) : Fin 5 → Nat :=
  let c0_1907 : Index := 0#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1900 : BitVec 32 := 1#32
  let v4918 : BitVec 32 := Scalar.subi v3960 c1_i32_1900
  let c0_i32_1901 : BitVec 32 := 0#32
  let v4919 : BitVec 32 := Scalar.maxsi v4918 c0_i32_1901
  let c4_i32_1905 : BitVec 32 := 4#32
  let v4922 : BitVec 32 := Scalar.muli v4919 c4_i32_1905
  let v4923 : BitVec 32 := Scalar.addi v4922 c0_i32_1906
  let v4924 : Index := Scalar.indexCast v4923
  let c0_1908 : Index := 0#32
  let c0_1909 : Index := 0#32
  let c0_1910 : Index := 0#32
  ![0, v4924.toNat, 0, 0, 0]
def k0_off278 (i : grid0.Coords) (k0_t4 : Fin (k0_t4_loop i).trips) : Fin 4 → Nat :=
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c0_i32_1897 : BitVec 32 := 0#32
  let v4916 : BitVec 1 := Scalar.cmpi .eq v3960 c0_i32_1897
  let c2_i32_1898 : BitVec 32 := 2#32
  let c1_i32_1899 : BitVec 32 := 1#32
  let v4917 : BitVec 32 := Scalar.select v4916 c2_i32_1898 c1_i32_1899
  let v4943 : Index := Scalar.indexCast v4917
  let c0_1929 : Index := 0#32
  let c0_1930 : Index := 0#32
  let c0_1931 : Index := 0#32
  ![v4943.toNat, 0, 0, 0]
def k0_off279 (i : grid0.Coords) (k0_t4 : Fin (k0_t4_loop i).trips) (c0_i32_1940 : BitVec 32) : Fin 5 → Nat :=
  let c0_1941 : Index := 0#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1900 : BitVec 32 := 1#32
  let v4918 : BitVec 32 := Scalar.subi v3960 c1_i32_1900
  let c0_i32_1901 : BitVec 32 := 0#32
  let v4919 : BitVec 32 := Scalar.maxsi v4918 c0_i32_1901
  let c4_i32_1939 : BitVec 32 := 4#32
  let v4953 : BitVec 32 := Scalar.muli v4919 c4_i32_1939
  let v4954 : BitVec 32 := Scalar.addi v4953 c0_i32_1940
  let v4955 : Index := Scalar.indexCast v4954
  let c1_1942 : Index := 1#32
  let c0_1943 : Index := 0#32
  let c0_1944 : Index := 0#32
  ![0, v4955.toNat, 1, 0, 0]
def k0_off280 (i : grid0.Coords) (k0_t4 : Fin (k0_t4_loop i).trips) : Fin 4 → Nat :=
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c0_i32_1897 : BitVec 32 := 0#32
  let v4916 : BitVec 1 := Scalar.cmpi .eq v3960 c0_i32_1897
  let c2_i32_1898 : BitVec 32 := 2#32
  let c1_i32_1899 : BitVec 32 := 1#32
  let v4917 : BitVec 32 := Scalar.select v4916 c2_i32_1898 c1_i32_1899
  let v4974 : Index := Scalar.indexCast v4917
  let c1_1963 : Index := 1#32
  let c0_1964 : Index := 0#32
  let c0_1965 : Index := 0#32
  ![v4974.toNat, 1, 0, 0]
def k0_mult33 (i : grid0.Coords) (k0_t4 : Fin (k0_t4_loop i).trips) : BitVec 32 :=
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1970 : BitVec 32 := 512#32
  let v4982 : BitVec 32 := Scalar.muli v3960 c512_i32_1970
  v4982
def k0_off281 (i : grid0.Coords) (k0_t4 : Fin (k0_t4_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v4984 : Index := Scalar.indexCast v19
  let c2_i32_1588 : BitVec 32 := 2#32
  let c2_i32_1586 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1970 : BitVec 32 := 512#32
  let v4982 : BitVec 32 := Scalar.muli v3960 c512_i32_1970
  let v4983 : BitVec 32 := v4982
  let v4985 : Index := Scalar.indexCast v4983
  let c0_1971 : Index := 0#32
  ![v4984.toNat, v4985.toNat, 0]
def k0_off282 (i : grid0.Coords) (k0_t4 : Fin (k0_t4_loop i).trips) : Fin 3 → Nat :=
  let c0_1974 : Index := 0#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c512_i32_1970 : BitVec 32 := 512#32
  let v4982 : BitVec 32 := Scalar.muli v3960 c512_i32_1970
  let v4983 : BitVec 32 := v4982
  let v4994 : Index := Scalar.indexCast v4983
  let c0_1975 : Index := 0#32
  ![0, v4994.toNat, 0]
def k0_mult34 (i : grid0.Coords) (k0_t4 : Fin (k0_t4_loop i).trips) : BitVec 32 :=
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1992 : BitVec 32 := 1#32
  let v5017 : BitVec 32 := Scalar.addi v3960 c1_i32_1992
  let c512_i32_1993 : BitVec 32 := 512#32
  let v5018 : BitVec 32 := Scalar.muli v5017 c512_i32_1993
  v5018
def k0_off283 (i : grid0.Coords) (k0_t4 : Fin (k0_t4_loop i).trips) : Fin 3 → Nat :=
  let c0_1994 : Index := 0#32
  let c2_i32_1588 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1992 : BitVec 32 := 1#32
  let v5017 : BitVec 32 := Scalar.addi v3960 c1_i32_1992
  let c512_i32_1993 : BitVec 32 := 512#32
  let v5018 : BitVec 32 := Scalar.muli v5017 c512_i32_1993
  let v5019 : BitVec 32 := v5018
  let v5020 : Index := Scalar.indexCast v5019
  let c0_1995 : Index := 0#32
  ![0, v5020.toNat, 0]
def k0_off284 (i : grid0.Coords) (k0_t4 : Fin (k0_t4_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v5063 : Index := Scalar.indexCast v20
  let c2_i32_1588 : BitVec 32 := 2#32
  let c2_i32_1586 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v3960 : BitVec 32 := Scalar.muli c2_i32_1588 v3959
  let c1_i32_1992 : BitVec 32 := 1#32
  let v5017 : BitVec 32 := Scalar.addi v3960 c1_i32_1992
  let c512_i32_1993 : BitVec 32 := 512#32
  let v5018 : BitVec 32 := Scalar.muli v5017 c512_i32_1993
  let v5019 : BitVec 32 := v5018
  let v5064 : Index := Scalar.indexCast v5019
  let c0_2008 : Index := 0#32
  ![v5063.toNat, v5064.toNat, 0]
def k0_mult35 (i : grid0.Coords) (k0_t4 : Fin (k0_t4_loop i).trips) : BitVec 32 :=
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2011 : BitVec 32 := 512#32
  let v5070 : BitVec 32 := Scalar.muli v5069 c512_i32_2011
  v5070
def k0_mult36 (i : grid0.Coords) (k0_t4 : Fin (k0_t4_loop i).trips) : BitVec 32 :=
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  v5863
def k0_off285 (i : grid0.Coords) (k0_t4 : Fin (k0_t4_loop i).trips) : Fin 3 → Nat :=
  let c0_2255 : Index := 0#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5866 : Index := Scalar.indexCast v5864
  let c0_2256 : Index := 0#32
  ![0, v5866.toNat, 0]
def k0_off286 (i : grid0.Coords) (k0_t4 : Fin (k0_t4_loop i).trips) : Fin 3 → Nat :=
  let c1_2257 : Index := 1#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5871 : Index := Scalar.indexCast v5864
  let c0_2258 : Index := 0#32
  ![1, v5871.toNat, 0]
def k0_off287 (i : grid0.Coords) (k0_t4 : Fin (k0_t4_loop i).trips) : Fin 3 → Nat :=
  let c2_2259 : Index := 2#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5876 : Index := Scalar.indexCast v5864
  let c0_2260 : Index := 0#32
  ![2, v5876.toNat, 0]
def k0_off288 (i : grid0.Coords) (k0_t4 : Fin (k0_t4_loop i).trips) : Fin 3 → Nat :=
  let c3_2261 : Index := 3#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5881 : Index := Scalar.indexCast v5864
  let c0_2262 : Index := 0#32
  ![3, v5881.toNat, 0]
def k0_off289 (i : grid0.Coords) (k0_t4 : Fin (k0_t4_loop i).trips) : Fin 3 → Nat :=
  let c4_2263 : Index := 4#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5886 : Index := Scalar.indexCast v5864
  let c0_2264 : Index := 0#32
  ![4, v5886.toNat, 0]
def k0_off290 (i : grid0.Coords) (k0_t4 : Fin (k0_t4_loop i).trips) : Fin 3 → Nat :=
  let c5_2265 : Index := 5#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5891 : Index := Scalar.indexCast v5864
  let c0_2266 : Index := 0#32
  ![5, v5891.toNat, 0]
def k0_off291 (i : grid0.Coords) (k0_t4 : Fin (k0_t4_loop i).trips) : Fin 3 → Nat :=
  let c6_2267 : Index := 6#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5896 : Index := Scalar.indexCast v5864
  let c0_2268 : Index := 0#32
  ![6, v5896.toNat, 0]
def k0_off292 (i : grid0.Coords) (k0_t4 : Fin (k0_t4_loop i).trips) : Fin 3 → Nat :=
  let c7_2269 : Index := 7#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5901 : Index := Scalar.indexCast v5864
  let c0_2270 : Index := 0#32
  ![7, v5901.toNat, 0]
def k0_off293 (i : grid0.Coords) (k0_t4 : Fin (k0_t4_loop i).trips) : Fin 3 → Nat :=
  let c8_2271 : Index := 8#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5906 : Index := Scalar.indexCast v5864
  let c0_2272 : Index := 0#32
  ![8, v5906.toNat, 0]
def k0_off294 (i : grid0.Coords) (k0_t4 : Fin (k0_t4_loop i).trips) : Fin 3 → Nat :=
  let c9_2273 : Index := 9#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5911 : Index := Scalar.indexCast v5864
  let c0_2274 : Index := 0#32
  ![9, v5911.toNat, 0]
def k0_off295 (i : grid0.Coords) (k0_t4 : Fin (k0_t4_loop i).trips) : Fin 3 → Nat :=
  let c10_2275 : Index := 10#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5916 : Index := Scalar.indexCast v5864
  let c0_2276 : Index := 0#32
  ![10, v5916.toNat, 0]
def k0_off296 (i : grid0.Coords) (k0_t4 : Fin (k0_t4_loop i).trips) : Fin 3 → Nat :=
  let c11_2277 : Index := 11#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5921 : Index := Scalar.indexCast v5864
  let c0_2278 : Index := 0#32
  ![11, v5921.toNat, 0]
def k0_off297 (i : grid0.Coords) (k0_t4 : Fin (k0_t4_loop i).trips) : Fin 3 → Nat :=
  let c12_2279 : Index := 12#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5926 : Index := Scalar.indexCast v5864
  let c0_2280 : Index := 0#32
  ![12, v5926.toNat, 0]
def k0_off298 (i : grid0.Coords) (k0_t4 : Fin (k0_t4_loop i).trips) : Fin 3 → Nat :=
  let c13_2281 : Index := 13#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5931 : Index := Scalar.indexCast v5864
  let c0_2282 : Index := 0#32
  ![13, v5931.toNat, 0]
def k0_off299 (i : grid0.Coords) (k0_t4 : Fin (k0_t4_loop i).trips) : Fin 3 → Nat :=
  let c14_2283 : Index := 14#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5936 : Index := Scalar.indexCast v5864
  let c0_2284 : Index := 0#32
  ![14, v5936.toNat, 0]
def k0_off300 (i : grid0.Coords) (k0_t4 : Fin (k0_t4_loop i).trips) : Fin 3 → Nat :=
  let c15_2285 : Index := 15#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5941 : Index := Scalar.indexCast v5864
  let c0_2286 : Index := 0#32
  ![15, v5941.toNat, 0]
def k0_off301 (i : grid0.Coords) (k0_t4 : Fin (k0_t4_loop i).trips) : Fin 3 → Nat :=
  let c16_2287 : Index := 16#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5946 : Index := Scalar.indexCast v5864
  let c0_2288 : Index := 0#32
  ![16, v5946.toNat, 0]
def k0_off302 (i : grid0.Coords) (k0_t4 : Fin (k0_t4_loop i).trips) : Fin 3 → Nat :=
  let c17_2289 : Index := 17#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5951 : Index := Scalar.indexCast v5864
  let c0_2290 : Index := 0#32
  ![17, v5951.toNat, 0]
def k0_off303 (i : grid0.Coords) (k0_t4 : Fin (k0_t4_loop i).trips) : Fin 3 → Nat :=
  let c18_2291 : Index := 18#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5956 : Index := Scalar.indexCast v5864
  let c0_2292 : Index := 0#32
  ![18, v5956.toNat, 0]
def k0_off304 (i : grid0.Coords) (k0_t4 : Fin (k0_t4_loop i).trips) : Fin 3 → Nat :=
  let c19_2293 : Index := 19#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5961 : Index := Scalar.indexCast v5864
  let c0_2294 : Index := 0#32
  ![19, v5961.toNat, 0]
def k0_off305 (i : grid0.Coords) (k0_t4 : Fin (k0_t4_loop i).trips) : Fin 3 → Nat :=
  let c20_2295 : Index := 20#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5966 : Index := Scalar.indexCast v5864
  let c0_2296 : Index := 0#32
  ![20, v5966.toNat, 0]
def k0_off306 (i : grid0.Coords) (k0_t4 : Fin (k0_t4_loop i).trips) : Fin 3 → Nat :=
  let c21_2297 : Index := 21#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5971 : Index := Scalar.indexCast v5864
  let c0_2298 : Index := 0#32
  ![21, v5971.toNat, 0]
def k0_off307 (i : grid0.Coords) (k0_t4 : Fin (k0_t4_loop i).trips) : Fin 3 → Nat :=
  let c22_2299 : Index := 22#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5976 : Index := Scalar.indexCast v5864
  let c0_2300 : Index := 0#32
  ![22, v5976.toNat, 0]
def k0_off308 (i : grid0.Coords) (k0_t4 : Fin (k0_t4_loop i).trips) : Fin 3 → Nat :=
  let c23_2301 : Index := 23#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5981 : Index := Scalar.indexCast v5864
  let c0_2302 : Index := 0#32
  ![23, v5981.toNat, 0]
def k0_off309 (i : grid0.Coords) (k0_t4 : Fin (k0_t4_loop i).trips) : Fin 3 → Nat :=
  let c24_2303 : Index := 24#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5986 : Index := Scalar.indexCast v5864
  let c0_2304 : Index := 0#32
  ![24, v5986.toNat, 0]
def k0_off310 (i : grid0.Coords) (k0_t4 : Fin (k0_t4_loop i).trips) : Fin 3 → Nat :=
  let c25_2305 : Index := 25#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5991 : Index := Scalar.indexCast v5864
  let c0_2306 : Index := 0#32
  ![25, v5991.toNat, 0]
def k0_off311 (i : grid0.Coords) (k0_t4 : Fin (k0_t4_loop i).trips) : Fin 3 → Nat :=
  let c26_2307 : Index := 26#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v5996 : Index := Scalar.indexCast v5864
  let c0_2308 : Index := 0#32
  ![26, v5996.toNat, 0]
def k0_off312 (i : grid0.Coords) (k0_t4 : Fin (k0_t4_loop i).trips) : Fin 3 → Nat :=
  let c27_2309 : Index := 27#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6001 : Index := Scalar.indexCast v5864
  let c0_2310 : Index := 0#32
  ![27, v6001.toNat, 0]
def k0_off313 (i : grid0.Coords) (k0_t4 : Fin (k0_t4_loop i).trips) : Fin 3 → Nat :=
  let c28_2311 : Index := 28#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6006 : Index := Scalar.indexCast v5864
  let c0_2312 : Index := 0#32
  ![28, v6006.toNat, 0]
def k0_off314 (i : grid0.Coords) (k0_t4 : Fin (k0_t4_loop i).trips) : Fin 3 → Nat :=
  let c29_2313 : Index := 29#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6011 : Index := Scalar.indexCast v5864
  let c0_2314 : Index := 0#32
  ![29, v6011.toNat, 0]
def k0_off315 (i : grid0.Coords) (k0_t4 : Fin (k0_t4_loop i).trips) : Fin 3 → Nat :=
  let c30_2315 : Index := 30#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6016 : Index := Scalar.indexCast v5864
  let c0_2316 : Index := 0#32
  ![30, v6016.toNat, 0]
def k0_off316 (i : grid0.Coords) (k0_t4 : Fin (k0_t4_loop i).trips) : Fin 3 → Nat :=
  let c31_2317 : Index := 31#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c16_i32_2254 : BitVec 32 := 16#32
  let v5863 : BitVec 32 := Scalar.muli v5069 c16_i32_2254
  let v5864 : BitVec 32 := v5863
  let v6021 : Index := Scalar.indexCast v5864
  let c0_2318 : Index := 0#32
  ![31, v6021.toNat, 0]
def k0_off317 (i : grid0.Coords) (k0_t4 : Fin (k0_t4_loop i).trips) (c0_i32_2325 : BitVec 32) : Fin 5 → Nat :=
  let c0_2326 : Index := 0#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2319 : BitVec 32 := 1#32
  let v6025 : BitVec 32 := Scalar.subi v5069 c1_i32_2319
  let c0_i32_2320 : BitVec 32 := 0#32
  let v6026 : BitVec 32 := Scalar.maxsi v6025 c0_i32_2320
  let c4_i32_2324 : BitVec 32 := 4#32
  let v6029 : BitVec 32 := Scalar.muli v6026 c4_i32_2324
  let v6030 : BitVec 32 := Scalar.addi v6029 c0_i32_2325
  let v6031 : Index := Scalar.indexCast v6030
  let c0_2327 : Index := 0#32
  let c0_2328 : Index := 0#32
  let c0_2329 : Index := 0#32
  ![0, v6031.toNat, 0, 0, 0]
def k0_off318 (i : grid0.Coords) (k0_t4 : Fin (k0_t4_loop i).trips) (c0_i32_2360 : BitVec 32) : Fin 5 → Nat :=
  let c0_2361 : Index := 0#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2319 : BitVec 32 := 1#32
  let v6025 : BitVec 32 := Scalar.subi v5069 c1_i32_2319
  let c0_i32_2320 : BitVec 32 := 0#32
  let v6026 : BitVec 32 := Scalar.maxsi v6025 c0_i32_2320
  let c4_i32_2359 : BitVec 32 := 4#32
  let v6059 : BitVec 32 := Scalar.muli v6026 c4_i32_2359
  let v6060 : BitVec 32 := Scalar.addi v6059 c0_i32_2360
  let v6061 : Index := Scalar.indexCast v6060
  let c1_2362 : Index := 1#32
  let c0_2363 : Index := 0#32
  let c0_2364 : Index := 0#32
  ![0, v6061.toNat, 1, 0, 0]
def k0_mult37 (i : grid0.Coords) (k0_t4 : Fin (k0_t4_loop i).trips) : BitVec 32 :=
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2391 : BitVec 32 := 512#32
  let v6087 : BitVec 32 := Scalar.muli v5069 c512_i32_2391
  v6087
def k0_off319 (i : grid0.Coords) (k0_t4 : Fin (k0_t4_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v6089 : Index := Scalar.indexCast v19
  let c2_i32_2009 : BitVec 32 := 2#32
  let c2_i32_1586 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2391 : BitVec 32 := 512#32
  let v6087 : BitVec 32 := Scalar.muli v5069 c512_i32_2391
  let v6088 : BitVec 32 := v6087
  let v6090 : Index := Scalar.indexCast v6088
  let c0_2392 : Index := 0#32
  ![v6089.toNat, v6090.toNat, 0]
def k0_off320 (i : grid0.Coords) (k0_t4 : Fin (k0_t4_loop i).trips) : Fin 3 → Nat :=
  let c0_2395 : Index := 0#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c512_i32_2391 : BitVec 32 := 512#32
  let v6087 : BitVec 32 := Scalar.muli v5069 c512_i32_2391
  let v6088 : BitVec 32 := v6087
  let v6099 : Index := Scalar.indexCast v6088
  let c0_2396 : Index := 0#32
  ![0, v6099.toNat, 0]
def k0_mult38 (i : grid0.Coords) (k0_t4 : Fin (k0_t4_loop i).trips) : BitVec 32 :=
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2413 : BitVec 32 := 1#32
  let v6122 : BitVec 32 := Scalar.addi v5069 c1_i32_2413
  let c512_i32_2414 : BitVec 32 := 512#32
  let v6123 : BitVec 32 := Scalar.muli v6122 c512_i32_2414
  v6123
def k0_off321 (i : grid0.Coords) (k0_t4 : Fin (k0_t4_loop i).trips) : Fin 3 → Nat :=
  let c0_2415 : Index := 0#32
  let c2_i32_2009 : BitVec 32 := 2#32
  let c2_i32_1586 : BitVec 32 := 2#32
  let c0_i32_96 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2413 : BitVec 32 := 1#32
  let v6122 : BitVec 32 := Scalar.addi v5069 c1_i32_2413
  let c512_i32_2414 : BitVec 32 := 512#32
  let v6123 : BitVec 32 := Scalar.muli v6122 c512_i32_2414
  let v6124 : BitVec 32 := v6123
  let v6125 : Index := Scalar.indexCast v6124
  let c0_2416 : Index := 0#32
  ![0, v6125.toNat, 0]
def k0_off322 (i : grid0.Coords) (k0_t4 : Fin (k0_t4_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v6168 : Index := Scalar.indexCast v20
  let c2_i32_2009 : BitVec 32 := 2#32
  let c2_i32_1586 : BitVec 32 := 2#32
  let c0_i32_96 : BitVec 32 := 0#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_89 : BitVec 32 := 0#32
  let v208 : BitVec 1 := Scalar.cmpi .sgt v206 c0_i32_89
  let v209 : BitVec 32 := Scalar.extui v208
  let c0_i32_90 : BitVec 32 := 0#32
  let v210 : BitVec 1 := Scalar.cmpi .slt v206 c0_i32_90
  let v211 : BitVec 32 := Scalar.extui v210
  let v212 : BitVec 32 := Scalar.subi v209 v211
  let c4_i32_88 : BitVec 32 := 4#32
  let c0_i32_91 : BitVec 32 := 0#32
  let v213 : BitVec 1 := Scalar.cmpi .sgt c4_i32_88 c0_i32_91
  let v214 : BitVec 32 := Scalar.extui v213
  let c0_i32_92 : BitVec 32 := 0#32
  let v215 : BitVec 1 := Scalar.cmpi .slt c4_i32_88 c0_i32_92
  let v216 : BitVec 32 := Scalar.extui v215
  let v217 : BitVec 32 := Scalar.subi v214 v216
  let v218 : BitVec 1 := Scalar.cmpi .ne v212 v217
  let v219 : BitVec 32 := Scalar.remsi v206 c4_i32_88
  let c0_i32_93 : BitVec 32 := 0#32
  let v220 : BitVec 1 := Scalar.cmpi .ne v219 c0_i32_93
  let v221 : BitVec 1 := Scalar.andi v218 v220
  let v207 : BitVec 32 := Scalar.divsi v206 c4_i32_88
  let c1_i32_94 : BitVec 32 := 1#32
  let v222 : BitVec 32 := Scalar.subi v207 c1_i32_94
  let v223 : BitVec 32 := Scalar.select v221 v222 v207
  let v224 : BitVec 32 := Scalar.subi v223 c0_i32_96
  let c1_i32_97 : BitVec 32 := 1#32
  let v226 : BitVec 32 := Scalar.divsi v224 c1_i32_97
  let v227 : BitVec 32 := Scalar.muli v226 c1_i32_97
  let v228 : BitVec 32 := Scalar.addi c0_i32_96 v227
  let c1_i32_99 : BitVec 32 := 1#32
  let arg26 : BitVec 32 := Scf.iv v228 c1_i32_99 k0_t4
  let v3958 : BitVec 32 := Scalar.muli c2_i32_1586 arg26
  let c1_i32_1587 : BitVec 32 := 1#32
  let v3959 : BitVec 32 := Scalar.addi v3958 c1_i32_1587
  let v5068 : BitVec 32 := Scalar.muli c2_i32_2009 v3959
  let c1_i32_2010 : BitVec 32 := 1#32
  let v5069 : BitVec 32 := Scalar.addi v5068 c1_i32_2010
  let c1_i32_2413 : BitVec 32 := 1#32
  let v6122 : BitVec 32 := Scalar.addi v5069 c1_i32_2413
  let c512_i32_2414 : BitVec 32 := 512#32
  let v6123 : BitVec 32 := Scalar.muli v6122 c512_i32_2414
  let v6124 : BitVec 32 := v6123
  let v6169 : Index := Scalar.indexCast v6124
  let c0_2429 : Index := 0#32
  ![v6168.toNat, v6169.toNat, 0]
@[reducible] def k0_t5_loop (i : grid0.Coords) : Scf.Loop 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_117 : BitVec 32 := 1#32
  ⟨v246, v268, c1_i32_117⟩
def k0_mult39 (i : grid0.Coords) (k0_t5 : Fin (k0_t5_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c512_i32_744 : BitVec 32 := 512#32
  let v1745 : BitVec 32 := Scalar.muli v1744 c512_i32_744
  v1745
def k0_off323 (i : grid0.Coords) (k0_t5 : Fin (k0_t5_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1747 : Index := Scalar.indexCast v20
  let c2_i32_743 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c512_i32_744 : BitVec 32 := 512#32
  let v1745 : BitVec 32 := Scalar.muli v1744 c512_i32_744
  let v1746 : BitVec 32 := v1745
  let v1748 : Index := Scalar.indexCast v1746
  let c0_745 : Index := 0#32
  ![v1747.toNat, v1748.toNat, 0]
def k0_mult40 (i : grid0.Coords) (k0_t5 : Fin (k0_t5_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  v2538
def k0_off324 (i : grid0.Coords) (k0_t5 : Fin (k0_t5_loop i).trips) : Fin 3 → Nat :=
  let c0_988 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2541 : Index := Scalar.indexCast v2539
  let c0_989 : Index := 0#32
  ![0, v2541.toNat, 0]
def k0_off325 (i : grid0.Coords) (k0_t5 : Fin (k0_t5_loop i).trips) : Fin 3 → Nat :=
  let c1_990 : Index := 1#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2546 : Index := Scalar.indexCast v2539
  let c0_991 : Index := 0#32
  ![1, v2546.toNat, 0]
def k0_off326 (i : grid0.Coords) (k0_t5 : Fin (k0_t5_loop i).trips) : Fin 3 → Nat :=
  let c2_992 : Index := 2#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2551 : Index := Scalar.indexCast v2539
  let c0_993 : Index := 0#32
  ![2, v2551.toNat, 0]
def k0_off327 (i : grid0.Coords) (k0_t5 : Fin (k0_t5_loop i).trips) : Fin 3 → Nat :=
  let c3_994 : Index := 3#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2556 : Index := Scalar.indexCast v2539
  let c0_995 : Index := 0#32
  ![3, v2556.toNat, 0]
def k0_off328 (i : grid0.Coords) (k0_t5 : Fin (k0_t5_loop i).trips) : Fin 3 → Nat :=
  let c4_996 : Index := 4#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2561 : Index := Scalar.indexCast v2539
  let c0_997 : Index := 0#32
  ![4, v2561.toNat, 0]
def k0_off329 (i : grid0.Coords) (k0_t5 : Fin (k0_t5_loop i).trips) : Fin 3 → Nat :=
  let c5_998 : Index := 5#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2566 : Index := Scalar.indexCast v2539
  let c0_999 : Index := 0#32
  ![5, v2566.toNat, 0]
def k0_off330 (i : grid0.Coords) (k0_t5 : Fin (k0_t5_loop i).trips) : Fin 3 → Nat :=
  let c6_1000 : Index := 6#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2571 : Index := Scalar.indexCast v2539
  let c0_1001 : Index := 0#32
  ![6, v2571.toNat, 0]
def k0_off331 (i : grid0.Coords) (k0_t5 : Fin (k0_t5_loop i).trips) : Fin 3 → Nat :=
  let c7_1002 : Index := 7#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2576 : Index := Scalar.indexCast v2539
  let c0_1003 : Index := 0#32
  ![7, v2576.toNat, 0]
def k0_off332 (i : grid0.Coords) (k0_t5 : Fin (k0_t5_loop i).trips) : Fin 3 → Nat :=
  let c8_1004 : Index := 8#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2581 : Index := Scalar.indexCast v2539
  let c0_1005 : Index := 0#32
  ![8, v2581.toNat, 0]
def k0_off333 (i : grid0.Coords) (k0_t5 : Fin (k0_t5_loop i).trips) : Fin 3 → Nat :=
  let c9_1006 : Index := 9#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2586 : Index := Scalar.indexCast v2539
  let c0_1007 : Index := 0#32
  ![9, v2586.toNat, 0]
def k0_off334 (i : grid0.Coords) (k0_t5 : Fin (k0_t5_loop i).trips) : Fin 3 → Nat :=
  let c10_1008 : Index := 10#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2591 : Index := Scalar.indexCast v2539
  let c0_1009 : Index := 0#32
  ![10, v2591.toNat, 0]
def k0_off335 (i : grid0.Coords) (k0_t5 : Fin (k0_t5_loop i).trips) : Fin 3 → Nat :=
  let c11_1010 : Index := 11#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2596 : Index := Scalar.indexCast v2539
  let c0_1011 : Index := 0#32
  ![11, v2596.toNat, 0]
def k0_off336 (i : grid0.Coords) (k0_t5 : Fin (k0_t5_loop i).trips) : Fin 3 → Nat :=
  let c12_1012 : Index := 12#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2601 : Index := Scalar.indexCast v2539
  let c0_1013 : Index := 0#32
  ![12, v2601.toNat, 0]
def k0_off337 (i : grid0.Coords) (k0_t5 : Fin (k0_t5_loop i).trips) : Fin 3 → Nat :=
  let c13_1014 : Index := 13#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2606 : Index := Scalar.indexCast v2539
  let c0_1015 : Index := 0#32
  ![13, v2606.toNat, 0]
def k0_off338 (i : grid0.Coords) (k0_t5 : Fin (k0_t5_loop i).trips) : Fin 3 → Nat :=
  let c14_1016 : Index := 14#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2611 : Index := Scalar.indexCast v2539
  let c0_1017 : Index := 0#32
  ![14, v2611.toNat, 0]
def k0_off339 (i : grid0.Coords) (k0_t5 : Fin (k0_t5_loop i).trips) : Fin 3 → Nat :=
  let c15_1018 : Index := 15#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2616 : Index := Scalar.indexCast v2539
  let c0_1019 : Index := 0#32
  ![15, v2616.toNat, 0]
def k0_off340 (i : grid0.Coords) (k0_t5 : Fin (k0_t5_loop i).trips) : Fin 3 → Nat :=
  let c16_1020 : Index := 16#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2621 : Index := Scalar.indexCast v2539
  let c0_1021 : Index := 0#32
  ![16, v2621.toNat, 0]
def k0_off341 (i : grid0.Coords) (k0_t5 : Fin (k0_t5_loop i).trips) : Fin 3 → Nat :=
  let c17_1022 : Index := 17#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2626 : Index := Scalar.indexCast v2539
  let c0_1023 : Index := 0#32
  ![17, v2626.toNat, 0]
def k0_off342 (i : grid0.Coords) (k0_t5 : Fin (k0_t5_loop i).trips) : Fin 3 → Nat :=
  let c18_1024 : Index := 18#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2631 : Index := Scalar.indexCast v2539
  let c0_1025 : Index := 0#32
  ![18, v2631.toNat, 0]
def k0_off343 (i : grid0.Coords) (k0_t5 : Fin (k0_t5_loop i).trips) : Fin 3 → Nat :=
  let c19_1026 : Index := 19#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2636 : Index := Scalar.indexCast v2539
  let c0_1027 : Index := 0#32
  ![19, v2636.toNat, 0]
def k0_off344 (i : grid0.Coords) (k0_t5 : Fin (k0_t5_loop i).trips) : Fin 3 → Nat :=
  let c20_1028 : Index := 20#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2641 : Index := Scalar.indexCast v2539
  let c0_1029 : Index := 0#32
  ![20, v2641.toNat, 0]
def k0_off345 (i : grid0.Coords) (k0_t5 : Fin (k0_t5_loop i).trips) : Fin 3 → Nat :=
  let c21_1030 : Index := 21#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2646 : Index := Scalar.indexCast v2539
  let c0_1031 : Index := 0#32
  ![21, v2646.toNat, 0]
def k0_off346 (i : grid0.Coords) (k0_t5 : Fin (k0_t5_loop i).trips) : Fin 3 → Nat :=
  let c22_1032 : Index := 22#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2651 : Index := Scalar.indexCast v2539
  let c0_1033 : Index := 0#32
  ![22, v2651.toNat, 0]
def k0_off347 (i : grid0.Coords) (k0_t5 : Fin (k0_t5_loop i).trips) : Fin 3 → Nat :=
  let c23_1034 : Index := 23#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2656 : Index := Scalar.indexCast v2539
  let c0_1035 : Index := 0#32
  ![23, v2656.toNat, 0]
def k0_off348 (i : grid0.Coords) (k0_t5 : Fin (k0_t5_loop i).trips) : Fin 3 → Nat :=
  let c24_1036 : Index := 24#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2661 : Index := Scalar.indexCast v2539
  let c0_1037 : Index := 0#32
  ![24, v2661.toNat, 0]
def k0_off349 (i : grid0.Coords) (k0_t5 : Fin (k0_t5_loop i).trips) : Fin 3 → Nat :=
  let c25_1038 : Index := 25#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2666 : Index := Scalar.indexCast v2539
  let c0_1039 : Index := 0#32
  ![25, v2666.toNat, 0]
def k0_off350 (i : grid0.Coords) (k0_t5 : Fin (k0_t5_loop i).trips) : Fin 3 → Nat :=
  let c26_1040 : Index := 26#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2671 : Index := Scalar.indexCast v2539
  let c0_1041 : Index := 0#32
  ![26, v2671.toNat, 0]
def k0_off351 (i : grid0.Coords) (k0_t5 : Fin (k0_t5_loop i).trips) : Fin 3 → Nat :=
  let c27_1042 : Index := 27#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2676 : Index := Scalar.indexCast v2539
  let c0_1043 : Index := 0#32
  ![27, v2676.toNat, 0]
def k0_off352 (i : grid0.Coords) (k0_t5 : Fin (k0_t5_loop i).trips) : Fin 3 → Nat :=
  let c28_1044 : Index := 28#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2681 : Index := Scalar.indexCast v2539
  let c0_1045 : Index := 0#32
  ![28, v2681.toNat, 0]
def k0_off353 (i : grid0.Coords) (k0_t5 : Fin (k0_t5_loop i).trips) : Fin 3 → Nat :=
  let c29_1046 : Index := 29#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2686 : Index := Scalar.indexCast v2539
  let c0_1047 : Index := 0#32
  ![29, v2686.toNat, 0]
def k0_off354 (i : grid0.Coords) (k0_t5 : Fin (k0_t5_loop i).trips) : Fin 3 → Nat :=
  let c30_1048 : Index := 30#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2691 : Index := Scalar.indexCast v2539
  let c0_1049 : Index := 0#32
  ![30, v2691.toNat, 0]
def k0_off355 (i : grid0.Coords) (k0_t5 : Fin (k0_t5_loop i).trips) : Fin 3 → Nat :=
  let c31_1050 : Index := 31#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c16_i32_987 : BitVec 32 := 16#32
  let v2538 : BitVec 32 := Scalar.muli v1744 c16_i32_987
  let v2539 : BitVec 32 := v2538
  let v2696 : Index := Scalar.indexCast v2539
  let c0_1051 : Index := 0#32
  ![31, v2696.toNat, 0]
def k0_off356 (i : grid0.Coords) (k0_t5 : Fin (k0_t5_loop i).trips) (c0_i32_1061 : BitVec 32) : Fin 5 → Nat :=
  let c0_1062 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c1_i32_1055 : BitVec 32 := 1#32
  let v2702 : BitVec 32 := Scalar.subi v1744 c1_i32_1055
  let c0_i32_1056 : BitVec 32 := 0#32
  let v2703 : BitVec 32 := Scalar.maxsi v2702 c0_i32_1056
  let c4_i32_1060 : BitVec 32 := 4#32
  let v2706 : BitVec 32 := Scalar.muli v2703 c4_i32_1060
  let v2707 : BitVec 32 := Scalar.addi v2706 c0_i32_1061
  let v2708 : Index := Scalar.indexCast v2707
  let c0_1063 : Index := 0#32
  let c0_1064 : Index := 0#32
  let c0_1065 : Index := 0#32
  ![0, v2708.toNat, 0, 0, 0]
def k0_off357 (i : grid0.Coords) (k0_t5 : Fin (k0_t5_loop i).trips) : Fin 4 → Nat :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c0_i32_1052 : BitVec 32 := 0#32
  let v2700 : BitVec 1 := Scalar.cmpi .eq v1744 c0_i32_1052
  let c2_i32_1053 : BitVec 32 := 2#32
  let c1_i32_1054 : BitVec 32 := 1#32
  let v2701 : BitVec 32 := Scalar.select v2700 c2_i32_1053 c1_i32_1054
  let v2727 : Index := Scalar.indexCast v2701
  let c0_1084 : Index := 0#32
  let c0_1085 : Index := 0#32
  let c0_1086 : Index := 0#32
  ![v2727.toNat, 0, 0, 0]
def k0_off358 (i : grid0.Coords) (k0_t5 : Fin (k0_t5_loop i).trips) (c0_i32_1095 : BitVec 32) : Fin 5 → Nat :=
  let c0_1096 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c1_i32_1055 : BitVec 32 := 1#32
  let v2702 : BitVec 32 := Scalar.subi v1744 c1_i32_1055
  let c0_i32_1056 : BitVec 32 := 0#32
  let v2703 : BitVec 32 := Scalar.maxsi v2702 c0_i32_1056
  let c4_i32_1094 : BitVec 32 := 4#32
  let v2737 : BitVec 32 := Scalar.muli v2703 c4_i32_1094
  let v2738 : BitVec 32 := Scalar.addi v2737 c0_i32_1095
  let v2739 : Index := Scalar.indexCast v2738
  let c1_1097 : Index := 1#32
  let c0_1098 : Index := 0#32
  let c0_1099 : Index := 0#32
  ![0, v2739.toNat, 1, 0, 0]
def k0_off359 (i : grid0.Coords) (k0_t5 : Fin (k0_t5_loop i).trips) : Fin 4 → Nat :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c0_i32_1052 : BitVec 32 := 0#32
  let v2700 : BitVec 1 := Scalar.cmpi .eq v1744 c0_i32_1052
  let c2_i32_1053 : BitVec 32 := 2#32
  let c1_i32_1054 : BitVec 32 := 1#32
  let v2701 : BitVec 32 := Scalar.select v2700 c2_i32_1053 c1_i32_1054
  let v2758 : Index := Scalar.indexCast v2701
  let c1_1118 : Index := 1#32
  let c0_1119 : Index := 0#32
  let c0_1120 : Index := 0#32
  ![v2758.toNat, 1, 0, 0]
def k0_mult41 (i : grid0.Coords) (k0_t5 : Fin (k0_t5_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c512_i32_1125 : BitVec 32 := 512#32
  let v2766 : BitVec 32 := Scalar.muli v1744 c512_i32_1125
  v2766
def k0_off360 (i : grid0.Coords) (k0_t5 : Fin (k0_t5_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2768 : Index := Scalar.indexCast v19
  let c2_i32_743 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c512_i32_1125 : BitVec 32 := 512#32
  let v2766 : BitVec 32 := Scalar.muli v1744 c512_i32_1125
  let v2767 : BitVec 32 := v2766
  let v2769 : Index := Scalar.indexCast v2767
  let c0_1126 : Index := 0#32
  ![v2768.toNat, v2769.toNat, 0]
def k0_off361 (i : grid0.Coords) (k0_t5 : Fin (k0_t5_loop i).trips) : Fin 3 → Nat :=
  let c0_1129 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c512_i32_1125 : BitVec 32 := 512#32
  let v2766 : BitVec 32 := Scalar.muli v1744 c512_i32_1125
  let v2767 : BitVec 32 := v2766
  let v2778 : Index := Scalar.indexCast v2767
  let c0_1130 : Index := 0#32
  ![0, v2778.toNat, 0]
def k0_mult42 (i : grid0.Coords) (k0_t5 : Fin (k0_t5_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c1_i32_1147 : BitVec 32 := 1#32
  let v2801 : BitVec 32 := Scalar.addi v1744 c1_i32_1147
  let c512_i32_1148 : BitVec 32 := 512#32
  let v2802 : BitVec 32 := Scalar.muli v2801 c512_i32_1148
  v2802
def k0_off362 (i : grid0.Coords) (k0_t5 : Fin (k0_t5_loop i).trips) : Fin 3 → Nat :=
  let c0_1149 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c1_i32_1147 : BitVec 32 := 1#32
  let v2801 : BitVec 32 := Scalar.addi v1744 c1_i32_1147
  let c512_i32_1148 : BitVec 32 := 512#32
  let v2802 : BitVec 32 := Scalar.muli v2801 c512_i32_1148
  let v2803 : BitVec 32 := v2802
  let v2804 : Index := Scalar.indexCast v2803
  let c0_1150 : Index := 0#32
  ![0, v2804.toNat, 0]
def k0_off363 (i : grid0.Coords) (k0_t5 : Fin (k0_t5_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2847 : Index := Scalar.indexCast v20
  let c2_i32_743 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v1744 : BitVec 32 := Scalar.muli c2_i32_743 arg26
  let c1_i32_1147 : BitVec 32 := 1#32
  let v2801 : BitVec 32 := Scalar.addi v1744 c1_i32_1147
  let c512_i32_1148 : BitVec 32 := 512#32
  let v2802 : BitVec 32 := Scalar.muli v2801 c512_i32_1148
  let v2803 : BitVec 32 := v2802
  let v2848 : Index := Scalar.indexCast v2803
  let c0_1163 : Index := 0#32
  ![v2847.toNat, v2848.toNat, 0]
def k0_mult43 (i : grid0.Coords) (k0_t5 : Fin (k0_t5_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c512_i32_1166 : BitVec 32 := 512#32
  let v2854 : BitVec 32 := Scalar.muli v2853 c512_i32_1166
  v2854
def k0_mult44 (i : grid0.Coords) (k0_t5 : Fin (k0_t5_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  v3647
def k0_off364 (i : grid0.Coords) (k0_t5 : Fin (k0_t5_loop i).trips) : Fin 3 → Nat :=
  let c0_1410 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3650 : Index := Scalar.indexCast v3648
  let c0_1411 : Index := 0#32
  ![0, v3650.toNat, 0]
def k0_off365 (i : grid0.Coords) (k0_t5 : Fin (k0_t5_loop i).trips) : Fin 3 → Nat :=
  let c1_1412 : Index := 1#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3655 : Index := Scalar.indexCast v3648
  let c0_1413 : Index := 0#32
  ![1, v3655.toNat, 0]
def k0_off366 (i : grid0.Coords) (k0_t5 : Fin (k0_t5_loop i).trips) : Fin 3 → Nat :=
  let c2_1414 : Index := 2#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3660 : Index := Scalar.indexCast v3648
  let c0_1415 : Index := 0#32
  ![2, v3660.toNat, 0]
def k0_off367 (i : grid0.Coords) (k0_t5 : Fin (k0_t5_loop i).trips) : Fin 3 → Nat :=
  let c3_1416 : Index := 3#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3665 : Index := Scalar.indexCast v3648
  let c0_1417 : Index := 0#32
  ![3, v3665.toNat, 0]
def k0_off368 (i : grid0.Coords) (k0_t5 : Fin (k0_t5_loop i).trips) : Fin 3 → Nat :=
  let c4_1418 : Index := 4#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3670 : Index := Scalar.indexCast v3648
  let c0_1419 : Index := 0#32
  ![4, v3670.toNat, 0]
def k0_off369 (i : grid0.Coords) (k0_t5 : Fin (k0_t5_loop i).trips) : Fin 3 → Nat :=
  let c5_1420 : Index := 5#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3675 : Index := Scalar.indexCast v3648
  let c0_1421 : Index := 0#32
  ![5, v3675.toNat, 0]
def k0_off370 (i : grid0.Coords) (k0_t5 : Fin (k0_t5_loop i).trips) : Fin 3 → Nat :=
  let c6_1422 : Index := 6#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3680 : Index := Scalar.indexCast v3648
  let c0_1423 : Index := 0#32
  ![6, v3680.toNat, 0]
def k0_off371 (i : grid0.Coords) (k0_t5 : Fin (k0_t5_loop i).trips) : Fin 3 → Nat :=
  let c7_1424 : Index := 7#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3685 : Index := Scalar.indexCast v3648
  let c0_1425 : Index := 0#32
  ![7, v3685.toNat, 0]
def k0_off372 (i : grid0.Coords) (k0_t5 : Fin (k0_t5_loop i).trips) : Fin 3 → Nat :=
  let c8_1426 : Index := 8#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3690 : Index := Scalar.indexCast v3648
  let c0_1427 : Index := 0#32
  ![8, v3690.toNat, 0]
def k0_off373 (i : grid0.Coords) (k0_t5 : Fin (k0_t5_loop i).trips) : Fin 3 → Nat :=
  let c9_1428 : Index := 9#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3695 : Index := Scalar.indexCast v3648
  let c0_1429 : Index := 0#32
  ![9, v3695.toNat, 0]
def k0_off374 (i : grid0.Coords) (k0_t5 : Fin (k0_t5_loop i).trips) : Fin 3 → Nat :=
  let c10_1430 : Index := 10#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3700 : Index := Scalar.indexCast v3648
  let c0_1431 : Index := 0#32
  ![10, v3700.toNat, 0]
def k0_off375 (i : grid0.Coords) (k0_t5 : Fin (k0_t5_loop i).trips) : Fin 3 → Nat :=
  let c11_1432 : Index := 11#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3705 : Index := Scalar.indexCast v3648
  let c0_1433 : Index := 0#32
  ![11, v3705.toNat, 0]
def k0_off376 (i : grid0.Coords) (k0_t5 : Fin (k0_t5_loop i).trips) : Fin 3 → Nat :=
  let c12_1434 : Index := 12#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3710 : Index := Scalar.indexCast v3648
  let c0_1435 : Index := 0#32
  ![12, v3710.toNat, 0]
def k0_off377 (i : grid0.Coords) (k0_t5 : Fin (k0_t5_loop i).trips) : Fin 3 → Nat :=
  let c13_1436 : Index := 13#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3715 : Index := Scalar.indexCast v3648
  let c0_1437 : Index := 0#32
  ![13, v3715.toNat, 0]
def k0_off378 (i : grid0.Coords) (k0_t5 : Fin (k0_t5_loop i).trips) : Fin 3 → Nat :=
  let c14_1438 : Index := 14#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3720 : Index := Scalar.indexCast v3648
  let c0_1439 : Index := 0#32
  ![14, v3720.toNat, 0]
def k0_off379 (i : grid0.Coords) (k0_t5 : Fin (k0_t5_loop i).trips) : Fin 3 → Nat :=
  let c15_1440 : Index := 15#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3725 : Index := Scalar.indexCast v3648
  let c0_1441 : Index := 0#32
  ![15, v3725.toNat, 0]
def k0_off380 (i : grid0.Coords) (k0_t5 : Fin (k0_t5_loop i).trips) : Fin 3 → Nat :=
  let c16_1442 : Index := 16#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3730 : Index := Scalar.indexCast v3648
  let c0_1443 : Index := 0#32
  ![16, v3730.toNat, 0]
def k0_off381 (i : grid0.Coords) (k0_t5 : Fin (k0_t5_loop i).trips) : Fin 3 → Nat :=
  let c17_1444 : Index := 17#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3735 : Index := Scalar.indexCast v3648
  let c0_1445 : Index := 0#32
  ![17, v3735.toNat, 0]
def k0_off382 (i : grid0.Coords) (k0_t5 : Fin (k0_t5_loop i).trips) : Fin 3 → Nat :=
  let c18_1446 : Index := 18#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3740 : Index := Scalar.indexCast v3648
  let c0_1447 : Index := 0#32
  ![18, v3740.toNat, 0]
def k0_off383 (i : grid0.Coords) (k0_t5 : Fin (k0_t5_loop i).trips) : Fin 3 → Nat :=
  let c19_1448 : Index := 19#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3745 : Index := Scalar.indexCast v3648
  let c0_1449 : Index := 0#32
  ![19, v3745.toNat, 0]
def k0_off384 (i : grid0.Coords) (k0_t5 : Fin (k0_t5_loop i).trips) : Fin 3 → Nat :=
  let c20_1450 : Index := 20#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3750 : Index := Scalar.indexCast v3648
  let c0_1451 : Index := 0#32
  ![20, v3750.toNat, 0]
def k0_off385 (i : grid0.Coords) (k0_t5 : Fin (k0_t5_loop i).trips) : Fin 3 → Nat :=
  let c21_1452 : Index := 21#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3755 : Index := Scalar.indexCast v3648
  let c0_1453 : Index := 0#32
  ![21, v3755.toNat, 0]
def k0_off386 (i : grid0.Coords) (k0_t5 : Fin (k0_t5_loop i).trips) : Fin 3 → Nat :=
  let c22_1454 : Index := 22#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3760 : Index := Scalar.indexCast v3648
  let c0_1455 : Index := 0#32
  ![22, v3760.toNat, 0]
def k0_off387 (i : grid0.Coords) (k0_t5 : Fin (k0_t5_loop i).trips) : Fin 3 → Nat :=
  let c23_1456 : Index := 23#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3765 : Index := Scalar.indexCast v3648
  let c0_1457 : Index := 0#32
  ![23, v3765.toNat, 0]
def k0_off388 (i : grid0.Coords) (k0_t5 : Fin (k0_t5_loop i).trips) : Fin 3 → Nat :=
  let c24_1458 : Index := 24#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3770 : Index := Scalar.indexCast v3648
  let c0_1459 : Index := 0#32
  ![24, v3770.toNat, 0]
def k0_off389 (i : grid0.Coords) (k0_t5 : Fin (k0_t5_loop i).trips) : Fin 3 → Nat :=
  let c25_1460 : Index := 25#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3775 : Index := Scalar.indexCast v3648
  let c0_1461 : Index := 0#32
  ![25, v3775.toNat, 0]
def k0_off390 (i : grid0.Coords) (k0_t5 : Fin (k0_t5_loop i).trips) : Fin 3 → Nat :=
  let c26_1462 : Index := 26#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3780 : Index := Scalar.indexCast v3648
  let c0_1463 : Index := 0#32
  ![26, v3780.toNat, 0]
def k0_off391 (i : grid0.Coords) (k0_t5 : Fin (k0_t5_loop i).trips) : Fin 3 → Nat :=
  let c27_1464 : Index := 27#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3785 : Index := Scalar.indexCast v3648
  let c0_1465 : Index := 0#32
  ![27, v3785.toNat, 0]
def k0_off392 (i : grid0.Coords) (k0_t5 : Fin (k0_t5_loop i).trips) : Fin 3 → Nat :=
  let c28_1466 : Index := 28#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3790 : Index := Scalar.indexCast v3648
  let c0_1467 : Index := 0#32
  ![28, v3790.toNat, 0]
def k0_off393 (i : grid0.Coords) (k0_t5 : Fin (k0_t5_loop i).trips) : Fin 3 → Nat :=
  let c29_1468 : Index := 29#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3795 : Index := Scalar.indexCast v3648
  let c0_1469 : Index := 0#32
  ![29, v3795.toNat, 0]
def k0_off394 (i : grid0.Coords) (k0_t5 : Fin (k0_t5_loop i).trips) : Fin 3 → Nat :=
  let c30_1470 : Index := 30#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3800 : Index := Scalar.indexCast v3648
  let c0_1471 : Index := 0#32
  ![30, v3800.toNat, 0]
def k0_off395 (i : grid0.Coords) (k0_t5 : Fin (k0_t5_loop i).trips) : Fin 3 → Nat :=
  let c31_1472 : Index := 31#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3805 : Index := Scalar.indexCast v3648
  let c0_1473 : Index := 0#32
  ![31, v3805.toNat, 0]
def k0_off396 (i : grid0.Coords) (k0_t5 : Fin (k0_t5_loop i).trips) (c0_i32_1480 : BitVec 32) : Fin 5 → Nat :=
  let c0_1481 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c1_i32_1474 : BitVec 32 := 1#32
  let v3809 : BitVec 32 := Scalar.subi v2853 c1_i32_1474
  let c0_i32_1475 : BitVec 32 := 0#32
  let v3810 : BitVec 32 := Scalar.maxsi v3809 c0_i32_1475
  let c4_i32_1479 : BitVec 32 := 4#32
  let v3813 : BitVec 32 := Scalar.muli v3810 c4_i32_1479
  let v3814 : BitVec 32 := Scalar.addi v3813 c0_i32_1480
  let v3815 : Index := Scalar.indexCast v3814
  let c0_1482 : Index := 0#32
  let c0_1483 : Index := 0#32
  let c0_1484 : Index := 0#32
  ![0, v3815.toNat, 0, 0, 0]
def k0_off397 (i : grid0.Coords) (k0_t5 : Fin (k0_t5_loop i).trips) (c0_i32_1515 : BitVec 32) : Fin 5 → Nat :=
  let c0_1516 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c1_i32_1474 : BitVec 32 := 1#32
  let v3809 : BitVec 32 := Scalar.subi v2853 c1_i32_1474
  let c0_i32_1475 : BitVec 32 := 0#32
  let v3810 : BitVec 32 := Scalar.maxsi v3809 c0_i32_1475
  let c4_i32_1514 : BitVec 32 := 4#32
  let v3843 : BitVec 32 := Scalar.muli v3810 c4_i32_1514
  let v3844 : BitVec 32 := Scalar.addi v3843 c0_i32_1515
  let v3845 : Index := Scalar.indexCast v3844
  let c1_1517 : Index := 1#32
  let c0_1518 : Index := 0#32
  let c0_1519 : Index := 0#32
  ![0, v3845.toNat, 1, 0, 0]
def k0_mult45 (i : grid0.Coords) (k0_t5 : Fin (k0_t5_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c512_i32_1546 : BitVec 32 := 512#32
  let v3871 : BitVec 32 := Scalar.muli v2853 c512_i32_1546
  v3871
def k0_off398 (i : grid0.Coords) (k0_t5 : Fin (k0_t5_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v3873 : Index := Scalar.indexCast v19
  let c2_i32_1164 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c512_i32_1546 : BitVec 32 := 512#32
  let v3871 : BitVec 32 := Scalar.muli v2853 c512_i32_1546
  let v3872 : BitVec 32 := v3871
  let v3874 : Index := Scalar.indexCast v3872
  let c0_1547 : Index := 0#32
  ![v3873.toNat, v3874.toNat, 0]
def k0_off399 (i : grid0.Coords) (k0_t5 : Fin (k0_t5_loop i).trips) : Fin 3 → Nat :=
  let c0_1550 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c512_i32_1546 : BitVec 32 := 512#32
  let v3871 : BitVec 32 := Scalar.muli v2853 c512_i32_1546
  let v3872 : BitVec 32 := v3871
  let v3883 : Index := Scalar.indexCast v3872
  let c0_1551 : Index := 0#32
  ![0, v3883.toNat, 0]
def k0_mult46 (i : grid0.Coords) (k0_t5 : Fin (k0_t5_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c1_i32_1568 : BitVec 32 := 1#32
  let v3906 : BitVec 32 := Scalar.addi v2853 c1_i32_1568
  let c512_i32_1569 : BitVec 32 := 512#32
  let v3907 : BitVec 32 := Scalar.muli v3906 c512_i32_1569
  v3907
def k0_off400 (i : grid0.Coords) (k0_t5 : Fin (k0_t5_loop i).trips) : Fin 3 → Nat :=
  let c0_1570 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c1_i32_1568 : BitVec 32 := 1#32
  let v3906 : BitVec 32 := Scalar.addi v2853 c1_i32_1568
  let c512_i32_1569 : BitVec 32 := 512#32
  let v3907 : BitVec 32 := Scalar.muli v3906 c512_i32_1569
  let v3908 : BitVec 32 := v3907
  let v3909 : Index := Scalar.indexCast v3908
  let c0_1571 : Index := 0#32
  ![0, v3909.toNat, 0]
def k0_off401 (i : grid0.Coords) (k0_t5 : Fin (k0_t5_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v3952 : Index := Scalar.indexCast v20
  let c2_i32_1164 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c1_i32_117 : BitVec 32 := 1#32
  let arg26 : BitVec 32 := Scf.iv v246 c1_i32_117 k0_t5
  let v2852 : BitVec 32 := Scalar.muli c2_i32_1164 arg26
  let c1_i32_1165 : BitVec 32 := 1#32
  let v2853 : BitVec 32 := Scalar.addi v2852 c1_i32_1165
  let c1_i32_1568 : BitVec 32 := 1#32
  let v3906 : BitVec 32 := Scalar.addi v2853 c1_i32_1568
  let c512_i32_1569 : BitVec 32 := 512#32
  let v3907 : BitVec 32 := Scalar.muli v3906 c512_i32_1569
  let v3908 : BitVec 32 := v3907
  let v3953 : Index := Scalar.indexCast v3908
  let c0_1584 : Index := 0#32
  ![v3952.toNat, v3953.toNat, 0]
@[reducible] def k0_t6_loop (i : grid0.Coords) : Scf.Loop 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let v265 : BitVec 32 := Scalar.addi v246 v264
  let c1_i32_118 : BitVec 32 := 1#32
  ⟨v268, v265, c1_i32_118⟩
def k0_mult47 (i : grid0.Coords) (k0_t6 : Fin (k0_t6_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c512_i32_744 : BitVec 32 := 512#32
  let v1745 : BitVec 32 := Scalar.muli v1744 c512_i32_744
  v1745
def k0_off402 (i : grid0.Coords) (k0_t6 : Fin (k0_t6_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1747 : Index := Scalar.indexCast v20
  let c2_i32_743 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c512_i32_744 : BitVec 32 := 512#32
  let v1745 : BitVec 32 := Scalar.muli v1744 c512_i32_744
  let v1746 : BitVec 32 := v1745
  let v1748 : Index := Scalar.indexCast v1746
  let c0_745 : Index := 0#32
  ![v1747.toNat, v1748.toNat, 0]
def k0_mult48 (i : grid0.Coords) (k0_t6 : Fin (k0_t6_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  v2538
def k0_off403 (i : grid0.Coords) (k0_t6 : Fin (k0_t6_loop i).trips) : Fin 3 → Nat :=
  let c0_988 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2541 : Index := Scalar.indexCast v2539
  let c0_989 : Index := 0#32
  ![0, v2541.toNat, 0]
def k0_off404 (i : grid0.Coords) (k0_t6 : Fin (k0_t6_loop i).trips) : Fin 3 → Nat :=
  let c1_990 : Index := 1#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2546 : Index := Scalar.indexCast v2539
  let c0_991 : Index := 0#32
  ![1, v2546.toNat, 0]
def k0_off405 (i : grid0.Coords) (k0_t6 : Fin (k0_t6_loop i).trips) : Fin 3 → Nat :=
  let c2_992 : Index := 2#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2551 : Index := Scalar.indexCast v2539
  let c0_993 : Index := 0#32
  ![2, v2551.toNat, 0]
def k0_off406 (i : grid0.Coords) (k0_t6 : Fin (k0_t6_loop i).trips) : Fin 3 → Nat :=
  let c3_994 : Index := 3#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2556 : Index := Scalar.indexCast v2539
  let c0_995 : Index := 0#32
  ![3, v2556.toNat, 0]
def k0_off407 (i : grid0.Coords) (k0_t6 : Fin (k0_t6_loop i).trips) : Fin 3 → Nat :=
  let c4_996 : Index := 4#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2561 : Index := Scalar.indexCast v2539
  let c0_997 : Index := 0#32
  ![4, v2561.toNat, 0]
def k0_off408 (i : grid0.Coords) (k0_t6 : Fin (k0_t6_loop i).trips) : Fin 3 → Nat :=
  let c5_998 : Index := 5#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2566 : Index := Scalar.indexCast v2539
  let c0_999 : Index := 0#32
  ![5, v2566.toNat, 0]
def k0_off409 (i : grid0.Coords) (k0_t6 : Fin (k0_t6_loop i).trips) : Fin 3 → Nat :=
  let c6_1000 : Index := 6#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2571 : Index := Scalar.indexCast v2539
  let c0_1001 : Index := 0#32
  ![6, v2571.toNat, 0]
def k0_off410 (i : grid0.Coords) (k0_t6 : Fin (k0_t6_loop i).trips) : Fin 3 → Nat :=
  let c7_1002 : Index := 7#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2576 : Index := Scalar.indexCast v2539
  let c0_1003 : Index := 0#32
  ![7, v2576.toNat, 0]
def k0_off411 (i : grid0.Coords) (k0_t6 : Fin (k0_t6_loop i).trips) : Fin 3 → Nat :=
  let c8_1004 : Index := 8#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2581 : Index := Scalar.indexCast v2539
  let c0_1005 : Index := 0#32
  ![8, v2581.toNat, 0]
def k0_off412 (i : grid0.Coords) (k0_t6 : Fin (k0_t6_loop i).trips) : Fin 3 → Nat :=
  let c9_1006 : Index := 9#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2586 : Index := Scalar.indexCast v2539
  let c0_1007 : Index := 0#32
  ![9, v2586.toNat, 0]
def k0_off413 (i : grid0.Coords) (k0_t6 : Fin (k0_t6_loop i).trips) : Fin 3 → Nat :=
  let c10_1008 : Index := 10#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2591 : Index := Scalar.indexCast v2539
  let c0_1009 : Index := 0#32
  ![10, v2591.toNat, 0]
def k0_off414 (i : grid0.Coords) (k0_t6 : Fin (k0_t6_loop i).trips) : Fin 3 → Nat :=
  let c11_1010 : Index := 11#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2596 : Index := Scalar.indexCast v2539
  let c0_1011 : Index := 0#32
  ![11, v2596.toNat, 0]
def k0_off415 (i : grid0.Coords) (k0_t6 : Fin (k0_t6_loop i).trips) : Fin 3 → Nat :=
  let c12_1012 : Index := 12#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2601 : Index := Scalar.indexCast v2539
  let c0_1013 : Index := 0#32
  ![12, v2601.toNat, 0]
def k0_off416 (i : grid0.Coords) (k0_t6 : Fin (k0_t6_loop i).trips) : Fin 3 → Nat :=
  let c13_1014 : Index := 13#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2606 : Index := Scalar.indexCast v2539
  let c0_1015 : Index := 0#32
  ![13, v2606.toNat, 0]
def k0_off417 (i : grid0.Coords) (k0_t6 : Fin (k0_t6_loop i).trips) : Fin 3 → Nat :=
  let c14_1016 : Index := 14#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2611 : Index := Scalar.indexCast v2539
  let c0_1017 : Index := 0#32
  ![14, v2611.toNat, 0]
def k0_off418 (i : grid0.Coords) (k0_t6 : Fin (k0_t6_loop i).trips) : Fin 3 → Nat :=
  let c15_1018 : Index := 15#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2616 : Index := Scalar.indexCast v2539
  let c0_1019 : Index := 0#32
  ![15, v2616.toNat, 0]
def k0_off419 (i : grid0.Coords) (k0_t6 : Fin (k0_t6_loop i).trips) : Fin 3 → Nat :=
  let c16_1020 : Index := 16#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2621 : Index := Scalar.indexCast v2539
  let c0_1021 : Index := 0#32
  ![16, v2621.toNat, 0]
def k0_off420 (i : grid0.Coords) (k0_t6 : Fin (k0_t6_loop i).trips) : Fin 3 → Nat :=
  let c17_1022 : Index := 17#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2626 : Index := Scalar.indexCast v2539
  let c0_1023 : Index := 0#32
  ![17, v2626.toNat, 0]
def k0_off421 (i : grid0.Coords) (k0_t6 : Fin (k0_t6_loop i).trips) : Fin 3 → Nat :=
  let c18_1024 : Index := 18#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2631 : Index := Scalar.indexCast v2539
  let c0_1025 : Index := 0#32
  ![18, v2631.toNat, 0]
def k0_off422 (i : grid0.Coords) (k0_t6 : Fin (k0_t6_loop i).trips) : Fin 3 → Nat :=
  let c19_1026 : Index := 19#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2636 : Index := Scalar.indexCast v2539
  let c0_1027 : Index := 0#32
  ![19, v2636.toNat, 0]
def k0_off423 (i : grid0.Coords) (k0_t6 : Fin (k0_t6_loop i).trips) : Fin 3 → Nat :=
  let c20_1028 : Index := 20#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2641 : Index := Scalar.indexCast v2539
  let c0_1029 : Index := 0#32
  ![20, v2641.toNat, 0]
def k0_off424 (i : grid0.Coords) (k0_t6 : Fin (k0_t6_loop i).trips) : Fin 3 → Nat :=
  let c21_1030 : Index := 21#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2646 : Index := Scalar.indexCast v2539
  let c0_1031 : Index := 0#32
  ![21, v2646.toNat, 0]
def k0_off425 (i : grid0.Coords) (k0_t6 : Fin (k0_t6_loop i).trips) : Fin 3 → Nat :=
  let c22_1032 : Index := 22#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2651 : Index := Scalar.indexCast v2539
  let c0_1033 : Index := 0#32
  ![22, v2651.toNat, 0]
def k0_off426 (i : grid0.Coords) (k0_t6 : Fin (k0_t6_loop i).trips) : Fin 3 → Nat :=
  let c23_1034 : Index := 23#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2656 : Index := Scalar.indexCast v2539
  let c0_1035 : Index := 0#32
  ![23, v2656.toNat, 0]
def k0_off427 (i : grid0.Coords) (k0_t6 : Fin (k0_t6_loop i).trips) : Fin 3 → Nat :=
  let c24_1036 : Index := 24#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2661 : Index := Scalar.indexCast v2539
  let c0_1037 : Index := 0#32
  ![24, v2661.toNat, 0]
def k0_off428 (i : grid0.Coords) (k0_t6 : Fin (k0_t6_loop i).trips) : Fin 3 → Nat :=
  let c25_1038 : Index := 25#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2666 : Index := Scalar.indexCast v2539
  let c0_1039 : Index := 0#32
  ![25, v2666.toNat, 0]
def k0_off429 (i : grid0.Coords) (k0_t6 : Fin (k0_t6_loop i).trips) : Fin 3 → Nat :=
  let c26_1040 : Index := 26#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2671 : Index := Scalar.indexCast v2539
  let c0_1041 : Index := 0#32
  ![26, v2671.toNat, 0]
def k0_off430 (i : grid0.Coords) (k0_t6 : Fin (k0_t6_loop i).trips) : Fin 3 → Nat :=
  let c27_1042 : Index := 27#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2676 : Index := Scalar.indexCast v2539
  let c0_1043 : Index := 0#32
  ![27, v2676.toNat, 0]
def k0_off431 (i : grid0.Coords) (k0_t6 : Fin (k0_t6_loop i).trips) : Fin 3 → Nat :=
  let c28_1044 : Index := 28#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2681 : Index := Scalar.indexCast v2539
  let c0_1045 : Index := 0#32
  ![28, v2681.toNat, 0]
def k0_off432 (i : grid0.Coords) (k0_t6 : Fin (k0_t6_loop i).trips) : Fin 3 → Nat :=
  let c29_1046 : Index := 29#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2686 : Index := Scalar.indexCast v2539
  let c0_1047 : Index := 0#32
  ![29, v2686.toNat, 0]
def k0_off433 (i : grid0.Coords) (k0_t6 : Fin (k0_t6_loop i).trips) : Fin 3 → Nat :=
  let c30_1048 : Index := 30#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2691 : Index := Scalar.indexCast v2539
  let c0_1049 : Index := 0#32
  ![30, v2691.toNat, 0]
def k0_off434 (i : grid0.Coords) (k0_t6 : Fin (k0_t6_loop i).trips) : Fin 3 → Nat :=
  let c31_1050 : Index := 31#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c16_i32_987 : BitVec 32 := 16#32
  let v2538 : BitVec 32 := Scalar.muli v1744 c16_i32_987
  let v2539 : BitVec 32 := v2538
  let v2696 : Index := Scalar.indexCast v2539
  let c0_1051 : Index := 0#32
  ![31, v2696.toNat, 0]
def k0_off435 (i : grid0.Coords) (k0_t6 : Fin (k0_t6_loop i).trips) (c0_i32_1061 : BitVec 32) : Fin 5 → Nat :=
  let c0_1062 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c1_i32_1055 : BitVec 32 := 1#32
  let v2702 : BitVec 32 := Scalar.subi v1744 c1_i32_1055
  let c0_i32_1056 : BitVec 32 := 0#32
  let v2703 : BitVec 32 := Scalar.maxsi v2702 c0_i32_1056
  let c4_i32_1060 : BitVec 32 := 4#32
  let v2706 : BitVec 32 := Scalar.muli v2703 c4_i32_1060
  let v2707 : BitVec 32 := Scalar.addi v2706 c0_i32_1061
  let v2708 : Index := Scalar.indexCast v2707
  let c0_1063 : Index := 0#32
  let c0_1064 : Index := 0#32
  let c0_1065 : Index := 0#32
  ![0, v2708.toNat, 0, 0, 0]
def k0_off436 (i : grid0.Coords) (k0_t6 : Fin (k0_t6_loop i).trips) : Fin 4 → Nat :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c0_i32_1052 : BitVec 32 := 0#32
  let v2700 : BitVec 1 := Scalar.cmpi .eq v1744 c0_i32_1052
  let c2_i32_1053 : BitVec 32 := 2#32
  let c1_i32_1054 : BitVec 32 := 1#32
  let v2701 : BitVec 32 := Scalar.select v2700 c2_i32_1053 c1_i32_1054
  let v2727 : Index := Scalar.indexCast v2701
  let c0_1084 : Index := 0#32
  let c0_1085 : Index := 0#32
  let c0_1086 : Index := 0#32
  ![v2727.toNat, 0, 0, 0]
def k0_off437 (i : grid0.Coords) (k0_t6 : Fin (k0_t6_loop i).trips) (c0_i32_1095 : BitVec 32) : Fin 5 → Nat :=
  let c0_1096 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c1_i32_1055 : BitVec 32 := 1#32
  let v2702 : BitVec 32 := Scalar.subi v1744 c1_i32_1055
  let c0_i32_1056 : BitVec 32 := 0#32
  let v2703 : BitVec 32 := Scalar.maxsi v2702 c0_i32_1056
  let c4_i32_1094 : BitVec 32 := 4#32
  let v2737 : BitVec 32 := Scalar.muli v2703 c4_i32_1094
  let v2738 : BitVec 32 := Scalar.addi v2737 c0_i32_1095
  let v2739 : Index := Scalar.indexCast v2738
  let c1_1097 : Index := 1#32
  let c0_1098 : Index := 0#32
  let c0_1099 : Index := 0#32
  ![0, v2739.toNat, 1, 0, 0]
def k0_off438 (i : grid0.Coords) (k0_t6 : Fin (k0_t6_loop i).trips) : Fin 4 → Nat :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c0_i32_1052 : BitVec 32 := 0#32
  let v2700 : BitVec 1 := Scalar.cmpi .eq v1744 c0_i32_1052
  let c2_i32_1053 : BitVec 32 := 2#32
  let c1_i32_1054 : BitVec 32 := 1#32
  let v2701 : BitVec 32 := Scalar.select v2700 c2_i32_1053 c1_i32_1054
  let v2758 : Index := Scalar.indexCast v2701
  let c1_1118 : Index := 1#32
  let c0_1119 : Index := 0#32
  let c0_1120 : Index := 0#32
  ![v2758.toNat, 1, 0, 0]
def k0_mult49 (i : grid0.Coords) (k0_t6 : Fin (k0_t6_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c512_i32_1125 : BitVec 32 := 512#32
  let v2766 : BitVec 32 := Scalar.muli v1744 c512_i32_1125
  v2766
def k0_off439 (i : grid0.Coords) (k0_t6 : Fin (k0_t6_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2768 : Index := Scalar.indexCast v19
  let c2_i32_743 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c512_i32_1125 : BitVec 32 := 512#32
  let v2766 : BitVec 32 := Scalar.muli v1744 c512_i32_1125
  let v2767 : BitVec 32 := v2766
  let v2769 : Index := Scalar.indexCast v2767
  let c0_1126 : Index := 0#32
  ![v2768.toNat, v2769.toNat, 0]
def k0_off440 (i : grid0.Coords) (k0_t6 : Fin (k0_t6_loop i).trips) : Fin 3 → Nat :=
  let c0_1129 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c512_i32_1125 : BitVec 32 := 512#32
  let v2766 : BitVec 32 := Scalar.muli v1744 c512_i32_1125
  let v2767 : BitVec 32 := v2766
  let v2778 : Index := Scalar.indexCast v2767
  let c0_1130 : Index := 0#32
  ![0, v2778.toNat, 0]
def k0_mult50 (i : grid0.Coords) (k0_t6 : Fin (k0_t6_loop i).trips) : BitVec 32 :=
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c1_i32_1147 : BitVec 32 := 1#32
  let v2801 : BitVec 32 := Scalar.addi v1744 c1_i32_1147
  let c512_i32_1148 : BitVec 32 := 512#32
  let v2802 : BitVec 32 := Scalar.muli v2801 c512_i32_1148
  v2802
def k0_off441 (i : grid0.Coords) (k0_t6 : Fin (k0_t6_loop i).trips) : Fin 3 → Nat :=
  let c0_1149 : Index := 0#32
  let c2_i32_743 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c1_i32_1147 : BitVec 32 := 1#32
  let v2801 : BitVec 32 := Scalar.addi v1744 c1_i32_1147
  let c512_i32_1148 : BitVec 32 := 512#32
  let v2802 : BitVec 32 := Scalar.muli v2801 c512_i32_1148
  let v2803 : BitVec 32 := v2802
  let v2804 : Index := Scalar.indexCast v2803
  let c0_1150 : Index := 0#32
  ![0, v2804.toNat, 0]
def k0_off442 (i : grid0.Coords) (k0_t6 : Fin (k0_t6_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2847 : Index := Scalar.indexCast v20
  let c2_i32_743 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v1744 : BitVec 32 := Scalar.muli c2_i32_743 arg26
  let c1_i32_1147 : BitVec 32 := 1#32
  let v2801 : BitVec 32 := Scalar.addi v1744 c1_i32_1147
  let c512_i32_1148 : BitVec 32 := 512#32
  let v2802 : BitVec 32 := Scalar.muli v2801 c512_i32_1148
  let v2803 : BitVec 32 := v2802
  let v2848 : Index := Scalar.indexCast v2803
  let c0_1163 : Index := 0#32
  ![v2847.toNat, v2848.toNat, 0]
def k0_mult51 (i : grid0.Coords) (k0_t6 : Fin (k0_t6_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c512_i32_1166 : BitVec 32 := 512#32
  let v2854 : BitVec 32 := Scalar.muli v2853 c512_i32_1166
  v2854
def k0_mult52 (i : grid0.Coords) (k0_t6 : Fin (k0_t6_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  v3647
def k0_off443 (i : grid0.Coords) (k0_t6 : Fin (k0_t6_loop i).trips) : Fin 3 → Nat :=
  let c0_1410 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3650 : Index := Scalar.indexCast v3648
  let c0_1411 : Index := 0#32
  ![0, v3650.toNat, 0]
def k0_off444 (i : grid0.Coords) (k0_t6 : Fin (k0_t6_loop i).trips) : Fin 3 → Nat :=
  let c1_1412 : Index := 1#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3655 : Index := Scalar.indexCast v3648
  let c0_1413 : Index := 0#32
  ![1, v3655.toNat, 0]
def k0_off445 (i : grid0.Coords) (k0_t6 : Fin (k0_t6_loop i).trips) : Fin 3 → Nat :=
  let c2_1414 : Index := 2#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3660 : Index := Scalar.indexCast v3648
  let c0_1415 : Index := 0#32
  ![2, v3660.toNat, 0]
def k0_off446 (i : grid0.Coords) (k0_t6 : Fin (k0_t6_loop i).trips) : Fin 3 → Nat :=
  let c3_1416 : Index := 3#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3665 : Index := Scalar.indexCast v3648
  let c0_1417 : Index := 0#32
  ![3, v3665.toNat, 0]
def k0_off447 (i : grid0.Coords) (k0_t6 : Fin (k0_t6_loop i).trips) : Fin 3 → Nat :=
  let c4_1418 : Index := 4#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3670 : Index := Scalar.indexCast v3648
  let c0_1419 : Index := 0#32
  ![4, v3670.toNat, 0]
def k0_off448 (i : grid0.Coords) (k0_t6 : Fin (k0_t6_loop i).trips) : Fin 3 → Nat :=
  let c5_1420 : Index := 5#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3675 : Index := Scalar.indexCast v3648
  let c0_1421 : Index := 0#32
  ![5, v3675.toNat, 0]
def k0_off449 (i : grid0.Coords) (k0_t6 : Fin (k0_t6_loop i).trips) : Fin 3 → Nat :=
  let c6_1422 : Index := 6#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3680 : Index := Scalar.indexCast v3648
  let c0_1423 : Index := 0#32
  ![6, v3680.toNat, 0]
def k0_off450 (i : grid0.Coords) (k0_t6 : Fin (k0_t6_loop i).trips) : Fin 3 → Nat :=
  let c7_1424 : Index := 7#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3685 : Index := Scalar.indexCast v3648
  let c0_1425 : Index := 0#32
  ![7, v3685.toNat, 0]
def k0_off451 (i : grid0.Coords) (k0_t6 : Fin (k0_t6_loop i).trips) : Fin 3 → Nat :=
  let c8_1426 : Index := 8#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3690 : Index := Scalar.indexCast v3648
  let c0_1427 : Index := 0#32
  ![8, v3690.toNat, 0]
def k0_off452 (i : grid0.Coords) (k0_t6 : Fin (k0_t6_loop i).trips) : Fin 3 → Nat :=
  let c9_1428 : Index := 9#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3695 : Index := Scalar.indexCast v3648
  let c0_1429 : Index := 0#32
  ![9, v3695.toNat, 0]
def k0_off453 (i : grid0.Coords) (k0_t6 : Fin (k0_t6_loop i).trips) : Fin 3 → Nat :=
  let c10_1430 : Index := 10#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3700 : Index := Scalar.indexCast v3648
  let c0_1431 : Index := 0#32
  ![10, v3700.toNat, 0]
def k0_off454 (i : grid0.Coords) (k0_t6 : Fin (k0_t6_loop i).trips) : Fin 3 → Nat :=
  let c11_1432 : Index := 11#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3705 : Index := Scalar.indexCast v3648
  let c0_1433 : Index := 0#32
  ![11, v3705.toNat, 0]
def k0_off455 (i : grid0.Coords) (k0_t6 : Fin (k0_t6_loop i).trips) : Fin 3 → Nat :=
  let c12_1434 : Index := 12#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3710 : Index := Scalar.indexCast v3648
  let c0_1435 : Index := 0#32
  ![12, v3710.toNat, 0]
def k0_off456 (i : grid0.Coords) (k0_t6 : Fin (k0_t6_loop i).trips) : Fin 3 → Nat :=
  let c13_1436 : Index := 13#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3715 : Index := Scalar.indexCast v3648
  let c0_1437 : Index := 0#32
  ![13, v3715.toNat, 0]
def k0_off457 (i : grid0.Coords) (k0_t6 : Fin (k0_t6_loop i).trips) : Fin 3 → Nat :=
  let c14_1438 : Index := 14#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3720 : Index := Scalar.indexCast v3648
  let c0_1439 : Index := 0#32
  ![14, v3720.toNat, 0]
def k0_off458 (i : grid0.Coords) (k0_t6 : Fin (k0_t6_loop i).trips) : Fin 3 → Nat :=
  let c15_1440 : Index := 15#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3725 : Index := Scalar.indexCast v3648
  let c0_1441 : Index := 0#32
  ![15, v3725.toNat, 0]
def k0_off459 (i : grid0.Coords) (k0_t6 : Fin (k0_t6_loop i).trips) : Fin 3 → Nat :=
  let c16_1442 : Index := 16#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3730 : Index := Scalar.indexCast v3648
  let c0_1443 : Index := 0#32
  ![16, v3730.toNat, 0]
def k0_off460 (i : grid0.Coords) (k0_t6 : Fin (k0_t6_loop i).trips) : Fin 3 → Nat :=
  let c17_1444 : Index := 17#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3735 : Index := Scalar.indexCast v3648
  let c0_1445 : Index := 0#32
  ![17, v3735.toNat, 0]
def k0_off461 (i : grid0.Coords) (k0_t6 : Fin (k0_t6_loop i).trips) : Fin 3 → Nat :=
  let c18_1446 : Index := 18#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3740 : Index := Scalar.indexCast v3648
  let c0_1447 : Index := 0#32
  ![18, v3740.toNat, 0]
def k0_off462 (i : grid0.Coords) (k0_t6 : Fin (k0_t6_loop i).trips) : Fin 3 → Nat :=
  let c19_1448 : Index := 19#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3745 : Index := Scalar.indexCast v3648
  let c0_1449 : Index := 0#32
  ![19, v3745.toNat, 0]
def k0_off463 (i : grid0.Coords) (k0_t6 : Fin (k0_t6_loop i).trips) : Fin 3 → Nat :=
  let c20_1450 : Index := 20#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3750 : Index := Scalar.indexCast v3648
  let c0_1451 : Index := 0#32
  ![20, v3750.toNat, 0]
def k0_off464 (i : grid0.Coords) (k0_t6 : Fin (k0_t6_loop i).trips) : Fin 3 → Nat :=
  let c21_1452 : Index := 21#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3755 : Index := Scalar.indexCast v3648
  let c0_1453 : Index := 0#32
  ![21, v3755.toNat, 0]
def k0_off465 (i : grid0.Coords) (k0_t6 : Fin (k0_t6_loop i).trips) : Fin 3 → Nat :=
  let c22_1454 : Index := 22#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3760 : Index := Scalar.indexCast v3648
  let c0_1455 : Index := 0#32
  ![22, v3760.toNat, 0]
def k0_off466 (i : grid0.Coords) (k0_t6 : Fin (k0_t6_loop i).trips) : Fin 3 → Nat :=
  let c23_1456 : Index := 23#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3765 : Index := Scalar.indexCast v3648
  let c0_1457 : Index := 0#32
  ![23, v3765.toNat, 0]
def k0_off467 (i : grid0.Coords) (k0_t6 : Fin (k0_t6_loop i).trips) : Fin 3 → Nat :=
  let c24_1458 : Index := 24#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3770 : Index := Scalar.indexCast v3648
  let c0_1459 : Index := 0#32
  ![24, v3770.toNat, 0]
def k0_off468 (i : grid0.Coords) (k0_t6 : Fin (k0_t6_loop i).trips) : Fin 3 → Nat :=
  let c25_1460 : Index := 25#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3775 : Index := Scalar.indexCast v3648
  let c0_1461 : Index := 0#32
  ![25, v3775.toNat, 0]
def k0_off469 (i : grid0.Coords) (k0_t6 : Fin (k0_t6_loop i).trips) : Fin 3 → Nat :=
  let c26_1462 : Index := 26#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3780 : Index := Scalar.indexCast v3648
  let c0_1463 : Index := 0#32
  ![26, v3780.toNat, 0]
def k0_off470 (i : grid0.Coords) (k0_t6 : Fin (k0_t6_loop i).trips) : Fin 3 → Nat :=
  let c27_1464 : Index := 27#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3785 : Index := Scalar.indexCast v3648
  let c0_1465 : Index := 0#32
  ![27, v3785.toNat, 0]
def k0_off471 (i : grid0.Coords) (k0_t6 : Fin (k0_t6_loop i).trips) : Fin 3 → Nat :=
  let c28_1466 : Index := 28#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3790 : Index := Scalar.indexCast v3648
  let c0_1467 : Index := 0#32
  ![28, v3790.toNat, 0]
def k0_off472 (i : grid0.Coords) (k0_t6 : Fin (k0_t6_loop i).trips) : Fin 3 → Nat :=
  let c29_1468 : Index := 29#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3795 : Index := Scalar.indexCast v3648
  let c0_1469 : Index := 0#32
  ![29, v3795.toNat, 0]
def k0_off473 (i : grid0.Coords) (k0_t6 : Fin (k0_t6_loop i).trips) : Fin 3 → Nat :=
  let c30_1470 : Index := 30#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3800 : Index := Scalar.indexCast v3648
  let c0_1471 : Index := 0#32
  ![30, v3800.toNat, 0]
def k0_off474 (i : grid0.Coords) (k0_t6 : Fin (k0_t6_loop i).trips) : Fin 3 → Nat :=
  let c31_1472 : Index := 31#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c16_i32_1409 : BitVec 32 := 16#32
  let v3647 : BitVec 32 := Scalar.muli v2853 c16_i32_1409
  let v3648 : BitVec 32 := v3647
  let v3805 : Index := Scalar.indexCast v3648
  let c0_1473 : Index := 0#32
  ![31, v3805.toNat, 0]
def k0_off475 (i : grid0.Coords) (k0_t6 : Fin (k0_t6_loop i).trips) (c0_i32_1480 : BitVec 32) : Fin 5 → Nat :=
  let c0_1481 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c1_i32_1474 : BitVec 32 := 1#32
  let v3809 : BitVec 32 := Scalar.subi v2853 c1_i32_1474
  let c0_i32_1475 : BitVec 32 := 0#32
  let v3810 : BitVec 32 := Scalar.maxsi v3809 c0_i32_1475
  let c4_i32_1479 : BitVec 32 := 4#32
  let v3813 : BitVec 32 := Scalar.muli v3810 c4_i32_1479
  let v3814 : BitVec 32 := Scalar.addi v3813 c0_i32_1480
  let v3815 : Index := Scalar.indexCast v3814
  let c0_1482 : Index := 0#32
  let c0_1483 : Index := 0#32
  let c0_1484 : Index := 0#32
  ![0, v3815.toNat, 0, 0, 0]
def k0_off476 (i : grid0.Coords) (k0_t6 : Fin (k0_t6_loop i).trips) (c0_i32_1515 : BitVec 32) : Fin 5 → Nat :=
  let c0_1516 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c1_i32_1474 : BitVec 32 := 1#32
  let v3809 : BitVec 32 := Scalar.subi v2853 c1_i32_1474
  let c0_i32_1475 : BitVec 32 := 0#32
  let v3810 : BitVec 32 := Scalar.maxsi v3809 c0_i32_1475
  let c4_i32_1514 : BitVec 32 := 4#32
  let v3843 : BitVec 32 := Scalar.muli v3810 c4_i32_1514
  let v3844 : BitVec 32 := Scalar.addi v3843 c0_i32_1515
  let v3845 : Index := Scalar.indexCast v3844
  let c1_1517 : Index := 1#32
  let c0_1518 : Index := 0#32
  let c0_1519 : Index := 0#32
  ![0, v3845.toNat, 1, 0, 0]
def k0_mult53 (i : grid0.Coords) (k0_t6 : Fin (k0_t6_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c512_i32_1546 : BitVec 32 := 512#32
  let v3871 : BitVec 32 := Scalar.muli v2853 c512_i32_1546
  v3871
def k0_off477 (i : grid0.Coords) (k0_t6 : Fin (k0_t6_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v3873 : Index := Scalar.indexCast v19
  let c2_i32_1164 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c512_i32_1546 : BitVec 32 := 512#32
  let v3871 : BitVec 32 := Scalar.muli v2853 c512_i32_1546
  let v3872 : BitVec 32 := v3871
  let v3874 : Index := Scalar.indexCast v3872
  let c0_1547 : Index := 0#32
  ![v3873.toNat, v3874.toNat, 0]
def k0_off478 (i : grid0.Coords) (k0_t6 : Fin (k0_t6_loop i).trips) : Fin 3 → Nat :=
  let c0_1550 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c512_i32_1546 : BitVec 32 := 512#32
  let v3871 : BitVec 32 := Scalar.muli v2853 c512_i32_1546
  let v3872 : BitVec 32 := v3871
  let v3883 : Index := Scalar.indexCast v3872
  let c0_1551 : Index := 0#32
  ![0, v3883.toNat, 0]
def k0_mult54 (i : grid0.Coords) (k0_t6 : Fin (k0_t6_loop i).trips) : BitVec 32 :=
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c1_i32_1568 : BitVec 32 := 1#32
  let v3906 : BitVec 32 := Scalar.addi v2853 c1_i32_1568
  let c512_i32_1569 : BitVec 32 := 512#32
  let v3907 : BitVec 32 := Scalar.muli v3906 c512_i32_1569
  v3907
def k0_off479 (i : grid0.Coords) (k0_t6 : Fin (k0_t6_loop i).trips) : Fin 3 → Nat :=
  let c0_1570 : Index := 0#32
  let c2_i32_1164 : BitVec 32 := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c1_i32_1568 : BitVec 32 := 1#32
  let v3906 : BitVec 32 := Scalar.addi v2853 c1_i32_1568
  let c512_i32_1569 : BitVec 32 := 512#32
  let v3907 : BitVec 32 := Scalar.muli v3906 c512_i32_1569
  let v3908 : BitVec 32 := v3907
  let v3909 : Index := Scalar.indexCast v3908
  let c0_1571 : Index := 0#32
  ![0, v3909.toNat, 0]
def k0_off480 (i : grid0.Coords) (k0_t6 : Fin (k0_t6_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v3952 : Index := Scalar.indexCast v20
  let c2_i32_1164 : BitVec 32 := 2#32
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_101 : BitVec 32 := 0#32
  let v230 : BitVec 1 := Scalar.cmpi .sgt v206 c0_i32_101
  let v231 : BitVec 32 := Scalar.extui v230
  let c0_i32_102 : BitVec 32 := 0#32
  let v232 : BitVec 1 := Scalar.cmpi .slt v206 c0_i32_102
  let v233 : BitVec 32 := Scalar.extui v232
  let v234 : BitVec 32 := Scalar.subi v231 v233
  let c4_i32_100 : BitVec 32 := 4#32
  let c0_i32_103 : BitVec 32 := 0#32
  let v235 : BitVec 1 := Scalar.cmpi .sgt c4_i32_100 c0_i32_103
  let v236 : BitVec 32 := Scalar.extui v235
  let c0_i32_104 : BitVec 32 := 0#32
  let v237 : BitVec 1 := Scalar.cmpi .slt c4_i32_100 c0_i32_104
  let v238 : BitVec 32 := Scalar.extui v237
  let v239 : BitVec 32 := Scalar.subi v236 v238
  let v240 : BitVec 1 := Scalar.cmpi .ne v234 v239
  let v241 : BitVec 32 := Scalar.remsi v206 c4_i32_100
  let c0_i32_105 : BitVec 32 := 0#32
  let v242 : BitVec 1 := Scalar.cmpi .ne v241 c0_i32_105
  let v243 : BitVec 1 := Scalar.andi v240 v242
  let v229 : BitVec 32 := Scalar.divsi v206 c4_i32_100
  let c1_i32_106 : BitVec 32 := 1#32
  let v244 : BitVec 32 := Scalar.subi v229 c1_i32_106
  let v245 : BitVec 32 := Scalar.select v243 v244 v229
  let c2_i32_107 : BitVec 32 := 2#32
  let v246 : BitVec 32 := Scalar.muli v245 c2_i32_107
  let c0_i32_109 : BitVec 32 := 0#32
  let v248 : BitVec 1 := Scalar.cmpi .sgt v206 c0_i32_109
  let v249 : BitVec 32 := Scalar.extui v248
  let c0_i32_110 : BitVec 32 := 0#32
  let v250 : BitVec 1 := Scalar.cmpi .slt v206 c0_i32_110
  let v251 : BitVec 32 := Scalar.extui v250
  let v252 : BitVec 32 := Scalar.subi v249 v251
  let c2_i32_108 : BitVec 32 := 2#32
  let c0_i32_111 : BitVec 32 := 0#32
  let v253 : BitVec 1 := Scalar.cmpi .sgt c2_i32_108 c0_i32_111
  let v254 : BitVec 32 := Scalar.extui v253
  let c0_i32_112 : BitVec 32 := 0#32
  let v255 : BitVec 1 := Scalar.cmpi .slt c2_i32_108 c0_i32_112
  let v256 : BitVec 32 := Scalar.extui v255
  let v257 : BitVec 32 := Scalar.subi v254 v256
  let v258 : BitVec 1 := Scalar.cmpi .ne v252 v257
  let v259 : BitVec 32 := Scalar.remsi v206 c2_i32_108
  let c0_i32_113 : BitVec 32 := 0#32
  let v260 : BitVec 1 := Scalar.cmpi .ne v259 c0_i32_113
  let v261 : BitVec 1 := Scalar.andi v258 v260
  let v247 : BitVec 32 := Scalar.divsi v206 c2_i32_108
  let c1_i32_114 : BitVec 32 := 1#32
  let v262 : BitVec 32 := Scalar.subi v247 c1_i32_114
  let v263 : BitVec 32 := Scalar.select v261 v262 v247
  let v264 : BitVec 32 := Scalar.subi v263 v246
  let c1_i32_116 : BitVec 32 := 1#32
  let v266 : BitVec 32 := Scalar.divsi v264 c1_i32_116
  let v267 : BitVec 32 := Scalar.muli v266 c1_i32_116
  let v268 : BitVec 32 := Scalar.addi v246 v267
  let c1_i32_118 : BitVec 32 := 1#32
  let arg26 : BitVec 32 := Scf.iv v268 c1_i32_118 k0_t6
  let v2852 : BitVec 32 := Scalar.muli c2_i32_1164 arg26
  let c1_i32_1165 : BitVec 32 := 1#32
  let v2853 : BitVec 32 := Scalar.addi v2852 c1_i32_1165
  let c1_i32_1568 : BitVec 32 := 1#32
  let v3906 : BitVec 32 := Scalar.addi v2853 c1_i32_1568
  let c512_i32_1569 : BitVec 32 := 512#32
  let v3907 : BitVec 32 := Scalar.muli v3906 c512_i32_1569
  let v3908 : BitVec 32 := v3907
  let v3953 : Index := Scalar.indexCast v3908
  let c0_1584 : Index := 0#32
  ![v3952.toNat, v3953.toNat, 0]
@[reducible] def k0_t7_loop (i : grid0.Coords) : Scf.Loop 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_129 : BitVec 32 := 1#32
  ⟨v286, v291, c1_i32_129⟩
def k0_mult55 (i : grid0.Coords) (k0_t7 : Fin (k0_t7_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c512_i32_743 : BitVec 32 := 512#32
  let v1744 : BitVec 32 := Scalar.muli arg26 c512_i32_743
  v1744
def k0_off481 (i : grid0.Coords) (k0_t7 : Fin (k0_t7_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1746 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c512_i32_743 : BitVec 32 := 512#32
  let v1744 : BitVec 32 := Scalar.muli arg26 c512_i32_743
  let v1745 : BitVec 32 := v1744
  let v1747 : Index := Scalar.indexCast v1745
  let c0_744 : Index := 0#32
  ![v1746.toNat, v1747.toNat, 0]
def k0_mult56 (i : grid0.Coords) (k0_t7 : Fin (k0_t7_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  v2537
def k0_off482 (i : grid0.Coords) (k0_t7 : Fin (k0_t7_loop i).trips) : Fin 3 → Nat :=
  let c0_987 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2540 : Index := Scalar.indexCast v2538
  let c0_988 : Index := 0#32
  ![0, v2540.toNat, 0]
def k0_off483 (i : grid0.Coords) (k0_t7 : Fin (k0_t7_loop i).trips) : Fin 3 → Nat :=
  let c1_989 : Index := 1#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2545 : Index := Scalar.indexCast v2538
  let c0_990 : Index := 0#32
  ![1, v2545.toNat, 0]
def k0_off484 (i : grid0.Coords) (k0_t7 : Fin (k0_t7_loop i).trips) : Fin 3 → Nat :=
  let c2_991 : Index := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2550 : Index := Scalar.indexCast v2538
  let c0_992 : Index := 0#32
  ![2, v2550.toNat, 0]
def k0_off485 (i : grid0.Coords) (k0_t7 : Fin (k0_t7_loop i).trips) : Fin 3 → Nat :=
  let c3_993 : Index := 3#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2555 : Index := Scalar.indexCast v2538
  let c0_994 : Index := 0#32
  ![3, v2555.toNat, 0]
def k0_off486 (i : grid0.Coords) (k0_t7 : Fin (k0_t7_loop i).trips) : Fin 3 → Nat :=
  let c4_995 : Index := 4#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2560 : Index := Scalar.indexCast v2538
  let c0_996 : Index := 0#32
  ![4, v2560.toNat, 0]
def k0_off487 (i : grid0.Coords) (k0_t7 : Fin (k0_t7_loop i).trips) : Fin 3 → Nat :=
  let c5_997 : Index := 5#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2565 : Index := Scalar.indexCast v2538
  let c0_998 : Index := 0#32
  ![5, v2565.toNat, 0]
def k0_off488 (i : grid0.Coords) (k0_t7 : Fin (k0_t7_loop i).trips) : Fin 3 → Nat :=
  let c6_999 : Index := 6#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2570 : Index := Scalar.indexCast v2538
  let c0_1000 : Index := 0#32
  ![6, v2570.toNat, 0]
def k0_off489 (i : grid0.Coords) (k0_t7 : Fin (k0_t7_loop i).trips) : Fin 3 → Nat :=
  let c7_1001 : Index := 7#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2575 : Index := Scalar.indexCast v2538
  let c0_1002 : Index := 0#32
  ![7, v2575.toNat, 0]
def k0_off490 (i : grid0.Coords) (k0_t7 : Fin (k0_t7_loop i).trips) : Fin 3 → Nat :=
  let c8_1003 : Index := 8#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2580 : Index := Scalar.indexCast v2538
  let c0_1004 : Index := 0#32
  ![8, v2580.toNat, 0]
def k0_off491 (i : grid0.Coords) (k0_t7 : Fin (k0_t7_loop i).trips) : Fin 3 → Nat :=
  let c9_1005 : Index := 9#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2585 : Index := Scalar.indexCast v2538
  let c0_1006 : Index := 0#32
  ![9, v2585.toNat, 0]
def k0_off492 (i : grid0.Coords) (k0_t7 : Fin (k0_t7_loop i).trips) : Fin 3 → Nat :=
  let c10_1007 : Index := 10#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2590 : Index := Scalar.indexCast v2538
  let c0_1008 : Index := 0#32
  ![10, v2590.toNat, 0]
def k0_off493 (i : grid0.Coords) (k0_t7 : Fin (k0_t7_loop i).trips) : Fin 3 → Nat :=
  let c11_1009 : Index := 11#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2595 : Index := Scalar.indexCast v2538
  let c0_1010 : Index := 0#32
  ![11, v2595.toNat, 0]
def k0_off494 (i : grid0.Coords) (k0_t7 : Fin (k0_t7_loop i).trips) : Fin 3 → Nat :=
  let c12_1011 : Index := 12#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2600 : Index := Scalar.indexCast v2538
  let c0_1012 : Index := 0#32
  ![12, v2600.toNat, 0]
def k0_off495 (i : grid0.Coords) (k0_t7 : Fin (k0_t7_loop i).trips) : Fin 3 → Nat :=
  let c13_1013 : Index := 13#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2605 : Index := Scalar.indexCast v2538
  let c0_1014 : Index := 0#32
  ![13, v2605.toNat, 0]
def k0_off496 (i : grid0.Coords) (k0_t7 : Fin (k0_t7_loop i).trips) : Fin 3 → Nat :=
  let c14_1015 : Index := 14#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2610 : Index := Scalar.indexCast v2538
  let c0_1016 : Index := 0#32
  ![14, v2610.toNat, 0]
def k0_off497 (i : grid0.Coords) (k0_t7 : Fin (k0_t7_loop i).trips) : Fin 3 → Nat :=
  let c15_1017 : Index := 15#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2615 : Index := Scalar.indexCast v2538
  let c0_1018 : Index := 0#32
  ![15, v2615.toNat, 0]
def k0_off498 (i : grid0.Coords) (k0_t7 : Fin (k0_t7_loop i).trips) : Fin 3 → Nat :=
  let c16_1019 : Index := 16#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2620 : Index := Scalar.indexCast v2538
  let c0_1020 : Index := 0#32
  ![16, v2620.toNat, 0]
def k0_off499 (i : grid0.Coords) (k0_t7 : Fin (k0_t7_loop i).trips) : Fin 3 → Nat :=
  let c17_1021 : Index := 17#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2625 : Index := Scalar.indexCast v2538
  let c0_1022 : Index := 0#32
  ![17, v2625.toNat, 0]
def k0_off500 (i : grid0.Coords) (k0_t7 : Fin (k0_t7_loop i).trips) : Fin 3 → Nat :=
  let c18_1023 : Index := 18#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2630 : Index := Scalar.indexCast v2538
  let c0_1024 : Index := 0#32
  ![18, v2630.toNat, 0]
def k0_off501 (i : grid0.Coords) (k0_t7 : Fin (k0_t7_loop i).trips) : Fin 3 → Nat :=
  let c19_1025 : Index := 19#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2635 : Index := Scalar.indexCast v2538
  let c0_1026 : Index := 0#32
  ![19, v2635.toNat, 0]
def k0_off502 (i : grid0.Coords) (k0_t7 : Fin (k0_t7_loop i).trips) : Fin 3 → Nat :=
  let c20_1027 : Index := 20#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2640 : Index := Scalar.indexCast v2538
  let c0_1028 : Index := 0#32
  ![20, v2640.toNat, 0]
def k0_off503 (i : grid0.Coords) (k0_t7 : Fin (k0_t7_loop i).trips) : Fin 3 → Nat :=
  let c21_1029 : Index := 21#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2645 : Index := Scalar.indexCast v2538
  let c0_1030 : Index := 0#32
  ![21, v2645.toNat, 0]
def k0_off504 (i : grid0.Coords) (k0_t7 : Fin (k0_t7_loop i).trips) : Fin 3 → Nat :=
  let c22_1031 : Index := 22#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2650 : Index := Scalar.indexCast v2538
  let c0_1032 : Index := 0#32
  ![22, v2650.toNat, 0]
def k0_off505 (i : grid0.Coords) (k0_t7 : Fin (k0_t7_loop i).trips) : Fin 3 → Nat :=
  let c23_1033 : Index := 23#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2655 : Index := Scalar.indexCast v2538
  let c0_1034 : Index := 0#32
  ![23, v2655.toNat, 0]
def k0_off506 (i : grid0.Coords) (k0_t7 : Fin (k0_t7_loop i).trips) : Fin 3 → Nat :=
  let c24_1035 : Index := 24#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2660 : Index := Scalar.indexCast v2538
  let c0_1036 : Index := 0#32
  ![24, v2660.toNat, 0]
def k0_off507 (i : grid0.Coords) (k0_t7 : Fin (k0_t7_loop i).trips) : Fin 3 → Nat :=
  let c25_1037 : Index := 25#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2665 : Index := Scalar.indexCast v2538
  let c0_1038 : Index := 0#32
  ![25, v2665.toNat, 0]
def k0_off508 (i : grid0.Coords) (k0_t7 : Fin (k0_t7_loop i).trips) : Fin 3 → Nat :=
  let c26_1039 : Index := 26#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2670 : Index := Scalar.indexCast v2538
  let c0_1040 : Index := 0#32
  ![26, v2670.toNat, 0]
def k0_off509 (i : grid0.Coords) (k0_t7 : Fin (k0_t7_loop i).trips) : Fin 3 → Nat :=
  let c27_1041 : Index := 27#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2675 : Index := Scalar.indexCast v2538
  let c0_1042 : Index := 0#32
  ![27, v2675.toNat, 0]
def k0_off510 (i : grid0.Coords) (k0_t7 : Fin (k0_t7_loop i).trips) : Fin 3 → Nat :=
  let c28_1043 : Index := 28#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2680 : Index := Scalar.indexCast v2538
  let c0_1044 : Index := 0#32
  ![28, v2680.toNat, 0]
def k0_off511 (i : grid0.Coords) (k0_t7 : Fin (k0_t7_loop i).trips) : Fin 3 → Nat :=
  let c29_1045 : Index := 29#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2685 : Index := Scalar.indexCast v2538
  let c0_1046 : Index := 0#32
  ![29, v2685.toNat, 0]
def k0_off512 (i : grid0.Coords) (k0_t7 : Fin (k0_t7_loop i).trips) : Fin 3 → Nat :=
  let c30_1047 : Index := 30#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2690 : Index := Scalar.indexCast v2538
  let c0_1048 : Index := 0#32
  ![30, v2690.toNat, 0]
def k0_off513 (i : grid0.Coords) (k0_t7 : Fin (k0_t7_loop i).trips) : Fin 3 → Nat :=
  let c31_1049 : Index := 31#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c16_i32_986 : BitVec 32 := 16#32
  let v2537 : BitVec 32 := Scalar.muli arg26 c16_i32_986
  let v2538 : BitVec 32 := v2537
  let v2695 : Index := Scalar.indexCast v2538
  let c0_1050 : Index := 0#32
  ![31, v2695.toNat, 0]
def k0_off514 (i : grid0.Coords) (k0_t7 : Fin (k0_t7_loop i).trips) (c0_i32_1060 : BitVec 32) : Fin 5 → Nat :=
  let c0_1061 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c1_i32_1054 : BitVec 32 := 1#32
  let v2701 : BitVec 32 := Scalar.subi arg26 c1_i32_1054
  let c0_i32_1055 : BitVec 32 := 0#32
  let v2702 : BitVec 32 := Scalar.maxsi v2701 c0_i32_1055
  let c4_i32_1059 : BitVec 32 := 4#32
  let v2705 : BitVec 32 := Scalar.muli v2702 c4_i32_1059
  let v2706 : BitVec 32 := Scalar.addi v2705 c0_i32_1060
  let v2707 : Index := Scalar.indexCast v2706
  let c0_1062 : Index := 0#32
  let c0_1063 : Index := 0#32
  let c0_1064 : Index := 0#32
  ![0, v2707.toNat, 0, 0, 0]
def k0_off515 (i : grid0.Coords) (k0_t7 : Fin (k0_t7_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c0_i32_1051 : BitVec 32 := 0#32
  let v2699 : BitVec 1 := Scalar.cmpi .eq arg26 c0_i32_1051
  let c2_i32_1052 : BitVec 32 := 2#32
  let c1_i32_1053 : BitVec 32 := 1#32
  let v2700 : BitVec 32 := Scalar.select v2699 c2_i32_1052 c1_i32_1053
  let v2726 : Index := Scalar.indexCast v2700
  let c0_1083 : Index := 0#32
  let c0_1084 : Index := 0#32
  let c0_1085 : Index := 0#32
  ![v2726.toNat, 0, 0, 0]
def k0_off516 (i : grid0.Coords) (k0_t7 : Fin (k0_t7_loop i).trips) (c0_i32_1094 : BitVec 32) : Fin 5 → Nat :=
  let c0_1095 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c1_i32_1054 : BitVec 32 := 1#32
  let v2701 : BitVec 32 := Scalar.subi arg26 c1_i32_1054
  let c0_i32_1055 : BitVec 32 := 0#32
  let v2702 : BitVec 32 := Scalar.maxsi v2701 c0_i32_1055
  let c4_i32_1093 : BitVec 32 := 4#32
  let v2736 : BitVec 32 := Scalar.muli v2702 c4_i32_1093
  let v2737 : BitVec 32 := Scalar.addi v2736 c0_i32_1094
  let v2738 : Index := Scalar.indexCast v2737
  let c1_1096 : Index := 1#32
  let c0_1097 : Index := 0#32
  let c0_1098 : Index := 0#32
  ![0, v2738.toNat, 1, 0, 0]
def k0_off517 (i : grid0.Coords) (k0_t7 : Fin (k0_t7_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c0_i32_1051 : BitVec 32 := 0#32
  let v2699 : BitVec 1 := Scalar.cmpi .eq arg26 c0_i32_1051
  let c2_i32_1052 : BitVec 32 := 2#32
  let c1_i32_1053 : BitVec 32 := 1#32
  let v2700 : BitVec 32 := Scalar.select v2699 c2_i32_1052 c1_i32_1053
  let v2757 : Index := Scalar.indexCast v2700
  let c1_1117 : Index := 1#32
  let c0_1118 : Index := 0#32
  let c0_1119 : Index := 0#32
  ![v2757.toNat, 1, 0, 0]
def k0_mult57 (i : grid0.Coords) (k0_t7 : Fin (k0_t7_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c512_i32_1124 : BitVec 32 := 512#32
  let v2765 : BitVec 32 := Scalar.muli arg26 c512_i32_1124
  v2765
def k0_off518 (i : grid0.Coords) (k0_t7 : Fin (k0_t7_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2767 : Index := Scalar.indexCast v19
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c512_i32_1124 : BitVec 32 := 512#32
  let v2765 : BitVec 32 := Scalar.muli arg26 c512_i32_1124
  let v2766 : BitVec 32 := v2765
  let v2768 : Index := Scalar.indexCast v2766
  let c0_1125 : Index := 0#32
  ![v2767.toNat, v2768.toNat, 0]
def k0_off519 (i : grid0.Coords) (k0_t7 : Fin (k0_t7_loop i).trips) : Fin 3 → Nat :=
  let c0_1128 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c512_i32_1124 : BitVec 32 := 512#32
  let v2765 : BitVec 32 := Scalar.muli arg26 c512_i32_1124
  let v2766 : BitVec 32 := v2765
  let v2777 : Index := Scalar.indexCast v2766
  let c0_1129 : Index := 0#32
  ![0, v2777.toNat, 0]
def k0_mult58 (i : grid0.Coords) (k0_t7 : Fin (k0_t7_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c1_i32_1146 : BitVec 32 := 1#32
  let v2800 : BitVec 32 := Scalar.addi arg26 c1_i32_1146
  let c512_i32_1147 : BitVec 32 := 512#32
  let v2801 : BitVec 32 := Scalar.muli v2800 c512_i32_1147
  v2801
def k0_off520 (i : grid0.Coords) (k0_t7 : Fin (k0_t7_loop i).trips) : Fin 3 → Nat :=
  let c0_1148 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c1_i32_1146 : BitVec 32 := 1#32
  let v2800 : BitVec 32 := Scalar.addi arg26 c1_i32_1146
  let c512_i32_1147 : BitVec 32 := 512#32
  let v2801 : BitVec 32 := Scalar.muli v2800 c512_i32_1147
  let v2802 : BitVec 32 := v2801
  let v2803 : Index := Scalar.indexCast v2802
  let c0_1149 : Index := 0#32
  ![0, v2803.toNat, 0]
def k0_off521 (i : grid0.Coords) (k0_t7 : Fin (k0_t7_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2846 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let c1_i32_129 : BitVec 32 := 1#32
  let arg26 : BitVec 32 := Scf.iv v286 c1_i32_129 k0_t7
  let c1_i32_1146 : BitVec 32 := 1#32
  let v2800 : BitVec 32 := Scalar.addi arg26 c1_i32_1146
  let c512_i32_1147 : BitVec 32 := 512#32
  let v2801 : BitVec 32 := Scalar.muli v2800 c512_i32_1147
  let v2802 : BitVec 32 := v2801
  let v2847 : Index := Scalar.indexCast v2802
  let c0_1162 : Index := 0#32
  ![v2846.toNat, v2847.toNat, 0]
@[reducible] def k0_t8_loop (i : grid0.Coords) : Scf.Loop 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let v288 : BitVec 32 := Scalar.addi v286 v287
  let c1_i32_130 : BitVec 32 := 1#32
  ⟨v291, v288, c1_i32_130⟩
def k0_mult59 (i : grid0.Coords) (k0_t8 : Fin (k0_t8_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c512_i32_743 : BitVec 32 := 512#32
  let v1744 : BitVec 32 := Scalar.muli arg26 c512_i32_743
  v1744
def k0_off522 (i : grid0.Coords) (k0_t8 : Fin (k0_t8_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1746 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c512_i32_743 : BitVec 32 := 512#32
  let v1744 : BitVec 32 := Scalar.muli arg26 c512_i32_743
  let v1745 : BitVec 32 := v1744
  let v1747 : Index := Scalar.indexCast v1745
  let c0_744 : Index := 0#32
  ![v1746.toNat, v1747.toNat, 0]
def k0_mult60 (i : grid0.Coords) (k0_t8 : Fin (k0_t8_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  v2537
def k0_off523 (i : grid0.Coords) (k0_t8 : Fin (k0_t8_loop i).trips) : Fin 3 → Nat :=
  let c0_987 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2540 : Index := Scalar.indexCast v2538
  let c0_988 : Index := 0#32
  ![0, v2540.toNat, 0]
def k0_off524 (i : grid0.Coords) (k0_t8 : Fin (k0_t8_loop i).trips) : Fin 3 → Nat :=
  let c1_989 : Index := 1#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2545 : Index := Scalar.indexCast v2538
  let c0_990 : Index := 0#32
  ![1, v2545.toNat, 0]
def k0_off525 (i : grid0.Coords) (k0_t8 : Fin (k0_t8_loop i).trips) : Fin 3 → Nat :=
  let c2_991 : Index := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2550 : Index := Scalar.indexCast v2538
  let c0_992 : Index := 0#32
  ![2, v2550.toNat, 0]
def k0_off526 (i : grid0.Coords) (k0_t8 : Fin (k0_t8_loop i).trips) : Fin 3 → Nat :=
  let c3_993 : Index := 3#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2555 : Index := Scalar.indexCast v2538
  let c0_994 : Index := 0#32
  ![3, v2555.toNat, 0]
def k0_off527 (i : grid0.Coords) (k0_t8 : Fin (k0_t8_loop i).trips) : Fin 3 → Nat :=
  let c4_995 : Index := 4#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2560 : Index := Scalar.indexCast v2538
  let c0_996 : Index := 0#32
  ![4, v2560.toNat, 0]
def k0_off528 (i : grid0.Coords) (k0_t8 : Fin (k0_t8_loop i).trips) : Fin 3 → Nat :=
  let c5_997 : Index := 5#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2565 : Index := Scalar.indexCast v2538
  let c0_998 : Index := 0#32
  ![5, v2565.toNat, 0]
def k0_off529 (i : grid0.Coords) (k0_t8 : Fin (k0_t8_loop i).trips) : Fin 3 → Nat :=
  let c6_999 : Index := 6#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2570 : Index := Scalar.indexCast v2538
  let c0_1000 : Index := 0#32
  ![6, v2570.toNat, 0]
def k0_off530 (i : grid0.Coords) (k0_t8 : Fin (k0_t8_loop i).trips) : Fin 3 → Nat :=
  let c7_1001 : Index := 7#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2575 : Index := Scalar.indexCast v2538
  let c0_1002 : Index := 0#32
  ![7, v2575.toNat, 0]
def k0_off531 (i : grid0.Coords) (k0_t8 : Fin (k0_t8_loop i).trips) : Fin 3 → Nat :=
  let c8_1003 : Index := 8#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2580 : Index := Scalar.indexCast v2538
  let c0_1004 : Index := 0#32
  ![8, v2580.toNat, 0]
def k0_off532 (i : grid0.Coords) (k0_t8 : Fin (k0_t8_loop i).trips) : Fin 3 → Nat :=
  let c9_1005 : Index := 9#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2585 : Index := Scalar.indexCast v2538
  let c0_1006 : Index := 0#32
  ![9, v2585.toNat, 0]
def k0_off533 (i : grid0.Coords) (k0_t8 : Fin (k0_t8_loop i).trips) : Fin 3 → Nat :=
  let c10_1007 : Index := 10#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2590 : Index := Scalar.indexCast v2538
  let c0_1008 : Index := 0#32
  ![10, v2590.toNat, 0]
def k0_off534 (i : grid0.Coords) (k0_t8 : Fin (k0_t8_loop i).trips) : Fin 3 → Nat :=
  let c11_1009 : Index := 11#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2595 : Index := Scalar.indexCast v2538
  let c0_1010 : Index := 0#32
  ![11, v2595.toNat, 0]
def k0_off535 (i : grid0.Coords) (k0_t8 : Fin (k0_t8_loop i).trips) : Fin 3 → Nat :=
  let c12_1011 : Index := 12#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2600 : Index := Scalar.indexCast v2538
  let c0_1012 : Index := 0#32
  ![12, v2600.toNat, 0]
def k0_off536 (i : grid0.Coords) (k0_t8 : Fin (k0_t8_loop i).trips) : Fin 3 → Nat :=
  let c13_1013 : Index := 13#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2605 : Index := Scalar.indexCast v2538
  let c0_1014 : Index := 0#32
  ![13, v2605.toNat, 0]
def k0_off537 (i : grid0.Coords) (k0_t8 : Fin (k0_t8_loop i).trips) : Fin 3 → Nat :=
  let c14_1015 : Index := 14#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2610 : Index := Scalar.indexCast v2538
  let c0_1016 : Index := 0#32
  ![14, v2610.toNat, 0]
def k0_off538 (i : grid0.Coords) (k0_t8 : Fin (k0_t8_loop i).trips) : Fin 3 → Nat :=
  let c15_1017 : Index := 15#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2615 : Index := Scalar.indexCast v2538
  let c0_1018 : Index := 0#32
  ![15, v2615.toNat, 0]
def k0_off539 (i : grid0.Coords) (k0_t8 : Fin (k0_t8_loop i).trips) : Fin 3 → Nat :=
  let c16_1019 : Index := 16#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2620 : Index := Scalar.indexCast v2538
  let c0_1020 : Index := 0#32
  ![16, v2620.toNat, 0]
def k0_off540 (i : grid0.Coords) (k0_t8 : Fin (k0_t8_loop i).trips) : Fin 3 → Nat :=
  let c17_1021 : Index := 17#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2625 : Index := Scalar.indexCast v2538
  let c0_1022 : Index := 0#32
  ![17, v2625.toNat, 0]
def k0_off541 (i : grid0.Coords) (k0_t8 : Fin (k0_t8_loop i).trips) : Fin 3 → Nat :=
  let c18_1023 : Index := 18#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2630 : Index := Scalar.indexCast v2538
  let c0_1024 : Index := 0#32
  ![18, v2630.toNat, 0]
def k0_off542 (i : grid0.Coords) (k0_t8 : Fin (k0_t8_loop i).trips) : Fin 3 → Nat :=
  let c19_1025 : Index := 19#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2635 : Index := Scalar.indexCast v2538
  let c0_1026 : Index := 0#32
  ![19, v2635.toNat, 0]
def k0_off543 (i : grid0.Coords) (k0_t8 : Fin (k0_t8_loop i).trips) : Fin 3 → Nat :=
  let c20_1027 : Index := 20#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2640 : Index := Scalar.indexCast v2538
  let c0_1028 : Index := 0#32
  ![20, v2640.toNat, 0]
def k0_off544 (i : grid0.Coords) (k0_t8 : Fin (k0_t8_loop i).trips) : Fin 3 → Nat :=
  let c21_1029 : Index := 21#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2645 : Index := Scalar.indexCast v2538
  let c0_1030 : Index := 0#32
  ![21, v2645.toNat, 0]
def k0_off545 (i : grid0.Coords) (k0_t8 : Fin (k0_t8_loop i).trips) : Fin 3 → Nat :=
  let c22_1031 : Index := 22#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2650 : Index := Scalar.indexCast v2538
  let c0_1032 : Index := 0#32
  ![22, v2650.toNat, 0]
def k0_off546 (i : grid0.Coords) (k0_t8 : Fin (k0_t8_loop i).trips) : Fin 3 → Nat :=
  let c23_1033 : Index := 23#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2655 : Index := Scalar.indexCast v2538
  let c0_1034 : Index := 0#32
  ![23, v2655.toNat, 0]
def k0_off547 (i : grid0.Coords) (k0_t8 : Fin (k0_t8_loop i).trips) : Fin 3 → Nat :=
  let c24_1035 : Index := 24#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2660 : Index := Scalar.indexCast v2538
  let c0_1036 : Index := 0#32
  ![24, v2660.toNat, 0]
def k0_off548 (i : grid0.Coords) (k0_t8 : Fin (k0_t8_loop i).trips) : Fin 3 → Nat :=
  let c25_1037 : Index := 25#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2665 : Index := Scalar.indexCast v2538
  let c0_1038 : Index := 0#32
  ![25, v2665.toNat, 0]
def k0_off549 (i : grid0.Coords) (k0_t8 : Fin (k0_t8_loop i).trips) : Fin 3 → Nat :=
  let c26_1039 : Index := 26#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2670 : Index := Scalar.indexCast v2538
  let c0_1040 : Index := 0#32
  ![26, v2670.toNat, 0]
def k0_off550 (i : grid0.Coords) (k0_t8 : Fin (k0_t8_loop i).trips) : Fin 3 → Nat :=
  let c27_1041 : Index := 27#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2675 : Index := Scalar.indexCast v2538
  let c0_1042 : Index := 0#32
  ![27, v2675.toNat, 0]
def k0_off551 (i : grid0.Coords) (k0_t8 : Fin (k0_t8_loop i).trips) : Fin 3 → Nat :=
  let c28_1043 : Index := 28#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2680 : Index := Scalar.indexCast v2538
  let c0_1044 : Index := 0#32
  ![28, v2680.toNat, 0]
def k0_off552 (i : grid0.Coords) (k0_t8 : Fin (k0_t8_loop i).trips) : Fin 3 → Nat :=
  let c29_1045 : Index := 29#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2685 : Index := Scalar.indexCast v2538
  let c0_1046 : Index := 0#32
  ![29, v2685.toNat, 0]
def k0_off553 (i : grid0.Coords) (k0_t8 : Fin (k0_t8_loop i).trips) : Fin 3 → Nat :=
  let c30_1047 : Index := 30#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2690 : Index := Scalar.indexCast v2538
  let c0_1048 : Index := 0#32
  ![30, v2690.toNat, 0]
def k0_off554 (i : grid0.Coords) (k0_t8 : Fin (k0_t8_loop i).trips) : Fin 3 → Nat :=
  let c31_1049 : Index := 31#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c16_i32_986 : BitVec 32 := 16#32
  let v2537 : BitVec 32 := Scalar.muli arg26 c16_i32_986
  let v2538 : BitVec 32 := v2537
  let v2695 : Index := Scalar.indexCast v2538
  let c0_1050 : Index := 0#32
  ![31, v2695.toNat, 0]
def k0_off555 (i : grid0.Coords) (k0_t8 : Fin (k0_t8_loop i).trips) (c0_i32_1060 : BitVec 32) : Fin 5 → Nat :=
  let c0_1061 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c1_i32_1054 : BitVec 32 := 1#32
  let v2701 : BitVec 32 := Scalar.subi arg26 c1_i32_1054
  let c0_i32_1055 : BitVec 32 := 0#32
  let v2702 : BitVec 32 := Scalar.maxsi v2701 c0_i32_1055
  let c4_i32_1059 : BitVec 32 := 4#32
  let v2705 : BitVec 32 := Scalar.muli v2702 c4_i32_1059
  let v2706 : BitVec 32 := Scalar.addi v2705 c0_i32_1060
  let v2707 : Index := Scalar.indexCast v2706
  let c0_1062 : Index := 0#32
  let c0_1063 : Index := 0#32
  let c0_1064 : Index := 0#32
  ![0, v2707.toNat, 0, 0, 0]
def k0_off556 (i : grid0.Coords) (k0_t8 : Fin (k0_t8_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c0_i32_1051 : BitVec 32 := 0#32
  let v2699 : BitVec 1 := Scalar.cmpi .eq arg26 c0_i32_1051
  let c2_i32_1052 : BitVec 32 := 2#32
  let c1_i32_1053 : BitVec 32 := 1#32
  let v2700 : BitVec 32 := Scalar.select v2699 c2_i32_1052 c1_i32_1053
  let v2726 : Index := Scalar.indexCast v2700
  let c0_1083 : Index := 0#32
  let c0_1084 : Index := 0#32
  let c0_1085 : Index := 0#32
  ![v2726.toNat, 0, 0, 0]
def k0_off557 (i : grid0.Coords) (k0_t8 : Fin (k0_t8_loop i).trips) (c0_i32_1094 : BitVec 32) : Fin 5 → Nat :=
  let c0_1095 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c1_i32_1054 : BitVec 32 := 1#32
  let v2701 : BitVec 32 := Scalar.subi arg26 c1_i32_1054
  let c0_i32_1055 : BitVec 32 := 0#32
  let v2702 : BitVec 32 := Scalar.maxsi v2701 c0_i32_1055
  let c4_i32_1093 : BitVec 32 := 4#32
  let v2736 : BitVec 32 := Scalar.muli v2702 c4_i32_1093
  let v2737 : BitVec 32 := Scalar.addi v2736 c0_i32_1094
  let v2738 : Index := Scalar.indexCast v2737
  let c1_1096 : Index := 1#32
  let c0_1097 : Index := 0#32
  let c0_1098 : Index := 0#32
  ![0, v2738.toNat, 1, 0, 0]
def k0_off558 (i : grid0.Coords) (k0_t8 : Fin (k0_t8_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c0_i32_1051 : BitVec 32 := 0#32
  let v2699 : BitVec 1 := Scalar.cmpi .eq arg26 c0_i32_1051
  let c2_i32_1052 : BitVec 32 := 2#32
  let c1_i32_1053 : BitVec 32 := 1#32
  let v2700 : BitVec 32 := Scalar.select v2699 c2_i32_1052 c1_i32_1053
  let v2757 : Index := Scalar.indexCast v2700
  let c1_1117 : Index := 1#32
  let c0_1118 : Index := 0#32
  let c0_1119 : Index := 0#32
  ![v2757.toNat, 1, 0, 0]
def k0_mult61 (i : grid0.Coords) (k0_t8 : Fin (k0_t8_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c512_i32_1124 : BitVec 32 := 512#32
  let v2765 : BitVec 32 := Scalar.muli arg26 c512_i32_1124
  v2765
def k0_off559 (i : grid0.Coords) (k0_t8 : Fin (k0_t8_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2767 : Index := Scalar.indexCast v19
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c512_i32_1124 : BitVec 32 := 512#32
  let v2765 : BitVec 32 := Scalar.muli arg26 c512_i32_1124
  let v2766 : BitVec 32 := v2765
  let v2768 : Index := Scalar.indexCast v2766
  let c0_1125 : Index := 0#32
  ![v2767.toNat, v2768.toNat, 0]
def k0_off560 (i : grid0.Coords) (k0_t8 : Fin (k0_t8_loop i).trips) : Fin 3 → Nat :=
  let c0_1128 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c512_i32_1124 : BitVec 32 := 512#32
  let v2765 : BitVec 32 := Scalar.muli arg26 c512_i32_1124
  let v2766 : BitVec 32 := v2765
  let v2777 : Index := Scalar.indexCast v2766
  let c0_1129 : Index := 0#32
  ![0, v2777.toNat, 0]
def k0_mult62 (i : grid0.Coords) (k0_t8 : Fin (k0_t8_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c1_i32_1146 : BitVec 32 := 1#32
  let v2800 : BitVec 32 := Scalar.addi arg26 c1_i32_1146
  let c512_i32_1147 : BitVec 32 := 512#32
  let v2801 : BitVec 32 := Scalar.muli v2800 c512_i32_1147
  v2801
def k0_off561 (i : grid0.Coords) (k0_t8 : Fin (k0_t8_loop i).trips) : Fin 3 → Nat :=
  let c0_1148 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c1_i32_1146 : BitVec 32 := 1#32
  let v2800 : BitVec 32 := Scalar.addi arg26 c1_i32_1146
  let c512_i32_1147 : BitVec 32 := 512#32
  let v2801 : BitVec 32 := Scalar.muli v2800 c512_i32_1147
  let v2802 : BitVec 32 := v2801
  let v2803 : Index := Scalar.indexCast v2802
  let c0_1149 : Index := 0#32
  ![0, v2803.toNat, 0]
def k0_off562 (i : grid0.Coords) (k0_t8 : Fin (k0_t8_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2846 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c0_i32_120 : BitVec 32 := 0#32
  let v270 : BitVec 1 := Scalar.cmpi .sgt v206 c0_i32_120
  let v271 : BitVec 32 := Scalar.extui v270
  let c0_i32_121 : BitVec 32 := 0#32
  let v272 : BitVec 1 := Scalar.cmpi .slt v206 c0_i32_121
  let v273 : BitVec 32 := Scalar.extui v272
  let v274 : BitVec 32 := Scalar.subi v271 v273
  let c2_i32_119 : BitVec 32 := 2#32
  let c0_i32_122 : BitVec 32 := 0#32
  let v275 : BitVec 1 := Scalar.cmpi .sgt c2_i32_119 c0_i32_122
  let v276 : BitVec 32 := Scalar.extui v275
  let c0_i32_123 : BitVec 32 := 0#32
  let v277 : BitVec 1 := Scalar.cmpi .slt c2_i32_119 c0_i32_123
  let v278 : BitVec 32 := Scalar.extui v277
  let v279 : BitVec 32 := Scalar.subi v276 v278
  let v280 : BitVec 1 := Scalar.cmpi .ne v274 v279
  let v281 : BitVec 32 := Scalar.remsi v206 c2_i32_119
  let c0_i32_124 : BitVec 32 := 0#32
  let v282 : BitVec 1 := Scalar.cmpi .ne v281 c0_i32_124
  let v283 : BitVec 1 := Scalar.andi v280 v282
  let v269 : BitVec 32 := Scalar.divsi v206 c2_i32_119
  let c1_i32_125 : BitVec 32 := 1#32
  let v284 : BitVec 32 := Scalar.subi v269 c1_i32_125
  let v285 : BitVec 32 := Scalar.select v283 v284 v269
  let c2_i32_126 : BitVec 32 := 2#32
  let v286 : BitVec 32 := Scalar.muli v285 c2_i32_126
  let v287 : BitVec 32 := Scalar.subi v206 v286
  let c1_i32_128 : BitVec 32 := 1#32
  let v289 : BitVec 32 := Scalar.divsi v287 c1_i32_128
  let v290 : BitVec 32 := Scalar.muli v289 c1_i32_128
  let v291 : BitVec 32 := Scalar.addi v286 v290
  let c1_i32_130 : BitVec 32 := 1#32
  let arg26 : BitVec 32 := Scf.iv v291 c1_i32_130 k0_t8
  let c1_i32_1146 : BitVec 32 := 1#32
  let v2800 : BitVec 32 := Scalar.addi arg26 c1_i32_1146
  let c512_i32_1147 : BitVec 32 := 512#32
  let v2801 : BitVec 32 := Scalar.muli v2800 c512_i32_1147
  let v2802 : BitVec 32 := v2801
  let v2847 : Index := Scalar.indexCast v2802
  let c0_1162 : Index := 0#32
  ![v2846.toNat, v2847.toNat, 0]
@[reducible] def k0_t9_loop (i : grid0.Coords) : Scf.Loop 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_134 : BitVec 32 := 1#32
  ⟨v206, v297, c1_i32_134⟩
def k0_mult63 (i : grid0.Coords) (k0_t9 : Fin (k0_t9_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c512_i32_743 : BitVec 32 := 512#32
  let v1744 : BitVec 32 := Scalar.muli arg26 c512_i32_743
  v1744
def k0_off563 (i : grid0.Coords) (k0_t9 : Fin (k0_t9_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1746 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c512_i32_743 : BitVec 32 := 512#32
  let v1744 : BitVec 32 := Scalar.muli arg26 c512_i32_743
  let v1745 : BitVec 32 := v1744
  let v1747 : Index := Scalar.indexCast v1745
  let c0_744 : Index := 0#32
  ![v1746.toNat, v1747.toNat, 0]
def k0_mult64 (i : grid0.Coords) (k0_t9 : Fin (k0_t9_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  v2537
def k0_off564 (i : grid0.Coords) (k0_t9 : Fin (k0_t9_loop i).trips) : Fin 3 → Nat :=
  let c0_987 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2540 : Index := Scalar.indexCast v2538
  let c0_988 : Index := 0#32
  ![0, v2540.toNat, 0]
def k0_off565 (i : grid0.Coords) (k0_t9 : Fin (k0_t9_loop i).trips) : Fin 3 → Nat :=
  let c1_989 : Index := 1#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2545 : Index := Scalar.indexCast v2538
  let c0_990 : Index := 0#32
  ![1, v2545.toNat, 0]
def k0_off566 (i : grid0.Coords) (k0_t9 : Fin (k0_t9_loop i).trips) : Fin 3 → Nat :=
  let c2_991 : Index := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2550 : Index := Scalar.indexCast v2538
  let c0_992 : Index := 0#32
  ![2, v2550.toNat, 0]
def k0_off567 (i : grid0.Coords) (k0_t9 : Fin (k0_t9_loop i).trips) : Fin 3 → Nat :=
  let c3_993 : Index := 3#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2555 : Index := Scalar.indexCast v2538
  let c0_994 : Index := 0#32
  ![3, v2555.toNat, 0]
def k0_off568 (i : grid0.Coords) (k0_t9 : Fin (k0_t9_loop i).trips) : Fin 3 → Nat :=
  let c4_995 : Index := 4#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2560 : Index := Scalar.indexCast v2538
  let c0_996 : Index := 0#32
  ![4, v2560.toNat, 0]
def k0_off569 (i : grid0.Coords) (k0_t9 : Fin (k0_t9_loop i).trips) : Fin 3 → Nat :=
  let c5_997 : Index := 5#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2565 : Index := Scalar.indexCast v2538
  let c0_998 : Index := 0#32
  ![5, v2565.toNat, 0]
def k0_off570 (i : grid0.Coords) (k0_t9 : Fin (k0_t9_loop i).trips) : Fin 3 → Nat :=
  let c6_999 : Index := 6#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2570 : Index := Scalar.indexCast v2538
  let c0_1000 : Index := 0#32
  ![6, v2570.toNat, 0]
def k0_off571 (i : grid0.Coords) (k0_t9 : Fin (k0_t9_loop i).trips) : Fin 3 → Nat :=
  let c7_1001 : Index := 7#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2575 : Index := Scalar.indexCast v2538
  let c0_1002 : Index := 0#32
  ![7, v2575.toNat, 0]
def k0_off572 (i : grid0.Coords) (k0_t9 : Fin (k0_t9_loop i).trips) : Fin 3 → Nat :=
  let c8_1003 : Index := 8#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2580 : Index := Scalar.indexCast v2538
  let c0_1004 : Index := 0#32
  ![8, v2580.toNat, 0]
def k0_off573 (i : grid0.Coords) (k0_t9 : Fin (k0_t9_loop i).trips) : Fin 3 → Nat :=
  let c9_1005 : Index := 9#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2585 : Index := Scalar.indexCast v2538
  let c0_1006 : Index := 0#32
  ![9, v2585.toNat, 0]
def k0_off574 (i : grid0.Coords) (k0_t9 : Fin (k0_t9_loop i).trips) : Fin 3 → Nat :=
  let c10_1007 : Index := 10#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2590 : Index := Scalar.indexCast v2538
  let c0_1008 : Index := 0#32
  ![10, v2590.toNat, 0]
def k0_off575 (i : grid0.Coords) (k0_t9 : Fin (k0_t9_loop i).trips) : Fin 3 → Nat :=
  let c11_1009 : Index := 11#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2595 : Index := Scalar.indexCast v2538
  let c0_1010 : Index := 0#32
  ![11, v2595.toNat, 0]
def k0_off576 (i : grid0.Coords) (k0_t9 : Fin (k0_t9_loop i).trips) : Fin 3 → Nat :=
  let c12_1011 : Index := 12#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2600 : Index := Scalar.indexCast v2538
  let c0_1012 : Index := 0#32
  ![12, v2600.toNat, 0]
def k0_off577 (i : grid0.Coords) (k0_t9 : Fin (k0_t9_loop i).trips) : Fin 3 → Nat :=
  let c13_1013 : Index := 13#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2605 : Index := Scalar.indexCast v2538
  let c0_1014 : Index := 0#32
  ![13, v2605.toNat, 0]
def k0_off578 (i : grid0.Coords) (k0_t9 : Fin (k0_t9_loop i).trips) : Fin 3 → Nat :=
  let c14_1015 : Index := 14#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2610 : Index := Scalar.indexCast v2538
  let c0_1016 : Index := 0#32
  ![14, v2610.toNat, 0]
def k0_off579 (i : grid0.Coords) (k0_t9 : Fin (k0_t9_loop i).trips) : Fin 3 → Nat :=
  let c15_1017 : Index := 15#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2615 : Index := Scalar.indexCast v2538
  let c0_1018 : Index := 0#32
  ![15, v2615.toNat, 0]
def k0_off580 (i : grid0.Coords) (k0_t9 : Fin (k0_t9_loop i).trips) : Fin 3 → Nat :=
  let c16_1019 : Index := 16#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2620 : Index := Scalar.indexCast v2538
  let c0_1020 : Index := 0#32
  ![16, v2620.toNat, 0]
def k0_off581 (i : grid0.Coords) (k0_t9 : Fin (k0_t9_loop i).trips) : Fin 3 → Nat :=
  let c17_1021 : Index := 17#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2625 : Index := Scalar.indexCast v2538
  let c0_1022 : Index := 0#32
  ![17, v2625.toNat, 0]
def k0_off582 (i : grid0.Coords) (k0_t9 : Fin (k0_t9_loop i).trips) : Fin 3 → Nat :=
  let c18_1023 : Index := 18#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2630 : Index := Scalar.indexCast v2538
  let c0_1024 : Index := 0#32
  ![18, v2630.toNat, 0]
def k0_off583 (i : grid0.Coords) (k0_t9 : Fin (k0_t9_loop i).trips) : Fin 3 → Nat :=
  let c19_1025 : Index := 19#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2635 : Index := Scalar.indexCast v2538
  let c0_1026 : Index := 0#32
  ![19, v2635.toNat, 0]
def k0_off584 (i : grid0.Coords) (k0_t9 : Fin (k0_t9_loop i).trips) : Fin 3 → Nat :=
  let c20_1027 : Index := 20#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2640 : Index := Scalar.indexCast v2538
  let c0_1028 : Index := 0#32
  ![20, v2640.toNat, 0]
def k0_off585 (i : grid0.Coords) (k0_t9 : Fin (k0_t9_loop i).trips) : Fin 3 → Nat :=
  let c21_1029 : Index := 21#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2645 : Index := Scalar.indexCast v2538
  let c0_1030 : Index := 0#32
  ![21, v2645.toNat, 0]
def k0_off586 (i : grid0.Coords) (k0_t9 : Fin (k0_t9_loop i).trips) : Fin 3 → Nat :=
  let c22_1031 : Index := 22#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2650 : Index := Scalar.indexCast v2538
  let c0_1032 : Index := 0#32
  ![22, v2650.toNat, 0]
def k0_off587 (i : grid0.Coords) (k0_t9 : Fin (k0_t9_loop i).trips) : Fin 3 → Nat :=
  let c23_1033 : Index := 23#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2655 : Index := Scalar.indexCast v2538
  let c0_1034 : Index := 0#32
  ![23, v2655.toNat, 0]
def k0_off588 (i : grid0.Coords) (k0_t9 : Fin (k0_t9_loop i).trips) : Fin 3 → Nat :=
  let c24_1035 : Index := 24#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2660 : Index := Scalar.indexCast v2538
  let c0_1036 : Index := 0#32
  ![24, v2660.toNat, 0]
def k0_off589 (i : grid0.Coords) (k0_t9 : Fin (k0_t9_loop i).trips) : Fin 3 → Nat :=
  let c25_1037 : Index := 25#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2665 : Index := Scalar.indexCast v2538
  let c0_1038 : Index := 0#32
  ![25, v2665.toNat, 0]
def k0_off590 (i : grid0.Coords) (k0_t9 : Fin (k0_t9_loop i).trips) : Fin 3 → Nat :=
  let c26_1039 : Index := 26#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2670 : Index := Scalar.indexCast v2538
  let c0_1040 : Index := 0#32
  ![26, v2670.toNat, 0]
def k0_off591 (i : grid0.Coords) (k0_t9 : Fin (k0_t9_loop i).trips) : Fin 3 → Nat :=
  let c27_1041 : Index := 27#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2675 : Index := Scalar.indexCast v2538
  let c0_1042 : Index := 0#32
  ![27, v2675.toNat, 0]
def k0_off592 (i : grid0.Coords) (k0_t9 : Fin (k0_t9_loop i).trips) : Fin 3 → Nat :=
  let c28_1043 : Index := 28#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2680 : Index := Scalar.indexCast v2538
  let c0_1044 : Index := 0#32
  ![28, v2680.toNat, 0]
def k0_off593 (i : grid0.Coords) (k0_t9 : Fin (k0_t9_loop i).trips) : Fin 3 → Nat :=
  let c29_1045 : Index := 29#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2685 : Index := Scalar.indexCast v2538
  let c0_1046 : Index := 0#32
  ![29, v2685.toNat, 0]
def k0_off594 (i : grid0.Coords) (k0_t9 : Fin (k0_t9_loop i).trips) : Fin 3 → Nat :=
  let c30_1047 : Index := 30#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2690 : Index := Scalar.indexCast v2538
  let c0_1048 : Index := 0#32
  ![30, v2690.toNat, 0]
def k0_off595 (i : grid0.Coords) (k0_t9 : Fin (k0_t9_loop i).trips) : Fin 3 → Nat :=
  let c31_1049 : Index := 31#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c16_i32_986 : BitVec 32 := 16#32
  let v2537 : BitVec 32 := Scalar.muli arg26 c16_i32_986
  let v2538 : BitVec 32 := v2537
  let v2695 : Index := Scalar.indexCast v2538
  let c0_1050 : Index := 0#32
  ![31, v2695.toNat, 0]
def k0_off596 (i : grid0.Coords) (k0_t9 : Fin (k0_t9_loop i).trips) (c0_i32_1072 : BitVec 32) : Fin 5 → Nat :=
  let c0_1073 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c1_i32_1066 : BitVec 32 := 1#32
  let v2722 : BitVec 32 := Scalar.subi arg26 c1_i32_1066
  let c0_i32_1067 : BitVec 32 := 0#32
  let v2723 : BitVec 32 := Scalar.maxsi v2722 c0_i32_1067
  let c4_i32_1071 : BitVec 32 := 4#32
  let v2726 : BitVec 32 := Scalar.muli v2723 c4_i32_1071
  let v2727 : BitVec 32 := Scalar.addi v2726 c0_i32_1072
  let v2728 : Index := Scalar.indexCast v2727
  let c0_1074 : Index := 0#32
  let c0_1075 : Index := 0#32
  let c0_1076 : Index := 0#32
  ![0, v2728.toNat, 0, 0, 0]
def k0_off597 (i : grid0.Coords) (k0_t9 : Fin (k0_t9_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c0_i32_1064 : BitVec 32 := 0#32
  let v2720 : BitVec 1 := Scalar.cmpi .eq arg26 c0_i32_1064
  let c2_i32_1065 : BitVec 32 := 2#32
  let c1_i32_1051 : BitVec 32 := 1#32
  let v2699 : BitVec 32 := Scalar.addi arg26 c1_i32_1051
  let c2_i32_1052 : BitVec 32 := 2#32
  let c0_i32_1053 : BitVec 32 := 0#32
  let v2700 : BitVec 1 := Scalar.cmpi .eq c2_i32_1052 c0_i32_1053
  let c1_i32_1054 : BitVec 32 := 1#32
  let v2701 : BitVec 32 := Scalar.select v2700 c1_i32_1054 c2_i32_1052
  let v2702 : BitVec 32 := Scalar.remsi v2699 v2701
  let c0_i32_1056 : BitVec 32 := 0#32
  let v2704 : BitVec 1 := Scalar.cmpi .slt v2702 c0_i32_1056
  let c0_i32_1057 : BitVec 32 := 0#32
  let v2705 : BitVec 1 := Scalar.cmpi .slt v2701 c0_i32_1057
  let v2706 : BitVec 1 := Scalar.xori v2704 v2705
  let c0_i32_1055 : BitVec 32 := 0#32
  let v2703 : BitVec 1 := Scalar.cmpi .ne v2702 c0_i32_1055
  let v2707 : BitVec 1 := Scalar.andi v2706 v2703
  let v2708 : BitVec 32 := Scalar.addi v2702 v2701
  let v2709 : BitVec 32 := Scalar.select v2707 v2708 v2702
  let v2721 : BitVec 32 := Scalar.select v2720 c2_i32_1065 v2709
  let v2747 : Index := Scalar.indexCast v2721
  let c0_1095 : Index := 0#32
  let c0_1096 : Index := 0#32
  let c0_1097 : Index := 0#32
  ![v2747.toNat, 0, 0, 0]
def k0_off598 (i : grid0.Coords) (k0_t9 : Fin (k0_t9_loop i).trips) (c0_i32_1106 : BitVec 32) : Fin 5 → Nat :=
  let c0_1107 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c1_i32_1066 : BitVec 32 := 1#32
  let v2722 : BitVec 32 := Scalar.subi arg26 c1_i32_1066
  let c0_i32_1067 : BitVec 32 := 0#32
  let v2723 : BitVec 32 := Scalar.maxsi v2722 c0_i32_1067
  let c4_i32_1105 : BitVec 32 := 4#32
  let v2757 : BitVec 32 := Scalar.muli v2723 c4_i32_1105
  let v2758 : BitVec 32 := Scalar.addi v2757 c0_i32_1106
  let v2759 : Index := Scalar.indexCast v2758
  let c1_1108 : Index := 1#32
  let c0_1109 : Index := 0#32
  let c0_1110 : Index := 0#32
  ![0, v2759.toNat, 1, 0, 0]
def k0_off599 (i : grid0.Coords) (k0_t9 : Fin (k0_t9_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c0_i32_1064 : BitVec 32 := 0#32
  let v2720 : BitVec 1 := Scalar.cmpi .eq arg26 c0_i32_1064
  let c2_i32_1065 : BitVec 32 := 2#32
  let c1_i32_1051 : BitVec 32 := 1#32
  let v2699 : BitVec 32 := Scalar.addi arg26 c1_i32_1051
  let c2_i32_1052 : BitVec 32 := 2#32
  let c0_i32_1053 : BitVec 32 := 0#32
  let v2700 : BitVec 1 := Scalar.cmpi .eq c2_i32_1052 c0_i32_1053
  let c1_i32_1054 : BitVec 32 := 1#32
  let v2701 : BitVec 32 := Scalar.select v2700 c1_i32_1054 c2_i32_1052
  let v2702 : BitVec 32 := Scalar.remsi v2699 v2701
  let c0_i32_1056 : BitVec 32 := 0#32
  let v2704 : BitVec 1 := Scalar.cmpi .slt v2702 c0_i32_1056
  let c0_i32_1057 : BitVec 32 := 0#32
  let v2705 : BitVec 1 := Scalar.cmpi .slt v2701 c0_i32_1057
  let v2706 : BitVec 1 := Scalar.xori v2704 v2705
  let c0_i32_1055 : BitVec 32 := 0#32
  let v2703 : BitVec 1 := Scalar.cmpi .ne v2702 c0_i32_1055
  let v2707 : BitVec 1 := Scalar.andi v2706 v2703
  let v2708 : BitVec 32 := Scalar.addi v2702 v2701
  let v2709 : BitVec 32 := Scalar.select v2707 v2708 v2702
  let v2721 : BitVec 32 := Scalar.select v2720 c2_i32_1065 v2709
  let v2778 : Index := Scalar.indexCast v2721
  let c1_1129 : Index := 1#32
  let c0_1130 : Index := 0#32
  let c0_1131 : Index := 0#32
  ![v2778.toNat, 1, 0, 0]
def k0_mult65 (i : grid0.Coords) (k0_t9 : Fin (k0_t9_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c512_i32_1136 : BitVec 32 := 512#32
  let v2786 : BitVec 32 := Scalar.muli arg26 c512_i32_1136
  v2786
def k0_off600 (i : grid0.Coords) (k0_t9 : Fin (k0_t9_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2788 : Index := Scalar.indexCast v19
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c512_i32_1136 : BitVec 32 := 512#32
  let v2786 : BitVec 32 := Scalar.muli arg26 c512_i32_1136
  let v2787 : BitVec 32 := v2786
  let v2789 : Index := Scalar.indexCast v2787
  let c0_1137 : Index := 0#32
  ![v2788.toNat, v2789.toNat, 0]
def k0_off601 (i : grid0.Coords) (k0_t9 : Fin (k0_t9_loop i).trips) : Fin 3 → Nat :=
  let c0_1141 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c512_i32_1136 : BitVec 32 := 512#32
  let v2786 : BitVec 32 := Scalar.muli arg26 c512_i32_1136
  let v2787 : BitVec 32 := v2786
  let v2805 : Index := Scalar.indexCast v2787
  let c0_1142 : Index := 0#32
  ![0, v2805.toNat, 0]
def k0_off602 (i : grid0.Coords) (k0_t9 : Fin (k0_t9_loop i).trips) (c0_i32_1148 : BitVec 32) : Fin 4 → Nat :=
  let c2_i32_1150 : BitVec 32 := 2#32
  let c0_i32_1149 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c4_i32_1147 : BitVec 32 := 4#32
  let v2812 : BitVec 32 := Scalar.muli arg26 c4_i32_1147
  let v2813 : BitVec 32 := Scalar.addi v2812 c0_i32_1148
  let v2814 : BitVec 32 := Scalar.subi arg1 v2813
  let v2815 : BitVec 32 := Scalar.maxsi c0_i32_1149 v2814
  let v2816 : BitVec 32 := Scalar.minsi c2_i32_1150 v2815
  let v2817 : Index := Scalar.indexCast v2816
  let c0_1151 : Index := 0#32
  let c0_1152 : Index := 0#32
  let c0_1153 : Index := 0#32
  ![v2817.toNat, 0, 0, 0]
def k0_off603 (i : grid0.Coords) (k0_t9 : Fin (k0_t9_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c2_i32_1058 : BitVec 32 := 2#32
  let c0_i32_1059 : BitVec 32 := 0#32
  let v2710 : BitVec 1 := Scalar.cmpi .eq c2_i32_1058 c0_i32_1059
  let c1_i32_1060 : BitVec 32 := 1#32
  let v2711 : BitVec 32 := Scalar.select v2710 c1_i32_1060 c2_i32_1058
  let v2712 : BitVec 32 := Scalar.remsi arg26 v2711
  let c0_i32_1062 : BitVec 32 := 0#32
  let v2714 : BitVec 1 := Scalar.cmpi .slt v2712 c0_i32_1062
  let c0_i32_1063 : BitVec 32 := 0#32
  let v2715 : BitVec 1 := Scalar.cmpi .slt v2711 c0_i32_1063
  let v2716 : BitVec 1 := Scalar.xori v2714 v2715
  let c0_i32_1061 : BitVec 32 := 0#32
  let v2713 : BitVec 1 := Scalar.cmpi .ne v2712 c0_i32_1061
  let v2717 : BitVec 1 := Scalar.andi v2716 v2713
  let v2718 : BitVec 32 := Scalar.addi v2712 v2711
  let v2719 : BitVec 32 := Scalar.select v2717 v2718 v2712
  let v2849 : Index := Scalar.indexCast v2719
  let c0_1175 : Index := 0#32
  let c0_1176 : Index := 0#32
  let c0_1177 : Index := 0#32
  ![v2849.toNat, 0, 0, 0]
def k0_off604 (i : grid0.Coords) (k0_t9 : Fin (k0_t9_loop i).trips) (c0_i32_1183 : BitVec 32) : Fin 4 → Nat :=
  let c2_i32_1185 : BitVec 32 := 2#32
  let c0_i32_1184 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c4_i32_1182 : BitVec 32 := 4#32
  let v2857 : BitVec 32 := Scalar.muli arg26 c4_i32_1182
  let v2858 : BitVec 32 := Scalar.addi v2857 c0_i32_1183
  let v2859 : BitVec 32 := Scalar.subi arg1 v2858
  let v2860 : BitVec 32 := Scalar.maxsi c0_i32_1184 v2859
  let v2861 : BitVec 32 := Scalar.minsi c2_i32_1185 v2860
  let v2862 : Index := Scalar.indexCast v2861
  let c1_1186 : Index := 1#32
  let c0_1187 : Index := 0#32
  let c0_1188 : Index := 0#32
  ![v2862.toNat, 1, 0, 0]
def k0_off605 (i : grid0.Coords) (k0_t9 : Fin (k0_t9_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c2_i32_1058 : BitVec 32 := 2#32
  let c0_i32_1059 : BitVec 32 := 0#32
  let v2710 : BitVec 1 := Scalar.cmpi .eq c2_i32_1058 c0_i32_1059
  let c1_i32_1060 : BitVec 32 := 1#32
  let v2711 : BitVec 32 := Scalar.select v2710 c1_i32_1060 c2_i32_1058
  let v2712 : BitVec 32 := Scalar.remsi arg26 v2711
  let c0_i32_1062 : BitVec 32 := 0#32
  let v2714 : BitVec 1 := Scalar.cmpi .slt v2712 c0_i32_1062
  let c0_i32_1063 : BitVec 32 := 0#32
  let v2715 : BitVec 1 := Scalar.cmpi .slt v2711 c0_i32_1063
  let v2716 : BitVec 1 := Scalar.xori v2714 v2715
  let c0_i32_1061 : BitVec 32 := 0#32
  let v2713 : BitVec 1 := Scalar.cmpi .ne v2712 c0_i32_1061
  let v2717 : BitVec 1 := Scalar.andi v2716 v2713
  let v2718 : BitVec 32 := Scalar.addi v2712 v2711
  let v2719 : BitVec 32 := Scalar.select v2717 v2718 v2712
  let v2894 : Index := Scalar.indexCast v2719
  let c1_1210 : Index := 1#32
  let c0_1211 : Index := 0#32
  let c0_1212 : Index := 0#32
  ![v2894.toNat, 1, 0, 0]
def k0_mult66 (i : grid0.Coords) (k0_t9 : Fin (k0_t9_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c1_i32_1213 : BitVec 32 := 1#32
  let v2898 : BitVec 32 := Scalar.addi arg26 c1_i32_1213
  let c512_i32_1214 : BitVec 32 := 512#32
  let v2899 : BitVec 32 := Scalar.muli v2898 c512_i32_1214
  v2899
def k0_off606 (i : grid0.Coords) (k0_t9 : Fin (k0_t9_loop i).trips) : Fin 3 → Nat :=
  let c0_1215 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c1_i32_1213 : BitVec 32 := 1#32
  let v2898 : BitVec 32 := Scalar.addi arg26 c1_i32_1213
  let c512_i32_1214 : BitVec 32 := 512#32
  let v2899 : BitVec 32 := Scalar.muli v2898 c512_i32_1214
  let v2900 : BitVec 32 := v2899
  let v2901 : Index := Scalar.indexCast v2900
  let c0_1216 : Index := 0#32
  ![0, v2901.toNat, 0]
def k0_off607 (i : grid0.Coords) (k0_t9 : Fin (k0_t9_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2944 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c1_i32_134 : BitVec 32 := 1#32
  let arg26 : BitVec 32 := Scf.iv v206 c1_i32_134 k0_t9
  let c1_i32_1213 : BitVec 32 := 1#32
  let v2898 : BitVec 32 := Scalar.addi arg26 c1_i32_1213
  let c512_i32_1214 : BitVec 32 := 512#32
  let v2899 : BitVec 32 := Scalar.muli v2898 c512_i32_1214
  let v2900 : BitVec 32 := v2899
  let v2945 : Index := Scalar.indexCast v2900
  let c0_1229 : Index := 0#32
  ![v2944.toNat, v2945.toNat, 0]
@[reducible] def k0_t10_loop (i : grid0.Coords) : Scf.Loop 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let v294 : BitVec 32 := Scalar.addi v206 v293
  let c1_i32_135 : BitVec 32 := 1#32
  ⟨v297, v294, c1_i32_135⟩
def k0_mult67 (i : grid0.Coords) (k0_t10 : Fin (k0_t10_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c512_i32_743 : BitVec 32 := 512#32
  let v1744 : BitVec 32 := Scalar.muli arg26 c512_i32_743
  v1744
def k0_off608 (i : grid0.Coords) (k0_t10 : Fin (k0_t10_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1746 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c512_i32_743 : BitVec 32 := 512#32
  let v1744 : BitVec 32 := Scalar.muli arg26 c512_i32_743
  let v1745 : BitVec 32 := v1744
  let v1747 : Index := Scalar.indexCast v1745
  let c0_744 : Index := 0#32
  ![v1746.toNat, v1747.toNat, 0]
def k0_mult68 (i : grid0.Coords) (k0_t10 : Fin (k0_t10_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  v2537
def k0_off609 (i : grid0.Coords) (k0_t10 : Fin (k0_t10_loop i).trips) : Fin 3 → Nat :=
  let c0_987 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2540 : Index := Scalar.indexCast v2538
  let c0_988 : Index := 0#32
  ![0, v2540.toNat, 0]
def k0_off610 (i : grid0.Coords) (k0_t10 : Fin (k0_t10_loop i).trips) : Fin 3 → Nat :=
  let c1_989 : Index := 1#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2545 : Index := Scalar.indexCast v2538
  let c0_990 : Index := 0#32
  ![1, v2545.toNat, 0]

variable {F : FTy → Type} [BitOps F]

def k0_off611 (i : grid0.Coords) (k0_t10 : Fin (k0_t10_loop i).trips) : Fin 3 → Nat :=
  let c2_991 : Index := 2#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2550 : Index := Scalar.indexCast v2538
  let c0_992 : Index := 0#32
  ![2, v2550.toNat, 0]
def k0_off612 (i : grid0.Coords) (k0_t10 : Fin (k0_t10_loop i).trips) : Fin 3 → Nat :=
  let c3_993 : Index := 3#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2555 : Index := Scalar.indexCast v2538
  let c0_994 : Index := 0#32
  ![3, v2555.toNat, 0]
def k0_off613 (i : grid0.Coords) (k0_t10 : Fin (k0_t10_loop i).trips) : Fin 3 → Nat :=
  let c4_995 : Index := 4#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2560 : Index := Scalar.indexCast v2538
  let c0_996 : Index := 0#32
  ![4, v2560.toNat, 0]
def k0_off614 (i : grid0.Coords) (k0_t10 : Fin (k0_t10_loop i).trips) : Fin 3 → Nat :=
  let c5_997 : Index := 5#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2565 : Index := Scalar.indexCast v2538
  let c0_998 : Index := 0#32
  ![5, v2565.toNat, 0]
def k0_off615 (i : grid0.Coords) (k0_t10 : Fin (k0_t10_loop i).trips) : Fin 3 → Nat :=
  let c6_999 : Index := 6#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2570 : Index := Scalar.indexCast v2538
  let c0_1000 : Index := 0#32
  ![6, v2570.toNat, 0]
def k0_off616 (i : grid0.Coords) (k0_t10 : Fin (k0_t10_loop i).trips) : Fin 3 → Nat :=
  let c7_1001 : Index := 7#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2575 : Index := Scalar.indexCast v2538
  let c0_1002 : Index := 0#32
  ![7, v2575.toNat, 0]
def k0_off617 (i : grid0.Coords) (k0_t10 : Fin (k0_t10_loop i).trips) : Fin 3 → Nat :=
  let c8_1003 : Index := 8#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2580 : Index := Scalar.indexCast v2538
  let c0_1004 : Index := 0#32
  ![8, v2580.toNat, 0]
def k0_off618 (i : grid0.Coords) (k0_t10 : Fin (k0_t10_loop i).trips) : Fin 3 → Nat :=
  let c9_1005 : Index := 9#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2585 : Index := Scalar.indexCast v2538
  let c0_1006 : Index := 0#32
  ![9, v2585.toNat, 0]
def k0_off619 (i : grid0.Coords) (k0_t10 : Fin (k0_t10_loop i).trips) : Fin 3 → Nat :=
  let c10_1007 : Index := 10#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2590 : Index := Scalar.indexCast v2538
  let c0_1008 : Index := 0#32
  ![10, v2590.toNat, 0]
def k0_off620 (i : grid0.Coords) (k0_t10 : Fin (k0_t10_loop i).trips) : Fin 3 → Nat :=
  let c11_1009 : Index := 11#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2595 : Index := Scalar.indexCast v2538
  let c0_1010 : Index := 0#32
  ![11, v2595.toNat, 0]
def k0_off621 (i : grid0.Coords) (k0_t10 : Fin (k0_t10_loop i).trips) : Fin 3 → Nat :=
  let c12_1011 : Index := 12#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2600 : Index := Scalar.indexCast v2538
  let c0_1012 : Index := 0#32
  ![12, v2600.toNat, 0]
def k0_off622 (i : grid0.Coords) (k0_t10 : Fin (k0_t10_loop i).trips) : Fin 3 → Nat :=
  let c13_1013 : Index := 13#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2605 : Index := Scalar.indexCast v2538
  let c0_1014 : Index := 0#32
  ![13, v2605.toNat, 0]
def k0_off623 (i : grid0.Coords) (k0_t10 : Fin (k0_t10_loop i).trips) : Fin 3 → Nat :=
  let c14_1015 : Index := 14#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2610 : Index := Scalar.indexCast v2538
  let c0_1016 : Index := 0#32
  ![14, v2610.toNat, 0]
def k0_off624 (i : grid0.Coords) (k0_t10 : Fin (k0_t10_loop i).trips) : Fin 3 → Nat :=
  let c15_1017 : Index := 15#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2615 : Index := Scalar.indexCast v2538
  let c0_1018 : Index := 0#32
  ![15, v2615.toNat, 0]
def k0_off625 (i : grid0.Coords) (k0_t10 : Fin (k0_t10_loop i).trips) : Fin 3 → Nat :=
  let c16_1019 : Index := 16#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2620 : Index := Scalar.indexCast v2538
  let c0_1020 : Index := 0#32
  ![16, v2620.toNat, 0]
def k0_off626 (i : grid0.Coords) (k0_t10 : Fin (k0_t10_loop i).trips) : Fin 3 → Nat :=
  let c17_1021 : Index := 17#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2625 : Index := Scalar.indexCast v2538
  let c0_1022 : Index := 0#32
  ![17, v2625.toNat, 0]
def k0_off627 (i : grid0.Coords) (k0_t10 : Fin (k0_t10_loop i).trips) : Fin 3 → Nat :=
  let c18_1023 : Index := 18#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2630 : Index := Scalar.indexCast v2538
  let c0_1024 : Index := 0#32
  ![18, v2630.toNat, 0]
def k0_off628 (i : grid0.Coords) (k0_t10 : Fin (k0_t10_loop i).trips) : Fin 3 → Nat :=
  let c19_1025 : Index := 19#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2635 : Index := Scalar.indexCast v2538
  let c0_1026 : Index := 0#32
  ![19, v2635.toNat, 0]
def k0_off629 (i : grid0.Coords) (k0_t10 : Fin (k0_t10_loop i).trips) : Fin 3 → Nat :=
  let c20_1027 : Index := 20#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2640 : Index := Scalar.indexCast v2538
  let c0_1028 : Index := 0#32
  ![20, v2640.toNat, 0]
def k0_off630 (i : grid0.Coords) (k0_t10 : Fin (k0_t10_loop i).trips) : Fin 3 → Nat :=
  let c21_1029 : Index := 21#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2645 : Index := Scalar.indexCast v2538
  let c0_1030 : Index := 0#32
  ![21, v2645.toNat, 0]
def k0_off631 (i : grid0.Coords) (k0_t10 : Fin (k0_t10_loop i).trips) : Fin 3 → Nat :=
  let c22_1031 : Index := 22#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2650 : Index := Scalar.indexCast v2538
  let c0_1032 : Index := 0#32
  ![22, v2650.toNat, 0]
def k0_off632 (i : grid0.Coords) (k0_t10 : Fin (k0_t10_loop i).trips) : Fin 3 → Nat :=
  let c23_1033 : Index := 23#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2655 : Index := Scalar.indexCast v2538
  let c0_1034 : Index := 0#32
  ![23, v2655.toNat, 0]
def k0_off633 (i : grid0.Coords) (k0_t10 : Fin (k0_t10_loop i).trips) : Fin 3 → Nat :=
  let c24_1035 : Index := 24#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2660 : Index := Scalar.indexCast v2538
  let c0_1036 : Index := 0#32
  ![24, v2660.toNat, 0]
def k0_off634 (i : grid0.Coords) (k0_t10 : Fin (k0_t10_loop i).trips) : Fin 3 → Nat :=
  let c25_1037 : Index := 25#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2665 : Index := Scalar.indexCast v2538
  let c0_1038 : Index := 0#32
  ![25, v2665.toNat, 0]
def k0_off635 (i : grid0.Coords) (k0_t10 : Fin (k0_t10_loop i).trips) : Fin 3 → Nat :=
  let c26_1039 : Index := 26#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2670 : Index := Scalar.indexCast v2538
  let c0_1040 : Index := 0#32
  ![26, v2670.toNat, 0]
def k0_off636 (i : grid0.Coords) (k0_t10 : Fin (k0_t10_loop i).trips) : Fin 3 → Nat :=
  let c27_1041 : Index := 27#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2675 : Index := Scalar.indexCast v2538
  let c0_1042 : Index := 0#32
  ![27, v2675.toNat, 0]
def k0_off637 (i : grid0.Coords) (k0_t10 : Fin (k0_t10_loop i).trips) : Fin 3 → Nat :=
  let c28_1043 : Index := 28#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2680 : Index := Scalar.indexCast v2538
  let c0_1044 : Index := 0#32
  ![28, v2680.toNat, 0]
def k0_off638 (i : grid0.Coords) (k0_t10 : Fin (k0_t10_loop i).trips) : Fin 3 → Nat :=
  let c29_1045 : Index := 29#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2685 : Index := Scalar.indexCast v2538
  let c0_1046 : Index := 0#32
  ![29, v2685.toNat, 0]
def k0_off639 (i : grid0.Coords) (k0_t10 : Fin (k0_t10_loop i).trips) : Fin 3 → Nat :=
  let c30_1047 : Index := 30#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2690 : Index := Scalar.indexCast v2538
  let c0_1048 : Index := 0#32
  ![30, v2690.toNat, 0]
def k0_off640 (i : grid0.Coords) (k0_t10 : Fin (k0_t10_loop i).trips) : Fin 3 → Nat :=
  let c31_1049 : Index := 31#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c16_i32_986 : BitVec 32 := 16#32
  let v2537 : BitVec 32 := Scalar.muli arg26 c16_i32_986
  let v2538 : BitVec 32 := v2537
  let v2695 : Index := Scalar.indexCast v2538
  let c0_1050 : Index := 0#32
  ![31, v2695.toNat, 0]
def k0_off641 (i : grid0.Coords) (k0_t10 : Fin (k0_t10_loop i).trips) (c0_i32_1072 : BitVec 32) : Fin 5 → Nat :=
  let c0_1073 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c1_i32_1066 : BitVec 32 := 1#32
  let v2722 : BitVec 32 := Scalar.subi arg26 c1_i32_1066
  let c0_i32_1067 : BitVec 32 := 0#32
  let v2723 : BitVec 32 := Scalar.maxsi v2722 c0_i32_1067
  let c4_i32_1071 : BitVec 32 := 4#32
  let v2726 : BitVec 32 := Scalar.muli v2723 c4_i32_1071
  let v2727 : BitVec 32 := Scalar.addi v2726 c0_i32_1072
  let v2728 : Index := Scalar.indexCast v2727
  let c0_1074 : Index := 0#32
  let c0_1075 : Index := 0#32
  let c0_1076 : Index := 0#32
  ![0, v2728.toNat, 0, 0, 0]
def k0_off642 (i : grid0.Coords) (k0_t10 : Fin (k0_t10_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c0_i32_1064 : BitVec 32 := 0#32
  let v2720 : BitVec 1 := Scalar.cmpi .eq arg26 c0_i32_1064
  let c2_i32_1065 : BitVec 32 := 2#32
  let c1_i32_1051 : BitVec 32 := 1#32
  let v2699 : BitVec 32 := Scalar.addi arg26 c1_i32_1051
  let c2_i32_1052 : BitVec 32 := 2#32
  let c0_i32_1053 : BitVec 32 := 0#32
  let v2700 : BitVec 1 := Scalar.cmpi .eq c2_i32_1052 c0_i32_1053
  let c1_i32_1054 : BitVec 32 := 1#32
  let v2701 : BitVec 32 := Scalar.select v2700 c1_i32_1054 c2_i32_1052
  let v2702 : BitVec 32 := Scalar.remsi v2699 v2701
  let c0_i32_1056 : BitVec 32 := 0#32
  let v2704 : BitVec 1 := Scalar.cmpi .slt v2702 c0_i32_1056
  let c0_i32_1057 : BitVec 32 := 0#32
  let v2705 : BitVec 1 := Scalar.cmpi .slt v2701 c0_i32_1057
  let v2706 : BitVec 1 := Scalar.xori v2704 v2705
  let c0_i32_1055 : BitVec 32 := 0#32
  let v2703 : BitVec 1 := Scalar.cmpi .ne v2702 c0_i32_1055
  let v2707 : BitVec 1 := Scalar.andi v2706 v2703
  let v2708 : BitVec 32 := Scalar.addi v2702 v2701
  let v2709 : BitVec 32 := Scalar.select v2707 v2708 v2702
  let v2721 : BitVec 32 := Scalar.select v2720 c2_i32_1065 v2709
  let v2747 : Index := Scalar.indexCast v2721
  let c0_1095 : Index := 0#32
  let c0_1096 : Index := 0#32
  let c0_1097 : Index := 0#32
  ![v2747.toNat, 0, 0, 0]
def k0_off643 (i : grid0.Coords) (k0_t10 : Fin (k0_t10_loop i).trips) (c0_i32_1106 : BitVec 32) : Fin 5 → Nat :=
  let c0_1107 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c1_i32_1066 : BitVec 32 := 1#32
  let v2722 : BitVec 32 := Scalar.subi arg26 c1_i32_1066
  let c0_i32_1067 : BitVec 32 := 0#32
  let v2723 : BitVec 32 := Scalar.maxsi v2722 c0_i32_1067
  let c4_i32_1105 : BitVec 32 := 4#32
  let v2757 : BitVec 32 := Scalar.muli v2723 c4_i32_1105
  let v2758 : BitVec 32 := Scalar.addi v2757 c0_i32_1106
  let v2759 : Index := Scalar.indexCast v2758
  let c1_1108 : Index := 1#32
  let c0_1109 : Index := 0#32
  let c0_1110 : Index := 0#32
  ![0, v2759.toNat, 1, 0, 0]
def k0_off644 (i : grid0.Coords) (k0_t10 : Fin (k0_t10_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c0_i32_1064 : BitVec 32 := 0#32
  let v2720 : BitVec 1 := Scalar.cmpi .eq arg26 c0_i32_1064
  let c2_i32_1065 : BitVec 32 := 2#32
  let c1_i32_1051 : BitVec 32 := 1#32
  let v2699 : BitVec 32 := Scalar.addi arg26 c1_i32_1051
  let c2_i32_1052 : BitVec 32 := 2#32
  let c0_i32_1053 : BitVec 32 := 0#32
  let v2700 : BitVec 1 := Scalar.cmpi .eq c2_i32_1052 c0_i32_1053
  let c1_i32_1054 : BitVec 32 := 1#32
  let v2701 : BitVec 32 := Scalar.select v2700 c1_i32_1054 c2_i32_1052
  let v2702 : BitVec 32 := Scalar.remsi v2699 v2701
  let c0_i32_1056 : BitVec 32 := 0#32
  let v2704 : BitVec 1 := Scalar.cmpi .slt v2702 c0_i32_1056
  let c0_i32_1057 : BitVec 32 := 0#32
  let v2705 : BitVec 1 := Scalar.cmpi .slt v2701 c0_i32_1057
  let v2706 : BitVec 1 := Scalar.xori v2704 v2705
  let c0_i32_1055 : BitVec 32 := 0#32
  let v2703 : BitVec 1 := Scalar.cmpi .ne v2702 c0_i32_1055
  let v2707 : BitVec 1 := Scalar.andi v2706 v2703
  let v2708 : BitVec 32 := Scalar.addi v2702 v2701
  let v2709 : BitVec 32 := Scalar.select v2707 v2708 v2702
  let v2721 : BitVec 32 := Scalar.select v2720 c2_i32_1065 v2709
  let v2778 : Index := Scalar.indexCast v2721
  let c1_1129 : Index := 1#32
  let c0_1130 : Index := 0#32
  let c0_1131 : Index := 0#32
  ![v2778.toNat, 1, 0, 0]
def k0_mult69 (i : grid0.Coords) (k0_t10 : Fin (k0_t10_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c512_i32_1136 : BitVec 32 := 512#32
  let v2786 : BitVec 32 := Scalar.muli arg26 c512_i32_1136
  v2786
def k0_off645 (i : grid0.Coords) (k0_t10 : Fin (k0_t10_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v2788 : Index := Scalar.indexCast v19
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c512_i32_1136 : BitVec 32 := 512#32
  let v2786 : BitVec 32 := Scalar.muli arg26 c512_i32_1136
  let v2787 : BitVec 32 := v2786
  let v2789 : Index := Scalar.indexCast v2787
  let c0_1137 : Index := 0#32
  ![v2788.toNat, v2789.toNat, 0]
def k0_off646 (i : grid0.Coords) (k0_t10 : Fin (k0_t10_loop i).trips) : Fin 3 → Nat :=
  let c0_1141 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c512_i32_1136 : BitVec 32 := 512#32
  let v2786 : BitVec 32 := Scalar.muli arg26 c512_i32_1136
  let v2787 : BitVec 32 := v2786
  let v2805 : Index := Scalar.indexCast v2787
  let c0_1142 : Index := 0#32
  ![0, v2805.toNat, 0]
def k0_off647 (i : grid0.Coords) (k0_t10 : Fin (k0_t10_loop i).trips) (c0_i32_1148 : BitVec 32) : Fin 4 → Nat :=
  let c2_i32_1150 : BitVec 32 := 2#32
  let c0_i32_1149 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c4_i32_1147 : BitVec 32 := 4#32
  let v2812 : BitVec 32 := Scalar.muli arg26 c4_i32_1147
  let v2813 : BitVec 32 := Scalar.addi v2812 c0_i32_1148
  let v2814 : BitVec 32 := Scalar.subi arg1 v2813
  let v2815 : BitVec 32 := Scalar.maxsi c0_i32_1149 v2814
  let v2816 : BitVec 32 := Scalar.minsi c2_i32_1150 v2815
  let v2817 : Index := Scalar.indexCast v2816
  let c0_1151 : Index := 0#32
  let c0_1152 : Index := 0#32
  let c0_1153 : Index := 0#32
  ![v2817.toNat, 0, 0, 0]
def k0_off648 (i : grid0.Coords) (k0_t10 : Fin (k0_t10_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c2_i32_1058 : BitVec 32 := 2#32
  let c0_i32_1059 : BitVec 32 := 0#32
  let v2710 : BitVec 1 := Scalar.cmpi .eq c2_i32_1058 c0_i32_1059
  let c1_i32_1060 : BitVec 32 := 1#32
  let v2711 : BitVec 32 := Scalar.select v2710 c1_i32_1060 c2_i32_1058
  let v2712 : BitVec 32 := Scalar.remsi arg26 v2711
  let c0_i32_1062 : BitVec 32 := 0#32
  let v2714 : BitVec 1 := Scalar.cmpi .slt v2712 c0_i32_1062
  let c0_i32_1063 : BitVec 32 := 0#32
  let v2715 : BitVec 1 := Scalar.cmpi .slt v2711 c0_i32_1063
  let v2716 : BitVec 1 := Scalar.xori v2714 v2715
  let c0_i32_1061 : BitVec 32 := 0#32
  let v2713 : BitVec 1 := Scalar.cmpi .ne v2712 c0_i32_1061
  let v2717 : BitVec 1 := Scalar.andi v2716 v2713
  let v2718 : BitVec 32 := Scalar.addi v2712 v2711
  let v2719 : BitVec 32 := Scalar.select v2717 v2718 v2712
  let v2849 : Index := Scalar.indexCast v2719
  let c0_1175 : Index := 0#32
  let c0_1176 : Index := 0#32
  let c0_1177 : Index := 0#32
  ![v2849.toNat, 0, 0, 0]
def k0_off649 (i : grid0.Coords) (k0_t10 : Fin (k0_t10_loop i).trips) (c0_i32_1183 : BitVec 32) : Fin 4 → Nat :=
  let c2_i32_1185 : BitVec 32 := 2#32
  let c0_i32_1184 : BitVec 32 := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c4_i32_1182 : BitVec 32 := 4#32
  let v2857 : BitVec 32 := Scalar.muli arg26 c4_i32_1182
  let v2858 : BitVec 32 := Scalar.addi v2857 c0_i32_1183
  let v2859 : BitVec 32 := Scalar.subi arg1 v2858
  let v2860 : BitVec 32 := Scalar.maxsi c0_i32_1184 v2859
  let v2861 : BitVec 32 := Scalar.minsi c2_i32_1185 v2860
  let v2862 : Index := Scalar.indexCast v2861
  let c1_1186 : Index := 1#32
  let c0_1187 : Index := 0#32
  let c0_1188 : Index := 0#32
  ![v2862.toNat, 1, 0, 0]
def k0_off650 (i : grid0.Coords) (k0_t10 : Fin (k0_t10_loop i).trips) : Fin 4 → Nat :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c2_i32_1058 : BitVec 32 := 2#32
  let c0_i32_1059 : BitVec 32 := 0#32
  let v2710 : BitVec 1 := Scalar.cmpi .eq c2_i32_1058 c0_i32_1059
  let c1_i32_1060 : BitVec 32 := 1#32
  let v2711 : BitVec 32 := Scalar.select v2710 c1_i32_1060 c2_i32_1058
  let v2712 : BitVec 32 := Scalar.remsi arg26 v2711
  let c0_i32_1062 : BitVec 32 := 0#32
  let v2714 : BitVec 1 := Scalar.cmpi .slt v2712 c0_i32_1062
  let c0_i32_1063 : BitVec 32 := 0#32
  let v2715 : BitVec 1 := Scalar.cmpi .slt v2711 c0_i32_1063
  let v2716 : BitVec 1 := Scalar.xori v2714 v2715
  let c0_i32_1061 : BitVec 32 := 0#32
  let v2713 : BitVec 1 := Scalar.cmpi .ne v2712 c0_i32_1061
  let v2717 : BitVec 1 := Scalar.andi v2716 v2713
  let v2718 : BitVec 32 := Scalar.addi v2712 v2711
  let v2719 : BitVec 32 := Scalar.select v2717 v2718 v2712
  let v2894 : Index := Scalar.indexCast v2719
  let c1_1210 : Index := 1#32
  let c0_1211 : Index := 0#32
  let c0_1212 : Index := 0#32
  ![v2894.toNat, 1, 0, 0]
def k0_mult70 (i : grid0.Coords) (k0_t10 : Fin (k0_t10_loop i).trips) : BitVec 32 :=
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c1_i32_1213 : BitVec 32 := 1#32
  let v2898 : BitVec 32 := Scalar.addi arg26 c1_i32_1213
  let c512_i32_1214 : BitVec 32 := 512#32
  let v2899 : BitVec 32 := Scalar.muli v2898 c512_i32_1214
  v2899
def k0_off651 (i : grid0.Coords) (k0_t10 : Fin (k0_t10_loop i).trips) : Fin 3 → Nat :=
  let c0_1215 : Index := 0#32
  let arg1 : BitVec 32 := BitVec.ofNat 32 (i 1).val
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c1_i32_1213 : BitVec 32 := 1#32
  let v2898 : BitVec 32 := Scalar.addi arg26 c1_i32_1213
  let c512_i32_1214 : BitVec 32 := 512#32
  let v2899 : BitVec 32 := Scalar.muli v2898 c512_i32_1214
  let v2900 : BitVec 32 := v2899
  let v2901 : Index := Scalar.indexCast v2900
  let c0_1216 : Index := 0#32
  ![0, v2901.toNat, 0]
def k0_off652 (i : grid0.Coords) (k0_t10 : Fin (k0_t10_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v2944 : Index := Scalar.indexCast v20
  let c1_i32_79 : BitVec 32 := 1#32
  let v188 : BitVec 32 := Scalar.subi arg1 c1_i32_79
  let c0_i32_80 : BitVec 32 := 0#32
  let v189 : BitVec 32 := Scalar.maxsi v188 c0_i32_80
  let c0_i32_82 : BitVec 32 := 0#32
  let v191 : BitVec 1 := Scalar.cmpi .sgt v189 c0_i32_82
  let v192 : BitVec 32 := Scalar.extui v191
  let c0_i32_83 : BitVec 32 := 0#32
  let v193 : BitVec 1 := Scalar.cmpi .slt v189 c0_i32_83
  let v194 : BitVec 32 := Scalar.extui v193
  let v195 : BitVec 32 := Scalar.subi v192 v194
  let c4_i32_81 : BitVec 32 := 4#32
  let c0_i32_84 : BitVec 32 := 0#32
  let v196 : BitVec 1 := Scalar.cmpi .sgt c4_i32_81 c0_i32_84
  let v197 : BitVec 32 := Scalar.extui v196
  let c0_i32_85 : BitVec 32 := 0#32
  let v198 : BitVec 1 := Scalar.cmpi .slt c4_i32_81 c0_i32_85
  let v199 : BitVec 32 := Scalar.extui v198
  let v200 : BitVec 32 := Scalar.subi v197 v199
  let v201 : BitVec 1 := Scalar.cmpi .ne v195 v200
  let v202 : BitVec 32 := Scalar.remsi v189 c4_i32_81
  let c0_i32_86 : BitVec 32 := 0#32
  let v203 : BitVec 1 := Scalar.cmpi .ne v202 c0_i32_86
  let v204 : BitVec 1 := Scalar.andi v201 v203
  let v190 : BitVec 32 := Scalar.divsi v189 c4_i32_81
  let c1_i32_87 : BitVec 32 := 1#32
  let v205 : BitVec 32 := Scalar.subi v190 c1_i32_87
  let v206 : BitVec 32 := Scalar.select v204 v205 v190
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_131 : BitVec 32 := 1#32
  let v292 : BitVec 32 := Scalar.subi v40 c1_i32_131
  let v293 : BitVec 32 := Scalar.subi v292 v206
  let c1_i32_133 : BitVec 32 := 1#32
  let v295 : BitVec 32 := Scalar.divsi v293 c1_i32_133
  let v296 : BitVec 32 := Scalar.muli v295 c1_i32_133
  let v297 : BitVec 32 := Scalar.addi v206 v296
  let c1_i32_135 : BitVec 32 := 1#32
  let arg26 : BitVec 32 := Scf.iv v297 c1_i32_135 k0_t10
  let c1_i32_1213 : BitVec 32 := 1#32
  let v2898 : BitVec 32 := Scalar.addi arg26 c1_i32_1213
  let c512_i32_1214 : BitVec 32 := 512#32
  let v2899 : BitVec 32 := Scalar.muli v2898 c512_i32_1214
  let v2900 : BitVec 32 := v2899
  let v2945 : Index := Scalar.indexCast v2900
  let c0_1229 : Index := 0#32
  ![v2944.toNat, v2945.toNat, 0]
def k0_cond4 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_17 : BitVec 32 := 4#32
  let v41 : BitVec 32 := Scalar.addi v22 c4_i32_17
  let c0_i32_19 : BitVec 32 := 0#32
  let v43 : BitVec 1 := Scalar.cmpi .sgt v41 c0_i32_19
  let v44 : BitVec 32 := Scalar.extui v43
  let c0_i32_20 : BitVec 32 := 0#32
  let v45 : BitVec 1 := Scalar.cmpi .slt v41 c0_i32_20
  let v46 : BitVec 32 := Scalar.extui v45
  let v47 : BitVec 32 := Scalar.subi v44 v46
  let c4_i32_18 : BitVec 32 := 4#32
  let c0_i32_21 : BitVec 32 := 0#32
  let v48 : BitVec 1 := Scalar.cmpi .sgt c4_i32_18 c0_i32_21
  let v49 : BitVec 32 := Scalar.extui v48
  let c0_i32_22 : BitVec 32 := 0#32
  let v50 : BitVec 1 := Scalar.cmpi .slt c4_i32_18 c0_i32_22
  let v51 : BitVec 32 := Scalar.extui v50
  let v52 : BitVec 32 := Scalar.subi v49 v51
  let v53 : BitVec 1 := Scalar.cmpi .ne v47 v52
  let v54 : BitVec 32 := Scalar.remsi v41 c4_i32_18
  let c0_i32_23 : BitVec 32 := 0#32
  let v55 : BitVec 1 := Scalar.cmpi .ne v54 c0_i32_23
  let v56 : BitVec 1 := Scalar.andi v53 v55
  let v42 : BitVec 32 := Scalar.divsi v41 c4_i32_18
  let c1_i32_24 : BitVec 32 := 1#32
  let v57 : BitVec 32 := Scalar.subi v42 c1_i32_24
  let v58 : BitVec 32 := Scalar.select v56 v57 v42
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v298 : BitVec 1 := Scalar.cmpi .sgt v58 v40
  let v299 : BitVec 32 := Scalar.extui v298
  let c0_i32_136 : BitVec 32 := 0#32
  let v300 : BitVec 1 := Scalar.cmpi .ne v299 c0_i32_136
  v300

def k0_mult71 (i : grid0.Coords) : BitVec 32 :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c512_i32_743 : BitVec 32 := 512#32
  let v1744 : BitVec 32 := Scalar.muli v40 c512_i32_743
  v1744
def k0_off653 (i : grid0.Coords) : Fin 3 → Nat :=
  let c0_744 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c512_i32_743 : BitVec 32 := 512#32
  let v1744 : BitVec 32 := Scalar.muli v40 c512_i32_743
  let v1745 : BitVec 32 := v1744
  let v1746 : Index := Scalar.indexCast v1745
  let c0_745 : Index := 0#32
  ![0, v1746.toNat, 0]
def k0_off654 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1789 : Index := Scalar.indexCast v20
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c512_i32_743 : BitVec 32 := 512#32
  let v1744 : BitVec 32 := Scalar.muli v40 c512_i32_743
  let v1745 : BitVec 32 := v1744
  let v1790 : Index := Scalar.indexCast v1745
  let c0_758 : Index := 0#32
  ![v1789.toNat, v1790.toNat, 0]
def k0_mult72 (i : grid0.Coords) : BitVec 32 :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c512_i32_759 : BitVec 32 := 512#32
  let v1794 : BitVec 32 := Scalar.muli v40 c512_i32_759
  v1794
def k0_mult73 (i : grid0.Coords) : BitVec 32 :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  v2587
def k0_off655 (i : grid0.Coords) : Fin 3 → Nat :=
  let c0_1003 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2590 : Index := Scalar.indexCast v2588
  let c0_1004 : Index := 0#32
  ![0, v2590.toNat, 0]
def k0_off656 (i : grid0.Coords) : Fin 3 → Nat :=
  let c1_1005 : Index := 1#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2595 : Index := Scalar.indexCast v2588
  let c0_1006 : Index := 0#32
  ![1, v2595.toNat, 0]
def k0_off657 (i : grid0.Coords) : Fin 3 → Nat :=
  let c2_1007 : Index := 2#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2600 : Index := Scalar.indexCast v2588
  let c0_1008 : Index := 0#32
  ![2, v2600.toNat, 0]
def k0_off658 (i : grid0.Coords) : Fin 3 → Nat :=
  let c3_1009 : Index := 3#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2605 : Index := Scalar.indexCast v2588
  let c0_1010 : Index := 0#32
  ![3, v2605.toNat, 0]
def k0_off659 (i : grid0.Coords) : Fin 3 → Nat :=
  let c4_1011 : Index := 4#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2610 : Index := Scalar.indexCast v2588
  let c0_1012 : Index := 0#32
  ![4, v2610.toNat, 0]
def k0_off660 (i : grid0.Coords) : Fin 3 → Nat :=
  let c5_1013 : Index := 5#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2615 : Index := Scalar.indexCast v2588
  let c0_1014 : Index := 0#32
  ![5, v2615.toNat, 0]
def k0_off661 (i : grid0.Coords) : Fin 3 → Nat :=
  let c6_1015 : Index := 6#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2620 : Index := Scalar.indexCast v2588
  let c0_1016 : Index := 0#32
  ![6, v2620.toNat, 0]
def k0_off662 (i : grid0.Coords) : Fin 3 → Nat :=
  let c7_1017 : Index := 7#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2625 : Index := Scalar.indexCast v2588
  let c0_1018 : Index := 0#32
  ![7, v2625.toNat, 0]
def k0_off663 (i : grid0.Coords) : Fin 3 → Nat :=
  let c8_1019 : Index := 8#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2630 : Index := Scalar.indexCast v2588
  let c0_1020 : Index := 0#32
  ![8, v2630.toNat, 0]
def k0_off664 (i : grid0.Coords) : Fin 3 → Nat :=
  let c9_1021 : Index := 9#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2635 : Index := Scalar.indexCast v2588
  let c0_1022 : Index := 0#32
  ![9, v2635.toNat, 0]
def k0_off665 (i : grid0.Coords) : Fin 3 → Nat :=
  let c10_1023 : Index := 10#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2640 : Index := Scalar.indexCast v2588
  let c0_1024 : Index := 0#32
  ![10, v2640.toNat, 0]
def k0_off666 (i : grid0.Coords) : Fin 3 → Nat :=
  let c11_1025 : Index := 11#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2645 : Index := Scalar.indexCast v2588
  let c0_1026 : Index := 0#32
  ![11, v2645.toNat, 0]
def k0_off667 (i : grid0.Coords) : Fin 3 → Nat :=
  let c12_1027 : Index := 12#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2650 : Index := Scalar.indexCast v2588
  let c0_1028 : Index := 0#32
  ![12, v2650.toNat, 0]
def k0_off668 (i : grid0.Coords) : Fin 3 → Nat :=
  let c13_1029 : Index := 13#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2655 : Index := Scalar.indexCast v2588
  let c0_1030 : Index := 0#32
  ![13, v2655.toNat, 0]
def k0_off669 (i : grid0.Coords) : Fin 3 → Nat :=
  let c14_1031 : Index := 14#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2660 : Index := Scalar.indexCast v2588
  let c0_1032 : Index := 0#32
  ![14, v2660.toNat, 0]
def k0_off670 (i : grid0.Coords) : Fin 3 → Nat :=
  let c15_1033 : Index := 15#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2665 : Index := Scalar.indexCast v2588
  let c0_1034 : Index := 0#32
  ![15, v2665.toNat, 0]
def k0_off671 (i : grid0.Coords) : Fin 3 → Nat :=
  let c16_1035 : Index := 16#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2670 : Index := Scalar.indexCast v2588
  let c0_1036 : Index := 0#32
  ![16, v2670.toNat, 0]
def k0_off672 (i : grid0.Coords) : Fin 3 → Nat :=
  let c17_1037 : Index := 17#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2675 : Index := Scalar.indexCast v2588
  let c0_1038 : Index := 0#32
  ![17, v2675.toNat, 0]
def k0_off673 (i : grid0.Coords) : Fin 3 → Nat :=
  let c18_1039 : Index := 18#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2680 : Index := Scalar.indexCast v2588
  let c0_1040 : Index := 0#32
  ![18, v2680.toNat, 0]
def k0_off674 (i : grid0.Coords) : Fin 3 → Nat :=
  let c19_1041 : Index := 19#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2685 : Index := Scalar.indexCast v2588
  let c0_1042 : Index := 0#32
  ![19, v2685.toNat, 0]
def k0_off675 (i : grid0.Coords) : Fin 3 → Nat :=
  let c20_1043 : Index := 20#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2690 : Index := Scalar.indexCast v2588
  let c0_1044 : Index := 0#32
  ![20, v2690.toNat, 0]
def k0_off676 (i : grid0.Coords) : Fin 3 → Nat :=
  let c21_1045 : Index := 21#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2695 : Index := Scalar.indexCast v2588
  let c0_1046 : Index := 0#32
  ![21, v2695.toNat, 0]
def k0_off677 (i : grid0.Coords) : Fin 3 → Nat :=
  let c22_1047 : Index := 22#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2700 : Index := Scalar.indexCast v2588
  let c0_1048 : Index := 0#32
  ![22, v2700.toNat, 0]
def k0_off678 (i : grid0.Coords) : Fin 3 → Nat :=
  let c23_1049 : Index := 23#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2705 : Index := Scalar.indexCast v2588
  let c0_1050 : Index := 0#32
  ![23, v2705.toNat, 0]
def k0_off679 (i : grid0.Coords) : Fin 3 → Nat :=
  let c24_1051 : Index := 24#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2710 : Index := Scalar.indexCast v2588
  let c0_1052 : Index := 0#32
  ![24, v2710.toNat, 0]
def k0_off680 (i : grid0.Coords) : Fin 3 → Nat :=
  let c25_1053 : Index := 25#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2715 : Index := Scalar.indexCast v2588
  let c0_1054 : Index := 0#32
  ![25, v2715.toNat, 0]
def k0_off681 (i : grid0.Coords) : Fin 3 → Nat :=
  let c26_1055 : Index := 26#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2720 : Index := Scalar.indexCast v2588
  let c0_1056 : Index := 0#32
  ![26, v2720.toNat, 0]
def k0_off682 (i : grid0.Coords) : Fin 3 → Nat :=
  let c27_1057 : Index := 27#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2725 : Index := Scalar.indexCast v2588
  let c0_1058 : Index := 0#32
  ![27, v2725.toNat, 0]
def k0_off683 (i : grid0.Coords) : Fin 3 → Nat :=
  let c28_1059 : Index := 28#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2730 : Index := Scalar.indexCast v2588
  let c0_1060 : Index := 0#32
  ![28, v2730.toNat, 0]
def k0_off684 (i : grid0.Coords) : Fin 3 → Nat :=
  let c29_1061 : Index := 29#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2735 : Index := Scalar.indexCast v2588
  let c0_1062 : Index := 0#32
  ![29, v2735.toNat, 0]
def k0_off685 (i : grid0.Coords) : Fin 3 → Nat :=
  let c30_1063 : Index := 30#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2740 : Index := Scalar.indexCast v2588
  let c0_1064 : Index := 0#32
  ![30, v2740.toNat, 0]
def k0_off686 (i : grid0.Coords) : Fin 3 → Nat :=
  let c31_1065 : Index := 31#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c16_i32_1002 : BitVec 32 := 16#32
  let v2587 : BitVec 32 := Scalar.muli v40 c16_i32_1002
  let v2588 : BitVec 32 := v2587
  let v2745 : Index := Scalar.indexCast v2588
  let c0_1066 : Index := 0#32
  ![31, v2745.toNat, 0]
def k0_mult74 (i : grid0.Coords) : BitVec 32 :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c512_i32 : BitVec 32 := 512#32
  let v302 : BitVec 32 := Scalar.muli v301 c512_i32
  v302
def k0_off687 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v304 : Index := Scalar.indexCast v20
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c512_i32 : BitVec 32 := 512#32
  let v302 : BitVec 32 := Scalar.muli v301 c512_i32
  let v303 : BitVec 32 := v302
  let v305 : Index := Scalar.indexCast v303
  let c0_138 : Index := 0#32
  ![v304.toNat, v305.toNat, 0]
def k0_mult75 (i : grid0.Coords) : BitVec 32 :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  v1095
def k0_off688 (i : grid0.Coords) : Fin 3 → Nat :=
  let c0_373 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1098 : Index := Scalar.indexCast v1096
  let c0_374 : Index := 0#32
  ![0, v1098.toNat, 0]
def k0_off689 (i : grid0.Coords) : Fin 3 → Nat :=
  let c1_375 : Index := 1#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1103 : Index := Scalar.indexCast v1096
  let c0_376 : Index := 0#32
  ![1, v1103.toNat, 0]
def k0_off690 (i : grid0.Coords) : Fin 3 → Nat :=
  let c2 : Index := 2#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1108 : Index := Scalar.indexCast v1096
  let c0_377 : Index := 0#32
  ![2, v1108.toNat, 0]
def k0_off691 (i : grid0.Coords) : Fin 3 → Nat :=
  let c3 : Index := 3#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1113 : Index := Scalar.indexCast v1096
  let c0_378 : Index := 0#32
  ![3, v1113.toNat, 0]
def k0_off692 (i : grid0.Coords) : Fin 3 → Nat :=
  let c4 : Index := 4#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1118 : Index := Scalar.indexCast v1096
  let c0_379 : Index := 0#32
  ![4, v1118.toNat, 0]
def k0_off693 (i : grid0.Coords) : Fin 3 → Nat :=
  let c5 : Index := 5#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1123 : Index := Scalar.indexCast v1096
  let c0_380 : Index := 0#32
  ![5, v1123.toNat, 0]
def k0_off694 (i : grid0.Coords) : Fin 3 → Nat :=
  let c6 : Index := 6#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1128 : Index := Scalar.indexCast v1096
  let c0_381 : Index := 0#32
  ![6, v1128.toNat, 0]
def k0_off695 (i : grid0.Coords) : Fin 3 → Nat :=
  let c7 : Index := 7#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1133 : Index := Scalar.indexCast v1096
  let c0_382 : Index := 0#32
  ![7, v1133.toNat, 0]
def k0_off696 (i : grid0.Coords) : Fin 3 → Nat :=
  let c8 : Index := 8#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1138 : Index := Scalar.indexCast v1096
  let c0_383 : Index := 0#32
  ![8, v1138.toNat, 0]
def k0_off697 (i : grid0.Coords) : Fin 3 → Nat :=
  let c9 : Index := 9#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1143 : Index := Scalar.indexCast v1096
  let c0_384 : Index := 0#32
  ![9, v1143.toNat, 0]
def k0_off698 (i : grid0.Coords) : Fin 3 → Nat :=
  let c10 : Index := 10#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1148 : Index := Scalar.indexCast v1096
  let c0_385 : Index := 0#32
  ![10, v1148.toNat, 0]
def k0_off699 (i : grid0.Coords) : Fin 3 → Nat :=
  let c11 : Index := 11#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1153 : Index := Scalar.indexCast v1096
  let c0_386 : Index := 0#32
  ![11, v1153.toNat, 0]
def k0_off700 (i : grid0.Coords) : Fin 3 → Nat :=
  let c12 : Index := 12#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1158 : Index := Scalar.indexCast v1096
  let c0_387 : Index := 0#32
  ![12, v1158.toNat, 0]
def k0_off701 (i : grid0.Coords) : Fin 3 → Nat :=
  let c13 : Index := 13#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1163 : Index := Scalar.indexCast v1096
  let c0_388 : Index := 0#32
  ![13, v1163.toNat, 0]
def k0_off702 (i : grid0.Coords) : Fin 3 → Nat :=
  let c14 : Index := 14#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1168 : Index := Scalar.indexCast v1096
  let c0_389 : Index := 0#32
  ![14, v1168.toNat, 0]
def k0_off703 (i : grid0.Coords) : Fin 3 → Nat :=
  let c15 : Index := 15#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1173 : Index := Scalar.indexCast v1096
  let c0_390 : Index := 0#32
  ![15, v1173.toNat, 0]
def k0_off704 (i : grid0.Coords) : Fin 3 → Nat :=
  let c16 : Index := 16#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1178 : Index := Scalar.indexCast v1096
  let c0_391 : Index := 0#32
  ![16, v1178.toNat, 0]
def k0_off705 (i : grid0.Coords) : Fin 3 → Nat :=
  let c17 : Index := 17#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1183 : Index := Scalar.indexCast v1096
  let c0_392 : Index := 0#32
  ![17, v1183.toNat, 0]
def k0_off706 (i : grid0.Coords) : Fin 3 → Nat :=
  let c18 : Index := 18#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1188 : Index := Scalar.indexCast v1096
  let c0_393 : Index := 0#32
  ![18, v1188.toNat, 0]
def k0_off707 (i : grid0.Coords) : Fin 3 → Nat :=
  let c19 : Index := 19#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1193 : Index := Scalar.indexCast v1096
  let c0_394 : Index := 0#32
  ![19, v1193.toNat, 0]
def k0_off708 (i : grid0.Coords) : Fin 3 → Nat :=
  let c20 : Index := 20#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1198 : Index := Scalar.indexCast v1096
  let c0_395 : Index := 0#32
  ![20, v1198.toNat, 0]
def k0_off709 (i : grid0.Coords) : Fin 3 → Nat :=
  let c21 : Index := 21#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1203 : Index := Scalar.indexCast v1096
  let c0_396 : Index := 0#32
  ![21, v1203.toNat, 0]
def k0_off710 (i : grid0.Coords) : Fin 3 → Nat :=
  let c22 : Index := 22#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1208 : Index := Scalar.indexCast v1096
  let c0_397 : Index := 0#32
  ![22, v1208.toNat, 0]
def k0_off711 (i : grid0.Coords) : Fin 3 → Nat :=
  let c23 : Index := 23#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1213 : Index := Scalar.indexCast v1096
  let c0_398 : Index := 0#32
  ![23, v1213.toNat, 0]
def k0_off712 (i : grid0.Coords) : Fin 3 → Nat :=
  let c24 : Index := 24#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1218 : Index := Scalar.indexCast v1096
  let c0_399 : Index := 0#32
  ![24, v1218.toNat, 0]
def k0_off713 (i : grid0.Coords) : Fin 3 → Nat :=
  let c25 : Index := 25#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1223 : Index := Scalar.indexCast v1096
  let c0_400 : Index := 0#32
  ![25, v1223.toNat, 0]
def k0_off714 (i : grid0.Coords) : Fin 3 → Nat :=
  let c26 : Index := 26#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1228 : Index := Scalar.indexCast v1096
  let c0_401 : Index := 0#32
  ![26, v1228.toNat, 0]
def k0_off715 (i : grid0.Coords) : Fin 3 → Nat :=
  let c27 : Index := 27#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1233 : Index := Scalar.indexCast v1096
  let c0_402 : Index := 0#32
  ![27, v1233.toNat, 0]
def k0_off716 (i : grid0.Coords) : Fin 3 → Nat :=
  let c28 : Index := 28#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1238 : Index := Scalar.indexCast v1096
  let c0_403 : Index := 0#32
  ![28, v1238.toNat, 0]
def k0_off717 (i : grid0.Coords) : Fin 3 → Nat :=
  let c29 : Index := 29#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1243 : Index := Scalar.indexCast v1096
  let c0_404 : Index := 0#32
  ![29, v1243.toNat, 0]
def k0_off718 (i : grid0.Coords) : Fin 3 → Nat :=
  let c30 : Index := 30#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1248 : Index := Scalar.indexCast v1096
  let c0_405 : Index := 0#32
  ![30, v1248.toNat, 0]
def k0_off719 (i : grid0.Coords) : Fin 3 → Nat :=
  let c31 : Index := 31#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_137 : BitVec 32 := 1#32
  let v301 : BitVec 32 := Scalar.subi v40 c1_i32_137
  let c16_i32_372 : BitVec 32 := 16#32
  let v1095 : BitVec 32 := Scalar.muli v301 c16_i32_372
  let v1096 : BitVec 32 := v1095
  let v1253 : Index := Scalar.indexCast v1096
  let c0_406 : Index := 0#32
  ![31, v1253.toNat, 0]
def k0_off720 (i : grid0.Coords) (c0_i32_429 : BitVec 32) : Fin 5 → Nat :=
  let c0_430 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c1_i32_423 : BitVec 32 := 1#32
  let v1281 : BitVec 32 := Scalar.subi v1257 c1_i32_423
  let c0_i32_424 : BitVec 32 := 0#32
  let v1282 : BitVec 32 := Scalar.maxsi v1281 c0_i32_424
  let c4_i32_428 : BitVec 32 := 4#32
  let v1285 : BitVec 32 := Scalar.muli v1282 c4_i32_428
  let v1286 : BitVec 32 := Scalar.addi v1285 c0_i32_429
  let v1287 : Index := Scalar.indexCast v1286
  let c0_431 : Index := 0#32
  let c0_432 : Index := 0#32
  let c0_433 : Index := 0#32
  ![0, v1287.toNat, 0, 0, 0]
def k0_off721 (i : grid0.Coords) : Fin 4 → Nat :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c0_i32_421 : BitVec 32 := 0#32
  let v1279 : BitVec 1 := Scalar.cmpi .eq v1257 c0_i32_421
  let c2_i32_422 : BitVec 32 := 2#32
  let c1_i32_408 : BitVec 32 := 1#32
  let v1258 : BitVec 32 := Scalar.addi v1257 c1_i32_408
  let c2_i32_409 : BitVec 32 := 2#32
  let c0_i32_410 : BitVec 32 := 0#32
  let v1259 : BitVec 1 := Scalar.cmpi .eq c2_i32_409 c0_i32_410
  let c1_i32_411 : BitVec 32 := 1#32
  let v1260 : BitVec 32 := Scalar.select v1259 c1_i32_411 c2_i32_409
  let v1261 : BitVec 32 := Scalar.remsi v1258 v1260
  let c0_i32_413 : BitVec 32 := 0#32
  let v1263 : BitVec 1 := Scalar.cmpi .slt v1261 c0_i32_413
  let c0_i32_414 : BitVec 32 := 0#32
  let v1264 : BitVec 1 := Scalar.cmpi .slt v1260 c0_i32_414
  let v1265 : BitVec 1 := Scalar.xori v1263 v1264
  let c0_i32_412 : BitVec 32 := 0#32
  let v1262 : BitVec 1 := Scalar.cmpi .ne v1261 c0_i32_412
  let v1266 : BitVec 1 := Scalar.andi v1265 v1262
  let v1267 : BitVec 32 := Scalar.addi v1261 v1260
  let v1268 : BitVec 32 := Scalar.select v1266 v1267 v1261
  let v1280 : BitVec 32 := Scalar.select v1279 c2_i32_422 v1268
  let v1306 : Index := Scalar.indexCast v1280
  let c0_451 : Index := 0#32
  let c0_452 : Index := 0#32
  let c0_453 : Index := 0#32
  ![v1306.toNat, 0, 0, 0]
def k0_off722 (i : grid0.Coords) (c0_i32_462 : BitVec 32) : Fin 5 → Nat :=
  let c0_463 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c1_i32_423 : BitVec 32 := 1#32
  let v1281 : BitVec 32 := Scalar.subi v1257 c1_i32_423
  let c0_i32_424 : BitVec 32 := 0#32
  let v1282 : BitVec 32 := Scalar.maxsi v1281 c0_i32_424
  let c4_i32_461 : BitVec 32 := 4#32
  let v1316 : BitVec 32 := Scalar.muli v1282 c4_i32_461
  let v1317 : BitVec 32 := Scalar.addi v1316 c0_i32_462
  let v1318 : Index := Scalar.indexCast v1317
  let c1_464 : Index := 1#32
  let c0_465 : Index := 0#32
  let c0_466 : Index := 0#32
  ![0, v1318.toNat, 1, 0, 0]
def k0_off723 (i : grid0.Coords) : Fin 4 → Nat :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c0_i32_421 : BitVec 32 := 0#32
  let v1279 : BitVec 1 := Scalar.cmpi .eq v1257 c0_i32_421
  let c2_i32_422 : BitVec 32 := 2#32
  let c1_i32_408 : BitVec 32 := 1#32
  let v1258 : BitVec 32 := Scalar.addi v1257 c1_i32_408
  let c2_i32_409 : BitVec 32 := 2#32
  let c0_i32_410 : BitVec 32 := 0#32
  let v1259 : BitVec 1 := Scalar.cmpi .eq c2_i32_409 c0_i32_410
  let c1_i32_411 : BitVec 32 := 1#32
  let v1260 : BitVec 32 := Scalar.select v1259 c1_i32_411 c2_i32_409
  let v1261 : BitVec 32 := Scalar.remsi v1258 v1260
  let c0_i32_413 : BitVec 32 := 0#32
  let v1263 : BitVec 1 := Scalar.cmpi .slt v1261 c0_i32_413
  let c0_i32_414 : BitVec 32 := 0#32
  let v1264 : BitVec 1 := Scalar.cmpi .slt v1260 c0_i32_414
  let v1265 : BitVec 1 := Scalar.xori v1263 v1264
  let c0_i32_412 : BitVec 32 := 0#32
  let v1262 : BitVec 1 := Scalar.cmpi .ne v1261 c0_i32_412
  let v1266 : BitVec 1 := Scalar.andi v1265 v1262
  let v1267 : BitVec 32 := Scalar.addi v1261 v1260
  let v1268 : BitVec 32 := Scalar.select v1266 v1267 v1261
  let v1280 : BitVec 32 := Scalar.select v1279 c2_i32_422 v1268
  let v1337 : Index := Scalar.indexCast v1280
  let c1_485 : Index := 1#32
  let c0_486 : Index := 0#32
  let c0_487 : Index := 0#32
  ![v1337.toNat, 1, 0, 0]
def k0_mult76 (i : grid0.Coords) : BitVec 32 :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c512_i32_492 : BitVec 32 := 512#32
  let v1345 : BitVec 32 := Scalar.muli v1257 c512_i32_492
  v1345
def k0_off724 (i : grid0.Coords) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v1347 : Index := Scalar.indexCast v19
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c512_i32_492 : BitVec 32 := 512#32
  let v1345 : BitVec 32 := Scalar.muli v1257 c512_i32_492
  let v1346 : BitVec 32 := v1345
  let v1348 : Index := Scalar.indexCast v1346
  let c0_493 : Index := 0#32
  ![v1347.toNat, v1348.toNat, 0]
def k0_off725 (i : grid0.Coords) : Fin 3 → Nat :=
  let c0_497 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c512_i32_492 : BitVec 32 := 512#32
  let v1345 : BitVec 32 := Scalar.muli v1257 c512_i32_492
  let v1346 : BitVec 32 := v1345
  let v1364 : Index := Scalar.indexCast v1346
  let c0_498 : Index := 0#32
  ![0, v1364.toNat, 0]
def k0_off726 (i : grid0.Coords) (c0_i32_504 : BitVec 32) : Fin 4 → Nat :=
  let c2_i32_506 : BitVec 32 := 2#32
  let c0_i32_505 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c4_i32_503 : BitVec 32 := 4#32
  let v1371 : BitVec 32 := Scalar.muli v1257 c4_i32_503
  let v1372 : BitVec 32 := Scalar.addi v1371 c0_i32_504
  let v1373 : BitVec 32 := Scalar.subi arg1 v1372
  let v1374 : BitVec 32 := Scalar.maxsi c0_i32_505 v1373
  let v1375 : BitVec 32 := Scalar.minsi c2_i32_506 v1374
  let v1376 : Index := Scalar.indexCast v1375
  let c0_507 : Index := 0#32
  let c0_508 : Index := 0#32
  let c0_509 : Index := 0#32
  ![v1376.toNat, 0, 0, 0]
def k0_off727 (i : grid0.Coords) : Fin 4 → Nat :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c2_i32_415 : BitVec 32 := 2#32
  let c0_i32_416 : BitVec 32 := 0#32
  let v1269 : BitVec 1 := Scalar.cmpi .eq c2_i32_415 c0_i32_416
  let c1_i32_417 : BitVec 32 := 1#32
  let v1270 : BitVec 32 := Scalar.select v1269 c1_i32_417 c2_i32_415
  let v1271 : BitVec 32 := Scalar.remsi v1257 v1270
  let c0_i32_419 : BitVec 32 := 0#32
  let v1273 : BitVec 1 := Scalar.cmpi .slt v1271 c0_i32_419
  let c0_i32_420 : BitVec 32 := 0#32
  let v1274 : BitVec 1 := Scalar.cmpi .slt v1270 c0_i32_420
  let v1275 : BitVec 1 := Scalar.xori v1273 v1274
  let c0_i32_418 : BitVec 32 := 0#32
  let v1272 : BitVec 1 := Scalar.cmpi .ne v1271 c0_i32_418
  let v1276 : BitVec 1 := Scalar.andi v1275 v1272
  let v1277 : BitVec 32 := Scalar.addi v1271 v1270
  let v1278 : BitVec 32 := Scalar.select v1276 v1277 v1271
  let v1408 : Index := Scalar.indexCast v1278
  let c0_531 : Index := 0#32
  let c0_532 : Index := 0#32
  let c0_533 : Index := 0#32
  ![v1408.toNat, 0, 0, 0]
def k0_off728 (i : grid0.Coords) (c0_i32_539 : BitVec 32) : Fin 4 → Nat :=
  let c2_i32_541 : BitVec 32 := 2#32
  let c0_i32_540 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c4_i32_538 : BitVec 32 := 4#32
  let v1416 : BitVec 32 := Scalar.muli v1257 c4_i32_538
  let v1417 : BitVec 32 := Scalar.addi v1416 c0_i32_539
  let v1418 : BitVec 32 := Scalar.subi arg1 v1417
  let v1419 : BitVec 32 := Scalar.maxsi c0_i32_540 v1418
  let v1420 : BitVec 32 := Scalar.minsi c2_i32_541 v1419
  let v1421 : Index := Scalar.indexCast v1420
  let c1_542 : Index := 1#32
  let c0_543 : Index := 0#32
  let c0_544 : Index := 0#32
  ![v1421.toNat, 1, 0, 0]
def k0_off729 (i : grid0.Coords) : Fin 4 → Nat :=
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_407 : BitVec 32 := 1#32
  let v1257 : BitVec 32 := Scalar.subi v40 c1_i32_407
  let c2_i32_415 : BitVec 32 := 2#32
  let c0_i32_416 : BitVec 32 := 0#32
  let v1269 : BitVec 1 := Scalar.cmpi .eq c2_i32_415 c0_i32_416
  let c1_i32_417 : BitVec 32 := 1#32
  let v1270 : BitVec 32 := Scalar.select v1269 c1_i32_417 c2_i32_415
  let v1271 : BitVec 32 := Scalar.remsi v1257 v1270
  let c0_i32_419 : BitVec 32 := 0#32
  let v1273 : BitVec 1 := Scalar.cmpi .slt v1271 c0_i32_419
  let c0_i32_420 : BitVec 32 := 0#32
  let v1274 : BitVec 1 := Scalar.cmpi .slt v1270 c0_i32_420
  let v1275 : BitVec 1 := Scalar.xori v1273 v1274
  let c0_i32_418 : BitVec 32 := 0#32
  let v1272 : BitVec 1 := Scalar.cmpi .ne v1271 c0_i32_418
  let v1276 : BitVec 1 := Scalar.andi v1275 v1272
  let v1277 : BitVec 32 := Scalar.addi v1271 v1270
  let v1278 : BitVec 32 := Scalar.select v1276 v1277 v1271
  let v1453 : Index := Scalar.indexCast v1278
  let c1_566 : Index := 1#32
  let c0_567 : Index := 0#32
  let c0_568 : Index := 0#32
  ![v1453.toNat, 1, 0, 0]
def k0_off730 (i : grid0.Coords) (c0_i32_581 : BitVec 32) : Fin 5 → Nat :=
  let c0_582 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_569 : BitVec 32 := 1#32
  let v1457 : BitVec 32 := Scalar.subi v40 c1_i32_569
  let c4_i32_580 : BitVec 32 := 4#32
  let v1471 : BitVec 32 := Scalar.muli v1457 c4_i32_580
  let v1472 : BitVec 32 := Scalar.addi v1471 c0_i32_581
  let v1473 : Index := Scalar.indexCast v1472
  let c0_583 : Index := 0#32
  let c0_584 : Index := 0#32
  let c0_585 : Index := 0#32
  ![0, v1473.toNat, 0, 0, 0]
def k0_off731 (i : grid0.Coords) (c0_i32_615 : BitVec 32) : Fin 5 → Nat :=
  let c0_616 : Index := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let c1_i32_569 : BitVec 32 := 1#32
  let v1457 : BitVec 32 := Scalar.subi v40 c1_i32_569
  let c4_i32_614 : BitVec 32 := 4#32
  let v1502 : BitVec 32 := Scalar.muli v1457 c4_i32_614
  let v1503 : BitVec 32 := Scalar.addi v1502 c0_i32_615
  let v1504 : Index := Scalar.indexCast v1503
  let c1_617 : Index := 1#32
  let c0_618 : Index := 0#32
  let c0_619 : Index := 0#32
  ![0, v1504.toNat, 1, 0, 0]
def k0_cond5 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c0_i32_654 : BitVec 32 := 0#32
  let v1550 : BitVec 1 := Scalar.cmpi .sgt v1549 c0_i32_654
  let c16_i32_655 : BitVec 32 := 16#32
  let v1551 : BitVec 1 := Scalar.cmpi .sle v1549 c16_i32_655
  let v1552 : BitVec 1 := Scalar.andi v1550 v1551
  let v1553 : BitVec 32 := Scalar.extui v1552
  let c0_i32_656 : BitVec 32 := 0#32
  let v1554 : BitVec 1 := Scalar.cmpi .ne v1553 c0_i32_656
  v1554

@[reducible] def k0_t11_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off732 (k0_t11 : Fin k0_t11_loop.trips) : Fin 3 → Nat :=
  let c0_i32_754 : BitVec 32 := 0#32
  let c1_i32_756 : BitVec 32 := 1#32
  let arg26 : BitVec 32 := Scf.iv c0_i32_754 c1_i32_756 k0_t11
  let v1790 : Index := Scalar.indexCast arg26
  let c0_775 : Index := 0#32
  let c0_776 : Index := 0#32
  ![v1790.toNat, 0, 0]
def k0_off733 (k0_t11 : Fin k0_t11_loop.trips) : Fin 3 → Nat :=
  let c0_i32_754 : BitVec 32 := 0#32
  let c1_i32_756 : BitVec 32 := 1#32
  let arg26 : BitVec 32 := Scf.iv c0_i32_754 c1_i32_756 k0_t11
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off734 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond6 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c16_i32_657 : BitVec 32 := 16#32
  let v1555 : BitVec 1 := Scalar.cmpi .sgt v1549 c16_i32_657
  let c32_i32 : BitVec 32 := 32#32
  let v1556 : BitVec 1 := Scalar.cmpi .sle v1549 c32_i32
  let v1557 : BitVec 1 := Scalar.andi v1555 v1556
  let v1558 : BitVec 32 := Scalar.extui v1557
  let c0_i32_658 : BitVec 32 := 0#32
  let v1559 : BitVec 1 := Scalar.cmpi .ne v1558 c0_i32_658
  v1559

@[reducible] def k0_t12_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off735 (k0_t12 : Fin k0_t12_loop.trips) : Fin 3 → Nat :=
  let c0_i32_754 : BitVec 32 := 0#32
  let c1_i32_756 : BitVec 32 := 1#32
  let arg26 : BitVec 32 := Scf.iv c0_i32_754 c1_i32_756 k0_t12
  let v1790 : Index := Scalar.indexCast arg26
  let c0_775 : Index := 0#32
  let c0_776 : Index := 0#32
  ![v1790.toNat, 0, 0]
def k0_off736 (k0_t12 : Fin k0_t12_loop.trips) : Fin 3 → Nat :=
  let c0_i32_754 : BitVec 32 := 0#32
  let c1_i32_756 : BitVec 32 := 1#32
  let arg26 : BitVec 32 := Scf.iv c0_i32_754 c1_i32_756 k0_t12
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off737 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond7 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c32_i32_659 : BitVec 32 := 32#32
  let v1560 : BitVec 1 := Scalar.cmpi .sgt v1549 c32_i32_659
  let c48_i32 : BitVec 32 := 48#32
  let v1561 : BitVec 1 := Scalar.cmpi .sle v1549 c48_i32
  let v1562 : BitVec 1 := Scalar.andi v1560 v1561
  let v1563 : BitVec 32 := Scalar.extui v1562
  let c0_i32_660 : BitVec 32 := 0#32
  let v1564 : BitVec 1 := Scalar.cmpi .ne v1563 c0_i32_660
  v1564

@[reducible] def k0_t13_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off738 (k0_t13 : Fin k0_t13_loop.trips) : Fin 3 → Nat :=
  let c0_i32_754 : BitVec 32 := 0#32
  let c1_i32_756 : BitVec 32 := 1#32
  let arg26 : BitVec 32 := Scf.iv c0_i32_754 c1_i32_756 k0_t13
  let v1790 : Index := Scalar.indexCast arg26
  let c0_775 : Index := 0#32
  let c0_776 : Index := 0#32
  ![v1790.toNat, 0, 0]
def k0_off739 (k0_t13 : Fin k0_t13_loop.trips) : Fin 3 → Nat :=
  let c0_i32_754 : BitVec 32 := 0#32
  let c1_i32_756 : BitVec 32 := 1#32
  let arg26 : BitVec 32 := Scf.iv c0_i32_754 c1_i32_756 k0_t13
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off740 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond8 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c48_i32_661 : BitVec 32 := 48#32
  let v1565 : BitVec 1 := Scalar.cmpi .sgt v1549 c48_i32_661
  let c64_i32 : BitVec 32 := 64#32
  let v1566 : BitVec 1 := Scalar.cmpi .sle v1549 c64_i32
  let v1567 : BitVec 1 := Scalar.andi v1565 v1566
  let v1568 : BitVec 32 := Scalar.extui v1567
  let c0_i32_662 : BitVec 32 := 0#32
  let v1569 : BitVec 1 := Scalar.cmpi .ne v1568 c0_i32_662
  v1569

@[reducible] def k0_t14_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off741 (k0_t14 : Fin k0_t14_loop.trips) : Fin 3 → Nat :=
  let c0_i32_754 : BitVec 32 := 0#32
  let c1_i32_756 : BitVec 32 := 1#32
  let arg26 : BitVec 32 := Scf.iv c0_i32_754 c1_i32_756 k0_t14
  let v1790 : Index := Scalar.indexCast arg26
  let c0_775 : Index := 0#32
  let c0_776 : Index := 0#32
  ![v1790.toNat, 0, 0]
def k0_off742 (k0_t14 : Fin k0_t14_loop.trips) : Fin 3 → Nat :=
  let c0_i32_754 : BitVec 32 := 0#32
  let c1_i32_756 : BitVec 32 := 1#32
  let arg26 : BitVec 32 := Scf.iv c0_i32_754 c1_i32_756 k0_t14
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off743 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond9 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c64_i32_663 : BitVec 32 := 64#32
  let v1570 : BitVec 1 := Scalar.cmpi .sgt v1549 c64_i32_663
  let c80_i32 : BitVec 32 := 80#32
  let v1571 : BitVec 1 := Scalar.cmpi .sle v1549 c80_i32
  let v1572 : BitVec 1 := Scalar.andi v1570 v1571
  let v1573 : BitVec 32 := Scalar.extui v1572
  let c0_i32_664 : BitVec 32 := 0#32
  let v1574 : BitVec 1 := Scalar.cmpi .ne v1573 c0_i32_664
  v1574

@[reducible] def k0_t15_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off744 (k0_t15 : Fin k0_t15_loop.trips) : Fin 3 → Nat :=
  let c0_i32_754 : BitVec 32 := 0#32
  let c1_i32_756 : BitVec 32 := 1#32
  let arg26 : BitVec 32 := Scf.iv c0_i32_754 c1_i32_756 k0_t15
  let v1790 : Index := Scalar.indexCast arg26
  let c0_775 : Index := 0#32
  let c0_776 : Index := 0#32
  ![v1790.toNat, 0, 0]
def k0_off745 (k0_t15 : Fin k0_t15_loop.trips) : Fin 3 → Nat :=
  let c0_i32_754 : BitVec 32 := 0#32
  let c1_i32_756 : BitVec 32 := 1#32
  let arg26 : BitVec 32 := Scf.iv c0_i32_754 c1_i32_756 k0_t15
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off746 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond10 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c80_i32_665 : BitVec 32 := 80#32
  let v1575 : BitVec 1 := Scalar.cmpi .sgt v1549 c80_i32_665
  let c96_i32 : BitVec 32 := 96#32
  let v1576 : BitVec 1 := Scalar.cmpi .sle v1549 c96_i32
  let v1577 : BitVec 1 := Scalar.andi v1575 v1576
  let v1578 : BitVec 32 := Scalar.extui v1577
  let c0_i32_666 : BitVec 32 := 0#32
  let v1579 : BitVec 1 := Scalar.cmpi .ne v1578 c0_i32_666
  v1579

@[reducible] def k0_t16_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off747 (k0_t16 : Fin k0_t16_loop.trips) : Fin 3 → Nat :=
  let c0_i32_754 : BitVec 32 := 0#32
  let c1_i32_756 : BitVec 32 := 1#32
  let arg26 : BitVec 32 := Scf.iv c0_i32_754 c1_i32_756 k0_t16
  let v1790 : Index := Scalar.indexCast arg26
  let c0_775 : Index := 0#32
  let c0_776 : Index := 0#32
  ![v1790.toNat, 0, 0]
def k0_off748 (k0_t16 : Fin k0_t16_loop.trips) : Fin 3 → Nat :=
  let c0_i32_754 : BitVec 32 := 0#32
  let c1_i32_756 : BitVec 32 := 1#32
  let arg26 : BitVec 32 := Scf.iv c0_i32_754 c1_i32_756 k0_t16
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off749 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond11 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c96_i32_667 : BitVec 32 := 96#32
  let v1580 : BitVec 1 := Scalar.cmpi .sgt v1549 c96_i32_667
  let c112_i32 : BitVec 32 := 112#32
  let v1581 : BitVec 1 := Scalar.cmpi .sle v1549 c112_i32
  let v1582 : BitVec 1 := Scalar.andi v1580 v1581
  let v1583 : BitVec 32 := Scalar.extui v1582
  let c0_i32_668 : BitVec 32 := 0#32
  let v1584 : BitVec 1 := Scalar.cmpi .ne v1583 c0_i32_668
  v1584

@[reducible] def k0_t17_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off750 (k0_t17 : Fin k0_t17_loop.trips) : Fin 3 → Nat :=
  let c0_i32_754 : BitVec 32 := 0#32
  let c1_i32_756 : BitVec 32 := 1#32
  let arg26 : BitVec 32 := Scf.iv c0_i32_754 c1_i32_756 k0_t17
  let v1790 : Index := Scalar.indexCast arg26
  let c0_775 : Index := 0#32
  let c0_776 : Index := 0#32
  ![v1790.toNat, 0, 0]
def k0_off751 (k0_t17 : Fin k0_t17_loop.trips) : Fin 3 → Nat :=
  let c0_i32_754 : BitVec 32 := 0#32
  let c1_i32_756 : BitVec 32 := 1#32
  let arg26 : BitVec 32 := Scf.iv c0_i32_754 c1_i32_756 k0_t17
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off752 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond12 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c112_i32_669 : BitVec 32 := 112#32
  let v1585 : BitVec 1 := Scalar.cmpi .sgt v1549 c112_i32_669
  let c128_i32_670 : BitVec 32 := 128#32
  let v1586 : BitVec 1 := Scalar.cmpi .sle v1549 c128_i32_670
  let v1587 : BitVec 1 := Scalar.andi v1585 v1586
  let v1588 : BitVec 32 := Scalar.extui v1587
  let c0_i32_671 : BitVec 32 := 0#32
  let v1589 : BitVec 1 := Scalar.cmpi .ne v1588 c0_i32_671
  v1589

@[reducible] def k0_t18_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off753 (k0_t18 : Fin k0_t18_loop.trips) : Fin 3 → Nat :=
  let c0_i32_754 : BitVec 32 := 0#32
  let c1_i32_756 : BitVec 32 := 1#32
  let arg26 : BitVec 32 := Scf.iv c0_i32_754 c1_i32_756 k0_t18
  let v1790 : Index := Scalar.indexCast arg26
  let c0_775 : Index := 0#32
  let c0_776 : Index := 0#32
  ![v1790.toNat, 0, 0]
def k0_off754 (k0_t18 : Fin k0_t18_loop.trips) : Fin 3 → Nat :=
  let c0_i32_754 : BitVec 32 := 0#32
  let c1_i32_756 : BitVec 32 := 1#32
  let arg26 : BitVec 32 := Scf.iv c0_i32_754 c1_i32_756 k0_t18
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off755 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond13 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c128_i32_672 : BitVec 32 := 128#32
  let v1590 : BitVec 1 := Scalar.cmpi .sgt v1549 c128_i32_672
  let c144_i32 : BitVec 32 := 144#32
  let v1591 : BitVec 1 := Scalar.cmpi .sle v1549 c144_i32
  let v1592 : BitVec 1 := Scalar.andi v1590 v1591
  let v1593 : BitVec 32 := Scalar.extui v1592
  let c0_i32_673 : BitVec 32 := 0#32
  let v1594 : BitVec 1 := Scalar.cmpi .ne v1593 c0_i32_673
  v1594

@[reducible] def k0_t19_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off756 (k0_t19 : Fin k0_t19_loop.trips) : Fin 3 → Nat :=
  let c0_i32_754 : BitVec 32 := 0#32
  let c1_i32_756 : BitVec 32 := 1#32
  let arg26 : BitVec 32 := Scf.iv c0_i32_754 c1_i32_756 k0_t19
  let v1790 : Index := Scalar.indexCast arg26
  let c0_775 : Index := 0#32
  let c0_776 : Index := 0#32
  ![v1790.toNat, 0, 0]
def k0_off757 (k0_t19 : Fin k0_t19_loop.trips) : Fin 3 → Nat :=
  let c0_i32_754 : BitVec 32 := 0#32
  let c1_i32_756 : BitVec 32 := 1#32
  let arg26 : BitVec 32 := Scf.iv c0_i32_754 c1_i32_756 k0_t19
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off758 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond14 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c144_i32_674 : BitVec 32 := 144#32
  let v1595 : BitVec 1 := Scalar.cmpi .sgt v1549 c144_i32_674
  let c160_i32 : BitVec 32 := 160#32
  let v1596 : BitVec 1 := Scalar.cmpi .sle v1549 c160_i32
  let v1597 : BitVec 1 := Scalar.andi v1595 v1596
  let v1598 : BitVec 32 := Scalar.extui v1597
  let c0_i32_675 : BitVec 32 := 0#32
  let v1599 : BitVec 1 := Scalar.cmpi .ne v1598 c0_i32_675
  v1599

@[reducible] def k0_t20_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off759 (k0_t20 : Fin k0_t20_loop.trips) : Fin 3 → Nat :=
  let c0_i32_754 : BitVec 32 := 0#32
  let c1_i32_756 : BitVec 32 := 1#32
  let arg26 : BitVec 32 := Scf.iv c0_i32_754 c1_i32_756 k0_t20
  let v1790 : Index := Scalar.indexCast arg26
  let c0_775 : Index := 0#32
  let c0_776 : Index := 0#32
  ![v1790.toNat, 0, 0]
def k0_off760 (k0_t20 : Fin k0_t20_loop.trips) : Fin 3 → Nat :=
  let c0_i32_754 : BitVec 32 := 0#32
  let c1_i32_756 : BitVec 32 := 1#32
  let arg26 : BitVec 32 := Scf.iv c0_i32_754 c1_i32_756 k0_t20
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off761 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond15 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c160_i32_676 : BitVec 32 := 160#32
  let v1600 : BitVec 1 := Scalar.cmpi .sgt v1549 c160_i32_676
  let c176_i32 : BitVec 32 := 176#32
  let v1601 : BitVec 1 := Scalar.cmpi .sle v1549 c176_i32
  let v1602 : BitVec 1 := Scalar.andi v1600 v1601
  let v1603 : BitVec 32 := Scalar.extui v1602
  let c0_i32_677 : BitVec 32 := 0#32
  let v1604 : BitVec 1 := Scalar.cmpi .ne v1603 c0_i32_677
  v1604

@[reducible] def k0_t21_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off762 (k0_t21 : Fin k0_t21_loop.trips) : Fin 3 → Nat :=
  let c0_i32_754 : BitVec 32 := 0#32
  let c1_i32_756 : BitVec 32 := 1#32
  let arg26 : BitVec 32 := Scf.iv c0_i32_754 c1_i32_756 k0_t21
  let v1790 : Index := Scalar.indexCast arg26
  let c0_775 : Index := 0#32
  let c0_776 : Index := 0#32
  ![v1790.toNat, 0, 0]
def k0_off763 (k0_t21 : Fin k0_t21_loop.trips) : Fin 3 → Nat :=
  let c0_i32_754 : BitVec 32 := 0#32
  let c1_i32_756 : BitVec 32 := 1#32
  let arg26 : BitVec 32 := Scf.iv c0_i32_754 c1_i32_756 k0_t21
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off764 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond16 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c176_i32_678 : BitVec 32 := 176#32
  let v1605 : BitVec 1 := Scalar.cmpi .sgt v1549 c176_i32_678
  let c192_i32 : BitVec 32 := 192#32
  let v1606 : BitVec 1 := Scalar.cmpi .sle v1549 c192_i32
  let v1607 : BitVec 1 := Scalar.andi v1605 v1606
  let v1608 : BitVec 32 := Scalar.extui v1607
  let c0_i32_679 : BitVec 32 := 0#32
  let v1609 : BitVec 1 := Scalar.cmpi .ne v1608 c0_i32_679
  v1609

@[reducible] def k0_t22_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off765 (k0_t22 : Fin k0_t22_loop.trips) : Fin 3 → Nat :=
  let c0_i32_754 : BitVec 32 := 0#32
  let c1_i32_756 : BitVec 32 := 1#32
  let arg26 : BitVec 32 := Scf.iv c0_i32_754 c1_i32_756 k0_t22
  let v1790 : Index := Scalar.indexCast arg26
  let c0_775 : Index := 0#32
  let c0_776 : Index := 0#32
  ![v1790.toNat, 0, 0]
def k0_off766 (k0_t22 : Fin k0_t22_loop.trips) : Fin 3 → Nat :=
  let c0_i32_754 : BitVec 32 := 0#32
  let c1_i32_756 : BitVec 32 := 1#32
  let arg26 : BitVec 32 := Scf.iv c0_i32_754 c1_i32_756 k0_t22
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off767 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond17 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c192_i32_680 : BitVec 32 := 192#32
  let v1610 : BitVec 1 := Scalar.cmpi .sgt v1549 c192_i32_680
  let c208_i32 : BitVec 32 := 208#32
  let v1611 : BitVec 1 := Scalar.cmpi .sle v1549 c208_i32
  let v1612 : BitVec 1 := Scalar.andi v1610 v1611
  let v1613 : BitVec 32 := Scalar.extui v1612
  let c0_i32_681 : BitVec 32 := 0#32
  let v1614 : BitVec 1 := Scalar.cmpi .ne v1613 c0_i32_681
  v1614

@[reducible] def k0_t23_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off768 (k0_t23 : Fin k0_t23_loop.trips) : Fin 3 → Nat :=
  let c0_i32_754 : BitVec 32 := 0#32
  let c1_i32_756 : BitVec 32 := 1#32
  let arg26 : BitVec 32 := Scf.iv c0_i32_754 c1_i32_756 k0_t23
  let v1790 : Index := Scalar.indexCast arg26
  let c0_775 : Index := 0#32
  let c0_776 : Index := 0#32
  ![v1790.toNat, 0, 0]
def k0_off769 (k0_t23 : Fin k0_t23_loop.trips) : Fin 3 → Nat :=
  let c0_i32_754 : BitVec 32 := 0#32
  let c1_i32_756 : BitVec 32 := 1#32
  let arg26 : BitVec 32 := Scf.iv c0_i32_754 c1_i32_756 k0_t23
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off770 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond18 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c208_i32_682 : BitVec 32 := 208#32
  let v1615 : BitVec 1 := Scalar.cmpi .sgt v1549 c208_i32_682
  let c224_i32 : BitVec 32 := 224#32
  let v1616 : BitVec 1 := Scalar.cmpi .sle v1549 c224_i32
  let v1617 : BitVec 1 := Scalar.andi v1615 v1616
  let v1618 : BitVec 32 := Scalar.extui v1617
  let c0_i32_683 : BitVec 32 := 0#32
  let v1619 : BitVec 1 := Scalar.cmpi .ne v1618 c0_i32_683
  v1619

@[reducible] def k0_t24_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off771 (k0_t24 : Fin k0_t24_loop.trips) : Fin 3 → Nat :=
  let c0_i32_754 : BitVec 32 := 0#32
  let c1_i32_756 : BitVec 32 := 1#32
  let arg26 : BitVec 32 := Scf.iv c0_i32_754 c1_i32_756 k0_t24
  let v1790 : Index := Scalar.indexCast arg26
  let c0_775 : Index := 0#32
  let c0_776 : Index := 0#32
  ![v1790.toNat, 0, 0]
def k0_off772 (k0_t24 : Fin k0_t24_loop.trips) : Fin 3 → Nat :=
  let c0_i32_754 : BitVec 32 := 0#32
  let c1_i32_756 : BitVec 32 := 1#32
  let arg26 : BitVec 32 := Scf.iv c0_i32_754 c1_i32_756 k0_t24
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off773 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond19 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c224_i32_684 : BitVec 32 := 224#32
  let v1620 : BitVec 1 := Scalar.cmpi .sgt v1549 c224_i32_684
  let c240_i32 : BitVec 32 := 240#32
  let v1621 : BitVec 1 := Scalar.cmpi .sle v1549 c240_i32
  let v1622 : BitVec 1 := Scalar.andi v1620 v1621
  let v1623 : BitVec 32 := Scalar.extui v1622
  let c0_i32_685 : BitVec 32 := 0#32
  let v1624 : BitVec 1 := Scalar.cmpi .ne v1623 c0_i32_685
  v1624

@[reducible] def k0_t25_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off774 (k0_t25 : Fin k0_t25_loop.trips) : Fin 3 → Nat :=
  let c0_i32_754 : BitVec 32 := 0#32
  let c1_i32_756 : BitVec 32 := 1#32
  let arg26 : BitVec 32 := Scf.iv c0_i32_754 c1_i32_756 k0_t25
  let v1790 : Index := Scalar.indexCast arg26
  let c0_775 : Index := 0#32
  let c0_776 : Index := 0#32
  ![v1790.toNat, 0, 0]
def k0_off775 (k0_t25 : Fin k0_t25_loop.trips) : Fin 3 → Nat :=
  let c0_i32_754 : BitVec 32 := 0#32
  let c1_i32_756 : BitVec 32 := 1#32
  let arg26 : BitVec 32 := Scf.iv c0_i32_754 c1_i32_756 k0_t25
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off776 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_cond20 (i : grid0.Coords) : BitVec 1 :=
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let c16_i32_653 : BitVec 32 := 16#32
  let v1549 : BitVec 32 := Scalar.muli v1548 c16_i32_653
  let c240_i32_686 : BitVec 32 := 240#32
  let v1625 : BitVec 1 := Scalar.cmpi .sgt v1549 c240_i32_686
  let c256_i32 : BitVec 32 := 256#32
  let v1626 : BitVec 1 := Scalar.cmpi .sle v1549 c256_i32
  let v1627 : BitVec 1 := Scalar.andi v1625 v1626
  let v1628 : BitVec 32 := Scalar.extui v1627
  let c0_i32_687 : BitVec 32 := 0#32
  let v1629 : BitVec 1 := Scalar.cmpi .ne v1628 c0_i32_687
  v1629

@[reducible] def k0_t26_loop : Scf.Loop 32 :=
  let c0_i32_754 : BitVec 32 := 0#32
  let c32_i32_755 : BitVec 32 := 32#32
  let v1761 : BitVec 32 := Scalar.addi c0_i32_754 c32_i32_755
  let c1_i32_756 : BitVec 32 := 1#32
  ⟨c0_i32_754, v1761, c1_i32_756⟩
def k0_off777 (k0_t26 : Fin k0_t26_loop.trips) : Fin 3 → Nat :=
  let c0_i32_754 : BitVec 32 := 0#32
  let c1_i32_756 : BitVec 32 := 1#32
  let arg26 : BitVec 32 := Scf.iv c0_i32_754 c1_i32_756 k0_t26
  let v1790 : Index := Scalar.indexCast arg26
  let c0_775 : Index := 0#32
  let c0_776 : Index := 0#32
  ![v1790.toNat, 0, 0]
def k0_off778 (k0_t26 : Fin k0_t26_loop.trips) : Fin 3 → Nat :=
  let c0_i32_754 : BitVec 32 := 0#32
  let c1_i32_756 : BitVec 32 := 1#32
  let arg26 : BitVec 32 := Scf.iv c0_i32_754 c1_i32_756 k0_t26
  let c1_i32_781 : BitVec 32 := 1#32
  let v1802 : BitVec 32 := Scalar.addi arg26 c1_i32_781
  let c31_i32_782 : BitVec 32 := 31#32
  let v1803 : BitVec 32 := Scalar.minsi v1802 c31_i32_782
  let v1804 : Index := Scalar.indexCast v1803
  let c0_783 : Index := 0#32
  let c0_784 : Index := 0#32
  ![v1804.toNat, 0, 0]
def k0_off779 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1765 : Index := Scalar.indexCast v20
  let c0_759 : Index := 0#32
  let c0_760 : Index := 0#32
  ![v1765.toNat, 0, 0]
def k0_off780 (i : grid0.Coords) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1630 : Index := Scalar.indexCast v20
  let c0_688 : Index := 0#32
  let c0_689 : Index := 0#32
  ![v1630.toNat, 0, 0]
@[reducible] def k0_t27_loop : Scf.Loop 32 :=
  let c0_i32_744 : BitVec 32 := 0#32
  let c13_i32 : BitVec 32 := 13#32
  let v1745 : BitVec 32 := Scalar.addi c0_i32_744 c13_i32
  let c1_i32_745 : BitVec 32 := 1#32
  ⟨c0_i32_744, v1745, c1_i32_745⟩
@[reducible] def k0_t28_loop (i : grid0.Coords) : Scf.Loop 32 :=
  let c0_i32_754 : BitVec 32 := 0#32
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1757 : BitVec 32 := Scalar.subi v1548 c0_i32_754
  let c1_i32_755 : BitVec 32 := 1#32
  let v1759 : BitVec 32 := Scalar.divsi v1757 c1_i32_755
  let v1760 : BitVec 32 := Scalar.muli v1759 c1_i32_755
  let v1761 : BitVec 32 := Scalar.addi c0_i32_754 v1760
  let c1_i32_756 : BitVec 32 := 1#32
  ⟨c0_i32_754, v1761, c1_i32_756⟩
def k0_mult77 (i : grid0.Coords) (k0_t28 : Fin (k0_t28_loop i).trips) : BitVec 32 :=
  let c0_i32_754 : BitVec 32 := 0#32
  let c1_i32_756 : BitVec 32 := 1#32
  let arg28 : BitVec 32 := Scf.iv c0_i32_754 c1_i32_756 k0_t28
  let c512_i32_759 : BitVec 32 := 512#32
  let v1768 : BitVec 32 := Scalar.muli arg28 c512_i32_759
  v1768
def k0_off781 (i : grid0.Coords) (k0_t28 : Fin (k0_t28_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1770 : Index := Scalar.indexCast v20
  let c0_i32_754 : BitVec 32 := 0#32
  let c1_i32_756 : BitVec 32 := 1#32
  let arg28 : BitVec 32 := Scf.iv c0_i32_754 c1_i32_756 k0_t28
  let c512_i32_759 : BitVec 32 := 512#32
  let v1768 : BitVec 32 := Scalar.muli arg28 c512_i32_759
  let v1769 : BitVec 32 := v1768
  let v1771 : Index := Scalar.indexCast v1769
  let c0_760 : Index := 0#32
  ![v1770.toNat, v1771.toNat, 0]
@[reducible] def k0_t29_loop (i : grid0.Coords) : Scf.Loop 32 :=
  let c0_i32_754 : BitVec 32 := 0#32
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1757 : BitVec 32 := Scalar.subi v1548 c0_i32_754
  let c1_i32_755 : BitVec 32 := 1#32
  let v1759 : BitVec 32 := Scalar.divsi v1757 c1_i32_755
  let v1760 : BitVec 32 := Scalar.muli v1759 c1_i32_755
  let v1761 : BitVec 32 := Scalar.addi c0_i32_754 v1760
  let v1758 : BitVec 32 := Scalar.addi c0_i32_754 v1757
  let c1_i32_757 : BitVec 32 := 1#32
  ⟨v1761, v1758, c1_i32_757⟩
def k0_mult78 (i : grid0.Coords) (k0_t29 : Fin (k0_t29_loop i).trips) : BitVec 32 :=
  let c0_i32_754 : BitVec 32 := 0#32
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1757 : BitVec 32 := Scalar.subi v1548 c0_i32_754
  let c1_i32_755 : BitVec 32 := 1#32
  let v1759 : BitVec 32 := Scalar.divsi v1757 c1_i32_755
  let v1760 : BitVec 32 := Scalar.muli v1759 c1_i32_755
  let v1761 : BitVec 32 := Scalar.addi c0_i32_754 v1760
  let c1_i32_757 : BitVec 32 := 1#32
  let arg28 : BitVec 32 := Scf.iv v1761 c1_i32_757 k0_t29
  let c512_i32_759 : BitVec 32 := 512#32
  let v1768 : BitVec 32 := Scalar.muli arg28 c512_i32_759
  v1768
def k0_off782 (i : grid0.Coords) (k0_t29 : Fin (k0_t29_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1770 : Index := Scalar.indexCast v20
  let c0_i32_754 : BitVec 32 := 0#32
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1757 : BitVec 32 := Scalar.subi v1548 c0_i32_754
  let c1_i32_755 : BitVec 32 := 1#32
  let v1759 : BitVec 32 := Scalar.divsi v1757 c1_i32_755
  let v1760 : BitVec 32 := Scalar.muli v1759 c1_i32_755
  let v1761 : BitVec 32 := Scalar.addi c0_i32_754 v1760
  let c1_i32_757 : BitVec 32 := 1#32
  let arg28 : BitVec 32 := Scf.iv v1761 c1_i32_757 k0_t29
  let c512_i32_759 : BitVec 32 := 512#32
  let v1768 : BitVec 32 := Scalar.muli arg28 c512_i32_759
  let v1769 : BitVec 32 := v1768
  let v1771 : Index := Scalar.indexCast v1769
  let c0_760 : Index := 0#32
  ![v1770.toNat, v1771.toNat, 0]
@[reducible] def k0_t30_loop (i : grid0.Coords) : Scf.Loop 32 :=
  let c0_i32_748 : BitVec 32 := 0#32
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1747 : BitVec 32 := Scalar.subi v1548 c0_i32_748
  let c1_i32_749 : BitVec 32 := 1#32
  let v1749 : BitVec 32 := Scalar.divsi v1747 c1_i32_749
  let v1750 : BitVec 32 := Scalar.muli v1749 c1_i32_749
  let v1751 : BitVec 32 := Scalar.addi c0_i32_748 v1750
  let c1_i32_750 : BitVec 32 := 1#32
  ⟨c0_i32_748, v1751, c1_i32_750⟩
def k0_mult79 (i : grid0.Coords) (k0_t30 : Fin (k0_t30_loop i).trips) : BitVec 32 :=
  let c0_i32_748 : BitVec 32 := 0#32
  let c1_i32_750 : BitVec 32 := 1#32
  let arg26 : BitVec 32 := Scf.iv c0_i32_748 c1_i32_750 k0_t30
  let c512_i32_752 : BitVec 32 := 512#32
  let v1752 : BitVec 32 := Scalar.muli arg26 c512_i32_752
  v1752
def k0_off783 (i : grid0.Coords) (k0_t30 : Fin (k0_t30_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1754 : Index := Scalar.indexCast v20
  let c0_i32_748 : BitVec 32 := 0#32
  let c1_i32_750 : BitVec 32 := 1#32
  let arg26 : BitVec 32 := Scf.iv c0_i32_748 c1_i32_750 k0_t30
  let c512_i32_752 : BitVec 32 := 512#32
  let v1752 : BitVec 32 := Scalar.muli arg26 c512_i32_752
  let v1753 : BitVec 32 := v1752
  let v1755 : Index := Scalar.indexCast v1753
  let c0_753 : Index := 0#32
  ![v1754.toNat, v1755.toNat, 0]
@[reducible] def k0_t31_loop (i : grid0.Coords) : Scf.Loop 32 :=
  let c0_i32_748 : BitVec 32 := 0#32
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1747 : BitVec 32 := Scalar.subi v1548 c0_i32_748
  let c1_i32_749 : BitVec 32 := 1#32
  let v1749 : BitVec 32 := Scalar.divsi v1747 c1_i32_749
  let v1750 : BitVec 32 := Scalar.muli v1749 c1_i32_749
  let v1751 : BitVec 32 := Scalar.addi c0_i32_748 v1750
  let v1748 : BitVec 32 := Scalar.addi c0_i32_748 v1747
  let c1_i32_751 : BitVec 32 := 1#32
  ⟨v1751, v1748, c1_i32_751⟩
def k0_mult80 (i : grid0.Coords) (k0_t31 : Fin (k0_t31_loop i).trips) : BitVec 32 :=
  let c0_i32_748 : BitVec 32 := 0#32
  let arg1 : BitVec 32 := BitVec.ofNat 32 (i 1).val
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1747 : BitVec 32 := Scalar.subi v1548 c0_i32_748
  let c1_i32_749 : BitVec 32 := 1#32
  let v1749 : BitVec 32 := Scalar.divsi v1747 c1_i32_749
  let v1750 : BitVec 32 := Scalar.muli v1749 c1_i32_749
  let v1751 : BitVec 32 := Scalar.addi c0_i32_748 v1750
  let c1_i32_751 : BitVec 32 := 1#32
  let arg26 : BitVec 32 := Scf.iv v1751 c1_i32_751 k0_t31
  let c512_i32_752 : BitVec 32 := 512#32
  let v1752 : BitVec 32 := Scalar.muli arg26 c512_i32_752
  v1752
def k0_off784 (i : grid0.Coords) (k0_t31 : Fin (k0_t31_loop i).trips) : Fin 3 → Nat :=
  let c1_i32_8 : BitVec 32 := 1#32
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v20 : BitVec 32 := Scalar.subi c1_i32_8 v19
  let v1754 : Index := Scalar.indexCast v20
  let c0_i32_748 : BitVec 32 := 0#32
  let c1_i32_9 : BitVec 32 := 1#32
  let v21 : BitVec 32 := Scalar.addi arg1 c1_i32_9
  let c63_i32 : BitVec 32 := 63#32
  let v22 : BitVec 32 := Scalar.minsi v21 c63_i32
  let c4_i32_645 : BitVec 32 := 4#32
  let v1531 : BitVec 32 := Scalar.addi v22 c4_i32_645
  let c0_i32_647 : BitVec 32 := 0#32
  let v1533 : BitVec 1 := Scalar.cmpi .sgt v1531 c0_i32_647
  let v1534 : BitVec 32 := Scalar.extui v1533
  let c0_i32_648 : BitVec 32 := 0#32
  let v1535 : BitVec 1 := Scalar.cmpi .slt v1531 c0_i32_648
  let v1536 : BitVec 32 := Scalar.extui v1535
  let v1537 : BitVec 32 := Scalar.subi v1534 v1536
  let c4_i32_646 : BitVec 32 := 4#32
  let c0_i32_649 : BitVec 32 := 0#32
  let v1538 : BitVec 1 := Scalar.cmpi .sgt c4_i32_646 c0_i32_649
  let v1539 : BitVec 32 := Scalar.extui v1538
  let c0_i32_650 : BitVec 32 := 0#32
  let v1540 : BitVec 1 := Scalar.cmpi .slt c4_i32_646 c0_i32_650
  let v1541 : BitVec 32 := Scalar.extui v1540
  let v1542 : BitVec 32 := Scalar.subi v1539 v1541
  let v1543 : BitVec 1 := Scalar.cmpi .ne v1537 v1542
  let v1544 : BitVec 32 := Scalar.remsi v1531 c4_i32_646
  let c0_i32_651 : BitVec 32 := 0#32
  let v1545 : BitVec 1 := Scalar.cmpi .ne v1544 c0_i32_651
  let v1546 : BitVec 1 := Scalar.andi v1543 v1545
  let v1532 : BitVec 32 := Scalar.divsi v1531 c4_i32_646
  let c1_i32_652 : BitVec 32 := 1#32
  let v1547 : BitVec 32 := Scalar.subi v1532 c1_i32_652
  let v1548 : BitVec 32 := Scalar.select v1546 v1547 v1532
  let v1747 : BitVec 32 := Scalar.subi v1548 c0_i32_748
  let c1_i32_749 : BitVec 32 := 1#32
  let v1749 : BitVec 32 := Scalar.divsi v1747 c1_i32_749
  let v1750 : BitVec 32 := Scalar.muli v1749 c1_i32_749
  let v1751 : BitVec 32 := Scalar.addi c0_i32_748 v1750
  let c1_i32_751 : BitVec 32 := 1#32
  let arg26 : BitVec 32 := Scf.iv v1751 c1_i32_751 k0_t31
  let c512_i32_752 : BitVec 32 := 512#32
  let v1752 : BitVec 32 := Scalar.muli arg26 c512_i32_752
  let v1753 : BitVec 32 := v1752
  let v1755 : Index := Scalar.indexCast v1753
  let c0_753 : Index := 0#32
  ![v1754.toNat, v1755.toNat, 0]
@[reducible] def k0_t32_loop (i : grid0.Coords) : Scf.Loop 32 :=
  let c0_i32_760 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_762 : BitVec 32 := 1#32
  ⟨c0_i32_760, v1764, c1_i32_762⟩
def k0_mult81 (i : grid0.Coords) (k0_t32 : Fin (k0_t32_loop i).trips) : BitVec 32 :=
  let c0_i32_760 : BitVec 32 := 0#32
  let c1_i32_762 : BitVec 32 := 1#32
  let arg26 : BitVec 32 := Scf.iv c0_i32_760 c1_i32_762 k0_t32
  let c512_i32_764 : BitVec 32 := 512#32
  let v1765 : BitVec 32 := Scalar.muli arg26 c512_i32_764
  v1765
def k0_off785 (i : grid0.Coords) (k0_t32 : Fin (k0_t32_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v1767 : Index := Scalar.indexCast v19
  let c0_i32_760 : BitVec 32 := 0#32
  let c1_i32_762 : BitVec 32 := 1#32
  let arg26 : BitVec 32 := Scf.iv c0_i32_760 c1_i32_762 k0_t32
  let c512_i32_764 : BitVec 32 := 512#32
  let v1765 : BitVec 32 := Scalar.muli arg26 c512_i32_764
  let v1766 : BitVec 32 := v1765
  let v1768 : Index := Scalar.indexCast v1766
  let c0_765 : Index := 0#32
  ![v1767.toNat, v1768.toNat, 0]
def k0_off786 (i : grid0.Coords) (k0_t32 : Fin (k0_t32_loop i).trips) : Fin 3 → Nat :=
  let c0_769 : Index := 0#32
  let c0_i32_760 : BitVec 32 := 0#32
  let c1_i32_762 : BitVec 32 := 1#32
  let arg26 : BitVec 32 := Scf.iv c0_i32_760 c1_i32_762 k0_t32
  let c512_i32_764 : BitVec 32 := 512#32
  let v1765 : BitVec 32 := Scalar.muli arg26 c512_i32_764
  let v1766 : BitVec 32 := v1765
  let v1784 : Index := Scalar.indexCast v1766
  let c0_770 : Index := 0#32
  ![0, v1784.toNat, 0]
def k0_off787 (i : grid0.Coords) (k0_t32 : Fin (k0_t32_loop i).trips) (c0_i32_776 : BitVec 32) : Fin 4 → Nat :=
  let c2_i32_778 : BitVec 32 := 2#32
  let c0_i32_777 : BitVec 32 := 0#32
  let arg1 : BitVec 32 := BitVec.ofNat 32 (i 1).val
  let c0_i32_760 : BitVec 32 := 0#32
  let c1_i32_762 : BitVec 32 := 1#32
  let arg26 : BitVec 32 := Scf.iv c0_i32_760 c1_i32_762 k0_t32
  let c4_i32_775 : BitVec 32 := 4#32
  let v1791 : BitVec 32 := Scalar.muli arg26 c4_i32_775
  let v1792 : BitVec 32 := Scalar.addi v1791 c0_i32_776
  let v1793 : BitVec 32 := Scalar.subi arg1 v1792
  let v1794 : BitVec 32 := Scalar.maxsi c0_i32_777 v1793
  let v1795 : BitVec 32 := Scalar.minsi c2_i32_778 v1794
  let v1796 : Index := Scalar.indexCast v1795
  let c0_779 : Index := 0#32
  let c0_780 : Index := 0#32
  let c0_781 : Index := 0#32
  ![v1796.toNat, 0, 0, 0]
def k0_off788 (i : grid0.Coords) (k0_t32 : Fin (k0_t32_loop i).trips) (c0_i32_811 : BitVec 32) : Fin 5 → Nat :=
  let c0_812 : Index := 0#32
  let c0_i32_760 : BitVec 32 := 0#32
  let c1_i32_762 : BitVec 32 := 1#32
  let arg26 : BitVec 32 := Scf.iv c0_i32_760 c1_i32_762 k0_t32
  let c4_i32_810 : BitVec 32 := 4#32
  let v1841 : BitVec 32 := Scalar.muli arg26 c4_i32_810
  let v1842 : BitVec 32 := Scalar.addi v1841 c0_i32_811
  let v1843 : Index := Scalar.indexCast v1842
  let c0_813 : Index := 0#32
  let c0_814 : Index := 0#32
  let c0_815 : Index := 0#32
  ![0, v1843.toNat, 0, 0, 0]
def k0_off789 (i : grid0.Coords) (k0_t32 : Fin (k0_t32_loop i).trips) (c0_i32_846 : BitVec 32) : Fin 4 → Nat :=
  let c2_i32_848 : BitVec 32 := 2#32
  let c0_i32_847 : BitVec 32 := 0#32
  let arg1 : BitVec 32 := BitVec.ofNat 32 (i 1).val
  let c0_i32_760 : BitVec 32 := 0#32
  let c1_i32_762 : BitVec 32 := 1#32
  let arg26 : BitVec 32 := Scf.iv c0_i32_760 c1_i32_762 k0_t32
  let c4_i32_845 : BitVec 32 := 4#32
  let v1874 : BitVec 32 := Scalar.muli arg26 c4_i32_845
  let v1875 : BitVec 32 := Scalar.addi v1874 c0_i32_846
  let v1876 : BitVec 32 := Scalar.subi arg1 v1875
  let v1877 : BitVec 32 := Scalar.maxsi c0_i32_847 v1876
  let v1878 : BitVec 32 := Scalar.minsi c2_i32_848 v1877
  let v1879 : Index := Scalar.indexCast v1878
  let c1_849 : Index := 1#32
  let c0_850 : Index := 0#32
  let c0_851 : Index := 0#32
  ![v1879.toNat, 1, 0, 0]
def k0_off790 (i : grid0.Coords) (k0_t32 : Fin (k0_t32_loop i).trips) (c0_i32_881 : BitVec 32) : Fin 5 → Nat :=
  let c0_882 : Index := 0#32
  let c0_i32_760 : BitVec 32 := 0#32
  let c1_i32_762 : BitVec 32 := 1#32
  let arg26 : BitVec 32 := Scf.iv c0_i32_760 c1_i32_762 k0_t32
  let c4_i32_880 : BitVec 32 := 4#32
  let v1924 : BitVec 32 := Scalar.muli arg26 c4_i32_880
  let v1925 : BitVec 32 := Scalar.addi v1924 c0_i32_881
  let v1926 : Index := Scalar.indexCast v1925
  let c1_883 : Index := 1#32
  let c0_884 : Index := 0#32
  let c0_885 : Index := 0#32
  ![0, v1926.toNat, 1, 0, 0]
@[reducible] def k0_t33_loop (i : grid0.Coords) : Scf.Loop 32 :=
  let c0_i32_760 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let v1761 : BitVec 32 := Scalar.addi c0_i32_760 v1760
  let c1_i32_763 : BitVec 32 := 1#32
  ⟨v1764, v1761, c1_i32_763⟩
def k0_mult82 (i : grid0.Coords) (k0_t33 : Fin (k0_t33_loop i).trips) : BitVec 32 :=
  let c0_i32_760 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c512_i32_764 : BitVec 32 := 512#32
  let v1765 : BitVec 32 := Scalar.muli arg26 c512_i32_764
  v1765
def k0_off791 (i : grid0.Coords) (k0_t33 : Fin (k0_t33_loop i).trips) : Fin 3 → Nat :=
  let arg1 : BitVec 32 := BitVec.ofNat 32 (i 1).val
  let c2_i32 : BitVec 32 := 2#32
  let c0_i32_4 : BitVec 32 := 0#32
  let v10 : BitVec 1 := Scalar.cmpi .eq c2_i32 c0_i32_4
  let c1_i32 : BitVec 32 := 1#32
  let v11 : BitVec 32 := Scalar.select v10 c1_i32 c2_i32
  let v12 : BitVec 32 := Scalar.remsi arg1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v1767 : Index := Scalar.indexCast v19
  let c0_i32_760 : BitVec 32 := 0#32
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c512_i32_764 : BitVec 32 := 512#32
  let v1765 : BitVec 32 := Scalar.muli arg26 c512_i32_764
  let v1766 : BitVec 32 := v1765
  let v1768 : Index := Scalar.indexCast v1766
  let c0_765 : Index := 0#32
  ![v1767.toNat, v1768.toNat, 0]
def k0_off792 (i : grid0.Coords) (k0_t33 : Fin (k0_t33_loop i).trips) : Fin 3 → Nat :=
  let c0_769 : Index := 0#32
  let c0_i32_760 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c512_i32_764 : BitVec 32 := 512#32
  let v1765 : BitVec 32 := Scalar.muli arg26 c512_i32_764
  let v1766 : BitVec 32 := v1765
  let v1784 : Index := Scalar.indexCast v1766
  let c0_770 : Index := 0#32
  ![0, v1784.toNat, 0]
def k0_off793 (i : grid0.Coords) (k0_t33 : Fin (k0_t33_loop i).trips) (c0_i32_776 : BitVec 32) : Fin 4 → Nat :=
  let c2_i32_778 : BitVec 32 := 2#32
  let c0_i32_777 : BitVec 32 := 0#32
  let arg1 : BitVec 32 := BitVec.ofNat 32 (i 1).val
  let c0_i32_760 : BitVec 32 := 0#32
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c4_i32_775 : BitVec 32 := 4#32
  let v1791 : BitVec 32 := Scalar.muli arg26 c4_i32_775
  let v1792 : BitVec 32 := Scalar.addi v1791 c0_i32_776
  let v1793 : BitVec 32 := Scalar.subi arg1 v1792
  let v1794 : BitVec 32 := Scalar.maxsi c0_i32_777 v1793
  let v1795 : BitVec 32 := Scalar.minsi c2_i32_778 v1794
  let v1796 : Index := Scalar.indexCast v1795
  let c0_779 : Index := 0#32
  let c0_780 : Index := 0#32
  let c0_781 : Index := 0#32
  ![v1796.toNat, 0, 0, 0]
def k0_off794 (i : grid0.Coords) (k0_t33 : Fin (k0_t33_loop i).trips) (c0_i32_811 : BitVec 32) : Fin 5 → Nat :=
  let c0_812 : Index := 0#32
  let c0_i32_760 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c4_i32_810 : BitVec 32 := 4#32
  let v1841 : BitVec 32 := Scalar.muli arg26 c4_i32_810
  let v1842 : BitVec 32 := Scalar.addi v1841 c0_i32_811
  let v1843 : Index := Scalar.indexCast v1842
  let c0_813 : Index := 0#32
  let c0_814 : Index := 0#32
  let c0_815 : Index := 0#32
  ![0, v1843.toNat, 0, 0, 0]
def k0_off795 (i : grid0.Coords) (k0_t33 : Fin (k0_t33_loop i).trips) (c0_i32_846 : BitVec 32) : Fin 4 → Nat :=
  let c2_i32_848 : BitVec 32 := 2#32
  let c0_i32_847 : BitVec 32 := 0#32
  let arg1 : BitVec 32 := BitVec.ofNat 32 (i 1).val
  let c0_i32_760 : BitVec 32 := 0#32
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c4_i32_845 : BitVec 32 := 4#32
  let v1874 : BitVec 32 := Scalar.muli arg26 c4_i32_845
  let v1875 : BitVec 32 := Scalar.addi v1874 c0_i32_846
  let v1876 : BitVec 32 := Scalar.subi arg1 v1875
  let v1877 : BitVec 32 := Scalar.maxsi c0_i32_847 v1876
  let v1878 : BitVec 32 := Scalar.minsi c2_i32_848 v1877
  let v1879 : Index := Scalar.indexCast v1878
  let c1_849 : Index := 1#32
  let c0_850 : Index := 0#32
  let c0_851 : Index := 0#32
  ![v1879.toNat, 1, 0, 0]
def k0_off796 (i : grid0.Coords) (k0_t33 : Fin (k0_t33_loop i).trips) (c0_i32_881 : BitVec 32) : Fin 5 → Nat :=
  let c0_882 : Index := 0#32
  let c0_i32_760 : BitVec 32 := 0#32
  let arg1 : BitVec 32 := BitVec.ofNat 32 (i 1).val
  let c4_i32 : BitVec 32 := 4#32
  let v23 : BitVec 32 := Scalar.addi arg1 c4_i32
  let c0_i32_11 : BitVec 32 := 0#32
  let v25 : BitVec 1 := Scalar.cmpi .sgt v23 c0_i32_11
  let v26 : BitVec 32 := Scalar.extui v25
  let c0_i32_12 : BitVec 32 := 0#32
  let v27 : BitVec 1 := Scalar.cmpi .slt v23 c0_i32_12
  let v28 : BitVec 32 := Scalar.extui v27
  let v29 : BitVec 32 := Scalar.subi v26 v28
  let c4_i32_10 : BitVec 32 := 4#32
  let c0_i32_13 : BitVec 32 := 0#32
  let v30 : BitVec 1 := Scalar.cmpi .sgt c4_i32_10 c0_i32_13
  let v31 : BitVec 32 := Scalar.extui v30
  let c0_i32_14 : BitVec 32 := 0#32
  let v32 : BitVec 1 := Scalar.cmpi .slt c4_i32_10 c0_i32_14
  let v33 : BitVec 32 := Scalar.extui v32
  let v34 : BitVec 32 := Scalar.subi v31 v33
  let v35 : BitVec 1 := Scalar.cmpi .ne v29 v34
  let v36 : BitVec 32 := Scalar.remsi v23 c4_i32_10
  let c0_i32_15 : BitVec 32 := 0#32
  let v37 : BitVec 1 := Scalar.cmpi .ne v36 c0_i32_15
  let v38 : BitVec 1 := Scalar.andi v35 v37
  let v24 : BitVec 32 := Scalar.divsi v23 c4_i32_10
  let c1_i32_16 : BitVec 32 := 1#32
  let v39 : BitVec 32 := Scalar.subi v24 c1_i32_16
  let v40 : BitVec 32 := Scalar.select v38 v39 v24
  let v1760 : BitVec 32 := Scalar.subi v40 c0_i32_760
  let c1_i32_761 : BitVec 32 := 1#32
  let v1762 : BitVec 32 := Scalar.divsi v1760 c1_i32_761
  let v1763 : BitVec 32 := Scalar.muli v1762 c1_i32_761
  let v1764 : BitVec 32 := Scalar.addi c0_i32_760 v1763
  let c1_i32_763 : BitVec 32 := 1#32
  let arg26 : BitVec 32 := Scf.iv v1764 c1_i32_763 k0_t33
  let c4_i32_880 : BitVec 32 := 4#32
  let v1924 : BitVec 32 := Scalar.muli arg26 c4_i32_880
  let v1925 : BitVec 32 := Scalar.addi v1924 c0_i32_881
  let v1926 : Index := Scalar.indexCast v1925
  let c1_883 : Index := 1#32
  let c0_884 : Index := 0#32
  let c0_885 : Index := 0#32
  ![0, v1926.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![arg0.toNat, v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x2x80x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2.lean ====
abbrev S2x8192x1024 : Shape := ⟨3, ![2, 8192, 1024]⟩
abbrev S2x8192x512 : Shape := ⟨3, ![2, 8192, 512]⟩
abbrev S2x64x512x128 : Shape := ⟨4, ![2, 64, 512, 128]⟩
abbrev S2x6x1024 : Shape := ⟨3, ![2, 6, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x512 : Shape := ⟨3, ![1, 512, 512]⟩
abbrev S1x4x512x128 : Shape := ⟨4, ![1, 4, 512, 128]⟩
abbrev S1x6x1024 : Shape := ⟨3, ![1, 6, 1024]⟩
abbrev S512x1024 : Shape := ⟨2, ![512, 1024]⟩
abbrev S1x1x512x128 : Shape := ⟨4, ![1, 1, 512, 128]⟩
abbrev S512x128 : Shape := ⟨2, ![512, 128]⟩
abbrev S128x512 : Shape := ⟨2, ![128, 512]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x64x512x128, .bf16⟩
  | .hbm, ⟨3, _⟩ => ⟨S2x6x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x512x1024, .f32⟩
  | .local _ .vmem, ⟨15, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S2x8192x512 : Shape := ⟨3, ![2, 8192, 512]⟩
abbrev S2x64x512x128 : Shape := ⟨4, ![2, 64, 512, 128]⟩
abbrev S2x6x1024 : Shape := ⟨3, ![2, 6, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x1x1024 : Shape := ⟨3, ![2, 1, 1024]⟩
abbrev S2x64x128x512 : Shape := ⟨4, ![2, 64, 128, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x64x512x128, .bf16⟩
  | .hbm, ⟨3, _⟩ => ⟨S2x6x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x64x128x512, .bf16⟩
  | .hbm, ⟨15, _⟩ => ⟨S2x8192x512, .bf16⟩
  | .hbm, ⟨16, _⟩ => ⟨S2x8192x512, .f32⟩
  | .hbm, ⟨17, _⟩ => ⟨S2x8192x512, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x1x1024, .f32⟩
  | .hbm, ⟨57, _⟩ => ⟨S2x1x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x4096, .f32⟩
  | .hbm, ⟨63, _⟩ => ⟨S_, .f32⟩
  | .hbm, ⟨64, _⟩ => ⟨S2x8192x4096, .f32⟩
  | .hbm, ⟨65, _⟩ => ⟨S2x8192x4096, .f32⟩
  | .hbm, ⟨66, _⟩ => ⟨S2x8192x4096, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S1x1x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6x1024 : Shape := ⟨3, ![2, 6, 1024]⟩
abbrev S1024 : Shape := ⟨1, ![1024]⟩
abbrev S1024x2896 : Shape := ⟨2, ![1024, 2896]⟩
abbrev S1x1024 : Shape := ⟨2, ![1, 1024]⟩
abbrev S1024x512 : Shape := ⟨2, ![1024, 512]⟩
abbrev S1024x1024 : Shape := ⟨2, ![1024, 1024]⟩
abbrev S1024x8 : Shape := ⟨2, ![1024, 8]⟩
abbrev S1024x128 : Shape := ⟨2, ![1024, 128]⟩
abbrev S1024x64 : Shape := ⟨2, ![1024, 64]⟩
abbrev S_ : Shape := ⟨0, ![]⟩
abbrev S1024x48 : Shape := ⟨2, ![1024, 48]⟩
abbrev S1024x2944 : Shape := ⟨2, ![1024, 2944]⟩
abbrev S2x8192x512 : Shape := ⟨3, ![2, 8192, 512]⟩
abbrev S2x64x2x64x512 : Shape := ⟨5, ![2, 64, 2, 64, 512]⟩
abbrev S2x8192x128 : Shape := ⟨3, ![2, 8192, 128]⟩
abbrev S2x64x2x80x128 : Shape := ⟨5, ![2, 64, 2, 80, 128]⟩
abbrev S2x64x64x1024 : Shape := ⟨4, ![2, 64, 64, 1024]⟩
abbrev S1x512x1024 : Shape := ⟨3, ![1, 512, 1024]⟩
abbrev S1x6x1024 : Shape := ⟨3, ![1, 6, 1024]⟩
abbrev S1x512x512 : Shape := ⟨3, ![1, 512, 512]⟩
abbrev S1x4x2x64x512 : Shape := ⟨5, ![1, 4, 2, 64, 512]⟩
abbrev S1x512x128 : Shape := ⟨3, ![1, 512, 128]⟩
abbrev S1x4x2x80x128 : Shape := ⟨5, ![1, 4, 2, 80, 128]⟩
abbrev S1x4x64x1024 : Shape := ⟨4, ![1, 4, 64, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x512 : Shape := ⟨2, ![512, 512]⟩
abbrev S128x512 : Shape := ⟨2, ![128, 512]⟩
abbrev S512x128 : Shape := ⟨2, ![512, 128]⟩
abbrev S64x128 : Shape := ⟨2, ![64, 128]⟩
abbrev S1x1x1x64x128 : Shape := ⟨5, ![1, 1, 1, 64, 128]⟩
abbrev S1x1x64x128 : Shape := ⟨4, ![1, 1, 64, 128]⟩
abbrev S1024x384 : Shape := ⟨2, ![1024, 384]⟩
abbrev S512x384 : Shape := ⟨2, ![512, 384]⟩
abbrev S512x256 : Shape := ⟨2, ![512, 256]⟩
abbrev S16x128 : Shape := ⟨2, ![16, 128]⟩
abbrev S128x128 : Shape := ⟨2, ![128, 128]⟩
abbrev S1x1x1x16x128 : Shape := ⟨5, ![1, 1, 1, 16, 128]⟩

abbrev nBuf : Space → Nat
  | .hbm => 26
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x2896, .f32⟩
  | .hbm, ⟨4, _⟩ => ⟨S1x1024, .f32⟩
  | .hbm, ⟨5, _⟩ => ⟨S1024x512, .f32⟩
  | .hbm, ⟨6, _⟩ => ⟨S1024x1024, .f32⟩
  | .hbm, ⟨7, _⟩ => ⟨S1024x8, .f32⟩
  | .hbm, ⟨8, _⟩ => ⟨S1024x512, .f32⟩
  | .hbm, ⟨9, _⟩ => ⟨S1024x128, .f32⟩
  | .hbm, ⟨10, _⟩ => ⟨S1024x128, .f32⟩
  | .hbm, ⟨11, _⟩ => ⟨S1024x512, .f32⟩
  | .hbm, ⟨12, _⟩ => ⟨S1024x64, .f32⟩
  | .hbm, ⟨13, _⟩ => ⟨S1024x8, .f32⟩
  | .hbm, ⟨14, _⟩ => ⟨S_, .f32⟩
  | .hbm, ⟨15, _⟩ => ⟨S1024x48, .f32⟩
  | .hbm, ⟨16, _⟩ => ⟨S1024x2944, .f32⟩
  | .hbm, ⟨17, _⟩ => ⟨S1024x2944, .bf16⟩
  | .hbm, ⟨18, _⟩ => ⟨S2x8192x512, .f32⟩
  | .hbm, ⟨19, _⟩ => ⟨S2x8192x1024, .f32⟩
  | .hbm, ⟨20, _⟩ => ⟨S2x64x2x64x512, .bf16⟩
  | .hbm, ⟨21, _⟩ => ⟨S2x8192x128, .bf16⟩
  | .hbm, ⟨22, _⟩ => ⟨S2x64x2x80x128, .bf16⟩
  | .hbm, ⟨23, _⟩ => ⟨S2x64x64x1024, .bf16⟩
  | .hbm, ⟨24, _⟩ => ⟨S2x8192x128, .f32⟩
  | .hbm, ⟨25, _⟩ => ⟨S2x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S1x512x512, .f32⟩
  | .local _ .vmem, ⟨7, _⟩ => ⟨S1x512x512, .f32⟩
  | .local _ .vmem, ⟨8, _⟩ => ⟨S1x512x1024, .f32⟩
  | .local _ .vmem, ⟨9, _⟩ => ⟨S1x512x1024, .f32⟩
  | .local _ .vmem, ⟨10, _⟩ => ⟨S1x4x2x64x512, .bf16⟩
  | .local _ .vmem, ⟨11, _⟩ => ⟨S1x4x2x64x512, .bf16⟩
  | .local _ .vmem, ⟨12, _⟩ => ⟨S1x512x128, .bf16⟩
  | .local _ .vmem, ⟨13, _⟩ => ⟨S1x512x128, .bf16⟩
  | .local _ .vmem, ⟨14, _⟩ => ⟨S1x4x2x80x128, .bf16⟩
  | .local _ .vmem, ⟨15, _⟩ => ⟨S1x4x2x80x128, .bf16⟩
  | .local _ .vmem, ⟨16, _⟩ => ⟨S1x4x64x1024, .bf16⟩
  | .local _ .vmem, ⟨17, _⟩ => ⟨S1x4x64x1024, .bf16⟩
  | .local _ .vmem, ⟨18, _⟩ => ⟨S1x512x128, .f32⟩
  | .local _ .vmem, ⟨19, _⟩ => ⟨S1x512x128, .f32⟩
  | .local _ .vmem, ⟨20, _⟩ => ⟨S1x512x128, .bf16⟩
  | .local _ .vmem, ⟨21, _⟩ => ⟨S1x512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2x80x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "q_scale" => some (((8 * (Real.log 2))⁻¹ : ℝ) : EReal)
  | _ => none
-- ==== Reference3Ideal.lean ====
abbrev S2x8192x1024 : Shape := ⟨3, ![2, 8192, 1024]⟩
abbrev S2x6x1024 : Shape := ⟨3, ![2, 6, 1024]⟩
abbrev S1024 : Shape := ⟨1, ![1024]⟩
abbrev S1024x2896 : Shape := ⟨2, ![1024, 2896]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2896 : Shape := ⟨3, ![2, 8192, 2896]⟩
abbrev S2x8192x512 : Shape := ⟨3, ![2, 8192, 512]⟩
abbrev S2x8192x8 : Shape := ⟨3, ![2, 8192, 8]⟩
abbrev S2x8192x128 : Shape := ⟨3, ![2, 8192, 128]⟩
abbrev S2x8192x64 : Shape := ⟨3, ![2, 8192, 64]⟩
abbrev S2x64x128x2x4x64 : Shape := ⟨6, ![2, 64, 128, 2, 4, 64]⟩
abbrev S2x64x2x64x4x128 : Shape := ⟨6, ![2, 64, 2, 64, 4, 128]⟩
abbrev S2x64x2x64x512 : Shape := ⟨5, ![2, 64, 2, 64, 512]⟩
abbrev S2x64x128x8x64 : Shape := ⟨5, ![2, 64, 128, 8, 64]⟩
abbrev S2x64x64x8x128 : Shape := ⟨5, ![2, 64, 64, 8, 128]⟩
abbrev S2x64x64x1024 : Shape := ⟨4, ![2, 64, 64, 1024]⟩
abbrev S2x64x128x2x64 : Shape := ⟨5, ![2, 64, 128, 2, 64]⟩
abbrev S2x64x2x64x128 : Shape := ⟨5, ![2, 64, 2, 64, 128]⟩
abbrev S2x64x2x1x128 : Shape := ⟨5, ![2, 64, 2, 1, 128]⟩
abbrev S2x64x2x15x128 : Shape := ⟨5, ![2, 64, 2, 15, 128]⟩
abbrev S2x64x2x80x128 : Shape := ⟨5, ![2, 64, 2, 80, 128]⟩
abbrev S2x8192x48 : Shape := ⟨3, ![2, 8192, 48]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6x1024, .f32⟩
  | .hbm, ⟨2, _⟩ => ⟨S1024, .f32⟩
  | .hbm, ⟨3, _⟩ => ⟨S1024x2896, .f32⟩
  | .hbm, ⟨4, _⟩ => ⟨S2x1x1024, .f32⟩
  | .hbm, ⟨5, _⟩ => ⟨S2x1x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x2896, .f32⟩
  | .hbm, ⟨30, _⟩ => ⟨S2x8192x512, .f32⟩
  | .hbm, ⟨31, _⟩ => ⟨S2x8192x1024, .f32⟩
  | .hbm, ⟨32, _⟩ => ⟨S2x8192x8, .f32⟩
  | .hbm, ⟨33, _⟩ => ⟨S2x8192x512, .f32⟩
  | .hbm, ⟨34, _⟩ => ⟨S2x8192x128, .f32⟩
  | .hbm, ⟨35, _⟩ => ⟨S2x8192x128, .f32⟩
  | .hbm, ⟨36, _⟩ => ⟨S2x8192x512, .f32⟩
  | .hbm, ⟨37, _⟩ => ⟨S2x8192x64, .f32⟩
  | .hbm, ⟨38, _⟩ => ⟨S2x8192x8, .f32⟩
  | .hbm, ⟨39, _⟩ => ⟨S_, .f32⟩
  | .hbm, ⟨40, _⟩ => ⟨S2x8192x512, .f32⟩
  | .hbm, ⟨41, _⟩ => ⟨S2x8192x512, .f32⟩
  | .hbm, ⟨42, _⟩ => ⟨S_, .f32⟩
  | .hbm, ⟨43, _⟩ => ⟨S_, .f32⟩
  | .hbm, ⟨44, _⟩ => ⟨S2x8192x512, .f32⟩
  | .hbm, ⟨45, _⟩ => ⟨S2x8192x512, .f32⟩
  | .hbm, ⟨46, _⟩ => ⟨S2x64x128x2x4x64, .f32⟩
  | .hbm, ⟨47, _⟩ => ⟨S2x64x2x64x4x128, .f32⟩
  | .hbm, ⟨48, _⟩ => ⟨S2x64x2x64x512, .f32⟩
  | .hbm, ⟨49, _⟩ => ⟨S2x64x128x8x64, .f32⟩
  | .hbm, ⟨50, _⟩ => ⟨S2x64x64x8x128, .f32⟩
  | .hbm, ⟨51, _⟩ => ⟨S2x64x64x1024, .f32⟩
  | .hbm, ⟨52, _⟩ => ⟨S2x64x128x2x64, .f32⟩
  | .hbm, ⟨53, _⟩ => ⟨S2x64x2x64x128, .f32⟩
  | .hbm, ⟨54, _⟩ => ⟨S_, .f32⟩
  | .hbm, ⟨55, _⟩ => ⟨S2x64x2x1x128, .f32⟩
  | .hbm, ⟨56, _⟩ => ⟨S_, .f32⟩
  | .hbm, ⟨57, _⟩ => ⟨S2x64x2x15x128, .f32⟩
  | .hbm, ⟨58, _⟩ => ⟨S2x64x2x80x128, .f32⟩
  | .hbm, ⟨59, _⟩ => ⟨S_, .f32⟩
  | .hbm, ⟨60, _⟩ => ⟨S2x8192x48, .f32⟩
  | .hbm, ⟨61, _⟩ => ⟨S2x8192x128, .f32⟩
  | .hbm, ⟨62, _⟩ => ⟨S2x64x2x64x512, .bf16⟩
  | .hbm, ⟨63, _⟩ => ⟨S2x8192x128, .bf16⟩
  | .hbm, ⟨64, _⟩ => ⟨S2x64x2x80x128, .bf16⟩
  | .hbm, ⟨65, _⟩ => ⟨S2x64x64x1024, .bf16⟩
  | .hbm, ⟨66, _⟩ => ⟨S2x8192x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Kernel4.lean ====
abbrev S2x1024 : Shape := ⟨2, ![2, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1 : Shape := ⟨1, ![1]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x1024 : Shape := ⟨2, ![2, 1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩
abbrev S6x6144 : Shape := ⟨2, ![6, 6144]⟩
abbrev S8x6144 : Shape := ⟨2, ![8, 6144]⟩

abbrev nBuf : Space → Nat
  | .hbm => 18
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024x6144, .f32⟩
  | .hbm, ⟨2, _⟩ => ⟨S6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144, .f32⟩
  | .hbm, ⟨13, _⟩ => ⟨S1x6144, .f32⟩
  | .hbm, ⟨14, _⟩ => ⟨S2x6144, .f32⟩
  | .hbm, ⟨15, _⟩ => ⟨S2x6144, .f32⟩
  | .hbm, ⟨16, _⟩ => ⟨S6x6144, .f32⟩
  | .hbm, ⟨17, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x8192x512 : Shape := ⟨3, ![2, 8192, 512]⟩
abbrev S2x8192x128 : Shape := ⟨3, ![2, 8192, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S128 : Shape := ⟨1, ![128]⟩
abbrev S_ : Shape := ⟨0, ![]⟩
abbrev S128x1 : Shape := ⟨2, ![128, 1]⟩
abbrev S1x128 : Shape := ⟨2, ![1, 128]⟩
abbrev S1x512 : Shape := ⟨2, ![1, 512]⟩
abbrev S128x512 : Shape := ⟨2, ![128, 512]⟩
abbrev S8x64 : Shape := ⟨2, ![8, 64]⟩
abbrev S1x1024 : Shape := ⟨2, ![1, 1024]⟩
abbrev S1x256x1024 : Shape := ⟨3, ![1, 256, 1024]⟩
abbrev S1x256x512 : Shape := ⟨3, ![1, 256, 512]⟩
abbrev S1x256x128 : Shape := ⟨3, ![1, 256, 128]⟩
abbrev S264x1024 : Shape := ⟨2, ![264, 1024]⟩
abbrev S2x128x256 : Shape := ⟨3, ![2, 128, 256]⟩
abbrev S8x1024 : Shape := ⟨2, ![8, 1024]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S128x256 : Shape := ⟨2, ![128, 256]⟩
abbrev S256x1 : Shape := ⟨2, ![256, 1]⟩
abbrev S1x256 : Shape := ⟨2, ![1, 256]⟩
abbrev S256x64 : Shape := ⟨2, ![256, 64]⟩
abbrev S1x128x256 : Shape := ⟨3, ![1, 128, 256]⟩
abbrev S256 : Shape := ⟨1, ![256]⟩

abbrev nBuf : Space → Nat
  | .hbm => 90
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i1⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S128, .f32⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S128, .i32⟩
  | .hbm, ⟨49, _⟩ => ⟨S128x1, .i32⟩
  | .hbm, ⟨50, _⟩ => ⟨S128, .f32⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S128x1, .i32⟩
  | .hbm, ⟨57, _⟩ => ⟨S_, .i32⟩
  | .hbm, ⟨58, _⟩ => ⟨S128x1, .i32⟩
  | .hbm, ⟨59, _⟩ => ⟨S128x1, .i32⟩
  | .hbm, ⟨60, _⟩ => ⟨S512, .i32⟩
  | .hbm, ⟨61, _⟩ => ⟨S1x512, .i32⟩
  | .hbm, ⟨62, _⟩ => ⟨S_, .i32⟩
  | .hbm, ⟨63, _⟩ => ⟨S_, .i32⟩
  | .hbm, ⟨64, _⟩ => ⟨S1x512, .i32⟩
  | .hbm, ⟨65, _⟩ => ⟨S1x512, .i32⟩
  | .hbm, ⟨66, _⟩ => ⟨S1x512, .i32⟩
  | .hbm, ⟨67, _⟩ => ⟨S_, .i32⟩
  | .hbm, ⟨68, _⟩ => ⟨S1x512, .i32⟩
  | .hbm, ⟨69, _⟩ => ⟨S1x512, .i1⟩
  | .hbm, ⟨70, _⟩ => ⟨S1x512, .i32⟩
  | .hbm, ⟨71, _⟩ => ⟨S1x512, .i32⟩
  | .hbm, ⟨72, _⟩ => ⟨S_, .i32⟩
  | .hbm, ⟨73, _⟩ => ⟨S1x512, .i32⟩
  | .hbm, ⟨74, _⟩ => ⟨S1x512, .i1⟩
  | .hbm, ⟨75, _⟩ => ⟨S1x512, .i1⟩
  | .hbm, ⟨76, _⟩ => ⟨S_, .i32⟩
  | .hbm, ⟨77, _⟩ => ⟨S1x512, .i32⟩
  | .hbm, ⟨78, _⟩ => ⟨S1x512, .i32⟩
  | .hbm, ⟨79, _⟩ => ⟨S1x512, .i32⟩
  | .hbm, ⟨80, _⟩ => ⟨S128x512, .i32⟩
  | .hbm, ⟨81, _⟩ => ⟨S128x512, .i32⟩
  | .hbm, ⟨82, _⟩ => ⟨S128x512, .i1⟩
  | .hbm, ⟨83, _⟩ => ⟨S128x512, .bf16⟩
  | .hbm, ⟨84, _⟩ => ⟨S8x64, .f32⟩
  | .hbm, ⟨85, _⟩ => ⟨S512, .f32⟩
  | .hbm, ⟨86, _⟩ => ⟨S1x512, .f32⟩
  | .hbm, ⟨87, _⟩ => ⟨S1x1024, .f32⟩
  | .hbm, ⟨88, _⟩ => ⟨S1x512, .f32⟩
  | .hbm, ⟨89, _⟩ => ⟨S2x8192x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x128, .f32⟩
  | .local _ .vmem, ⟨5, _⟩ => ⟨S1x256x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S128x512, .bf16⟩
  | .local _ .vmem, ⟨11, _⟩ => ⟨S1x512, .f32⟩
  | .local _ .vmem, ⟨12, _⟩ => ⟨S1x512, .f32⟩
  | .local _ .vmem, ⟨13, _⟩ => ⟨S1x256x512, .bf16⟩
  | .local _ .vmem, ⟨14, _⟩ => ⟨S1x256x512, .bf16⟩
  | .local _ .vmem, ⟨15, _⟩ => ⟨S264x1024, .f32⟩
  | .local _ .vmem, ⟨16, _⟩ => ⟨S2x128x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_c_7 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_9 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S2x8192x1024 : Shape := ⟨3, ![2, 8192, 1024]⟩
abbrev S2x8192x512 : Shape := ⟨3, ![2, 8192, 512]⟩
abbrev S2x8192x128 : Shape := ⟨3, ![2, 8192, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S2x8192x8 : Shape := ⟨3, ![2, 8192, 8]⟩
abbrev S_ : Shape := ⟨0, ![]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x256 : Shape := ⟨3, ![2, 8192, 256]⟩
abbrev S1x1x8 : Shape := ⟨3, ![1, 1, 8]⟩
abbrev S2x8192x8x64 : Shape := ⟨4, ![2, 8192, 8, 64]⟩
abbrev S2x8192x8x1 : Shape := ⟨4, ![2, 8192, 8, 1]⟩
abbrev S2x32x256x2x4x64 : Shape := ⟨6, ![2, 32, 256, 2, 4, 64]⟩
abbrev S2x32x256x8 : Shape := ⟨4, ![2, 32, 256, 8]⟩
abbrev S2x32x256x2x128 : Shape := ⟨5, ![2, 32, 256, 2, 128]⟩
abbrev S256x256 : Shape := ⟨2, ![256, 256]⟩
abbrev S2x32x256x1x8 : Shape := ⟨5, ![2, 32, 256, 1, 8]⟩
abbrev S2x32x1x256x8 : Shape := ⟨5, ![2, 32, 1, 256, 8]⟩
abbrev S2x32x256x256x8 : Shape := ⟨5, ![2, 32, 256, 256, 8]⟩
abbrev S1x1x256x256x1 : Shape := ⟨5, ![1, 1, 256, 256, 1]⟩
abbrev S2x32x256x256x2x4 : Shape := ⟨6, ![2, 32, 256, 256, 2, 4]⟩
abbrev S2x32x2x256x256 : Shape := ⟨5, ![2, 32, 2, 256, 256]⟩
abbrev S2x32x256x256x2 : Shape := ⟨5, ![2, 32, 256, 256, 2]⟩
abbrev S2x32x256x256x2x1 : Shape := ⟨6, ![2, 32, 256, 256, 2, 1]⟩
abbrev S2x32x2x4x64x256 : Shape := ⟨6, ![2, 32, 2, 4, 64, 256]⟩
abbrev S2x32x1x8 : Shape := ⟨4, ![2, 32, 1, 8]⟩
abbrev S2x32x256x2x4 : Shape := ⟨5, ![2, 32, 256, 2, 4]⟩
abbrev S2x32x256x2x4x1 : Shape := ⟨6, ![2, 32, 256, 2, 4, 1]⟩
abbrev S2x32x2x4x64x128 : Shape := ⟨6, ![2, 32, 2, 4, 64, 128]⟩
abbrev S2x32x8 : Shape := ⟨3, ![2, 32, 8]⟩
abbrev S2x32x2x4 : Shape := ⟨4, ![2, 32, 2, 4]⟩
abbrev S2x1x2x4x64x128 : Shape := ⟨6, ![2, 1, 2, 4, 64, 128]⟩
abbrev S2x2x4x64x128 : Shape := ⟨5, ![2, 2, 4, 64, 128]⟩
abbrev S32x2x2x4x64x128 : Shape := ⟨6, ![32, 2, 2, 4, 64, 128]⟩
abbrev S32x2x2x4 : Shape := ⟨4, ![32, 2, 2, 4]⟩
abbrev S1x2x2x4x64x128 : Shape := ⟨6, ![1, 2, 2, 4, 64, 128]⟩
abbrev S1x2x2x4 : Shape := ⟨4, ![1, 2, 2, 4]⟩
abbrev S2x2x4 : Shape := ⟨3, ![2, 2, 4]⟩
abbrev S2x2x4x1x1 : Shape := ⟨5, ![2, 2, 4, 1, 1]⟩
abbrev S2x4 : Shape := ⟨2, ![2, 4]⟩
abbrev S2x4x1 : Shape := ⟨3, ![2, 4, 1]⟩
abbrev S1x1x1x2x4x1 : Shape := ⟨6, ![1, 1, 1, 2, 4, 1]⟩
abbrev S2x8192 : Shape := ⟨2, ![2, 8192]⟩
abbrev S2x8192x1 : Shape := ⟨3, ![2, 8192, 1]⟩
abbrev S1x1x512 : Shape := ⟨3, ![1, 1, 512]⟩

abbrev nBuf : Space → Nat
  | .hbm => 222
  | .vmem => 0
  | .smem => 0
  | _ => 0

abbrev hbmTy0_0 (i : Nat) : BufTy := match i % 128 with
  | 0 => ⟨S2x8192x1024, .f32⟩
  | 1 => ⟨S2x8192x512, .f32⟩
  | 2 => ⟨S2x8192x128, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S2x8192x8, .f32⟩
  | 10 => ⟨S_, .i32⟩
  | 11 => ⟨S_, .f32⟩
  | 12 => ⟨S2x8195x1024, .f32⟩
  | 13 => ⟨S2x8192x1024, .f32⟩
  | 14 => ⟨S1x1024, .f32⟩
  | 15 => ⟨S1024, .f32⟩
  | 16 => ⟨S1x1x1024, .f32⟩
  | 17 => ⟨S2x8192x1024, .f32⟩
  | 18 => ⟨S2x8192x1024, .f32⟩
  | 19 => ⟨S_, .f32⟩
  | 20 => ⟨S2x8192x1024, .f32⟩
  | 21 => ⟨S2x8192x1024, .f32⟩
  | 22 => ⟨S2x8192x1024, .f32⟩
  | 23 => ⟨S1x1024, .f32⟩
  | 24 => ⟨S1024, .f32⟩
  | 25 => ⟨S1x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S1x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S1x1x1024, .f32⟩
  | 40 => ⟨S2x8192x1024, .f32⟩
  | 41 => ⟨S2x8192x1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S_, .f32⟩
  | 49 => ⟨S2x8192x1024, .f32⟩
  | 50 => ⟨S2x8192x1024, .f32⟩
  | 51 => ⟨S_, .f32⟩
  | 52 => ⟨S2x8192x1024, .f32⟩
  | 53 => ⟨S2x8192x1024, .f32⟩
  | 54 => ⟨S2x8192x1024, .f32⟩
  | 55 => ⟨S2x8192x512, .f32⟩
  | 56 => ⟨S2x8192x256, .f32⟩
  | 57 => ⟨S2x8192x256, .f32⟩
  | 58 => ⟨S1x1x8, .f32⟩
  | 59 => ⟨S2x8192x8, .f32⟩
  | 60 => ⟨S2x8192x8, .f32⟩
  | 61 => ⟨S_, .f32⟩
  | 62 => ⟨S2x8192x8, .f32⟩
  | 63 => ⟨S2x8192x8, .f32⟩
  | 64 => ⟨S2x8192x8, .f32⟩
  | 65 => ⟨S2x8192x8, .f32⟩
  | 66 => ⟨S2x8192x8, .i1⟩
  | 67 => ⟨S2x8192x8, .f32⟩
  | 68 => ⟨S2x8192x8, .f32⟩
  | 69 => ⟨S2x8192x8, .f32⟩
  | 70 => ⟨S2x8192x8, .f32⟩
  | 71 => ⟨S2x8192x8, .f32⟩
  | 72 => ⟨S2x8192x8, .f32⟩
  | 73 => ⟨S2x8192x8, .f32⟩
  | 74 => ⟨S2x8192x8, .f32⟩
  | 75 => ⟨S_, .f32⟩
  | 76 => ⟨S_, .f32⟩
  | 77 => ⟨S8, .f32⟩
  | 78 => ⟨S8, .f32⟩
  | 79 => ⟨S2x8192x8x64, .f32⟩
  | 80 => ⟨S2x8192x8x1, .f32⟩
  | 81 => ⟨S2x8192x8x64, .f32⟩
  | 82 => ⟨S2x8192x8x64, .f32⟩
  | 83 => ⟨S2x32x256x2x4x64, .f32⟩
  | 84 => ⟨S1x1x8, .f32⟩
  | 85 => ⟨S2x8192x8, .f32⟩
  | 86 => ⟨S2x8192x8, .f32⟩
  | 87 => ⟨S2x32x256x8, .f32⟩
  | 88 => ⟨S_, .f32⟩
  | 89 => ⟨S_, .f32⟩
  | 90 => ⟨S2x32x256x8, .f32⟩
  | 91 => ⟨S2x32x256x2x128, .f32⟩
  | 92 => ⟨S2x32x256x2x128, .f32⟩
  | 93 => ⟨S_, .i1⟩
  | 94 => ⟨S256x256, .i1⟩
  | 95 => ⟨S256x256, .i32⟩
  | 96 => ⟨S_, .i32⟩
  | 97 => ⟨S256x256, .i32⟩
  | 98 => ⟨S256x256, .i32⟩
  | 99 => ⟨S256x256, .i32⟩
  | 100 => ⟨S256x256, .i1⟩
  | 101 => ⟨S_, .i1⟩
  | 102 => ⟨S256x256, .i1⟩
  | 103 => ⟨S256x256, .i1⟩
  | 104 => ⟨S2x32x256x1x8, .f32⟩
  | 105 => ⟨S2x32x1x256x8, .f32⟩
  | 106 => ⟨S2x32x256x256x8, .f32⟩
  | 107 => ⟨S2x32x256x256x8, .f32⟩
  | 108 => ⟨S2x32x256x256x8, .f32⟩
  | 109 => ⟨S1x1x256x256x1, .i1⟩
  | 110 => ⟨S_, .f32⟩
  | 111 => ⟨S_, .f32⟩
  | 112 => ⟨S2x32x256x256x8, .i1⟩
  | 113 => ⟨S2x32x256x256x8, .f32⟩
  | 114 => ⟨S2x32x256x256x8, .f32⟩
  | 115 => ⟨S2x32x256x256x8, .f32⟩
  | 116 => ⟨S2x32x256x256x2x4, .f32⟩
  | 117 => ⟨S2x32x2x256x256, .f32⟩
  | 118 => ⟨S2x32x256x256x2, .f32⟩
  | 119 => ⟨S2x32x256x256x2x1, .f32⟩
  | 120 => ⟨S2x32x256x256x2x4, .f32⟩
  | 121 => ⟨S2x32x256x256x2x4, .f32⟩
  | 122 => ⟨S2x32x2x4x64x256, .f32⟩
  | 123 => ⟨S2x32x256x2x4x64, .f32⟩
  | 124 => ⟨S2x32x1x8, .f32⟩
  | 125 => ⟨S2x32x256x8, .f32⟩
  | 126 => ⟨S2x32x256x8, .f32⟩
  | 127 => ⟨S2x32x256x8, .f32⟩
  | _ => ⟨S2x8192x1024, .f32⟩

abbrev hbmTy0_1 (i : Nat) : BufTy := match i % 128 with
  | 0 => ⟨S2x32x256x2x4, .f32⟩
  | 1 => ⟨S2x32x256x2x4x1, .f32⟩
  | 2 => ⟨S2x32x256x2x4x64, .f32⟩
  | 3 => ⟨S2x32x256x2x4x64, .f32⟩
  | 4 => ⟨S2x32x2x4x64x128, .f32⟩
  | 5 => ⟨S2x32x1x8, .f32⟩
  | 6 => ⟨S2x32x8, .f32⟩
  | 7 => ⟨S2x32x8, .f32⟩
  | 8 => ⟨S2x32x2x4, .f32⟩
  | 9 => ⟨S2x1x2x4x64x128, .f32⟩
  | 10 => ⟨S2x2x4x64x128, .f32⟩
  | 11 => ⟨S_, .f32⟩
  | 12 => ⟨S2x2x4x64x128, .f32⟩
  | 13 => ⟨S32x2x2x4x64x128, .f32⟩
  | 14 => ⟨S32x2x2x4, .f32⟩
  | 15 => ⟨S_, .f32⟩
  | 16 => ⟨S32x2x2x4x64x128, .f32⟩
  | 17 => ⟨S_, .i32⟩
  | 18 => ⟨S32x2x2x4x64x128, .f32⟩
  | 19 => ⟨S32x2x2x4, .f32⟩
  | 20 => ⟨S_, .i32⟩
  | 21 => ⟨S2x2x4x64x128, .f32⟩
  | 22 => ⟨S32x2x2x4x64x128, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x2x2x4x64x128, .f32⟩
  | 31 => ⟨S2x2x4x64x128, .f32⟩
  | 32 => ⟨S_, .i32⟩
  | 33 => ⟨S_, .i32⟩
  | 34 => ⟨S_, .i32⟩
  | 35 => ⟨S1x2x2x4, .f32⟩
  | 36 => ⟨S2x2x4, .f32⟩
  | 37 => ⟨S2x2x4x1x1, .f32⟩
  | 38 => ⟨S2x2x4x64x128, .f32⟩
  | 39 => ⟨S2x2x4x64x128, .f32⟩
  | 40 => ⟨S2x2x4x64x128, .f32⟩
  | 41 => ⟨S1x2x2x4x64x128, .f32⟩
  | 42 => ⟨S_, .i32⟩
  | 43 => ⟨S_, .i32⟩
  | 44 => ⟨S_, .i32⟩
  | 45 => ⟨S_, .i32⟩
  | 46 => ⟨S_, .i32⟩
  | 47 => ⟨S32x2x2x4x64x128, .f32⟩
  | 48 => ⟨S_, .i32⟩
  | 49 => ⟨S_, .i32⟩
  | 50 => ⟨S2x32x2x4x64x128, .f32⟩
  | 51 => ⟨S2x32x2x4x64x256, .f32⟩
  | 52 => ⟨S2x32x256x2x4x64, .f32⟩
  | 53 => ⟨S2x32x256x8, .f32⟩
  | 54 => ⟨S2x32x256x2x4, .f32⟩
  | 55 => ⟨S2x32x256x2x4x1, .f32⟩
  | 56 => ⟨S2x32x256x2x4x64, .f32⟩
  | 57 => ⟨S2x32x256x2x4x64, .f32⟩
  | 58 => ⟨S2x32x256x2x4x64, .f32⟩
  | 59 => ⟨S2x32x256x2x4x64, .f32⟩
  | 60 => ⟨S2x4, .f32⟩
  | 61 => ⟨S2x4x1, .f32⟩
  | 62 => ⟨S1x1x1x2x4x1, .f32⟩
  | 63 => ⟨S2x32x256x2x4x64, .f32⟩
  | 64 => ⟨S2x32x256x2x4x64, .f32⟩
  | 65 => ⟨S2x32x256x2x4x64, .f32⟩
  | 66 => ⟨S2x8192x512, .f32⟩
  | 67 => ⟨S2x8192x512, .f32⟩
  | 68 => ⟨S2x8192x512, .f32⟩
  | 69 => ⟨S_, .f32⟩
  | 70 => ⟨S2x8192x512, .f32⟩
  | 71 => ⟨S2x8192x512, .f32⟩
  | 72 => ⟨S_, .f32⟩
  | 73 => ⟨S2x8192x512, .f32⟩
  | 74 => ⟨S2x8192x512, .f32⟩
  | 75 => ⟨S2x8192x512, .f32⟩
  | 76 => ⟨S2x8192x512, .f32⟩
  | 77 => ⟨S2x8192x512, .f32⟩
  | 78 => ⟨S_, .f32⟩
  | 79 => ⟨S2x8192, .f32⟩
  | 80 => ⟨S2x8192x1, .f32⟩
  | 81 => ⟨S_, .f32⟩
  | 82 => ⟨S2x8192x1, .f32⟩
  | 83 => ⟨S2x8192x1, .f32⟩
  | 84 => ⟨S_, .f32⟩
  | 85 => ⟨S2x8192x1, .f32⟩
  | 86 => ⟨S2x8192x1, .f32⟩
  | 87 => ⟨S2x8192x1, .f32⟩
  | 88 => ⟨S2x8192x512, .f32⟩
  | 89 => ⟨S2x8192x512, .f32⟩
  | 90 => ⟨S1x1x512, .f32⟩
  | 91 => ⟨S2x8192x512, .f32⟩
  | 92 => ⟨S2x8192x512, .f32⟩
  | 93 => ⟨S2x8192x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_v41 : Ref sig .tc := ⟨.hbm, 74, rfl⟩
abbrev main_cst_0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call3_call0_cst : Ref sig .tc := ⟨.hbm, 88, rfl⟩
abbrev main_call3_call0_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_1 : Ref sig .tc := ⟨.hbm, 93, rfl⟩
abbrev main_v57 : Ref sig .tc := ⟨.hbm, 94, rfl⟩
abbrev main_call4_v0 : Ref sig .tc := ⟨.hbm, 95, rfl⟩
abbrev main_call4_c : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_0 : Ref sig .tc := ⟨.hbm, 101, rfl⟩
abbrev main_call4_v5 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_2 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_3 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_4 : Ref sig .tc := ⟨.hbm, 143, rfl⟩
abbrev main_v93 : Ref sig .tc := ⟨.hbm, 144, rfl⟩
abbrev main_c_5 : Ref sig .tc := ⟨.hbm, 145, rfl⟩
abbrev main_v94_0 : Ref sig .tc := ⟨.hbm, 146, rfl⟩
abbrev main_v94_1 : Ref sig .tc := ⟨.hbm, 147, rfl⟩
abbrev main_v94_2 : Ref sig .tc := ⟨.hbm, 148, rfl⟩
abbrev main_v94_3 : Ref sig .tc := ⟨.hbm, 149, rfl⟩
abbrev main_v94_4 : Ref sig .tc := ⟨.hbm, 150, rfl⟩
abbrev main_while0c_c_13 : Ref sig .tc := ⟨.hbm, 151, rfl⟩
abbrev main_while0c_v128 : Ref sig .tc := ⟨.hbm, 152, rfl⟩
abbrev main_while0b_call6_c : Ref sig .tc := ⟨.hbm, 153, rfl⟩
abbrev main_while0b_call6_c_0 : Ref sig .tc := ⟨.hbm, 154, rfl⟩
abbrev main_while0b_call6_c_1 : Ref sig .tc := ⟨.hbm, 155, rfl⟩
abbrev main_while0b_call6_c_2 : Ref sig .tc := ⟨.hbm, 156, rfl⟩
abbrev main_while0b_call6_c_3 : Ref sig .tc := ⟨.hbm, 157, rfl⟩
abbrev main_while0b_call6_v0 : Ref sig .tc := ⟨.hbm, 158, rfl⟩
abbrev main_while0b_v128 : Ref sig .tc := ⟨.hbm, 159, rfl⟩
abbrev main_while0b_call7_c : Ref sig .tc := ⟨.hbm, 160, rfl⟩
abbrev main_while0b_call7_c_0 : Ref sig .tc := ⟨.hbm, 161, rfl⟩
abbrev main_while0b_call7_c_1 : Ref sig .tc := ⟨.hbm, 162, rfl⟩
abbrev main_while0b_call7_v0 : Ref sig .tc := ⟨.hbm, 163, rfl⟩
abbrev main_while0b_v129 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_call8_v0 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_call8_c_2 : Ref sig .tc := ⟨.hbm, 173, rfl⟩
abbrev main_while0b_call8_c_3 : Ref sig .tc := ⟨.hbm, 174, rfl⟩
abbrev main_while0b_v134 : Ref sig .tc := ⟨.hbm, 175, rfl⟩
abbrev main_while0b_c_13 : Ref sig .tc := ⟨.hbm, 176, rfl⟩
abbrev main_while0b_v135 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_call9_v0 : Ref sig .tc := ⟨.hbm, 195, rfl⟩
abbrev main_call9_v1 : Ref sig .tc := ⟨.hbm, 196, rfl⟩
abbrev main_call9_cst : Ref sig .tc := ⟨.hbm, 197, rfl⟩
abbrev main_call9_v2 : Ref sig .tc := ⟨.hbm, 198, rfl⟩
abbrev main_call9_v3 : Ref sig .tc := ⟨.hbm, 199, rfl⟩
abbrev main_call9_cst_0 : Ref sig .tc := ⟨.hbm, 200, rfl⟩
abbrev main_call9_v4 : Ref sig .tc := ⟨.hbm, 201, rfl⟩
abbrev main_call9_v5 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_6 : Ref sig .tc := ⟨.hbm, 206, rfl⟩
abbrev main_v115 : Ref sig .tc := ⟨.hbm, 207, rfl⟩
abbrev main_v116 : Ref sig .tc := ⟨.hbm, 208, rfl⟩
abbrev main_cst_7 : Ref sig .tc := ⟨.hbm, 209, rfl⟩
abbrev main_v117 : Ref sig .tc := ⟨.hbm, 210, rfl⟩
abbrev main_v118 : Ref sig .tc := ⟨.hbm, 211, rfl⟩
abbrev main_cst_8 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩

abbrev nD : Nat := 1
abbrev τ : Topo := Topo.v7x

variable {F : FTy → Type} [FloatOps F]

abbrev main_while0_count : Scf.Loop 32 := ⟨0#32, 32#32, 1#32⟩
-- ==== Proof.Safe.lean ====
/- Programs that give back what they are lent: a predicate on kernel programs for frame proofs. A program is SAFE for a
   set of buffers, each held whole at some contents, when from those buffers it runs to the end and leaves the same buffers,
   again at some contents. Nothing is said of the contents, so every pure operation, every loaded value and every stored
   value drops out, and a body is gone through statement by statement with one lemma per kind of statement. -/
module

public import Idealize.ShloMosaic.Lib.Exec
public import Idealize.ShloMosaic.Lib.Scf
public import Idealize.ShloMosaic.Lib.Memref
public import Idealize.ShloMosaic.Lib.Tactic
public import Idealize.ShloMosaic.Lib.Pipeline.FrameBody
public import Idealize.ShloMosaic.Signature.Words

@[expose] public section

noncomputable section

namespace Cert.Proof.Safe

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}

/-- The resource algebra the frame kit runs in. -/
abbrev RM (nD : Nat) (τ : Topo) (sig : RefSig) (Val : EltTy → Type) : Type := MT nD τ sig Unit Val ℕ (UR sig nD τ) ℕ

variable (defs : Defs nD τ sig Val Λ) (𝒱 : Variants) (c : Thread nD τ) (Φ : sProp (RM nD τ sig Val))

/-- The memref's elements, held at some contents. -/
def held {sp : Space} {s : Shape} {e : EltTy} (m : Memref sig c.2.kind sp s e) : sProp (RM nD τ sig Val) :=
  iprop(∃ f : Buf Val (m.view.loc c), m.view.loc c ↦[m.view.set]{fullShare} f)

/-- The resources include the memref's elements, which may be taken out and put back at other contents. -/
def Has {sp : Space} {s : Shape} {e : EltTy} (m : Memref sig c.2.kind sp s e) : Prop :=
  Φ ⊢ iprop(held (nD := nD) (τ := τ) (Val := Val) c m ∗ (held (nD := nD) (τ := τ) (Val := Val) c m -∗ Φ))

/-- From the resources the program runs to the end and gives the resources back. -/
def Safe {α : Type} (p : Prog (TpuEff nD τ sig Val Λ c.2) α) : Prop :=
  Φ ⊢ wp frame (wpE (Ix := Unit) (Name := ℕ) (U := UR sig nD τ) (Lvl := ℕ) defs 𝒱 c none) Set.univ p (fun _ => Φ)

variable {defs 𝒱 c Φ}

theorem Safe.pure {α : Type} (a : α) : Safe defs 𝒱 c Φ (Pure.pure a : Prog (TpuEff nD τ sig Val Λ c.2) α) :=
  le_wp_ret frame (wpE defs 𝒱 c none) Set.univ a (fun _ => Φ)

theorem Safe.bind {α β : Type} {p : Prog (TpuEff nD τ sig Val Λ c.2) α} {k : α → Prog (TpuEff nD τ sig Val Λ c.2) β}
    (hp : Safe defs 𝒱 c Φ p) (hk : ∀ a, Safe defs 𝒱 c Φ (k a)) : Safe defs 𝒱 c Φ (p >>= k) := by
  unfold Safe; rw [wp_bind]
  exact BIBase.Entails.trans hp (wp_mono frame (wpE defs 𝒱 c none) Set.univ fun a => hk a)

theorem Safe.load {cs : CoreSpace} {s : Shape} {e : EltTy} {m : Memref sig c.2.kind cs s e} {r : LoadRect s} {hl : m.view.LoadsAt r}
    (h : Has c Φ m) : Safe defs 𝒱 c Φ (Prog.lift (.load m r hl)) := by
  refine BIBase.Entails.trans h ?_
  unfold held
  iintro ⟨⟨%f, H⟩, Hk⟩
  iapply (wp_load 𝒱 c none Set.univ (m := m) (r := r) (hl := hl) (k := .ret) (S := m.view.set) (q := fullShare) (f := f)
    (m.view.setOn_subset_set r.set)) $$ H
  iintro H
  iapply (le_wp_ret frame (wpE defs 𝒱 c none) Set.univ _ (fun _ => Φ))
  iapply Hk
  iexists f; iexact H

theorem Safe.store {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Has c Φ m) : Safe defs 𝒱 c Φ (Prog.lift (.store m r w Mk hx hm)) := by
  refine BIBase.Entails.trans h ?_
  unfold held
  iintro ⟨⟨%f, H⟩, Hk⟩
  iapply (wp_store 𝒱 c none Set.univ (m := m) (r := r) (w := w) (Mk := Mk) (hx := hx) (hm := hm) (k := .ret) (S := m.view.set) (f := f)
    (Finset.Subset.trans (View.setOn_subset_set _ Mk) (View.set_slice_subset _ r))) $$ H
  iintro H
  iapply (le_wp_ret frame (wpE defs 𝒱 c none) Set.univ _ (fun _ => Φ))
  iapply Hk
  iexists _; iexact H

theorem Safe.word {s : Shape} {e : EltTy} {m : Memref sig c.2.kind .smem s e} {r : Rect s} {h1 : r.shape.numel = 1} {hp : e.packing = 1}
    (h : Has c Φ m) : Safe defs 𝒱 c Φ (smemLoad m r h1 hp) := by
  refine BIBase.Entails.trans h ?_
  unfold held smemLoad
  iintro ⟨⟨%f, H⟩, Hk⟩
  iapply (wp_smemLoadElt 𝒱 c none Set.univ (m := m) (r := r) (S := m.view.set) (q := fullShare) (f := f)
    (View.set_slice_subset _ r)) $$ H
  iintro H
  iapply (le_wp_ret frame (wpE defs 𝒱 c none) Set.univ _ (fun _ => Φ))
  iapply Hk
  iexists f; iexact H

theorem Safe.loop {w : Nat} {σ : Type} (l : Scf.Loop w) {hok : l.OK} {init : σ}
    {body : Fin l.trips → σ → Prog (TpuEff nD τ sig Val Λ c.2) σ} (hb : ∀ k acc, Safe defs 𝒱 c Φ (body k acc)) :
    Safe defs 𝒱 c Φ (Scf.Loop.for l hok init body) := by
  unfold Safe
  refine BIBase.Entails.trans ?_ (Scf.wp_for frame (wpE defs 𝒱 c none) Set.univ l.lb l.ub l.st hok init body (fun _ _ => Φ) hb)
  iintro H
  isplitl [H]; · iexact H
  iintro %_ H; iexact H

theorem Safe.dite {α : Type} {q : Prop} [Decidable q] {p₁ : q → Prog (TpuEff nD τ sig Val Λ c.2) α} {p₂ : ¬ q → Prog (TpuEff nD τ sig Val Λ c.2) α}
    (h₁ : ∀ h, Safe defs 𝒱 c Φ (p₁ h)) (h₂ : ∀ h, Safe defs 𝒱 c Φ (p₂ h)) : Safe defs 𝒱 c Φ (dite q p₁ p₂) := by
  by_cases h : q
  · rw [dif_pos h]; exact h₁ h
  · rw [dif_neg h]; exact h₂ h

theorem Safe.ite {α : Type} {q : Prop} [Decidable q] {p₁ p₂ : Prog (TpuEff nD τ sig Val Λ c.2) α}
    (h₁ : Safe defs 𝒱 c Φ p₁) (h₂ : Safe defs 𝒱 c Φ p₂) : Safe defs 𝒱 c Φ (if q then p₁ else p₂) := by
  by_cases h : q
  · rw [if_pos h]; exact h₁
  · rw [if_neg h]; exact h₂

end Cert.Proof.Safe

end
-- ==== Proof.WalkA.lean ====
/- The sparse-attention body gives back the buffers it is lent, part by part: the tables written at the first grid point and the clearing of the key planes. -/
module

public import proofs.«01_k».proof.Kernel
public import proofs.«01_k».proof.Proof.Safe

@[expose] public section

noncomputable section

namespace Cert.Proof.Walk

open Cert.Kernel Cert.Proof.Safe
open Idealize.ShloMosaic Idealize.ShloMosaic.TcCoe
open Idealize.SL Idealize.SL.RA Idealize.SL.BI Idealize.SL.Sem

variable {F : FTy → Type} [BitOps F] [Facts]
variable (defs : Defs nD τ sig (Elt F) Λ₀) (𝒱 : Variants) (c : Dev nD) (Φ : sProp (RM nD τ sig (Elt F))) (i : grid0.Coords)
  (arg2 : Memref sig .tc .smem S32x8 .f32) (harg2 : arg2.IsWhole) (parg2 : Has (c : Thread nD τ) Φ arg2)
  (arg3 : Memref sig .tc .vmem S2x128x128 .i32) (harg3 : arg3.IsWhole) (parg3 : Has (c : Thread nD τ) Φ arg3)
  (arg4 : Memref sig .tc .vmem S1x1x2x64x512 .bf16) (harg4 : arg4.IsWhole) (parg4 : Has (c : Thread nD τ) Φ arg4)
  (arg5 : Memref sig .tc .vmem S1x1x64x1024 .bf16) (harg5 : arg5.IsWhole) (parg5 : Has (c : Thread nD τ) Φ arg5)
  (arg6 : Memref sig .tc .vmem S1x128x128 .f32) (harg6 : arg6.IsWhole) (parg6 : Has (c : Thread nD τ) Φ arg6)
  (arg7 : Memref sig .tc .vmem S1x1x64x1024 .bf16) (harg7 : arg7.IsWhole) (parg7 : Has (c : Thread nD τ) Φ arg7)
  (arg8 : Memref sig .tc .vmem S1x128x128 .f32) (harg8 : arg8.IsWhole) (parg8 : Has (c : Thread nD τ) Φ arg8)
  (arg9 : Memref sig .tc .vmem S1x8192x128 .bf16) (harg9 : arg9.IsWhole) (parg9 : Has (c : Thread nD τ) Φ arg9)
  (arg10 : Memref sig .tc .vmem S1x64x2x80x128 .bf16) (harg10 : arg10.IsWhole) (parg10 : Has (c : Thread nD τ) Φ arg10)
  (arg11 : Memref sig .tc .vmem S1x8192x128 .bf16) (harg11 : arg11.IsWhole) (parg11 : Has (c : Thread nD τ) Φ arg11)
  (arg12 : Memref sig .tc .vmem S512x128 .f32) (harg12 : arg12.IsWhole) (parg12 : Has (c : Thread nD τ) Φ arg12)
  (arg13 : Memref sig .tc .vmem S1x1x512x128 .bf16) (harg13 : arg13.IsWhole) (parg13 : Has (c : Thread nD τ) Φ arg13)
  (arg14 : Memref sig .tc .vmem S2x8192x128 .i32) (harg14 : arg14.IsWhole) (parg14 : Has (c : Thread nD τ) Φ arg14)
  (arg15 : Memref sig .tc .vmem S32x256x128 .i32) (harg15 : arg15.IsWhole) (parg15 : Has (c : Thread nD τ) Φ arg15)
  (arg16 : Memref sig .tc .vmem S256x128 .i32) (harg16 : arg16.IsWhole) (parg16 : Has (c : Thread nD τ) Φ arg16)
  (arg17 : Memref sig .tc .vmem S2x1x128 .i32) (harg17 : arg17.IsWhole) (parg17 : Has (c : Thread nD τ) Φ arg17)
  (arg18 : Memref sig .tc .vmem S2x1x128 .i32) (harg18 : arg18.IsWhole) (parg18 : Has (c : Thread nD τ) Φ arg18)
  (arg19 : Memref sig .tc .vmem S3x2x128x512 .f32) (harg19 : arg19.IsWhole) (parg19 : Has (c : Thread nD τ) Φ arg19)
  (arg20 : Memref sig .tc .vmem S2x64x512 .bf16) (harg20 : arg20.IsWhole) (parg20 : Has (c : Thread nD τ) Φ arg20)
  (arg21 : Memref sig .tc .vmem S64x1024 .bf16) (harg21 : arg21.IsWhole) (parg21 : Has (c : Thread nD τ) Φ arg21)
  (arg22 : Memref sig .tc .vmem S8x1024 .f32) (harg22 : arg22.IsWhole) (parg22 : Has (c : Thread nD τ) Φ arg22)
  (arg23 : Memref sig .tc .vmem S2x1x512 .f32) (harg23 : arg23.IsWhole) (parg23 : Has (c : Thread nD τ) Φ arg23)
  (arg24 : Memref sig .tc .vmem S2x80x512 .f32) (harg24 : arg24.IsWhole) (parg24 : Has (c : Thread nD τ) Φ arg24)
  (arg25 : Memref sig .tc .vmem S3x2x512x512 .bf16) (harg25 : arg25.IsWhole) (parg25 : Has (c : Thread nD τ) Φ arg25)

include parg2 parg3 parg4 parg5 parg6 parg7 parg8 parg9 parg10 parg11 parg12 parg13 parg14 parg15 parg16 parg17 parg18 parg19 parg20 parg21 parg22 parg23 parg24 parg25
set_option maxRecDepth 8192
set_option maxHeartbeats 0

theorem safe_k0_part84  : Safe defs 𝒱 (c : Thread nD τ) Φ (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) := by
  unfold k0_part84
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part1 | delta k0_part2 | delta k0_part3 | delta k0_part4 | delta k0_part5 | delta k0_part6 | delta k0_part7 | delta k0_part8 | delta k0_part9 | delta k0_part10 | delta k0_part11 | delta k0_part12
     | delta k0_part13 | delta k0_part14 | delta k0_part15 | delta k0_part16 | delta k0_part17 | delta k0_part18 | delta k0_part19 | delta k0_part20 | delta k0_part21 | delta k0_part22 | delta k0_part23
     | delta k0_part24 | delta k0_part25 | delta k0_part26 | delta k0_part27 | delta k0_part28 | delta k0_part29 | delta k0_part30 | delta k0_part31 | delta k0_part32 | delta k0_part33 | delta k0_part34
     | delta k0_part35 | delta k0_part36 | delta k0_part37 | delta k0_part38 | delta k0_part39 | delta k0_part40 | delta k0_part41 | delta k0_part42 | delta k0_part43 | delta k0_part44 | delta k0_part45
     | delta k0_part46 | delta k0_part47 | delta k0_part48 | delta k0_part49 | delta k0_part50 | delta k0_part51 | delta k0_part52 | delta k0_part53 | delta k0_part54 | delta k0_part55 | delta k0_part56
     | delta k0_part57 | delta k0_part58 | delta k0_part59 | delta k0_part60
  all_goals exact Safe.word parg2

theorem safe_k0_part85 (v3291 : IVec S128x128 32) (v4064 : Elt F .f32) (v4095 : FVec F S128x128 .f32) : Safe defs 𝒱 (c : Thread nD τ) Φ (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v3291 v4064 v4095) := by
  unfold k0_part85
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part61 | delta k0_part62 | delta k0_part63 | delta k0_part64 | delta k0_part65 | delta k0_part66 | delta k0_part67 | delta k0_part68 | delta k0_part69 | delta k0_part70 | delta k0_part71
     | delta k0_part72 | delta k0_part73 | delta k0_part74 | delta k0_part75 | delta k0_part76 | delta k0_part77 | delta k0_part78 | delta k0_part79 | delta k0_part80 | delta k0_part81 | delta k0_part82
     | delta k0_part83
  all_goals exact Safe.word parg2

theorem safe_k0_part111 (v5 : IVec S512x128 32) (v6 : IVec S512x128 32) (k0_h2 : k0_cond2 i = 1#1) : Safe defs 𝒱 (c : Thread nD τ) Φ (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 k0_h2) := by
  unfold k0_part111
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part86 | delta k0_part87 | delta k0_part88 | delta k0_part89 | delta k0_part90 | delta k0_part91 | delta k0_part92 | delta k0_part93 | delta k0_part94 | delta k0_part95 | delta k0_part96
     | delta k0_part97 | delta k0_part98 | delta k0_part99 | delta k0_part100 | delta k0_part101 | delta k0_part102 | delta k0_part103 | delta k0_part104 | delta k0_part105 | delta k0_part106
     | delta k0_part107 | delta k0_part108 | delta k0_part109 | delta k0_part110

end Cert.Proof.Walk

end
-- ==== Proof.WalkB1.lean ====
/- The sparse-attention body gives back the buffers it is lent, part by part: the index scores and their bit planes over the first trips. -/
module

public import proofs.«01_k».proof.Kernel
public import proofs.«01_k».proof.Proof.Safe

@[expose] public section

noncomputable section

namespace Cert.Proof.Walk

open Cert.Kernel Cert.Proof.Safe
open Idealize.ShloMosaic Idealize.ShloMosaic.TcCoe
open Idealize.SL Idealize.SL.RA Idealize.SL.BI Idealize.SL.Sem

variable {F : FTy → Type} [BitOps F] [Facts]
variable (defs : Defs nD τ sig (Elt F) Λ₀) (𝒱 : Variants) (c : Dev nD) (Φ : sProp (RM nD τ sig (Elt F))) (i : grid0.Coords)
  (arg2 : Memref sig .tc .smem S32x8 .f32) (harg2 : arg2.IsWhole) (parg2 : Has (c : Thread nD τ) Φ arg2)
  (arg3 : Memref sig .tc .vmem S2x128x128 .i32) (harg3 : arg3.IsWhole) (parg3 : Has (c : Thread nD τ) Φ arg3)
  (arg4 : Memref sig .tc .vmem S1x1x2x64x512 .bf16) (harg4 : arg4.IsWhole) (parg4 : Has (c : Thread nD τ) Φ arg4)
  (arg5 : Memref sig .tc .vmem S1x1x64x1024 .bf16) (harg5 : arg5.IsWhole) (parg5 : Has (c : Thread nD τ) Φ arg5)
  (arg6 : Memref sig .tc .vmem S1x128x128 .f32) (harg6 : arg6.IsWhole) (parg6 : Has (c : Thread nD τ) Φ arg6)
  (arg7 : Memref sig .tc .vmem S1x1x64x1024 .bf16) (harg7 : arg7.IsWhole) (parg7 : Has (c : Thread nD τ) Φ arg7)
  (arg8 : Memref sig .tc .vmem S1x128x128 .f32) (harg8 : arg8.IsWhole) (parg8 : Has (c : Thread nD τ) Φ arg8)
  (arg9 : Memref sig .tc .vmem S1x8192x128 .bf16) (harg9 : arg9.IsWhole) (parg9 : Has (c : Thread nD τ) Φ arg9)
  (arg10 : Memref sig .tc .vmem S1x64x2x80x128 .bf16) (harg10 : arg10.IsWhole) (parg10 : Has (c : Thread nD τ) Φ arg10)
  (arg11 : Memref sig .tc .vmem S1x8192x128 .bf16) (harg11 : arg11.IsWhole) (parg11 : Has (c : Thread nD τ) Φ arg11)
  (arg12 : Memref sig .tc .vmem S512x128 .f32) (harg12 : arg12.IsWhole) (parg12 : Has (c : Thread nD τ) Φ arg12)
  (arg13 : Memref sig .tc .vmem S1x1x512x128 .bf16) (harg13 : arg13.IsWhole) (parg13 : Has (c : Thread nD τ) Φ arg13)
  (arg14 : Memref sig .tc .vmem S2x8192x128 .i32) (harg14 : arg14.IsWhole) (parg14 : Has (c : Thread nD τ) Φ arg14)
  (arg15 : Memref sig .tc .vmem S32x256x128 .i32) (harg15 : arg15.IsWhole) (parg15 : Has (c : Thread nD τ) Φ arg15)
  (arg16 : Memref sig .tc .vmem S256x128 .i32) (harg16 : arg16.IsWhole) (parg16 : Has (c : Thread nD τ) Φ arg16)
  (arg17 : Memref sig .tc .vmem S2x1x128 .i32) (harg17 : arg17.IsWhole) (parg17 : Has (c : Thread nD τ) Φ arg17)
  (arg18 : Memref sig .tc .vmem S2x1x128 .i32) (harg18 : arg18.IsWhole) (parg18 : Has (c : Thread nD τ) Φ arg18)
  (arg19 : Memref sig .tc .vmem S3x2x128x512 .f32) (harg19 : arg19.IsWhole) (parg19 : Has (c : Thread nD τ) Φ arg19)
  (arg20 : Memref sig .tc .vmem S2x64x512 .bf16) (harg20 : arg20.IsWhole) (parg20 : Has (c : Thread nD τ) Φ arg20)
  (arg21 : Memref sig .tc .vmem S64x1024 .bf16) (harg21 : arg21.IsWhole) (parg21 : Has (c : Thread nD τ) Φ arg21)
  (arg22 : Memref sig .tc .vmem S8x1024 .f32) (harg22 : arg22.IsWhole) (parg22 : Has (c : Thread nD τ) Φ arg22)
  (arg23 : Memref sig .tc .vmem S2x1x512 .f32) (harg23 : arg23.IsWhole) (parg23 : Has (c : Thread nD τ) Φ arg23)
  (arg24 : Memref sig .tc .vmem S2x80x512 .f32) (harg24 : arg24.IsWhole) (parg24 : Has (c : Thread nD τ) Φ arg24)
  (arg25 : Memref sig .tc .vmem S3x2x512x512 .bf16) (harg25 : arg25.IsWhole) (parg25 : Has (c : Thread nD τ) Φ arg25)

include parg2 parg3 parg4 parg5 parg6 parg7 parg8 parg9 parg10 parg11 parg12 parg13 parg14 parg15 parg16 parg17 parg18 parg19 parg20 parg21 parg22 parg23 parg24 parg25
set_option maxRecDepth 8192
set_option maxHeartbeats 0

theorem safe_k0_part216 (v5 : IVec S512x128 32) (v6 : IVec S512x128 32) (v19 : BitVec 32) (v20 : BitVec 32) (v22 : BitVec 32) (v120 : IVec S1x128 32) (c0_i32_96 : BitVec 32) (c1_i32_98 : BitVec 32) (k0_t3 : Fin (k0_t3_loop i).trips) : Safe defs 𝒱 (c : Thread nD τ) Φ (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 c0_i32_96 c1_i32_98 k0_t3) := by
  unfold k0_part216
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part112 | delta k0_part113 | delta k0_part114 | delta k0_part115 | delta k0_part116 | delta k0_part117 | delta k0_part118 | delta k0_part119 | delta k0_part120 | delta k0_part121
     | delta k0_part122 | delta k0_part123 | delta k0_part124 | delta k0_part125 | delta k0_part126 | delta k0_part127 | delta k0_part128 | delta k0_part129 | delta k0_part130 | delta k0_part131
     | delta k0_part132 | delta k0_part133 | delta k0_part134 | delta k0_part135 | delta k0_part136 | delta k0_part137 | delta k0_part138 | delta k0_part139 | delta k0_part140 | delta k0_part141
     | delta k0_part142 | delta k0_part143 | delta k0_part144 | delta k0_part145 | delta k0_part146 | delta k0_part147 | delta k0_part148 | delta k0_part149 | delta k0_part150 | delta k0_part151
     | delta k0_part152 | delta k0_part153 | delta k0_part154 | delta k0_part155 | delta k0_part156 | delta k0_part157 | delta k0_part158 | delta k0_part159 | delta k0_part160 | delta k0_part161
     | delta k0_part162 | delta k0_part163 | delta k0_part164 | delta k0_part165 | delta k0_part166 | delta k0_part167 | delta k0_part168 | delta k0_part169 | delta k0_part170 | delta k0_part171

theorem safe_k0_part217 (v5 : IVec S512x128 32) (v6 : IVec S512x128 32) (v19 : BitVec 32) (v20 : BitVec 32) (v22 : BitVec 32) (v120 : IVec S1x128 32) (k0_t3 : Fin (k0_t3_loop i).trips) (v3959 : BitVec 32) (v3960 : BitVec 32) (v4183 : IVec S2x8x128 32) (v4186 : IVec S2x8x128 32) (v4192 : IVec S2x8x128 32) (v4195 : IVec S2x8x128 32) (v4201 : IVec S2x8x128 32) (v4204 : IVec S2x8x128 32) (v4210 : IVec S2x8x128 32) (v4213 : IVec S2x8x128 32) (v4219 : IVec S2x8x128 32) (v4222 : IVec S2x8x128 32) (v4228 : IVec S2x8x128 32) (v4231 : IVec S2x8x128 32) (v4237 : IVec S2x8x128 32) (v4240 : IVec S2x8x128 32) (v4246 : IVec S2x8x128 32) (v4249 : IVec S2x8x128 32) (v4255 : IVec S2x8x128 32) (v4258 : IVec S2x8x128 32) (v4264 : IVec S2x8x128 32) (v4267 : IVec S2x8x128 32) (v4273 : IVec S2x8x128 32) (v4276 : IVec S2x8x128 32) (v4282 : IVec S2x8x128 32) (v4285 : IVec S2x8x128 32) (v4291 : IVec S2x8x128 32) (v4294 : IVec S2x8x128 32) (v4300 : IVec S2x8x128 32) (v4303 : IVec S2x8x128 32) (v4309 : IVec S2x8x128 32) (v4312 : IVec S2x8x128 32) (v4318 : IVec S2x8x128 32) (v4321 : IVec S2x8x128 32) (v4322 : IVec S2x8x128 32) : Safe defs 𝒱 (c : Thread nD τ) Φ (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 k0_t3 v3959 v3960 v4183 v4186 v4192 v4195 v4201 v4204 v4210 v4213 v4219 v4222 v4228 v4231 v4237 v4240 v4246 v4249 v4255 v4258 v4264 v4267 v4273 v4276 v4282 v4285 v4291 v4294 v4300 v4303 v4309 v4312 v4318 v4321 v4322) := by
  unfold k0_part217
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part172 | delta k0_part173 | delta k0_part174 | delta k0_part175 | delta k0_part176 | delta k0_part177 | delta k0_part178 | delta k0_part179 | delta k0_part180 | delta k0_part181
     | delta k0_part182 | delta k0_part183 | delta k0_part184 | delta k0_part185 | delta k0_part186 | delta k0_part187 | delta k0_part188 | delta k0_part189 | delta k0_part190 | delta k0_part191
     | delta k0_part192 | delta k0_part193 | delta k0_part194 | delta k0_part195 | delta k0_part196 | delta k0_part197 | delta k0_part198 | delta k0_part199 | delta k0_part200 | delta k0_part201
     | delta k0_part202 | delta k0_part203 | delta k0_part204 | delta k0_part205 | delta k0_part206 | delta k0_part207 | delta k0_part208 | delta k0_part209 | delta k0_part210 | delta k0_part211
     | delta k0_part212 | delta k0_part213 | delta k0_part214 | delta k0_part215

end Cert.Proof.Walk

end
-- ==== Proof.WalkB2.lean ====
/- The sparse-attention body gives back the buffers it is lent, part by part: the index scores and their bit planes over the other trips. -/
module

public import proofs.«01_k».proof.Kernel
public import proofs.«01_k».proof.Proof.Safe

@[expose] public section

noncomputable section

namespace Cert.Proof.Walk

open Cert.Kernel Cert.Proof.Safe
open Idealize.ShloMosaic Idealize.ShloMosaic.TcCoe
open Idealize.SL Idealize.SL.RA Idealize.SL.BI Idealize.SL.Sem

variable {F : FTy → Type} [BitOps F] [Facts]
variable (defs : Defs nD τ sig (Elt F) Λ₀) (𝒱 : Variants) (c : Dev nD) (Φ : sProp (RM nD τ sig (Elt F))) (i : grid0.Coords)
  (arg2 : Memref sig .tc .smem S32x8 .f32) (harg2 : arg2.IsWhole) (parg2 : Has (c : Thread nD τ) Φ arg2)
  (arg3 : Memref sig .tc .vmem S2x128x128 .i32) (harg3 : arg3.IsWhole) (parg3 : Has (c : Thread nD τ) Φ arg3)
  (arg4 : Memref sig .tc .vmem S1x1x2x64x512 .bf16) (harg4 : arg4.IsWhole) (parg4 : Has (c : Thread nD τ) Φ arg4)
  (arg5 : Memref sig .tc .vmem S1x1x64x1024 .bf16) (harg5 : arg5.IsWhole) (parg5 : Has (c : Thread nD τ) Φ arg5)
  (arg6 : Memref sig .tc .vmem S1x128x128 .f32) (harg6 : arg6.IsWhole) (parg6 : Has (c : Thread nD τ) Φ arg6)
  (arg7 : Memref sig .tc .vmem S1x1x64x1024 .bf16) (harg7 : arg7.IsWhole) (parg7 : Has (c : Thread nD τ) Φ arg7)
  (arg8 : Memref sig .tc .vmem S1x128x128 .f32) (harg8 : arg8.IsWhole) (parg8 : Has (c : Thread nD τ) Φ arg8)
  (arg9 : Memref sig .tc .vmem S1x8192x128 .bf16) (harg9 : arg9.IsWhole) (parg9 : Has (c : Thread nD τ) Φ arg9)
  (arg10 : Memref sig .tc .vmem S1x64x2x80x128 .bf16) (harg10 : arg10.IsWhole) (parg10 : Has (c : Thread nD τ) Φ arg10)
  (arg11 : Memref sig .tc .vmem S1x8192x128 .bf16) (harg11 : arg11.IsWhole) (parg11 : Has (c : Thread nD τ) Φ arg11)
  (arg12 : Memref sig .tc .vmem S512x128 .f32) (harg12 : arg12.IsWhole) (parg12 : Has (c : Thread nD τ) Φ arg12)
  (arg13 : Memref sig .tc .vmem S1x1x512x128 .bf16) (harg13 : arg13.IsWhole) (parg13 : Has (c : Thread nD τ) Φ arg13)
  (arg14 : Memref sig .tc .vmem S2x8192x128 .i32) (harg14 : arg14.IsWhole) (parg14 : Has (c : Thread nD τ) Φ arg14)
  (arg15 : Memref sig .tc .vmem S32x256x128 .i32) (harg15 : arg15.IsWhole) (parg15 : Has (c : Thread nD τ) Φ arg15)
  (arg16 : Memref sig .tc .vmem S256x128 .i32) (harg16 : arg16.IsWhole) (parg16 : Has (c : Thread nD τ) Φ arg16)
  (arg17 : Memref sig .tc .vmem S2x1x128 .i32) (harg17 : arg17.IsWhole) (parg17 : Has (c : Thread nD τ) Φ arg17)
  (arg18 : Memref sig .tc .vmem S2x1x128 .i32) (harg18 : arg18.IsWhole) (parg18 : Has (c : Thread nD τ) Φ arg18)
  (arg19 : Memref sig .tc .vmem S3x2x128x512 .f32) (harg19 : arg19.IsWhole) (parg19 : Has (c : Thread nD τ) Φ arg19)
  (arg20 : Memref sig .tc .vmem S2x64x512 .bf16) (harg20 : arg20.IsWhole) (parg20 : Has (c : Thread nD τ) Φ arg20)
  (arg21 : Memref sig .tc .vmem S64x1024 .bf16) (harg21 : arg21.IsWhole) (parg21 : Has (c : Thread nD τ) Φ arg21)
  (arg22 : Memref sig .tc .vmem S8x1024 .f32) (harg22 : arg22.IsWhole) (parg22 : Has (c : Thread nD τ) Φ arg22)
  (arg23 : Memref sig .tc .vmem S2x1x512 .f32) (harg23 : arg23.IsWhole) (parg23 : Has (c : Thread nD τ) Φ arg23)
  (arg24 : Memref sig .tc .vmem S2x80x512 .f32) (harg24 : arg24.IsWhole) (parg24 : Has (c : Thread nD τ) Φ arg24)
  (arg25 : Memref sig .tc .vmem S3x2x512x512 .bf16) (harg25 : arg25.IsWhole) (parg25 : Has (c : Thread nD τ) Φ arg25)

include parg2 parg3 parg4 parg5 parg6 parg7 parg8 parg9 parg10 parg11 parg12 parg13 parg14 parg15 parg16 parg17 parg18 parg19 parg20 parg21 parg22 parg23 parg24 parg25
set_option maxRecDepth 8192
set_option maxHeartbeats 0

theorem safe_k0_part322 (v5 : IVec S512x128 32) (v6 : IVec S512x128 32) (v19 : BitVec 32) (v20 : BitVec 32) (v22 : BitVec 32) (v120 : IVec S1x128 32) (v228 : BitVec 32) (c1_i32_99 : BitVec 32) (k0_t4 : Fin (k0_t4_loop i).trips) : Safe defs 𝒱 (c : Thread nD τ) Φ (k0_part322 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 v228 c1_i32_99 k0_t4) := by
  unfold k0_part322
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part218 | delta k0_part219 | delta k0_part220 | delta k0_part221 | delta k0_part222 | delta k0_part223 | delta k0_part224 | delta k0_part225 | delta k0_part226 | delta k0_part227
     | delta k0_part228 | delta k0_part229 | delta k0_part230 | delta k0_part231 | delta k0_part232 | delta k0_part233 | delta k0_part234 | delta k0_part235 | delta k0_part236 | delta k0_part237
     | delta k0_part238 | delta k0_part239 | delta k0_part240 | delta k0_part241 | delta k0_part242 | delta k0_part243 | delta k0_part244 | delta k0_part245 | delta k0_part246 | delta k0_part247
     | delta k0_part248 | delta k0_part249 | delta k0_part250 | delta k0_part251 | delta k0_part252 | delta k0_part253 | delta k0_part254 | delta k0_part255 | delta k0_part256 | delta k0_part257
     | delta k0_part258 | delta k0_part259 | delta k0_part260 | delta k0_part261 | delta k0_part262 | delta k0_part263 | delta k0_part264 | delta k0_part265 | delta k0_part266 | delta k0_part267
     | delta k0_part268 | delta k0_part269 | delta k0_part270 | delta k0_part271 | delta k0_part272 | delta k0_part273 | delta k0_part274 | delta k0_part275 | delta k0_part276 | delta k0_part277

theorem safe_k0_part323 (v5 : IVec S512x128 32) (v6 : IVec S512x128 32) (v19 : BitVec 32) (v20 : BitVec 32) (v22 : BitVec 32) (v120 : IVec S1x128 32) (k0_t4 : Fin (k0_t4_loop i).trips) (v3959 : BitVec 32) (v3960 : BitVec 32) (v4183 : IVec S2x8x128 32) (v4186 : IVec S2x8x128 32) (v4192 : IVec S2x8x128 32) (v4195 : IVec S2x8x128 32) (v4201 : IVec S2x8x128 32) (v4204 : IVec S2x8x128 32) (v4210 : IVec S2x8x128 32) (v4213 : IVec S2x8x128 32) (v4219 : IVec S2x8x128 32) (v4222 : IVec S2x8x128 32) (v4228 : IVec S2x8x128 32) (v4231 : IVec S2x8x128 32) (v4237 : IVec S2x8x128 32) (v4240 : IVec S2x8x128 32) (v4246 : IVec S2x8x128 32) (v4249 : IVec S2x8x128 32) (v4255 : IVec S2x8x128 32) (v4258 : IVec S2x8x128 32) (v4264 : IVec S2x8x128 32) (v4267 : IVec S2x8x128 32) (v4273 : IVec S2x8x128 32) (v4276 : IVec S2x8x128 32) (v4282 : IVec S2x8x128 32) (v4285 : IVec S2x8x128 32) (v4291 : IVec S2x8x128 32) (v4294 : IVec S2x8x128 32) (v4300 : IVec S2x8x128 32) (v4303 : IVec S2x8x128 32) (v4309 : IVec S2x8x128 32) (v4312 : IVec S2x8x128 32) (v4318 : IVec S2x8x128 32) (v4321 : IVec S2x8x128 32) (v4322 : IVec S2x8x128 32) : Safe defs 𝒱 (c : Thread nD τ) Φ (k0_part323 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 k0_t4 v3959 v3960 v4183 v4186 v4192 v4195 v4201 v4204 v4210 v4213 v4219 v4222 v4228 v4231 v4237 v4240 v4246 v4249 v4255 v4258 v4264 v4267 v4273 v4276 v4282 v4285 v4291 v4294 v4300 v4303 v4309 v4312 v4318 v4321 v4322) := by
  unfold k0_part323
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part278 | delta k0_part279 | delta k0_part280 | delta k0_part281 | delta k0_part282 | delta k0_part283 | delta k0_part284 | delta k0_part285 | delta k0_part286 | delta k0_part287
     | delta k0_part288 | delta k0_part289 | delta k0_part290 | delta k0_part291 | delta k0_part292 | delta k0_part293 | delta k0_part294 | delta k0_part295 | delta k0_part296 | delta k0_part297
     | delta k0_part298 | delta k0_part299 | delta k0_part300 | delta k0_part301 | delta k0_part302 | delta k0_part303 | delta k0_part304 | delta k0_part305 | delta k0_part306 | delta k0_part307
     | delta k0_part308 | delta k0_part309 | delta k0_part310 | delta k0_part311 | delta k0_part312 | delta k0_part313 | delta k0_part314 | delta k0_part315 | delta k0_part316 | delta k0_part317
     | delta k0_part318 | delta k0_part319 | delta k0_part320 | delta k0_part321

end Cert.Proof.Walk

end
-- ==== Proof.WalkC1.lean ====
/- The sparse-attention body gives back the buffers it is lent, part by part: the bit planes of the second pass. -/
module

public import proofs.«01_k».proof.Kernel
public import proofs.«01_k».proof.Proof.Safe

@[expose] public section

noncomputable section

namespace Cert.Proof.Walk

open Cert.Kernel Cert.Proof.Safe
open Idealize.ShloMosaic Idealize.ShloMosaic.TcCoe
open Idealize.SL Idealize.SL.RA Idealize.SL.BI Idealize.SL.Sem

variable {F : FTy → Type} [BitOps F] [Facts]
variable (defs : Defs nD τ sig (Elt F) Λ₀) (𝒱 : Variants) (c : Dev nD) (Φ : sProp (RM nD τ sig (Elt F))) (i : grid0.Coords)
  (arg2 : Memref sig .tc .smem S32x8 .f32) (harg2 : arg2.IsWhole) (parg2 : Has (c : Thread nD τ) Φ arg2)
  (arg3 : Memref sig .tc .vmem S2x128x128 .i32) (harg3 : arg3.IsWhole) (parg3 : Has (c : Thread nD τ) Φ arg3)
  (arg4 : Memref sig .tc .vmem S1x1x2x64x512 .bf16) (harg4 : arg4.IsWhole) (parg4 : Has (c : Thread nD τ) Φ arg4)
  (arg5 : Memref sig .tc .vmem S1x1x64x1024 .bf16) (harg5 : arg5.IsWhole) (parg5 : Has (c : Thread nD τ) Φ arg5)
  (arg6 : Memref sig .tc .vmem S1x128x128 .f32) (harg6 : arg6.IsWhole) (parg6 : Has (c : Thread nD τ) Φ arg6)
  (arg7 : Memref sig .tc .vmem S1x1x64x1024 .bf16) (harg7 : arg7.IsWhole) (parg7 : Has (c : Thread nD τ) Φ arg7)
  (arg8 : Memref sig .tc .vmem S1x128x128 .f32) (harg8 : arg8.IsWhole) (parg8 : Has (c : Thread nD τ) Φ arg8)
  (arg9 : Memref sig .tc .vmem S1x8192x128 .bf16) (harg9 : arg9.IsWhole) (parg9 : Has (c : Thread nD τ) Φ arg9)
  (arg10 : Memref sig .tc .vmem S1x64x2x80x128 .bf16) (harg10 : arg10.IsWhole) (parg10 : Has (c : Thread nD τ) Φ arg10)
  (arg11 : Memref sig .tc .vmem S1x8192x128 .bf16) (harg11 : arg11.IsWhole) (parg11 : Has (c : Thread nD τ) Φ arg11)
  (arg12 : Memref sig .tc .vmem S512x128 .f32) (harg12 : arg12.IsWhole) (parg12 : Has (c : Thread nD τ) Φ arg12)
  (arg13 : Memref sig .tc .vmem S1x1x512x128 .bf16) (harg13 : arg13.IsWhole) (parg13 : Has (c : Thread nD τ) Φ arg13)
  (arg14 : Memref sig .tc .vmem S2x8192x128 .i32) (harg14 : arg14.IsWhole) (parg14 : Has (c : Thread nD τ) Φ arg14)
  (arg15 : Memref sig .tc .vmem S32x256x128 .i32) (harg15 : arg15.IsWhole) (parg15 : Has (c : Thread nD τ) Φ arg15)
  (arg16 : Memref sig .tc .vmem S256x128 .i32) (harg16 : arg16.IsWhole) (parg16 : Has (c : Thread nD τ) Φ arg16)
  (arg17 : Memref sig .tc .vmem S2x1x128 .i32) (harg17 : arg17.IsWhole) (parg17 : Has (c : Thread nD τ) Φ arg17)
  (arg18 : Memref sig .tc .vmem S2x1x128 .i32) (harg18 : arg18.IsWhole) (parg18 : Has (c : Thread nD τ) Φ arg18)
  (arg19 : Memref sig .tc .vmem S3x2x128x512 .f32) (harg19 : arg19.IsWhole) (parg19 : Has (c : Thread nD τ) Φ arg19)
  (arg20 : Memref sig .tc .vmem S2x64x512 .bf16) (harg20 : arg20.IsWhole) (parg20 : Has (c : Thread nD τ) Φ arg20)
  (arg21 : Memref sig .tc .vmem S64x1024 .bf16) (harg21 : arg21.IsWhole) (parg21 : Has (c : Thread nD τ) Φ arg21)
  (arg22 : Memref sig .tc .vmem S8x1024 .f32) (harg22 : arg22.IsWhole) (parg22 : Has (c : Thread nD τ) Φ arg22)
  (arg23 : Memref sig .tc .vmem S2x1x512 .f32) (harg23 : arg23.IsWhole) (parg23 : Has (c : Thread nD τ) Φ arg23)
  (arg24 : Memref sig .tc .vmem S2x80x512 .f32) (harg24 : arg24.IsWhole) (parg24 : Has (c : Thread nD τ) Φ arg24)
  (arg25 : Memref sig .tc .vmem S3x2x512x512 .bf16) (harg25 : arg25.IsWhole) (parg25 : Has (c : Thread nD τ) Φ arg25)

include parg2 parg3 parg4 parg5 parg6 parg7 parg8 parg9 parg10 parg11 parg12 parg13 parg14 parg15 parg16 parg17 parg18 parg19 parg20 parg21 parg22 parg23 parg24 parg25
set_option maxRecDepth 8192
set_option maxHeartbeats 0

theorem safe_k0_part376 (v5 : IVec S512x128 32) (v6 : IVec S512x128 32) (v19 : BitVec 32) (v20 : BitVec 32) (v22 : BitVec 32) (v120 : IVec S1x128 32) (v246 : BitVec 32) (c1_i32_117 : BitVec 32) (k0_t5 : Fin (k0_t5_loop i).trips) : Safe defs 𝒱 (c : Thread nD τ) Φ (k0_part376 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 v246 c1_i32_117 k0_t5) := by
  unfold k0_part376
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part324 | delta k0_part325 | delta k0_part326 | delta k0_part327 | delta k0_part328 | delta k0_part329 | delta k0_part330 | delta k0_part331 | delta k0_part332 | delta k0_part333
     | delta k0_part334 | delta k0_part335 | delta k0_part336 | delta k0_part337 | delta k0_part338 | delta k0_part339 | delta k0_part340 | delta k0_part341 | delta k0_part342 | delta k0_part343
     | delta k0_part344 | delta k0_part345 | delta k0_part346 | delta k0_part347 | delta k0_part348 | delta k0_part349 | delta k0_part350 | delta k0_part351 | delta k0_part352 | delta k0_part353
     | delta k0_part354 | delta k0_part355 | delta k0_part356 | delta k0_part357 | delta k0_part358 | delta k0_part359 | delta k0_part360 | delta k0_part361 | delta k0_part362 | delta k0_part363
     | delta k0_part364 | delta k0_part365 | delta k0_part366 | delta k0_part367 | delta k0_part368 | delta k0_part369 | delta k0_part370 | delta k0_part371 | delta k0_part372 | delta k0_part373
     | delta k0_part374 | delta k0_part375

theorem safe_k0_part429 (v5 : IVec S512x128 32) (v6 : IVec S512x128 32) (v19 : BitVec 32) (v20 : BitVec 32) (v22 : BitVec 32) (v120 : IVec S1x128 32) (v268 : BitVec 32) (c1_i32_118 : BitVec 32) (k0_t6 : Fin (k0_t6_loop i).trips) : Safe defs 𝒱 (c : Thread nD τ) Φ (k0_part429 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 v268 c1_i32_118 k0_t6) := by
  unfold k0_part429
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part377 | delta k0_part378 | delta k0_part379 | delta k0_part380 | delta k0_part381 | delta k0_part382 | delta k0_part383 | delta k0_part384 | delta k0_part385 | delta k0_part386
     | delta k0_part387 | delta k0_part388 | delta k0_part389 | delta k0_part390 | delta k0_part391 | delta k0_part392 | delta k0_part393 | delta k0_part394 | delta k0_part395 | delta k0_part396
     | delta k0_part397 | delta k0_part398 | delta k0_part399 | delta k0_part400 | delta k0_part401 | delta k0_part402 | delta k0_part403 | delta k0_part404 | delta k0_part405 | delta k0_part406
     | delta k0_part407 | delta k0_part408 | delta k0_part409 | delta k0_part410 | delta k0_part411 | delta k0_part412 | delta k0_part413 | delta k0_part414 | delta k0_part415 | delta k0_part416
     | delta k0_part417 | delta k0_part418 | delta k0_part419 | delta k0_part420 | delta k0_part421 | delta k0_part422 | delta k0_part423 | delta k0_part424 | delta k0_part425 | delta k0_part426
     | delta k0_part427 | delta k0_part428

end Cert.Proof.Walk

end
-- ==== Proof.WalkC2.lean ====
/- The sparse-attention body gives back the buffers it is lent, part by part: the bit planes of the second pass, continued, and the selection over them. -/
module

public import proofs.«01_k».proof.Kernel
public import proofs.«01_k».proof.Proof.Safe

@[expose] public section

noncomputable section

namespace Cert.Proof.Walk

open Cert.Kernel Cert.Proof.Safe
open Idealize.ShloMosaic Idealize.ShloMosaic.TcCoe
open Idealize.SL Idealize.SL.RA Idealize.SL.BI Idealize.SL.Sem

variable {F : FTy → Type} [BitOps F] [Facts]
variable (defs : Defs nD τ sig (Elt F) Λ₀) (𝒱 : Variants) (c : Dev nD) (Φ : sProp (RM nD τ sig (Elt F))) (i : grid0.Coords)
  (arg2 : Memref sig .tc .smem S32x8 .f32) (harg2 : arg2.IsWhole) (parg2 : Has (c : Thread nD τ) Φ arg2)
  (arg3 : Memref sig .tc .vmem S2x128x128 .i32) (harg3 : arg3.IsWhole) (parg3 : Has (c : Thread nD τ) Φ arg3)
  (arg4 : Memref sig .tc .vmem S1x1x2x64x512 .bf16) (harg4 : arg4.IsWhole) (parg4 : Has (c : Thread nD τ) Φ arg4)
  (arg5 : Memref sig .tc .vmem S1x1x64x1024 .bf16) (harg5 : arg5.IsWhole) (parg5 : Has (c : Thread nD τ) Φ arg5)
  (arg6 : Memref sig .tc .vmem S1x128x128 .f32) (harg6 : arg6.IsWhole) (parg6 : Has (c : Thread nD τ) Φ arg6)
  (arg7 : Memref sig .tc .vmem S1x1x64x1024 .bf16) (harg7 : arg7.IsWhole) (parg7 : Has (c : Thread nD τ) Φ arg7)
  (arg8 : Memref sig .tc .vmem S1x128x128 .f32) (harg8 : arg8.IsWhole) (parg8 : Has (c : Thread nD τ) Φ arg8)
  (arg9 : Memref sig .tc .vmem S1x8192x128 .bf16) (harg9 : arg9.IsWhole) (parg9 : Has (c : Thread nD τ) Φ arg9)
  (arg10 : Memref sig .tc .vmem S1x64x2x80x128 .bf16) (harg10 : arg10.IsWhole) (parg10 : Has (c : Thread nD τ) Φ arg10)
  (arg11 : Memref sig .tc .vmem S1x8192x128 .bf16) (harg11 : arg11.IsWhole) (parg11 : Has (c : Thread nD τ) Φ arg11)
  (arg12 : Memref sig .tc .vmem S512x128 .f32) (harg12 : arg12.IsWhole) (parg12 : Has (c : Thread nD τ) Φ arg12)
  (arg13 : Memref sig .tc .vmem S1x1x512x128 .bf16) (harg13 : arg13.IsWhole) (parg13 : Has (c : Thread nD τ) Φ arg13)
  (arg14 : Memref sig .tc .vmem S2x8192x128 .i32) (harg14 : arg14.IsWhole) (parg14 : Has (c : Thread nD τ) Φ arg14)
  (arg15 : Memref sig .tc .vmem S32x256x128 .i32) (harg15 : arg15.IsWhole) (parg15 : Has (c : Thread nD τ) Φ arg15)
  (arg16 : Memref sig .tc .vmem S256x128 .i32) (harg16 : arg16.IsWhole) (parg16 : Has (c : Thread nD τ) Φ arg16)
  (arg17 : Memref sig .tc .vmem S2x1x128 .i32) (harg17 : arg17.IsWhole) (parg17 : Has (c : Thread nD τ) Φ arg17)
  (arg18 : Memref sig .tc .vmem S2x1x128 .i32) (harg18 : arg18.IsWhole) (parg18 : Has (c : Thread nD τ) Φ arg18)
  (arg19 : Memref sig .tc .vmem S3x2x128x512 .f32) (harg19 : arg19.IsWhole) (parg19 : Has (c : Thread nD τ) Φ arg19)
  (arg20 : Memref sig .tc .vmem S2x64x512 .bf16) (harg20 : arg20.IsWhole) (parg20 : Has (c : Thread nD τ) Φ arg20)
  (arg21 : Memref sig .tc .vmem S64x1024 .bf16) (harg21 : arg21.IsWhole) (parg21 : Has (c : Thread nD τ) Φ arg21)
  (arg22 : Memref sig .tc .vmem S8x1024 .f32) (harg22 : arg22.IsWhole) (parg22 : Has (c : Thread nD τ) Φ arg22)
  (arg23 : Memref sig .tc .vmem S2x1x512 .f32) (harg23 : arg23.IsWhole) (parg23 : Has (c : Thread nD τ) Φ arg23)
  (arg24 : Memref sig .tc .vmem S2x80x512 .f32) (harg24 : arg24.IsWhole) (parg24 : Has (c : Thread nD τ) Φ arg24)
  (arg25 : Memref sig .tc .vmem S3x2x512x512 .bf16) (harg25 : arg25.IsWhole) (parg25 : Has (c : Thread nD τ) Φ arg25)

include parg2 parg3 parg4 parg5 parg6 parg7 parg8 parg9 parg10 parg11 parg12 parg13 parg14 parg15 parg16 parg17 parg18 parg19 parg20 parg21 parg22 parg23 parg24 parg25
set_option maxRecDepth 8192
set_option maxHeartbeats 0

theorem safe_k0_part510 (arg1 : BitVec 32) (v5 : IVec S512x128 32) (v6 : IVec S512x128 32) (v19 : BitVec 32) (v20 : BitVec 32) (v22 : BitVec 32) (v120 : IVec S1x128 32) (v206 : BitVec 32) (c1_i32_134 : BitVec 32) (k0_t9 : Fin (k0_t9_loop i).trips) : Safe defs 𝒱 (c : Thread nD τ) Φ (k0_part510 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v5 v6 v19 v20 v22 v120 v206 c1_i32_134 k0_t9) := by
  unfold k0_part510
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part482 | delta k0_part483 | delta k0_part484 | delta k0_part485 | delta k0_part486 | delta k0_part487 | delta k0_part488 | delta k0_part489 | delta k0_part490 | delta k0_part491
     | delta k0_part492 | delta k0_part493 | delta k0_part494 | delta k0_part495 | delta k0_part496 | delta k0_part497 | delta k0_part498 | delta k0_part499 | delta k0_part500 | delta k0_part501
     | delta k0_part502 | delta k0_part503 | delta k0_part504 | delta k0_part505 | delta k0_part506 | delta k0_part507 | delta k0_part508 | delta k0_part509

theorem safe_k0_part539 (arg1 : BitVec 32) (v5 : IVec S512x128 32) (v6 : IVec S512x128 32) (v19 : BitVec 32) (v20 : BitVec 32) (v22 : BitVec 32) (v120 : IVec S1x128 32) (v297 : BitVec 32) (c1_i32_135 : BitVec 32) (k0_t10 : Fin (k0_t10_loop i).trips) : Safe defs 𝒱 (c : Thread nD τ) Φ (k0_part539 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v5 v6 v19 v20 v22 v120 v297 c1_i32_135 k0_t10) := by
  unfold k0_part539
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part511 | delta k0_part512 | delta k0_part513 | delta k0_part514 | delta k0_part515 | delta k0_part516 | delta k0_part517 | delta k0_part518 | delta k0_part519 | delta k0_part520
     | delta k0_part521 | delta k0_part522 | delta k0_part523 | delta k0_part524 | delta k0_part525 | delta k0_part526 | delta k0_part527 | delta k0_part528 | delta k0_part529 | delta k0_part530
     | delta k0_part531 | delta k0_part532 | delta k0_part533 | delta k0_part534 | delta k0_part535 | delta k0_part536 | delta k0_part537 | delta k0_part538

theorem safe_k0_part562 (v5 : IVec S512x128 32) (v6 : IVec S512x128 32) (v20 : BitVec 32) (v22 : BitVec 32) (v40 : BitVec 32) (k0_h4 : k0_cond4 i = 1#1) : Safe defs 𝒱 (c : Thread nD τ) Φ (k0_part562 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v20 v22 v40 k0_h4) := by
  unfold k0_part562
  repeat' with_reducible first
    | assumption
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part540 | delta k0_part541 | delta k0_part542 | delta k0_part543 | delta k0_part544 | delta k0_part545 | delta k0_part546 | delta k0_part547 | delta k0_part548 | delta k0_part549
     | delta k0_part550 | delta k0_part551 | delta k0_part552 | delta k0_part553 | delta k0_part554 | delta k0_part555 | delta k0_part556 | delta k0_part557 | delta k0_part558 | delta k0_part559
     | delta k0_part560 | delta k0_part561

end Cert.Proof.Walk

end
-- ==== Proof.Walk.lean ====
/- The sparse-attention body gives back the buffers it is lent, whole: the body from its parts. -/
module

public import proofs.«01_k».proof.Kernel
public import proofs.«01_k».proof.Proof.WalkA
public import proofs.«01_k».proof.Proof.WalkB1
public import proofs.«01_k».proof.Proof.WalkB2
public import proofs.«01_k».proof.Proof.WalkC1
public import proofs.«01_k».proof.Proof.WalkC2

@[expose] public section

noncomputable section

namespace Cert.Proof.Walk

open Cert.Kernel Cert.Proof.Safe
open Idealize.ShloMosaic Idealize.ShloMosaic.TcCoe
open Idealize.SL Idealize.SL.RA Idealize.SL.BI Idealize.SL.Sem

variable {F : FTy → Type} [BitOps F] [Facts]
variable (defs : Defs nD τ sig (Elt F) Λ₀) (𝒱 : Variants) (c : Dev nD) (Φ : sProp (RM nD τ sig (Elt F))) (i : grid0.Coords)
  (arg2 : Memref sig .tc .smem S32x8 .f32) (harg2 : arg2.IsWhole) (parg2 : Has (c : Thread nD τ) Φ arg2)
  (arg3 : Memref sig .tc .vmem S2x128x128 .i32) (harg3 : arg3.IsWhole) (parg3 : Has (c : Thread nD τ) Φ arg3)
  (arg4 : Memref sig .tc .vmem S1x1x2x64x512 .bf16) (harg4 : arg4.IsWhole) (parg4 : Has (c : Thread nD τ) Φ arg4)
  (arg5 : Memref sig .tc .vmem S1x1x64x1024 .bf16) (harg5 : arg5.IsWhole) (parg5 : Has (c : Thread nD τ) Φ arg5)
  (arg6 : Memref sig .tc .vmem S1x128x128 .f32) (harg6 : arg6.IsWhole) (parg6 : Has (c : Thread nD τ) Φ arg6)
  (arg7 : Memref sig .tc .vmem S1x1x64x1024 .bf16) (harg7 : arg7.IsWhole) (parg7 : Has (c : Thread nD τ) Φ arg7)
  (arg8 : Memref sig .tc .vmem S1x128x128 .f32) (harg8 : arg8.IsWhole) (parg8 : Has (c : Thread nD τ) Φ arg8)
  (arg9 : Memref sig .tc .vmem S1x8192x128 .bf16) (harg9 : arg9.IsWhole) (parg9 : Has (c : Thread nD τ) Φ arg9)
  (arg10 : Memref sig .tc .vmem S1x64x2x80x128 .bf16) (harg10 : arg10.IsWhole) (parg10 : Has (c : Thread nD τ) Φ arg10)
  (arg11 : Memref sig .tc .vmem S1x8192x128 .bf16) (harg11 : arg11.IsWhole) (parg11 : Has (c : Thread nD τ) Φ arg11)
  (arg12 : Memref sig .tc .vmem S512x128 .f32) (harg12 : arg12.IsWhole) (parg12 : Has (c : Thread nD τ) Φ arg12)
  (arg13 : Memref sig .tc .vmem S1x1x512x128 .bf16) (harg13 : arg13.IsWhole) (parg13 : Has (c : Thread nD τ) Φ arg13)
  (arg14 : Memref sig .tc .vmem S2x8192x128 .i32) (harg14 : arg14.IsWhole) (parg14 : Has (c : Thread nD τ) Φ arg14)
  (arg15 : Memref sig .tc .vmem S32x256x128 .i32) (harg15 : arg15.IsWhole) (parg15 : Has (c : Thread nD τ) Φ arg15)
  (arg16 : Memref sig .tc .vmem S256x128 .i32) (harg16 : arg16.IsWhole) (parg16 : Has (c : Thread nD τ) Φ arg16)
  (arg17 : Memref sig .tc .vmem S2x1x128 .i32) (harg17 : arg17.IsWhole) (parg17 : Has (c : Thread nD τ) Φ arg17)
  (arg18 : Memref sig .tc .vmem S2x1x128 .i32) (harg18 : arg18.IsWhole) (parg18 : Has (c : Thread nD τ) Φ arg18)
  (arg19 : Memref sig .tc .vmem S3x2x128x512 .f32) (harg19 : arg19.IsWhole) (parg19 : Has (c : Thread nD τ) Φ arg19)
  (arg20 : Memref sig .tc .vmem S2x64x512 .bf16) (harg20 : arg20.IsWhole) (parg20 : Has (c : Thread nD τ) Φ arg20)
  (arg21 : Memref sig .tc .vmem S64x1024 .bf16) (harg21 : arg21.IsWhole) (parg21 : Has (c : Thread nD τ) Φ arg21)
  (arg22 : Memref sig .tc .vmem S8x1024 .f32) (harg22 : arg22.IsWhole) (parg22 : Has (c : Thread nD τ) Φ arg22)
  (arg23 : Memref sig .tc .vmem S2x1x512 .f32) (harg23 : arg23.IsWhole) (parg23 : Has (c : Thread nD τ) Φ arg23)
  (arg24 : Memref sig .tc .vmem S2x80x512 .f32) (harg24 : arg24.IsWhole) (parg24 : Has (c : Thread nD τ) Φ arg24)
  (arg25 : Memref sig .tc .vmem S3x2x512x512 .bf16) (harg25 : arg25.IsWhole) (parg25 : Has (c : Thread nD τ) Φ arg25)

include parg2 parg3 parg4 parg5 parg6 parg7 parg8 parg9 parg10 parg11 parg12 parg13 parg14 parg15 parg16 parg17 parg18 parg19 parg20 parg21 parg22 parg23 parg24 parg25
set_option maxRecDepth 8192
set_option maxHeartbeats 0

theorem safe_k0_part589  : Safe defs 𝒱 (c : Thread nD τ) Φ (k0_part589 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) := by
  unfold k0_part589
  repeat' with_reducible first
    | assumption
    | exact safe_k0_part84 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25
    | exact safe_k0_part85 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _
    | exact safe_k0_part111 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_

theorem safe_k0_part595 (v5 : IVec S512x128 32) (v6 : IVec S512x128 32) (v19 : BitVec 32) (v20 : BitVec 32) (v22 : BitVec 32) (v120 : IVec S1x128 32) (v206 : BitVec 32) (c0_i32_96 : BitVec 32) (v224 : BitVec 32) : Safe defs 𝒱 (c : Thread nD τ) Φ (k0_part595 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 v5 v6 v19 v20 v22 v120 v206 c0_i32_96 v224) := by
  unfold k0_part595
  repeat' with_reducible first
    | assumption
    | exact safe_k0_part216 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _
    | exact safe_k0_part217 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _ _ _ _ _ _ _ _ _ _ _ _ _ _ _ _ _ _ _ _ _ _ _ _ _ _ _ _ _ _ _ _ _ _
    | exact safe_k0_part322 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _
    | exact safe_k0_part323 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _ _ _ _ _ _ _ _ _ _ _ _ _ _ _ _ _ _ _ _ _ _ _ _ _ _ _ _ _ _ _ _ _ _
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_

theorem safe_k0_part596 (arg1 : BitVec 32) (v5 : IVec S512x128 32) (v6 : IVec S512x128 32) (v19 : BitVec 32) (v20 : BitVec 32) (v22 : BitVec 32) (v40 : BitVec 32) (v58 : BitVec 32) (v120 : IVec S1x128 32) (v206 : BitVec 32) (v246 : BitVec 32) (v264 : BitVec 32) : Safe defs 𝒱 (c : Thread nD τ) Φ (k0_part596 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg1 v5 v6 v19 v20 v22 v40 v58 v120 v206 v246 v264) := by
  unfold k0_part596
  repeat' with_reducible first
    | assumption
    | exact safe_k0_part376 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _
    | exact safe_k0_part429 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _
    | exact safe_k0_part510 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _ _
    | exact safe_k0_part539 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _ _
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part430 | delta k0_part431 | delta k0_part432 | delta k0_part433 | delta k0_part434 | delta k0_part435 | delta k0_part436 | delta k0_part437 | delta k0_part438 | delta k0_part439
     | delta k0_part440 | delta k0_part441 | delta k0_part442 | delta k0_part443 | delta k0_part444 | delta k0_part445 | delta k0_part446 | delta k0_part447 | delta k0_part448 | delta k0_part449
     | delta k0_part450 | delta k0_part451 | delta k0_part452 | delta k0_part453 | delta k0_part454 | delta k0_part455 | delta k0_part456 | delta k0_part457 | delta k0_part458 | delta k0_part459
     | delta k0_part460 | delta k0_part461 | delta k0_part462 | delta k0_part463 | delta k0_part464 | delta k0_part465 | delta k0_part466 | delta k0_part467 | delta k0_part468 | delta k0_part469
     | delta k0_part470 | delta k0_part471 | delta k0_part472 | delta k0_part473 | delta k0_part474 | delta k0_part475 | delta k0_part476 | delta k0_part477 | delta k0_part478 | delta k0_part479
     | delta k0_part480 | delta k0_part481

theorem safe_cc0_dsa  : Safe defs 𝒱 (c : Thread nD τ) Φ (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 ) := by
  unfold cc0_dsa
  repeat' with_reducible first
    | assumption
    | exact safe_k0_part589 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25
    | exact safe_k0_part595 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _
    | exact safe_k0_part596 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _ _ _ _ _ _ _
    | exact safe_k0_part562 defs 𝒱 c Φ i arg2 harg2 parg2 arg3 harg3 parg3 arg4 harg4 parg4 arg5 harg5 parg5 arg6 harg6 parg6 arg7 harg7 parg7 arg8 harg8 parg8 arg9 harg9 parg9 arg10 harg10 parg10 arg11 harg11 parg11 arg12 harg12 parg12 arg13 harg13 parg13 arg14 harg14 parg14 arg15 harg15 parg15 arg16 harg16 parg16 arg17 harg17 parg17 arg18 harg18 parg18 arg19 harg19 parg19 arg20 harg20 parg20 arg21 harg21 parg21 arg22 harg22 parg22 arg23 harg23 parg23 arg24 harg24 parg24 arg25 harg25 parg25 _ _ _ _ _ _
    | exact Safe.pure _
    | refine Safe.word ?_
    | refine Safe.load ?_
    | refine Safe.store ?_
    | refine Safe.loop _ fun _ _ => ?_
    | refine Safe.bind ?_ fun _ => ?_
    | refine Safe.dite (fun _ => ?_) fun _ => ?_
    | refine Safe.ite ?_ ?_
    | delta k0_part590 | delta k0_part591 | delta k0_part592 | delta k0_part593 | delta k0_part594 | delta k0_part597 | delta k0_part598 | delta k0_part599 | delta k0_part600 | delta k0_part601
     | delta k0_part602 | delta k0_part603 | delta k0_part604 | delta k0_part605 | delta k0_part606 | delta k0_part607 | delta k0_part608 | delta k0_part609 | delta k0_part610 | delta k0_part611
     | delta k0_part612 | delta k0_part613 | delta k0_part614 | delta k0_part615 | delta k0_part616 | delta k0_part617 | delta k0_part618 | delta k0_part619 | delta k0_part620 | delta k0_part621
     | delta k0_part622 | delta k0_part623 | delta k0_part624 | delta k0_part625 | delta k0_part626 | delta k0_part627 | delta k0_part563 | delta k0_part628 | delta k0_part564 | delta k0_part565
     | delta k0_part566 | delta k0_part567 | delta k0_part568 | delta k0_part569 | delta k0_part570 | delta k0_part629 | delta k0_part571 | delta k0_part572 | delta k0_part573 | delta k0_part574
     | delta k0_part575 | delta k0_part576 | delta k0_part630 | delta k0_part577 | delta k0_part578 | delta k0_part631 | delta k0_part632 | delta k0_part579 | delta k0_part580 | delta k0_part581
     | delta k0_part582 | delta k0_part583 | delta k0_part584 | delta k0_part585 | delta k0_part586 | delta k0_part587 | delta k0_part588

end Cert.Proof.Walk

end
-- ==== Proof.Body.lean ====
/- The frame of the sparse-attention call. The body is gone through for ANY contents of its buffers (Walk.lean): at every
   point of the grid it takes the twelve windows' staging buffers and the twelve scratch buffers, each at some contents, runs
   to its end, and gives them back, each at some contents. So every window is forgotten here, the inputs among them: that the
   ARRAYS of the inputs are unchanged does not depend on what the body leaves in a staging buffer, since only the output's
   buffers are written out. Two pairs of windows read one array each, so the launch is the one with shared arrays. -/
module

public import proofs.«01_k».proof.Proof.Walk
public import proofs.«01_k».proof.Proof.Gen.Kernel.Frame
public import Idealize.ShloMosaic.Lib.Pipeline.Frame
public import Idealize.ShloMosaic.Lib.Tactic

@[expose] public section

noncomputable section

namespace Cert.Proof.Safe

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {c : Thread nD τ} {P Q : sProp (RM nD τ sig Val)}

theorem Has.left {sp : Space} {s : Shape} {e : EltTy} {m : Memref sig c.2.kind sp s e} (h : Has c P m) : Has c iprop(P ∗ Q) m := by
  unfold Has at *
  iintro ⟨HP, HQ⟩
  ihave HP := h $$ HP
  icases HP with ⟨Hm, Hb⟩
  isplitl [Hm]; · iexact Hm
  iintro Hm
  isplitr [HQ]; · iapply Hb; iexact Hm
  iexact HQ

theorem Has.right {sp : Space} {s : Shape} {e : EltTy} {m : Memref sig c.2.kind sp s e} (h : Has c Q m) : Has c iprop(P ∗ Q) m := by
  unfold Has at *
  iintro ⟨HP, HQ⟩
  ihave HQ := h $$ HQ
  icases HQ with ⟨Hm, Hb⟩
  isplitl [Hm]; · iexact Hm
  iintro Hm
  isplitl [HP]; · iexact HP
  iapply Hb; iexact Hm

/-- A memref owned at some value. -/
theorem Has.owned {sp : Space} {s : Shape} {e : EltTy} {m : Memref sig c.2.kind sp s e} :
    Has c iprop(∃ d : s.Idx → Val e, owns (Ix := Unit) (Name := ℕ) (U := UR sig nD τ) (Lvl := ℕ) c m fullShare d) m := by
  unfold Has held owns
  iintro ⟨%d, %f, -, H⟩
  isplitl [H]; · iexists f; iexact H
  iintro ⟨%f', H⟩
  iexists _, f'
  isplitr; · ipureintro; rfl
  iexact H

/-- A whole buffer at some contents. -/
theorem Has.whole {b : Ref sig c.2.kind} :
    Has c iprop(∃ f : Buf Val (c.loc b), (c.loc b) ↦{fullShare} f : sProp (RM nD τ sig Val)) (Memref.whole b) := by
  unfold Has held
  iintro ⟨%f, H⟩
  isplitl [H]; · iexists f; rw [show (Memref.whole b).view.set = Finset.univ from View.set_whole b]; iexact H
  iintro ⟨%f', H⟩
  iexists f'
  rw [show (Memref.whole b).view.set = Finset.univ from View.set_whole b]
  iexact H

end Cert.Proof.Safe

namespace Cert.Proof.Hand

open Cert.Kernel Cert.Kernel.Gen Cert.Proof.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

variable (m : (ℓ : Loc nD τ sig) → Buf (Elt F) ℓ) (ρ : Dev nD → PrngReg)

/-- Window `w`'s staging memref at point `t`, owned at some value. -/
abbrev staged (c : Dev nD) (w : Fin cfg0.W) (t : Fin cfg0.N) : sProp (RM nD τ sig (Elt F)) :=
  iprop(∃ d, owns (Ix := Unit) (Name := ℕ) (U := UR sig nD τ) (Lvl := ℕ) (c : Thread nD τ) ((cfg0.spec w).stage (cfg0.slots t w)) fullShare d)

/-- What the body is lent at point `t`: the staging memrefs and the scratch buffers. -/
abbrev lent (c : Dev nD) (t : Fin cfg0.N) : sProp (RM nD τ sig (Elt F)) :=
  iprop((∃ d, owns (c : Thread nD τ) (win0_0.stage (cfg0.slots t 0)) fullShare d) ∗ (∃ d, owns (c : Thread nD τ) (win0_1.stage (cfg0.slots t 1)) fullShare d)
    ∗ (∃ d, owns (c : Thread nD τ) (win0_2.stage (cfg0.slots t 2)) fullShare d) ∗ (∃ d, owns (c : Thread nD τ) (win0_3.stage (cfg0.slots t 3)) fullShare d)
    ∗ (∃ d, owns (c : Thread nD τ) (win0_4.stage (cfg0.slots t 4)) fullShare d) ∗ (∃ d, owns (c : Thread nD τ) (win0_5.stage (cfg0.slots t 5)) fullShare d)
    ∗ (∃ d, owns (c : Thread nD τ) (win0_6.stage (cfg0.slots t 6)) fullShare d) ∗ (∃ d, owns (c : Thread nD τ) (win0_7.stage (cfg0.slots t 7)) fullShare d)
    ∗ (∃ d, owns (c : Thread nD τ) (win0_8.stage (cfg0.slots t 8)) fullShare d) ∗ (∃ d, owns (c : Thread nD τ) (win0_9.stage (cfg0.slots t 9)) fullShare d)
    ∗ (∃ d, owns (c : Thread nD τ) (win0_10.stage (cfg0.slots t 10)) fullShare d) ∗ (∃ d, owns (c : Thread nD τ) (win0_11.stage (cfg0.slots t 11)) fullShare d))

set_option maxHeartbeats 4000000 in
/-- The body at a point, from what it is lent, for any contents. -/
theorem safe_body (c : Dev nD) (t : Fin cfg0.N) :
    Safe (defs₀ (F := F)) Variants.none (c : Thread nD τ)
      iprop(lent c t ∗ Pipeline.scopedRest (Ix := Unit) (Name := ℕ) (U := UR sig nD τ) (Lvl := ℕ) (Val := Elt F) spec0 c) (bodyAt0 t) := by
  unfold bodyAt0 lent
  rw [scopedRest0_eq]
  apply Walk.safe_cc0_dsa
  all_goals first
    | (refine Has.left ?_
       repeat (with_reducible first | exact Has.owned | exact Has.left Has.owned | refine Has.right ?_)
       done)
    | (refine Has.right ?_
       repeat (with_reducible first | exact Has.whole | exact Has.left Has.whole | refine Has.right ?_)
       done)

/-- Every window is forgotten. -/
def forgets0 : Fin 12 → Bool := fun _ => true

/-- The proof data on core `c`: each array as the region finds it; what the body leaves unnamed; the class invariant; the share
    of an array its windows read; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp (RM nD τ sig (Elt F)) :=
  iprop((dats m 0 c).Φ t.castSucc ∗ (dats m 0 c).owesAt () t.castSucc ∗ lent c t)
def bodyPost (c : Dev nD) (t : Fin cfg0.N) : sProp (RM nD τ sig (Elt F)) :=
  iprop((dats m 0 c).Φ t.succ ∗ (dats m 0 c).owesAt () t.succ ∗ lent c t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  refine BIBase.Entails.trans (Q := iprop(wp frame (wpE (defs₀ (F := F)) Variants.none c none) Set.univ (bodyAt0 t) (fun _ => iprop(lent c t ∗ Pipeline.scopedRest (Ix := Unit) (Name := ℕ) (U := UR sig nD τ) (Lvl := ℕ) (Val := Elt F) spec0 c))
      ∗ ((∃ r, prngReg c r) ∗ (dats m 0 c).owesAt () t.castSucc))) ?_ ?_
  · iintro ⟨⟨HS, Hg⟩, HO, HL⟩
    isplitl [HS HL]
    · iapply (show _ ⊢ wp frame (wpE (defs₀ (F := F)) Variants.none c none) Set.univ (bodyAt0 t) _ from safe_body c t)
      isplitl [HL]; · iexact HL
      iexact HS
    isplitl [Hg]; · iexact Hg
    iexact HO
  · refine BIBase.Entails.trans (wp_frame_r frame (wpE (defs₀ (F := F)) Variants.none c none) Set.univ) ?_
    refine wp_mono frame (wpE (defs₀ (F := F)) Variants.none c none) Set.univ fun _ => ?_
    iintro ⟨⟨HL, HS⟩, Hg, HO⟩
    isplitl [HS Hg]
    · isplitl [HS]; · iexact HS
      iexact Hg
    isplitl [HO]; · iexact HO
    iexact HL

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := Gen.hmain m Variants.none) (hA := A_eq m) (hΦ := fun _ _ => rfl)

variable {m ρ}

/-- After the run an input window's array holds what the region found there. -/
theorem final_in {r : PUnit × MemSt nD τ sig (Elt F)}
    (h : Pipeline.RDat.FramePost (cfgs 0) (fun c => (dats (F := F) m 0 c).toRForget forgets0) (V m) r) (c : Dev nD)
    (w : Fin cfg0.W) (hin : (cfg0.win w).isOut = false) :
    r.2.mem ((cfg0.spec w).arr.view.loc (c.tc : Thread nD τ)) = V m c (Pipeline.arrRef spec0 w) :=
  (h.arr_in c w hin).trans (A_eq m c w)

end Cert.Proof.Hand

end
-- ==== Proof.TailRef.lean ====
/- The tail's reference in four stages, each read at an index. -/
module

public import proofs.«01_k».proof.Defs
public import proofs.«01_k».proof.Proof.Gen.Reference2Ideal.Run
public import Idealize.ShloMosaic.Lib.Pointwise

@[expose] public section

set_option maxRecDepth 16384

noncomputable section

namespace Cert.Proof.Tail

open Idealize.ShloMosaic Idealize.ShloMosaic.TcCoe Idealize.SL.Sem
open Cert.Reference2Ideal Cert.Reference2Ideal.Gen

/-- One element of a normed row: the element over the root of the row's mean square, times its weight. -/
def nrm (row : Fin 1024 → EReal) (w : EReal) (c : Fin 1024) : EReal :=
  row c * Ideal.rsqrt (Ideal.div (∑ k : Fin 1024, row k * row k) (Ideal.ofBits .f32 0x44800000#32)
    + Ideal.ofBits .f32 0x358637BD#32) * w

/-- The reference's `rms_norm` of an array. -/
def rms (x : FVec Ideal S2x8192x1024 .f32) (w : FVec Ideal S1024 .f32) : FVec Ideal S2x8192x1024 .f32 :=
  mulf (mulf x (broadcastInDim S2x8192x1024 ![0, 1, 2] bcast_S2x8192x1_S2x8192x1024_0_1_2
    (Host.rsqrt (addf (Host.divf (broadcastInDim S2x8192x1 ![0, 1] bcast_S2x8192_S2x8192x1_0_1
        (Host.reduceAdd (mulf x x) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![2] bcast_S1024_S1x1x1024_2 w))

/-- The two mixers' outputs side by side, through the output projection. -/
def mix (ys : FVec Ideal S2x8192x512 .bf16) (ya : FVec Ideal S2x64x512x128 .bf16) (wo : FVec Ideal S1024x1024 .f32) :
    FVec Ideal S2x8192x1024 .f32 :=
  Host.dotGeneral dot_S2x8192x1024_S1024x1024_S2x8192x1024_2_0_01_1_n_n none
    (concatenate S2x8192x1024 2 [⟨S2x8192x512, extf .f32 ys bitsLt_bf16_f32⟩,
      ⟨S2x8192x512, extf .f32 (shapeCast S2x8192x512 (transpose S2x64x128x512 [0, 1, 3, 2] ya
        transposes_S2x64x512x128_S2x64x128x512_0_1_3_2) shapeCasts_S2x64x128x512_S2x8192x512) bitsLt_bf16_f32⟩]
      concatenates_S2x8192x512_S2x8192x512_S2x8192x1024_d2) wo

/-- The first residual: the input and the gated norm of the mix. -/
def res1 (x y : FVec Ideal S2x8192x1024 .f32) (md : FVec Ideal S2x6x1024 .f32) (w : FVec Ideal S1024 .f32) :
    FVec Ideal S2x8192x1024 .f32 :=
  addf x (mulf (broadcastInDim S2x8192x1024 ![0, 1, 2] bcast_S2x1x1024_S2x8192x1024_0_1_2
    (extractStridedSlice S2x1x1024 ![0, 2, 0] md slices_S2x6x1024_S2x1x1024_0_2_0)) (rms y w))

/-- The modulated norm that enters the MLP. -/
def hid (x : FVec Ideal S2x8192x1024 .f32) (md : FVec Ideal S2x6x1024 .f32) (w : FVec Ideal S1024 .f32) :
    FVec Ideal S2x8192x1024 .f32 :=
  addf (mulf (rms x w) (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 4, 0] md slices_S2x6x1024_S2x1x1024_0_4_0))))
    (broadcastInDim S2x8192x1024 ![0, 1, 2] bcast_S2x1x1024_S2x8192x1024_0_1_2
      (extractStridedSlice S2x1x1024 ![0, 3, 0] md slices_S2x6x1024_S2x1x1024_0_3_0))

/-- The MLP: squared relu between two products. -/
def mlp (h : FVec Ideal S2x8192x1024 .f32) (w1 : FVec Ideal S1024x4096 .f32) (w2 : FVec Ideal S4096x1024 .f32) :
    FVec Ideal S2x8192x1024 .f32 :=
  let a : FVec Ideal S2x8192x4096 .f32 := maximumf (Host.dotGeneral dot_S2x8192x1024_S1024x4096_S2x8192x4096_2_0_01_1_n_n none h w1)
    (broadcastInDim S2x8192x4096 ![] bcast_S_S2x8192x4096 (constant S_ .f32 0x00000000#32))
  Host.dotGeneral dot_S2x8192x4096_S4096x1024_S2x8192x1024_2_0_01_1_n_n none (mulf a a) w2

/-- The second residual. -/
def res2 (x f : FVec Ideal S2x8192x1024 .f32) (md : FVec Ideal S2x6x1024 .f32) (w : FVec Ideal S1024 .f32) :
    FVec Ideal S2x8192x1024 .f32 :=
  addf x (mulf (broadcastInDim S2x8192x1024 ![0, 1, 2] bcast_S2x1x1024_S2x8192x1024_0_1_2
    (extractStridedSlice S2x1x1024 ![0, 5, 0] md slices_S2x6x1024_S2x1x1024_0_5_0)) (rms f w))

/-- The reference's result. -/
def ref (x : FVec Ideal S2x8192x1024 .f32) (ys : FVec Ideal S2x8192x512 .bf16) (ya : FVec Ideal S2x64x512x128 .bf16)
    (md : FVec Ideal S2x6x1024 .f32) (wo : FVec Ideal S1024x1024 .f32) (n1 n2 n3 : FVec Ideal S1024 .f32)
    (w1 : FVec Ideal S1024x4096 .f32) (w2 : FVec Ideal S4096x1024 .f32) : FVec Ideal S2x8192x1024 .f32 :=
  let x1 := res1 x (mix ys ya wo) md n1
  res2 x1 (mlp (hid x1 md n2) w1 w2) md n3

theorem res_eq (m : (ℓ : Loc nD τ sig) → Buf (Elt Ideal) ℓ) (c : Dev nD) :
    Cert.Reference2Ideal.Value.res_main_v64 m c
      = ref (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  unfold Cert.Reference2Ideal.Value.res_main_v64
  rfl

/-! ## At an index -/

theorem rms_at (x : FVec Ideal S2x8192x1024 .f32) (w : FVec Ideal S1024 .f32) (b : Fin 2) (t : Fin 8192) (c : Fin 1024) :
    rms x w (ix3 b t c) = nrm (fun k => x (ix3 b t k)) (w (ix1 c)) c := by
  pointwise [rms, nrm]

theorem mix_at (ys : FVec Ideal S2x8192x512 .bf16) (ya : FVec Ideal S2x64x512x128 .bf16) (wo : FVec Ideal S1024x1024 .f32)
    (b : Fin 2) (t : Fin 8192) (c : Fin 1024) :
    mix ys ya wo (ix3 b t c)
      = (∑ k : Fin 512, ys (ix3 b t k) * wo (ix2 ⟨k.val, by omega⟩ c))
        + ∑ k : Fin 512, ya (ix4 b ⟨t.val / 128, by omega⟩ k ⟨t.val % 128, by omega⟩) * wo (ix2 ⟨512 + k.val, by omega⟩ c) := by
  pointwise [mix]

theorem res1_at (x y : FVec Ideal S2x8192x1024 .f32) (md : FVec Ideal S2x6x1024 .f32) (w : FVec Ideal S1024 .f32)
    (b : Fin 2) (t : Fin 8192) (c : Fin 1024) :
    res1 x y md w (ix3 b t c) = x (ix3 b t c) + md (ix3 b 2 c) * nrm (fun k => y (ix3 b t k)) (w (ix1 c)) c := by
  rw [← rms_at]; pointwise [res1]

theorem hid_at (x : FVec Ideal S2x8192x1024 .f32) (md : FVec Ideal S2x6x1024 .f32) (w : FVec Ideal S1024 .f32)
    (b : Fin 2) (t : Fin 8192) (c : Fin 1024) :
    hid x md w (ix3 b t c) = nrm (fun k => x (ix3 b t k)) (w (ix1 c)) c * (1 + md (ix3 b 4 c)) + md (ix3 b 3 c) := by
  rw [← rms_at]; pointwise [hid]

theorem mlp_at (h : FVec Ideal S2x8192x1024 .f32) (w1 : FVec Ideal S1024x4096 .f32) (w2 : FVec Ideal S4096x1024 .f32)
    (b : Fin 2) (t : Fin 8192) (c : Fin 1024) :
    mlp h w1 w2 (ix3 b t c) = ∑ j : Fin 4096, (max (∑ k : Fin 1024, h (ix3 b t k) * w1 (ix2 k j)) 0
      * max (∑ k : Fin 1024, h (ix3 b t k) * w1 (ix2 k j)) 0) * w2 (ix2 j c) := by
  pointwise [mlp]

theorem res2_at (x f : FVec Ideal S2x8192x1024 .f32) (md : FVec Ideal S2x6x1024 .f32) (w : FVec Ideal S1024 .f32)
    (b : Fin 2) (t : Fin 8192) (c : Fin 1024) :
    res2 x f md w (ix3 b t c) = x (ix3 b t c) + md (ix3 b 5 c) * nrm (fun k => f (ix3 b t k)) (w (ix1 c)) c := by
  rw [← rms_at]; pointwise [res2]

end Cert.Proof.Tail

end
-- ==== Proof.TailBody.lean ====
/- The tail's body, one payload at a time, read at an index of its block. -/
module

public import proofs.«01_k».proof.Proof.TailRef
public import proofs.«01_k».proof.Proof.Gen.Kernel2Ideal.Skeleton

@[expose] public section

set_option maxRecDepth 16384

noncomputable section

namespace Cert.Proof.Tail

open Idealize.ShloMosaic Idealize.ShloMosaic.TcCoe Idealize.SL.Sem
open Cert.Kernel2Ideal Cert.Kernel2Ideal.Gen

theorem pay6_at (v1 : FVec Ideal S512x1024 .f32) (v22 : FVec Ideal S512x512 .bf16) (v27 : FVec Ideal S512x1024 .f32)
    (v29 : FVec Ideal S512x1024 .bf16) (v32 : Vec Ideal S1x1x1024 .f32) (v34 : Vec Ideal S1x1024 .f32)
    (r : Fin 512) (c : Fin 1024) :
    k0_pay6 (F := Ideal) v1 v22 v27 v29 (constant S512x1024 .f32 0x00000000#32) v32 v34 (ix2 r c)
      = v1 (ix2 r c) + v32 (ix3 0 0 c)
        * nrm (fun k => v27 (ix2 r k) + ∑ j : Fin 512, v22 (ix2 r j) * v29 (ix2 j k)) (v34 (ix2 0 c)) c := by
  pointwise [k0_pay6, nrm]

theorem pay7_at (v1 : FVec Ideal S512x1024 .f32) (v22 : FVec Ideal S512x512 .bf16) (v27 : FVec Ideal S512x1024 .f32)
    (v29 : FVec Ideal S512x1024 .bf16) (cst : FVec Ideal S512x1024 .f32) (v32 : Vec Ideal S1x1x1024 .f32)
    (v34 v51 : Vec Ideal S1x1024 .f32) (v65 : Vec Ideal S1x1x1024 .f32) (r : Fin 512) (c : Fin 1024) :
    k0_pay7 (F := Ideal) v1 v22 v27 v29 cst v32 v34 v51 v65 (ix2 r c)
      = nrm (fun k => k0_pay6 (F := Ideal) v1 v22 v27 v29 cst v32 v34 (ix2 r k)) (v51 (ix2 0 c)) c * (1 + v65 (ix3 0 0 c)) := by
  unfold k0_pay7
  generalize k0_pay6 (F := Ideal) v1 v22 v27 v29 cst v32 v34 = x1
  pointwise [nrm]

theorem pay8_at (v70 : FVec Ideal S512x1024 .f32) (v71 : Vec Ideal S1x1x1024 .f32) (r : Fin 512) (c : Fin 1024) :
    k0_pay8 (F := Ideal) v70 v71 (ix2 r c) = v70 (ix2 r c) + v71 (ix3 0 0 c) := by
  pointwise [k0_pay8]

/-- A quarter of the MLP: the squared relu of one block of columns, against the matching block of rows. -/
def quarter (h : FVec Ideal S512x1024 .bf16) (w1 w2 : Vec Ideal S1024x1024 .bf16) (r : Fin 512) (c : Fin 1024) : EReal :=
  ∑ j : Fin 1024, (max (∑ k : Fin 1024, h (ix2 r k) * w1 (ix2 k j)) 0 * max (∑ k : Fin 1024, h (ix2 r k) * w1 (ix2 k j)) 0)
    * w2 (ix2 j c)

theorem pay9_at (v70 : FVec Ideal S512x1024 .f32) (v71 : Vec Ideal S1x1x1024 .f32)
    (v77 v84 v88 v95 : Vec Ideal S1024x1024 .bf16) (r : Fin 512) (c : Fin 1024) :
    k0_pay9 (F := Ideal) v70 v71 v77 v84 v88 v95 (ix2 r c)
      = quarter (k0_pay8 v70 v71) v77 v84 r c + quarter (k0_pay8 v70 v71) v88 v95 r c := by
  unfold k0_pay9
  generalize k0_pay8 (F := Ideal) v70 v71 = h
  pointwise [quarter]

theorem pay10_at (v70 : FVec Ideal S512x1024 .f32) (v71 : Vec Ideal S1x1x1024 .f32) (v99 : Vec Ideal S1024x1024 .bf16)
    (r : Fin 512) (j : Fin 1024) :
    k0_pay10 (F := Ideal) v70 v71 v99 (ix2 r j)
      = max (∑ k : Fin 1024, k0_pay8 (F := Ideal) v70 v71 (ix2 r k) * v99 (ix2 k j)) 0
        * max (∑ k : Fin 1024, k0_pay8 (F := Ideal) v70 v71 (ix2 r k) * v99 (ix2 k j)) 0 := by
  unfold k0_pay10
  generalize k0_pay8 (F := Ideal) v70 v71 = h
  pointwise

theorem pay1_at (v50 : FVec Ideal S512x1024 .f32) (v75 : FVec Ideal S512x1024 .bf16) (v98 : FVec Ideal S512x1024 .f32)
    (v105 : FVec Ideal S512x1024 .bf16) (v107 : FVec Ideal S1024x1024 .bf16) (v110 v117 : Vec Ideal S1024x1024 .bf16)
    (v121 : Vec Ideal S1x1x1024 .f32) (v123 : Vec Ideal S1x1024 .f32) (r : Fin 512) (c : Fin 1024) :
    k0_pay1 (F := Ideal) v50 v75 v98 v105 v107 (constant S512x1024 .f32 0x00000000#32) v110 v117 v121 v123 (ix3 0 r c)
      = v50 (ix2 r c) + v121 (ix3 0 0 c)
        * nrm (fun k => v98 (ix2 r k) + (∑ j : Fin 1024, v105 (ix2 r j) * v107 (ix2 j k)) + quarter v75 v110 v117 r k)
          (v123 (ix2 0 c)) c := by
  pointwise [k0_pay1, nrm, quarter]

end Cert.Proof.Tail

end
-- ==== Proof.TailPoint.lean ====
/- One grid point of the tail: what its body stores is the reference at the rows of the block. -/
module

public import proofs.«01_k».proof.Proof.TailBody
public import proofs.«01_k».proof.Proof.Gen.Kernel2Ideal.Frame
public import Idealize.ShloMosaic.Lib.Pipeline.ValueKit

@[expose] public section

set_option maxRecDepth 16384

noncomputable section

namespace Cert.Proof.Tail

open Idealize.ShloMosaic Idealize.ShloMosaic.TcCoe Idealize.SL.Sem
open Cert.Kernel2Ideal Cert.Kernel2Ideal.Gen

/-- Row `r` of block `i`. -/
def row (i : Fin 16) (r : Fin 512) : Fin 8192 := ⟨512 * i.val + r.val, by omega⟩

theorem point_of (x0 : Vec Ideal S1x512x1024 .f32) (x1 : Vec Ideal S1x512x512 .bf16) (x2 : Vec Ideal S1x4x512x128 .bf16)
    (x3 : Vec Ideal S1x6x1024 .f32) (x4 : Vec Ideal S1024x1024 .bf16) (x5 x6 x7 : Vec Ideal S1x1024 .f32)
    (x8 : Vec Ideal S1024x4096 .bf16) (x9 : Vec Ideal S4096x1024 .bf16)
    (X : FVec Ideal Reference2Ideal.S2x8192x1024 .f32) (YS : FVec Ideal Reference2Ideal.S2x8192x512 .bf16)
    (YA : FVec Ideal Reference2Ideal.S2x64x512x128 .bf16) (MD : FVec Ideal Reference2Ideal.S2x6x1024 .f32)
    (WO : FVec Ideal Reference2Ideal.S1024x1024 .f32) (N1 N2 N3 : FVec Ideal Reference2Ideal.S1024 .f32)
    (W1 : FVec Ideal Reference2Ideal.S1024x4096 .f32) (W2 : FVec Ideal Reference2Ideal.S4096x1024 .f32)
    (b : Fin 2) (i : Fin 16)
    (h0 : ∀ r c, x0 (ix3 0 r c) = X (ix3 b (row i r) c)) (h1 : ∀ r k, x1 (ix3 0 r k) = YS (ix3 b (row i r) k))
    (h2 : ∀ (j : Fin 4) k l, x2 (ix4 0 j k l) = YA (ix4 b ⟨4 * i.val + j.val, by omega⟩ k l))
    (h3 : ∀ j c, x3 (ix3 0 j c) = MD (ix3 b j c)) (h4 : ∀ j c, x4 (ix2 j c) = WO (ix2 j c))
    (h5 : ∀ c, x5 (ix2 0 c) = N1 (ix1 c)) (h6 : ∀ c, x6 (ix2 0 c) = N2 (ix1 c)) (h7 : ∀ c, x7 (ix2 0 c) = N3 (ix1 c))
    (h8 : ∀ j c, x8 (ix2 j c) = W1 (ix2 j c)) (h9 : ∀ j c, x9 (ix2 j c) = W2 (ix2 j c)) (r : Fin 512) (c : Fin 1024) :
    out0_10 (F := Ideal) x0 x1 x2 x3 x4 x5 x6 x7 x8 x9 (ix3 0 r c)
      = ref X YS YA MD WO N1 N2 N3 W1 W2 (ix3 b (row i r) c) := by
  have hmix : ∀ r k, (k0_pay15 (F := Ideal) x0 x1 x2 x3 x4 x5 x6 x7 x8 x9) (ix2 r k)
      + ∑ j : Fin 512, (k0_pay14 (F := Ideal) x0 x1 x2 x3 x4 x5 x6 x7 x8 x9) (ix2 r j) * (k0_pay16 (F := Ideal) x0 x1 x2 x3 x4 x5 x6 x7 x8 x9) (ix2 j k)
      = mix YS YA WO (ix3 b (row i r) k) := by
    intro r k
    rw [mix_at]
    pointwise [k0_pay15, k0_pay14, k0_pay16, k0_pay4, k0_pay3, k0_pay5]
    simp only [h1, h4]
    congr 1
    refine Finset.sum_congr rfl fun x _ => ?_
    congr 1
    split_ifs <;> rw [h2] <;> blk_ext [row]
  have hx1 : ∀ r k, k0_pay6 (F := Ideal) (k0_pay13 x0 x1 x2 x3 x4 x5 x6 x7 x8 x9) (k0_pay14 x0 x1 x2 x3 x4 x5 x6 x7 x8 x9)
      (k0_pay15 x0 x1 x2 x3 x4 x5 x6 x7 x8 x9) (k0_pay16 x0 x1 x2 x3 x4 x5 x6 x7 x8 x9)
      (k0_pay12 x0 x1 x2 x3 x4 x5 x6 x7 x8 x9) (View.ld x3 r0_8) (View.ld x5 r0_9) (ix2 r k)
      = res1 X (mix YS YA WO) MD N1 (ix3 b (row i r) k) := by
    intro r k
    rw [show k0_pay12 (F := Ideal) x0 x1 x2 x3 x4 x5 x6 x7 x8 x9 = constant S512x1024 .f32 0x00000000#32 from rfl,
      pay6_at, res1_at]
    simp only [hmix]
    pointwise [k0_pay13, k0_pay2, h0, h3, h5]
  have hh : ∀ r k, k0_pay8 (F := Ideal) (k0_pay17 x0 x1 x2 x3 x4 x5 x6 x7 x8 x9) (View.ld x3 r0_11) (ix2 r k)
      = hid (res1 X (mix YS YA WO) MD N1) MD N2 (ix3 b (row i r) k) := by
    intro r k
    rw [pay8_at, hid_at]
    unfold k0_pay17
    rw [pay7_at]
    simp only [hx1]
    pointwise [h3, h6]
  rw [ref, res2_at]
  unfold out0_10
  rw [View.canon_unit_zero (funext fun a => by fin_cases a <;> rfl), pay1_at, hx1]
  have hf : ∀ k, (k0_pay9 (F := Ideal) (k0_pay17 x0 x1 x2 x3 x4 x5 x6 x7 x8 x9) (View.ld x3 r0_11) (View.ld x8 r0_12)
        (View.ld x9 r0_13) (View.ld x8 r0_14) (View.ld x9 r0_15)) (ix2 r k)
      + (∑ j : Fin 1024, (k0_pay10 (F := Ideal) (k0_pay17 x0 x1 x2 x3 x4 x5 x6 x7 x8 x9) (View.ld x3 r0_11) (View.ld x8 r0_16)) (ix2 r j)
        * (k0_pay11 (F := Ideal) (View.ld x9 r0_17)) (ix2 j k))
      + quarter (k0_pay8 (k0_pay17 x0 x1 x2 x3 x4 x5 x6 x7 x8 x9) (View.ld x3 r0_11)) (View.ld x8 r0_18) (View.ld x9 r0_19) r k
      = mlp (hid (res1 X (mix YS YA WO) MD N1) MD N2) W1 W2 (ix3 b (row i r) k) := by
    intro k
    rw [mlp_at, pay9_at]
    simp only [pay10_at, quarter, hh]
    rw [Fin.sum_univ_two_halves 3072 1024 rfl, Fin.sum_univ_two_halves (N := 3072) 2048 1024 rfl,
      Fin.sum_univ_two_halves (N := 2048) 1024 1024 rfl]
    pointwise [k0_pay11, h8, h9]
  simp only [hf]
  pointwise [h3, h7]

end Cert.Proof.Tail

end
-- ==== Proof.Tail.lean ====
/- The tail: its result array is the reference's, and the two programs agree. -/
module

public import proofs.«01_k».proof.Proof.TailPoint
public import proofs.«01_k».proof.Proof.Gen.Kernel2Ideal.Value
public import Idealize.ShloMosaic.Lib.Claim

@[expose] public section

set_option maxRecDepth 16384

noncomputable section

namespace Cert.Proof.Tail

open Idealize.ShloMosaic Idealize.ShloMosaic.TcCoe Idealize.SL.Sem
open Cert.Kernel2Ideal Cert.Kernel2Ideal.Gen

variable (m : (ℓ : Loc nD τ sig) → Buf (Elt Ideal) ℓ)

/-- The block index of every window that moves, by the grid point. -/
theorem idx : ∀ t : Fin cfg0.N, win0_0.index t = ![t.val / 16, t.val % 16, 0] ∧ win0_1.index t = ![t.val / 16, t.val % 16, 0]
    ∧ win0_2.index t = ![t.val / 16, t.val % 16, 0, 0] ∧ win0_3.index t = ![t.val / 16, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 16, t.val % 16, 0] ∧ t.val / 16 < 2 :=
  (by decide +kernel : ∀ t : Fin grid0.N, _)

/-- The reference's result over the kernel's arguments. -/
abbrev goal (c : Dev nD) : FVec Ideal Reference2Ideal.S2x8192x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem point (c : Dev nD) (t : Fin cfg0.N) (r : Fin 512) (k : Fin 1024) :
    out0_10 (iblk m c 0 t) (iblk m c 1 t) (iblk m c 2 t) (iblk m c 3 t) (iblk m c 4 t) (iblk m c 5 t) (iblk m c 6 t)
      (iblk m c 7 t) (iblk m c 8 t) (iblk m c 9 t) (ix3 0 r k)
      = goal m c (ix3 ⟨t.val / 16, (idx t).2.2.2.2.2.2.2.2.2.2.2⟩ (row ⟨t.val % 16, by omega⟩ r) k) := by
  apply point_of
  · intro r c; blk_point [iblk, V, idx t, row]
  · intro r c; blk_point [iblk, V, idx t, row]
  · intro j r c; blk_point [iblk, V, idx t, row]
  · intro r c; blk_point [iblk, V, idx t, row]
  · intro r c; blk_point [iblk, V, idx t, row]
  · intro r; blk_point [iblk, V, idx t, row]
  · intro r; blk_point [iblk, V, idx t, row]
  · intro r; blk_point [iblk, V, idx t, row]
  · intro r c; blk_point [iblk, V, idx t, row]
  · intro r c; blk_point [iblk, V, idx t, row]

theorem final (c : Dev nD) : (dats m 0 c).arrAt 10 cfg0.N = goal m c := by
  refine (dats m 0 c).arrAt_eq_of_covers 10 _ (by decide +kernel) fun t _ y => ?_
  blk_simp
  rw [after0_10]
  obtain ⟨z, r, k, rfl⟩ : ∃ (z : Fin 1) (r : Fin 512) (k : Fin 1024), y = ix3 z r k := ⟨y 0, y 1, y 2, eq_ix3 y⟩
  obtain rfl : z = 0 := Subsingleton.elim _ _
  refine (point m c t r k).trans (congrArg (goal m c) ?_)
  blk_ext [idx t, row]

theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    obtain ⟨e0, e1, e2, e3, e4, e5, e6, e7, e8, e9⟩ := hagree c
    exact (res_eq m' c).trans ((by rw [e0, e1, e2, e3, e4, e5, e6, e7, e8, e9] : _ = goal m c).trans (final m c).symm)

end Cert.Proof.Tail

end
-- ==== Proof.InRef.lean ====
/- The input projection's reference: the modulated norm, the projection, and its slices in the layouts of the results. -/
module

public import proofs.«01_k».proof.Proof.TailRef
public import proofs.«01_k».proof.Proof.Gen.Reference3Ideal.Run

@[expose] public section

set_option maxRecDepth 16384

noncomputable section

namespace Cert.Proof.In

open Idealize.ShloMosaic Idealize.ShloMosaic.TcCoe Idealize.SL.Sem
open Cert.Reference3Ideal Cert.Reference3Ideal.Gen

/-- The modulated norm that enters the projection. -/
def hid (x : FVec Ideal S2x8192x1024 .f32) (md : FVec Ideal S2x6x1024 .f32) (w : FVec Ideal S1024 .f32) :
    FVec Ideal S2x8192x1024 .f32 :=
  addf (mulf (Tail.rms x w) (broadcastInDim S2x8192x1024 ![0, 1, 2] bcast_S2x1x1024_S2x8192x1024_0_1_2
      (addf (broadcastInDim S2x1x1024 ![] bcast_S_S2x1x1024 (constant S_ .f32 0x3F800000#32))
        (extractStridedSlice S2x1x1024 ![0, 1, 0] md slices_S2x6x1024_S2x1x1024_0_1_0))))
    (broadcastInDim S2x8192x1024 ![0, 1, 2] bcast_S2x1x1024_S2x8192x1024_0_1_2
      (extractStridedSlice S2x1x1024 ![0, 0, 0] md slices_S2x6x1024_S2x1x1024_0_0_0))

/-- The combined projection. -/
def proj (h : FVec Ideal S2x8192x1024 .f32) (w : FVec Ideal S1024x2896 .f32) : FVec Ideal S2x8192x2896 .f32 :=
  Host.dotGeneral dot_S2x8192x1024_S1024x2896_S2x8192x2896_2_0_01_1_n_n none h w

/-- The gate. -/
def zOf (p : FVec Ideal S2x8192x2896 .f32) : FVec Ideal S2x8192x512 .f32 :=
  extractStridedSlice S2x8192x512 ![0, 0, 0] p slices_S2x8192x2896_S2x8192x512_0_0_0

/-- The scan's inputs. -/
def xbcOf (p : FVec Ideal S2x8192x2896 .f32) : FVec Ideal S2x8192x1024 .f32 :=
  extractStridedSlice S2x8192x1024 ![0, 0, 512] p slices_S2x8192x2896_S2x8192x1024_0_0_512

/-- The scaled queries, in blocks of 128 tokens, the tokens last. -/
def qOf (p : FVec Ideal S2x8192x2896 .f32) : FVec Ideal S2x64x2x64x512 .bf16 :=
  truncf .bf16 (shapeCast S2x64x2x64x512 (transpose S2x64x2x64x4x128 [0, 1, 3, 5, 4, 2] (shapeCast S2x64x128x2x4x64
    (Host.divf (mulf (extractStridedSlice S2x8192x512 ![0, 0, 1544] p slices_S2x8192x2896_S2x8192x512_0_0_1544)
        (broadcastInDim S2x8192x512 ![] bcast_S_S2x8192x512 (constant S_ .f32 0x3E000000#32)))
      (broadcastInDim S2x8192x512 ![] bcast_S_S2x8192x512 (Host.log (constant S_ .f32 0x40000000#32))))
    shapeCasts_S2x8192x512_S2x64x128x2x4x64) transposes_S2x64x128x2x4x64_S2x64x2x64x4x128_0_1_3_5_4_2)
    shapeCasts_S2x64x2x64x4x128_S2x64x2x64x512) bitsLt_bf16_f32

/-- The keys. -/
def kOf (p : FVec Ideal S2x8192x2896 .f32) : FVec Ideal S2x8192x128 .bf16 :=
  truncf .bf16 (extractStridedSlice S2x8192x128 ![0, 0, 2056] p slices_S2x8192x2896_S2x8192x128_0_0_2056) bitsLt_bf16_f32

/-- The values, in blocks of 128 tokens, the tokens last, over a row of ones and rows of zeros. -/
def vOf (p : FVec Ideal S2x8192x2896 .f32) : FVec Ideal S2x64x2x80x128 .bf16 :=
  truncf .bf16 (concatenate S2x64x2x80x128 3 [⟨S2x64x2x64x128, transpose S2x64x2x64x128 [0, 1, 3, 4, 2]
      (shapeCast S2x64x128x2x64 (extractStridedSlice S2x8192x128 ![0, 0, 2184] p slices_S2x8192x2896_S2x8192x128_0_0_2184)
        shapeCasts_S2x8192x128_S2x64x128x2x64) transposes_S2x64x128x2x64_S2x64x2x64x128_0_1_3_4_2⟩,
      ⟨S2x64x2x1x128, broadcastInDim S2x64x2x1x128 ![] bcast_S_S2x64x2x1x128 (constant S_ .f32 0x3F800000#32)⟩,
      ⟨S2x64x2x15x128, broadcastInDim S2x64x2x15x128 ![] bcast_S_S2x64x2x15x128 (constant S_ .f32 0x00000000#32)⟩]
    concatenates_S2x64x2x64x128_S2x64x2x1x128_S2x64x2x15x128_S2x64x2x80x128_d3) bitsLt_bf16_f32

/-- The indexer's queries, in blocks of 128 tokens, the tokens last. -/
def qiOf (p : FVec Ideal S2x8192x2896 .f32) : FVec Ideal S2x64x64x1024 .bf16 :=
  truncf .bf16 (shapeCast S2x64x64x1024 (transpose S2x64x64x8x128 [0, 1, 4, 3, 2] (shapeCast S2x64x128x8x64
    (extractStridedSlice S2x8192x512 ![0, 0, 2312] p slices_S2x8192x2896_S2x8192x512_0_0_2312)
    shapeCasts_S2x8192x512_S2x64x128x8x64) transposes_S2x64x128x8x64_S2x64x64x8x128_0_1_4_3_2)
    shapeCasts_S2x64x64x8x128_S2x64x64x1024) bitsLt_bf16_f32

/-- The indexer's keys and head weights and the scan's step sizes, side by side. -/
def restOf (p : FVec Ideal S2x8192x2896 .f32) : FVec Ideal S2x8192x128 .f32 :=
  concatenate S2x8192x128 2 [⟨S2x8192x64, extractStridedSlice S2x8192x64 ![0, 0, 2824] p slices_S2x8192x2896_S2x8192x64_0_0_2824⟩,
      ⟨S2x8192x8, extractStridedSlice S2x8192x8 ![0, 0, 2888] p slices_S2x8192x2896_S2x8192x8_0_0_2888⟩,
      ⟨S2x8192x8, extractStridedSlice S2x8192x8 ![0, 0, 1536] p slices_S2x8192x2896_S2x8192x8_0_0_1536⟩,
      ⟨S2x8192x48, broadcastInDim S2x8192x48 ![] bcast_S_S2x8192x48 (constant S_ .f32 0x00000000#32)⟩]
    concatenates_S2x8192x64_S2x8192x8_S2x8192x8_S2x8192x48_S2x8192x128_d2

/-- The same as bf16. -/
def restbOf (p : FVec Ideal S2x8192x2896 .f32) : FVec Ideal S2x8192x128 .bf16 := truncf .bf16 (restOf p) bitsLt_bf16_f32

/-- The projection over the reference's arguments. -/
abbrev prj (m : (ℓ : Loc nD τ sig) → Buf (Elt Ideal) ℓ) (c : Dev nD) : FVec Ideal S2x8192x2896 .f32 :=
  proj (hid (m ((c.tc : Thread nD τ).loc main_arg0)) (m ((c.tc : Thread nD τ).loc main_arg1))
    (m ((c.tc : Thread nD τ).loc main_arg2))) (m ((c.tc : Thread nD τ).loc main_arg3))

theorem rest_eq (m : (ℓ : Loc nD τ sig) → Buf (Elt Ideal) ℓ) (c : Dev nD) :
    Cert.Reference3Ideal.Value.res_main_v48 m c = restOf (prj m c) := by
  unfold Cert.Reference3Ideal.Value.res_main_v48
  rfl

theorem restb_eq (m : (ℓ : Loc nD τ sig) → Buf (Elt Ideal) ℓ) (c : Dev nD) :
    Cert.Reference3Ideal.Value.res_main_v53 m c = restbOf (prj m c) := by
  unfold Cert.Reference3Ideal.Value.res_main_v53
  rfl

/-! ## At an index -/

theorem hid_at (x : FVec Ideal S2x8192x1024 .f32) (md : FVec Ideal S2x6x1024 .f32) (w : FVec Ideal S1024 .f32)
    (b : Fin 2) (t : Fin 8192) (c : Fin 1024) :
    hid x md w (ix3 b t c) = Tail.nrm (fun k => x (ix3 b t k)) (w (ix1 c)) c * (1 + md (ix3 b 1 c)) + md (ix3 b 0 c) := by
  rw [← Tail.rms_at]; pointwise [hid]

theorem proj_at (h : FVec Ideal S2x8192x1024 .f32) (w : FVec Ideal S1024x2896 .f32) (b : Fin 2) (t : Fin 8192) (c : Fin 2896) :
    proj h w (ix3 b t c) = ∑ k : Fin 1024, h (ix3 b t k) * w (ix2 k c) := by
  pointwise [proj]

theorem zOf_at (p : FVec Ideal S2x8192x2896 .f32) (b : Fin 2) (t : Fin 8192) (c : Fin 512) :
    zOf p (ix3 b t c) = p (ix3 b t ⟨c.val, by omega⟩) := by
  pointwise [zOf]

theorem xbcOf_at (p : FVec Ideal S2x8192x2896 .f32) (b : Fin 2) (t : Fin 8192) (c : Fin 1024) :
    xbcOf p (ix3 b t c) = p (ix3 b t ⟨512 + c.val, by omega⟩) := by
  pointwise [xbcOf]

theorem qOf_at (p : FVec Ideal S2x8192x2896 .f32) (b : Fin 2) (n : Fin 64) (g : Fin 2) (d : Fin 64) (l : Fin 512) :
    qOf p (ix5 b n g d l) = Ideal.div (p (ix3 b ⟨n.val * 128 + l.val % 128, by omega⟩
      ⟨1544 + (g.val * 256 + l.val / 128 * 64 + d.val), by omega⟩) * Ideal.ofBits .f32 0x3E000000#32)
      (Ideal.log (Ideal.ofBits .f32 0x40000000#32)) := by
  pointwise [qOf]

theorem kOf_at (p : FVec Ideal S2x8192x2896 .f32) (b : Fin 2) (t : Fin 8192) (c : Fin 128) :
    kOf p (ix3 b t c) = p (ix3 b t ⟨2056 + c.val, by omega⟩) := by
  pointwise [kOf]

theorem vOf_at (p : FVec Ideal S2x8192x2896 .f32) (b : Fin 2) (n : Fin 64) (g : Fin 2) (d : Fin 80) (l : Fin 128) :
    vOf p (ix5 b n g d l) = if h : d.val < 64 then p (ix3 b ⟨n.val * 128 + l.val, by omega⟩
      ⟨2184 + (g.val * 64 + d.val), by omega⟩) else if _ : d.val - 64 < 1 then 1 else 0 := by
  pointwise [vOf]

theorem qiOf_at (p : FVec Ideal S2x8192x2896 .f32) (b : Fin 2) (n : Fin 64) (d : Fin 64) (l : Fin 1024) :
    qiOf p (ix4 b n d l) = p (ix3 b ⟨n.val * 128 + l.val % 128, by omega⟩
      ⟨2312 + (l.val / 128 * 64 + d.val), by omega⟩) := by
  pointwise [qiOf]

theorem restOf_at (p : FVec Ideal S2x8192x2896 .f32) (b : Fin 2) (t : Fin 8192) (c : Fin 128) :
    restOf p (ix3 b t c) = if h : c.val < 64 then p (ix3 b t ⟨2824 + c.val, by omega⟩)
      else if h : c.val - 64 < 8 then p (ix3 b t ⟨2888 + (c.val - 64), by omega⟩)
      else if h : c.val - 64 - 8 < 8 then p (ix3 b t ⟨1536 + (c.val - 64 - 8), by omega⟩) else 0 := by
  pointwise [restOf]

theorem restbOf_at (p : FVec Ideal S2x8192x2896 .f32) (b : Fin 2) (t : Fin 8192) (c : Fin 128) :
    restbOf p (ix3 b t c) = restOf p (ix3 b t c) := by
  unfold restbOf
  generalize restOf p = v
  pointwise []

/-- Scaling by 1/8 and dividing by the logarithm of 2 is scaling by the reciprocal of their product. -/
theorem scale_eq (a : EReal) : Ideal.div (a * Ideal.ofBits .f32 0x3E000000#32) (Ideal.log (Ideal.ofBits .f32 0x40000000#32))
    = a * (((8 * Real.log 2)⁻¹ : ℝ) : EReal) := by
  have h8 : Ideal.ofBits .f32 0x3E000000#32 = ((1 / 8 : ℝ) : EReal) := by simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : Real.log 2 ≠ 0 := (Real.log_pos one_lt_two).ne'
  rw [h8, h2, Ideal.log_coe, if_neg (by norm_num), Ideal.div_coe hl, mul_assoc, ← EReal.coe_mul]
  congr 2
  field_simp

end Cert.Proof.In

end
-- ==== Proof.InBody.lean ====
/- What the input projection's body computes of one block, at an index. -/
module

public import proofs.«01_k».proof.Proof.InRef
public import proofs.«01_k».proof.Proof.Gen.Kernel3Ideal.Frame
public import Idealize.ShloMosaic.Lib.Pipeline.ValueKit

@[expose] public section

set_option maxRecDepth 16384

noncomputable section

namespace Cert.Proof.In

open Idealize.ShloMosaic Idealize.ShloMosaic.TcCoe Idealize.SL.Sem
open Cert.Kernel3Ideal Cert.Kernel3Ideal.Gen

/-- Row `r` of block `i`. -/
def row (i : Fin 16) (r : Fin 512) : Fin 8192 := ⟨512 * i.val + r.val, by omega⟩

theorem pay6_at (x : Vec Ideal S1x512x1024 .f32) (w : Vec Ideal S1x1024 .f32) (s a : Vec Ideal S1x1x1024 .f32)
    (r : Fin 512) (c : Fin 1024) :
    k0_pay6 x w s a (ix2 r c) = Tail.nrm (fun k => x (ix3 0 r k)) (w (ix2 0 c)) c * (1 + s (ix3 0 0 c)) + a (ix3 0 0 c) := by
  pointwise [k0_pay6, Tail.nrm]

theorem pay7_at (x : Vec Ideal S1x512x1024 .f32) (w : Vec Ideal S1x1024 .f32) (s a : Vec Ideal S1x1x1024 .f32)
    (p : Vec Ideal S1024x512 .bf16) (r : Fin 512) (c : Fin 512) :
    k0_pay7 x w s a p (ix3 0 r c) = ∑ k : Fin 1024, k0_pay6 x w s a (ix2 r k) * p (ix2 k c) := by
  unfold k0_pay7
  generalize k0_pay6 x w s a = h
  pointwise []

theorem pay8_at (h : FVec Ideal S512x1024 .bf16) (p : Vec Ideal S1024x1024 .bf16) (r : Fin 512) (c : Fin 1024) :
    k0_pay8 h p (ix3 0 r c) = ∑ k : Fin 1024, h (ix2 r k) * p (ix2 k c) := by
  pointwise [k0_pay8]

theorem q_scale : Named.named (F := Ideal) κ "q_scale" (φ := .f32) 0x3E38AA3B#32 = (((8 * Real.log 2)⁻¹ : ℝ) : EReal) :=
  IdealRules.named_const.ideal_named_scalar _ _ _ _ rfl

theorem pay9_at (h : FVec Ideal S512x1024 .bf16) (p : Vec Ideal S1024x512 .bf16) (r c : Fin 512) :
    k0_pay9 h p (ix2 r c) = (∑ k : Fin 1024, h (ix2 r k) * p (ix2 k c)) * (((8 * Real.log 2)⁻¹ : ℝ) : EReal) := by
  rw [← q_scale]
  pointwise [k0_pay9]

theorem pay10_at (h : FVec Ideal S512x1024 .bf16) (p : Vec Ideal S1024x512 .bf16) (r c : Fin 512) :
    k0_pay10 h p (ix2 r c) = ∑ k : Fin 1024, h (ix2 r k) * p (ix2 k c) := by
  pointwise [k0_pay10]

theorem pay91_at (h : FVec Ideal S512x1024 .bf16) (p : Vec Ideal S1024x384 .bf16) (r : Fin 512) (c : Fin 384) :
    k0_pay91 h p (ix2 r c) = ∑ k : Fin 1024, h (ix2 r k) * p (ix2 k c) := by
  pointwise [k0_pay91]

end Cert.Proof.In

end
-- ==== Proof.InPoint.lean ====
/- One grid point of the input projection: the normed block and the projection of its rows. -/
module

public import proofs.«01_k».proof.Proof.InBody

@[expose] public section

set_option maxRecDepth 16384

noncomputable section

namespace Cert.Proof.In

open Idealize.ShloMosaic Idealize.ShloMosaic.TcCoe Idealize.SL.Sem
open Cert.Kernel3Ideal Cert.Kernel3Ideal.Gen

variable (m : (ℓ : Loc nD τ sig) → Buf (Elt Ideal) ℓ)

/-- The block index of every window, by the grid point. -/
theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![t.val / 16, t.val % 16, 0]
    ∧ win0_5.index t = ![t.val / 16, t.val % 16, 0] ∧ win0_6.index t = ![t.val / 16, t.val % 16, 0, 0, 0]
    ∧ win0_7.index t = ![t.val / 16, t.val % 16, 0] ∧ win0_8.index t = ![t.val / 16, t.val % 16, 0, 0, 0]
    ∧ win0_9.index t = ![t.val / 16, t.val % 16, 0, 0] ∧ win0_10.index t = ![t.val / 16, t.val % 16, 0]
    ∧ win0_11.index t = ![t.val / 16, t.val % 16, 0] :=
  (by decide +kernel : ∀ t : Fin grid0.N, _)

theorem batch_lt (t : Fin cfg0.N) : t.val / 16 < 2 := (by decide +kernel : ∀ t : Fin grid0.N, t.val / 16 < 2) t

/-- The batch of a grid point, and its block of rows. -/
def bat (t : Fin cfg0.N) : Fin 2 := ⟨t.val / 16, batch_lt t⟩
def blk (t : Fin cfg0.N) : Fin 16 := ⟨t.val % 16, by omega⟩

/-- The reference's normed input and its projection over the kernel's arguments. -/
abbrev hidK (c : Dev nD) : FVec Ideal Reference3Ideal.S2x8192x1024 .f32 :=
  hid (m ((c : Thread nD τ).loc main_arg0)) (m ((c : Thread nD τ).loc main_arg1)) (m ((c : Thread nD τ).loc main_arg2))
abbrev W (c : Dev nD) : FVec Ideal Reference3Ideal.S1024x2896 .f32 := m ((c : Thread nD τ).loc main_arg3)
abbrev prjK (c : Dev nD) : FVec Ideal Reference3Ideal.S2x8192x2896 .f32 := proj (hidK m c) (W m c)

/-- The normed block. -/
abbrev H (c : Dev nD) (t : Fin cfg0.N) : FVec Ideal S512x1024 .bf16 :=
  k0_pay6 (iblk m c 0 t) (iblk m c 2 t)
    (View.ld (iblk m c 1 t) (Rect.unit ![0, 1, 0] ![1, 1, 1024] inb_S1x6x1024_S1x1x1024_0_1_0))
    (View.ld (iblk m c 1 t) (Rect.unit ![0, 0, 0] ![1, 1, 1024] inb_S1x6x1024_S1x1x1024_0_0_0))

theorem x_at (c : Dev nD) (t : Fin cfg0.N) (r : Fin 512) (k : Fin 1024) :
    iblk m c 0 t (ix3 0 r k) = m ((c : Thread nD τ).loc main_arg0) (ix3 (bat t) (row (blk t) r) k) := by
  blk_point [iblk, V, idx t, row, bat, blk]

theorem md_at (c : Dev nD) (t : Fin cfg0.N) (r : Fin 6) (k : Fin 1024) :
    iblk m c 1 t (ix3 0 r k) = m ((c : Thread nD τ).loc main_arg1) (ix3 (bat t) r k) := by
  blk_point [iblk, V, idx t, row, bat, blk]

theorem n_at (c : Dev nD) (t : Fin cfg0.N) (k : Fin 1024) :
    iblk m c 2 t (ix2 0 k) = m ((c : Thread nD τ).loc main_arg2) (ix1 k) := by
  blk_point [iblk, V, idx t]

theorem H_at (c : Dev nD) (t : Fin cfg0.N) (r : Fin 512) (k : Fin 1024) :
    H m c t (ix2 r k) = hidK m c (ix3 (bat t) (row (blk t) r) k) := by
  rw [H, pay6_at, hidK, hid_at]
  simp only [x_at, n_at]
  pointwise [md_at]

/-- The permuted weights: the column groups in the kernel's order, and zeros. -/
def perm (w : FVec Ideal S1024x2896 .f32) : FVec Ideal S1024x2944 .bf16 :=
  truncf .bf16 (concatenate S1024x2944 1 [⟨S1024x512, extractStridedSlice S1024x512 ![0, 0] w slices_S1024x2896_S1024x512_0_0⟩,
      ⟨S1024x1024, extractStridedSlice S1024x1024 ![0, 512] w slices_S1024x2896_S1024x1024_0_512⟩,
      ⟨S1024x512, extractStridedSlice S1024x512 ![0, 1544] w slices_S1024x2896_S1024x512_0_1544⟩,
      ⟨S1024x512, extractStridedSlice S1024x512 ![0, 2312] w slices_S1024x2896_S1024x512_0_2312⟩,
      ⟨S1024x128, extractStridedSlice S1024x128 ![0, 2056] w slices_S1024x2896_S1024x128_0_2056⟩,
      ⟨S1024x128, extractStridedSlice S1024x128 ![0, 2184] w slices_S1024x2896_S1024x128_0_2184⟩,
      ⟨S1024x64, extractStridedSlice S1024x64 ![0, 2824] w slices_S1024x2896_S1024x64_0_2824⟩,
      ⟨S1024x8, extractStridedSlice S1024x8 ![0, 2888] w slices_S1024x2896_S1024x8_0_2888⟩,
      ⟨S1024x8, extractStridedSlice S1024x8 ![0, 1536] w slices_S1024x2896_S1024x8_0_1536⟩,
      ⟨S1024x48, broadcastInDim S1024x48 ![] bcast_S_S1024x48 (constant S_ .f32 0x00000000#32)⟩]
    concatenates_S1024x512_S1024x1024_S1024x512_S1024x512_S1024x128_S1024x128_S1024x64_S1024x8_S1024x8_S1024x48_S1024x2944_d1)
    bitsLt_bf16_f32

theorem V_perm (c : Dev nD) : V m c main_v12 = perm (m ((c : Thread nD τ).loc main_arg3)) := by
  unfold V
  after_results
  rfl

theorem w_perm (c : Dev nD) (t : Fin cfg0.N) (k : Fin 1024) (j : Fin 2944) :
    iblk m c 3 t (ix2 k j) = perm (W m c) (ix2 k j) := by
  have h : iblk m c 3 t (ix2 k j) = V m c main_v12 (ix2 k j) := by
    blk_point [iblk, idx t]
  rw [h, V_perm]

/-- Where a column of the permuted weights comes from. -/
def From (j j' : ℕ) : Prop :=
  (j < 1536 ∧ j' = j) ∨ (1536 ≤ j ∧ j < 2048 ∧ j' = j + 8) ∨ (2048 ≤ j ∧ j < 2560 ∧ j' = j + 264)
    ∨ (2560 ≤ j ∧ j < 2816 ∧ j' + 504 = j) ∨ (2816 ≤ j ∧ j < 2888 ∧ j' = j + 8) ∨ (2888 ≤ j ∧ j < 2896 ∧ j' + 1352 = j)

theorem perm_at (w : FVec Ideal S1024x2896 .f32) (k : Fin 1024) (j : Fin 2944) (j' : Fin 2896) (h : From j.val j'.val) :
    perm w (ix2 k j) = w (ix2 k j') := by
  unfold From at h
  pointwise [perm]
  split_ifs <;> first
    | exact congrArg (fun q => w (ix2 k q)) (Fin.ext (by simp only []; omega))
    | (exfalso; omega)

theorem perm_pad (w : FVec Ideal S1024x2896 .f32) (k : Fin 1024) (j : Fin 2944) (h : 2896 ≤ j.val) :
    perm w (ix2 k j) = (0 : EReal) := by
  pointwise [perm]
  split_ifs <;> first | rfl | (exfalso; omega)

/-- The normed block against a column of the permuted weights is the reference's projection at the column's origin. -/
theorem sum_eq (c : Dev nD) (t : Fin cfg0.N) (r : Fin 512) (j : Fin 2944) (j' : Fin 2896) (h : From j.val j'.val) :
    ∑ k : Fin 1024, H m c t (ix2 r k) * iblk m c 3 t (ix2 k j) = prjK m c (ix3 (bat t) (row (blk t) r) j') := by
  rw [prjK, proj_at]
  exact Finset.sum_congr rfl fun k _ => by rw [H_at, w_perm, perm_at _ _ _ _ h]

theorem sum_pad (c : Dev nD) (t : Fin cfg0.N) (r : Fin 512) (j : Fin 2944) (h : 2896 ≤ j.val) :
    ∑ k : Fin 1024, H m c t (ix2 r k) * iblk m c 3 t (ix2 k j) = (0 : EReal) :=
  Finset.sum_eq_zero fun k _ => by rw [w_perm, perm_pad _ _ _ h, mul_zero]

end Cert.Proof.In

end
-- ==== Proof.InRows.lean ====
/- The input projection's results that one store per block writes: each is the reference's. -/
module

public import proofs.«01_k».proof.Proof.InPoint
public import proofs.«01_k».proof.Proof.Gen.Kernel3Ideal.Frame

@[expose] public section

set_option maxRecDepth 16384

noncomputable section

namespace Cert.Proof.In

open Idealize.ShloMosaic Idealize.ShloMosaic.TcCoe Idealize.SL.Sem
open Cert.Kernel3Ideal Cert.Kernel3Ideal.Gen

variable (m : (ℓ : Loc nD τ sig) → Buf (Elt Ideal) ℓ)

theorem core4 (c : Dev nD) (t : Fin cfg0.N) (r : Fin 512) (k : Fin 512) :
    k0_pay7 (F := Ideal) (iblk m c 0 t) (iblk m c 2 t) (View.ld (iblk m c 1 t) (Rect.unit ![0, 1, 0] ![1, 1, 1024] inb_S1x6x1024_S1x1x1024_0_1_0))
      (View.ld (iblk m c 1 t) (Rect.unit ![0, 0, 0] ![1, 1, 1024] inb_S1x6x1024_S1x1x1024_0_0_0))
      (View.ld (iblk m c 3 t) (Rect.unit ![0, 0] ![1024, 512] inb_S1024x2944_S1024x512_0_0)) (ix3 0 r k)
      = zOf (prjK m c) (ix3 (bat t) (row (blk t) r) k) := by
  rw [pay7_at, zOf_at]
  refine Eq.trans ?_ ((sum_eq m c t r ⟨k.val, by omega⟩ ⟨k.val, by omega⟩ (by unfold From; dsimp only; omega)).trans
    (congrArg (prjK m c) rfl))
  refine Finset.sum_congr rfl fun x _ => congrArg _ ?_
  pointwise; blk_ext

theorem final4 (c : Dev nD) : (dats m 0 c).arrAt 4 cfg0.N = zOf (prjK m c) := by
  refine (dats m 0 c).arrAt_eq_of_covers 4 _ (by decide +kernel) fun t _ y => ?_
  blk_simp
  rw [after0_4]
  unfold Gen.outsAt0
  frame_out
  obtain ⟨z, r, k, rfl⟩ : ∃ (z : Fin 1) (r : Fin 512) (k : Fin 512), y = ix3 z r k := ⟨y 0, y 1, y 2, eq_ix3 y⟩
  obtain rfl : z = 0 := Subsingleton.elim _ _
  refine (core4 m c t r k).trans (congrArg (zOf (prjK m c)) ?_)
  blk_ext [idx t, row, bat, blk]

theorem core5 (c : Dev nD) (t : Fin cfg0.N) (r : Fin 512) (k : Fin 1024) :
    k0_pay8 (F := Ideal) (H m c t) (View.ld (iblk m c 3 t) (Rect.unit ![0, 512] ![1024, 1024] inb_S1024x2944_S1024x1024_0_512)) (ix3 0 r k)
      = xbcOf (prjK m c) (ix3 (bat t) (row (blk t) r) k) := by
  rw [pay8_at, xbcOf_at]
  refine Eq.trans ?_ ((sum_eq m c t r ⟨512 + k.val, by omega⟩ ⟨512 + k.val, by omega⟩ (by unfold From; dsimp only; omega)).trans
    (congrArg (prjK m c) rfl))
  refine Finset.sum_congr rfl fun x _ => congrArg _ ?_
  pointwise; blk_ext

theorem final5 (c : Dev nD) : (dats m 0 c).arrAt 5 cfg0.N = xbcOf (prjK m c) := by
  refine (dats m 0 c).arrAt_eq_of_covers 5 _ (by decide +kernel) fun t _ y => ?_
  blk_simp
  rw [after0_5]
  unfold Gen.outsAt0
  frame_out
  obtain ⟨z, r, k, rfl⟩ : ∃ (z : Fin 1) (r : Fin 512) (k : Fin 1024), y = ix3 z r k := ⟨y 0, y 1, y 2, eq_ix3 y⟩
  obtain rfl : z = 0 := Subsingleton.elim _ _
  refine (core5 m c t r k).trans (congrArg (xbcOf (prjK m c)) ?_)
  blk_ext [idx t, row, bat, blk]

/-- The keys, the values and the rest of one block, side by side. -/
abbrev T (c : Dev nD) (t : Fin cfg0.N) : FVec Ideal S512x384 .f32 := k0_pay91 (F := Ideal) (H m c t)
  (View.ld (iblk m c 3 t) (Rect.unit ![0, 2560] ![1024, 384] inb_S1024x2944_S1024x384_0_2560))

theorem T_at (c : Dev nD) (t : Fin cfg0.N) (r : Fin 512) (k : Fin 384) :
    T m c t (ix2 r k) = ∑ x : Fin 1024, H m c t (ix2 r x) * iblk m c 3 t (ix2 x ⟨2560 + k.val, by omega⟩) := by
  rw [T, pay91_at]
  refine Finset.sum_congr rfl fun x _ => congrArg _ ?_
  pointwise; blk_ext

theorem T_prj (c : Dev nD) (t : Fin cfg0.N) (r : Fin 512) (k : Fin 384) (j : Fin 2896) (h : From (2560 + k.val) j.val) :
    T m c t (ix2 r k) = prjK m c (ix3 (bat t) (row (blk t) r) j) :=
  (T_at m c t r k).trans (sum_eq m c t r _ j h)

theorem core7 (c : Dev nD) (t : Fin cfg0.N) (r : Fin 512) (k : Fin 128) :
    k0_pay93 (F := Ideal) (k0_pay92 (H m c t) (View.ld (iblk m c 3 t) (Rect.unit ![0, 2560] ![1024, 384] inb_S1024x2944_S1024x384_0_2560))) (ix3 0 r k) = kOf (prjK m c) (ix3 (bat t) (row (blk t) r) k) := by
  rw [kOf_at, ← T_prj m c t r ⟨k.val, by omega⟩ _ (by unfold From; dsimp only; omega)]
  pointwise [k0_pay92, k0_pay93]

theorem final7 (c : Dev nD) : (dats m 0 c).arrAt 7 cfg0.N = kOf (prjK m c) := by
  refine (dats m 0 c).arrAt_eq_of_covers 7 _ (by decide +kernel) fun t _ y => ?_
  blk_simp
  rw [after0_7]
  unfold Gen.outsAt0
  frame_out
  obtain ⟨z, r, k, rfl⟩ : ∃ (z : Fin 1) (r : Fin 512) (k : Fin 128), y = ix3 z r k := ⟨y 0, y 1, y 2, eq_ix3 y⟩
  obtain rfl : z = 0 := Subsingleton.elim _ _
  refine (core7 m c t r k).trans (congrArg (kOf (prjK m c)) ?_)
  blk_ext [idx t, row, bat, blk]

theorem rest_of (c : Dev nD) (t : Fin cfg0.N) (r : Fin 512) (k : Fin 128) :
    T m c t (ix2 r ⟨256 + k.val, by omega⟩) = restOf (prjK m c) (ix3 (bat t) (row (blk t) r) k) := by
  rw [restOf_at]
  split_ifs with h0 h1 h2
  · exact T_prj m c t r _ _ (by unfold From; dsimp only; omega)
  · exact T_prj m c t r _ _ (by unfold From; dsimp only; omega)
  · exact T_prj m c t r _ _ (by unfold From; dsimp only; omega)
  · exact (T_at m c t r _).trans (sum_pad m c t r _ (by dsimp only; omega))

theorem core10 (c : Dev nD) (t : Fin cfg0.N) (r : Fin 512) (k : Fin 128) :
    k0_pay4 (F := Ideal) (k0_pay94 (T m c t)) (ix3 0 r k) = restOf (prjK m c) (ix3 (bat t) (row (blk t) r) k) := by
  rw [← rest_of]
  pointwise [k0_pay4, k0_pay3, k0_pay94]; blk_ext

theorem core11 (c : Dev nD) (t : Fin cfg0.N) (r : Fin 512) (k : Fin 128) :
    k0_pay5 (F := Ideal) (k0_pay94 (T m c t)) (ix3 0 r k) = restbOf (prjK m c) (ix3 (bat t) (row (blk t) r) k) := by
  rw [restbOf_at, ← rest_of]
  pointwise [k0_pay5, k0_pay3, k0_pay94]; blk_ext

theorem final10 (c : Dev nD) : (dats m 0 c).arrAt 10 cfg0.N = restOf (prjK m c) := by
  refine (dats m 0 c).arrAt_eq_of_covers 10 _ (by decide +kernel) fun t _ y => ?_
  blk_simp
  rw [after0_10]
  unfold Gen.outsAt0
  frame_out
  obtain ⟨z, r, k, rfl⟩ : ∃ (z : Fin 1) (r : Fin 512) (k : Fin 128), y = ix3 z r k := ⟨y 0, y 1, y 2, eq_ix3 y⟩
  obtain rfl : z = 0 := Subsingleton.elim _ _
  refine (core10 m c t r k).trans (congrArg (restOf (prjK m c)) ?_)
  blk_ext [idx t, row, bat, blk]

theorem final11 (c : Dev nD) : (dats m 0 c).arrAt 11 cfg0.N = restbOf (prjK m c) := by
  refine (dats m 0 c).arrAt_eq_of_covers 11 _ (by decide +kernel) fun t _ y => ?_
  blk_simp
  rw [after0_11]
  unfold Gen.outsAt0
  frame_out
  obtain ⟨z, r, k, rfl⟩ : ∃ (z : Fin 1) (r : Fin 512) (k : Fin 128), y = ix3 z r k := ⟨y 0, y 1, y 2, eq_ix3 y⟩
  obtain rfl : z = 0 := Subsingleton.elim _ _
  refine (core11 m c t r k).trans (congrArg (restbOf (prjK m c)) ?_)
  blk_ext [idx t, row, bat, blk]

end Cert.Proof.In

end
-- ==== Proof.InTiles.lean ====
/- The input projection's results that transposed tiles write: each is the reference's. -/
module

public import proofs.«01_k».proof.Proof.InRows
public import proofs.«01_k».proof.Proof.Gen.Kernel3Ideal.Frame

@[expose] public section

set_option maxRecDepth 16384

noncomputable section

namespace Cert.Proof.In

open Idealize.ShloMosaic Idealize.ShloMosaic.TcCoe Idealize.SL.Sem
open Cert.Kernel3Ideal Cert.Kernel3Ideal.Gen

variable (m : (ℓ : Loc nD τ sig) → Buf (Elt Ideal) ℓ)

theorem core6 (c : Dev nD) (t : Fin cfg0.N) (i : S512x512.Idx) (n : Fin 4) (g : Fin 2) (d : Fin 64) (l : Fin 512)
    (hi0 : (i 0 : ℕ) = 128 * n.val + l.val % 128) (hi1 : (i 1 : ℕ) = 64 * (4 * g.val + l.val / 128) + d.val) :
    k0_pay9 (F := Ideal) (H m c t) (View.ld (iblk m c 3 t) (Rect.unit ![0, 1536] ![1024, 512] inb_S1024x2944_S1024x512_0_1536)) i
      = qOf (prjK m c) (ix5 (bat t) ⟨4 * (blk t).val + n.val, by omega⟩ g d l) := by
  obtain ⟨r, k, rfl⟩ : ∃ (r : Fin 512) (k : Fin 512), i = ix2 r k := ⟨i 0, i 1, eq_ix2 i⟩
  replace hi0 : r.val = _ := hi0
  replace hi1 : k.val = _ := hi1
  rw [pay9_at, qOf_at, scale_eq]
  refine congrArg (· * _) (Eq.trans ?_ ((sum_eq m c t r ⟨1536 + k.val, by omega⟩ ⟨1544 + k.val, by omega⟩
    (by unfold From; simp only []; omega)).trans (congrArg (prjK m c) ?_)))
  · refine Finset.sum_congr rfl fun x _ => congrArg _ ?_
    pointwise; blk_ext
  · blk_ext [row]

set_option maxHeartbeats 2000000 in
theorem final6 (c : Dev nD) : (dats m 0 c).arrAt 6 cfg0.N = qOf (prjK m c) := by
  refine (dats m 0 c).arrAt_eq_of_covers 6 _ (by decide +kernel) fun t _ y => ?_
  blk_simp
  rw [after0_6]
  unfold Gen.outsAt0
  frame_out
  obtain ⟨y1, e1⟩ : ∃ q : Fin 4, q.val = (y 1 : ℕ) := ⟨y 1, rfl⟩
  obtain ⟨y2, e2⟩ : ∃ q : Fin 2, q.val = (y 2 : ℕ) := ⟨y 2, rfl⟩
  obtain ⟨y3, e3⟩ : ∃ q : Fin 64, q.val = (y 3 : ℕ) := ⟨y 3, rfl⟩
  obtain ⟨y4, e4⟩ : ∃ q : Fin 512, q.val = (y 4 : ℕ) := ⟨y 4, rfl⟩
  obtain_idx i : S512x512 := [128 * y1.val + y4.val % 128, 64 * (4 * y2.val + y4.val / 128) + y3.val] with hi
  refine Eq.trans (b := k0_pay9 (F := Ideal) (H m c t)
    (View.ld (iblk m c 3 t) (Rect.unit ![0, 1536] ![1024, 512] inb_S1024x2944_S1024x512_0_1536)) i) ?_
    ((core6 m c t i y1 y2 y3 y4 hi0 hi1).trans (congrArg (qOf (prjK m c)) ?_))
  · unfold H
    generalize k0_pay6 (F := Ideal) (iblk m c 0 t) (iblk m c 2 t)
      (View.ld (iblk m c 1 t) (Rect.unit ![0, 1, 0] ![1, 1, 1024] inb_S1x6x1024_S1x1x1024_0_1_0))
      (View.ld (iblk m c 1 t) (Rect.unit ![0, 0, 0] ![1, 1, 1024] inb_S1x6x1024_S1x1x1024_0_0_0)) = u
    generalize View.ld (iblk m c 3 t) (Rect.unit ![0, 1536] ![1024, 512] inb_S1024x2944_S1024x512_0_1536) = v
    canon_tiles x h
    all_goals (open_payloads; pointwise; blk_ext)
  blk_ext [idx t, bat, blk]

theorem core9 (c : Dev nD) (t : Fin cfg0.N) (i : S512x512.Idx) (n : Fin 4) (d : Fin 64) (l : Fin 1024)
    (hi0 : (i 0 : ℕ) = 128 * n.val + l.val % 128) (hi1 : (i 1 : ℕ) = 64 * (l.val / 128) + d.val) :
    k0_pay10 (F := Ideal) (H m c t) (View.ld (iblk m c 3 t) (Rect.unit ![0, 2048] ![1024, 512] inb_S1024x2944_S1024x512_0_2048)) i
      = qiOf (prjK m c) (ix4 (bat t) ⟨4 * (blk t).val + n.val, by omega⟩ d l) := by
  obtain ⟨r, k, rfl⟩ : ∃ (r : Fin 512) (k : Fin 512), i = ix2 r k := ⟨i 0, i 1, eq_ix2 i⟩
  replace hi0 : r.val = _ := hi0
  replace hi1 : k.val = _ := hi1
  rw [pay10_at, qiOf_at]
  refine Eq.trans ?_ ((sum_eq m c t r ⟨2048 + k.val, by omega⟩ ⟨2312 + k.val, by omega⟩
    (by unfold From; dsimp only; omega)).trans (congrArg (prjK m c) ?_))
  · refine Finset.sum_congr rfl fun x _ => congrArg _ ?_
    pointwise; blk_ext
  · blk_ext [row]

set_option maxHeartbeats 2000000 in
theorem final9 (c : Dev nD) : (dats m 0 c).arrAt 9 cfg0.N = qiOf (prjK m c) := by
  refine (dats m 0 c).arrAt_eq_of_covers 9 _ (by decide +kernel) fun t _ y => ?_
  blk_simp
  rw [after0_9]
  unfold Gen.outsAt0
  frame_out
  obtain ⟨y1, e1⟩ : ∃ q : Fin 4, q.val = (y 1 : ℕ) := ⟨y 1, rfl⟩
  obtain ⟨y2, e2⟩ : ∃ q : Fin 64, q.val = (y 2 : ℕ) := ⟨y 2, rfl⟩
  obtain ⟨y3, e3⟩ : ∃ q : Fin 1024, q.val = (y 3 : ℕ) := ⟨y 3, rfl⟩
  obtain_idx i : S512x512 := [128 * y1.val + y3.val % 128, 64 * (y3.val / 128) + y2.val] with hi
  refine Eq.trans (b := k0_pay10 (F := Ideal) (H m c t)
    (View.ld (iblk m c 3 t) (Rect.unit ![0, 2048] ![1024, 512] inb_S1024x2944_S1024x512_0_2048)) i) ?_
    ((core9 m c t i y1 y2 y3 hi0 hi1).trans (congrArg (qiOf (prjK m c)) ?_))
  · unfold H
    generalize k0_pay6 (F := Ideal) (iblk m c 0 t) (iblk m c 2 t)
      (View.ld (iblk m c 1 t) (Rect.unit ![0, 1, 0] ![1, 1, 1024] inb_S1x6x1024_S1x1x1024_0_1_0))
      (View.ld (iblk m c 1 t) (Rect.unit ![0, 0, 0] ![1, 1, 1024] inb_S1x6x1024_S1x1x1024_0_0_0)) = u
    generalize View.ld (iblk m c 3 t) (Rect.unit ![0, 2048] ![1024, 512] inb_S1024x2944_S1024x512_0_2048) = v
    canon_tiles x h
    all_goals (open_payloads; pointwise; blk_ext)
  blk_ext [idx t, bat, blk]

/-- The row of ones: the lane number against zero. -/
theorem ones_at (n : ℕ) (h : n < 16) :
    Scalar.select (IntOp.cmpi CmpIPredicate.eq (BitVec.ofNat 32 n) 0#32) (1 : EReal) 0 = if n = 0 then 1 else 0 := by
  interval_cases n <;> rfl

theorem core8 (c : Dev nD) (t : Fin cfg0.N) (n : Fin 4) (g : Fin 2) (d : Fin 80) (l : Fin 128) :
    (if h : d.val < 64 then T m c t (ix2 ⟨128 * n.val + l.val, by omega⟩ ⟨128 + (64 * g.val + d.val), by omega⟩)
      else if _ : d.val - 64 < 1 then 1 else 0 : EReal)
      = vOf (prjK m c) (ix5 (bat t) ⟨4 * (blk t).val + n.val, by omega⟩ g d l) := by
  rw [vOf_at]
  split_ifs with h0
  · refine (T_prj m c t _ _ ⟨2184 + (64 * g.val + d.val), by omega⟩ (by unfold From; dsimp only; omega)).trans
      (congrArg (prjK m c) ?_)
    blk_ext [row]
  · rfl
  · rfl

set_option maxHeartbeats 2000000 in
theorem final8 (c : Dev nD) : (dats m 0 c).arrAt 8 cfg0.N = vOf (prjK m c) := by
  refine (dats m 0 c).arrAt_eq_of_covers 8 _ (by decide +kernel) fun t _ y => ?_
  blk_simp
  rw [after0_8]
  unfold Gen.outsAt0
  frame_out
  obtain ⟨y1, e1⟩ : ∃ q : Fin 4, q.val = (y 1 : ℕ) := ⟨y 1, rfl⟩
  obtain ⟨y2, e2⟩ : ∃ q : Fin 2, q.val = (y 2 : ℕ) := ⟨y 2, rfl⟩
  obtain ⟨y3, e3⟩ : ∃ q : Fin 80, q.val = (y 3 : ℕ) := ⟨y 3, rfl⟩
  obtain ⟨y4, e4⟩ : ∃ q : Fin 128, q.val = (y 4 : ℕ) := ⟨y 4, rfl⟩
  refine Eq.trans ?_ ((core8 m c t y1 y2 y3 y4).trans (congrArg (vOf (prjK m c)) ?_))
  · unfold T H
    generalize k0_pay6 (F := Ideal) (iblk m c 0 t) (iblk m c 2 t)
      (View.ld (iblk m c 1 t) (Rect.unit ![0, 1, 0] ![1, 1, 1024] inb_S1x6x1024_S1x1x1024_0_1_0))
      (View.ld (iblk m c 1 t) (Rect.unit ![0, 0, 0] ![1, 1, 1024] inb_S1x6x1024_S1x1x1024_0_0_0)) = u
    generalize View.ld (iblk m c 3 t) (Rect.unit ![0, 2560] ![1024, 384] inb_S1024x2944_S1024x384_0_2560) = v
    canon_tiles x h using (View.cover_of_tiledBy _ ![1, 1, 1, 16, 128] (by sl_kernel_rfl) _)
    all_goals (open_payloads; pointwise)
    all_goals first
      | (rw [dif_pos (by omega)]; blk_ext)
      | (rw [dif_neg (by omega), ones_at _ (by omega)]; split_ifs <;> first | rfl | (exfalso; omega))
  blk_ext [idx t, bat, blk]

end Cert.Proof.In

end
-- ==== Proof.InProj.lean ====
/- The input projection: the two programs agree. -/
module

public import proofs.«01_k».proof.Defs
public import proofs.«01_k».proof.Proof.InTiles
public import proofs.«01_k».proof.Proof.Gen.Kernel3Ideal.Value
public import Idealize.ShloMosaic.Lib.Claim

@[expose] public section

set_option maxRecDepth 16384

noncomputable section

namespace Cert.Proof.In

open Idealize.ShloMosaic Idealize.ShloMosaic.TcCoe Idealize.SL.Sem
open Cert.Kernel3Ideal Cert.Kernel3Ideal.Gen

theorem preserves : Cert.preserves_Kernel3_Kernel3Ideal :=
  IdealRules.named_const.statement Cert.Kernel3Ideal.κ "q_scale" .f32 0x3E38AA3B#32 (((8 * (Real.log 2))⁻¹ : ℝ) : EReal) rfl

set_option maxHeartbeats 4000000 in
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    · rw [final4]; unfold zOf prjK proj hidK hid Tail.rms; rfl
    · rw [final5]; unfold xbcOf prjK proj hidK hid Tail.rms; rfl
    · rw [final6]; unfold qOf prjK proj hidK hid Tail.rms; rfl
    · rw [final7]; unfold kOf prjK proj hidK hid Tail.rms; rfl
    · refine Eq.trans (b := vOf (proj (hidK m c) (m' ((c.tc : Thread Reference3Ideal.nD Reference3Ideal.τ).loc
        Reference3Ideal.main_arg3)))) ?_ ?_
      · unfold vOf proj hidK hid Tail.rms; rfl
      · rw [(hagree c).2.2.2]; exact (final8 m c).symm
    · rw [final9]; unfold qiOf prjK proj hidK hid Tail.rms; rfl
    · obtain ⟨e0, e1, e2, e3⟩ := hagree c
      exact (rest_eq m' c).trans ((by rw [prj, e0, e1, e2, e3] : _ = restOf (prjK m c)).trans (final10 m c).symm)
    · obtain ⟨e0, e1, e2, e3⟩ := hagree c
      exact (restb_eq m' c).trans ((by rw [prj, e0, e1, e2, e3] : _ = restbOf (prjK m c)).trans (final11 m c).symm)

end Cert.Proof.In

end
-- ==== Proof.Ada.lean ====
/- The modulation's projection: the silu of the conditioning against the weights, and the bias; the two programs agree. -/
module

public import proofs.«01_k».proof.Defs
public import proofs.«01_k».proof.Proof.TailPoint
public import proofs.«01_k».proof.Proof.Gen.Kernel4Ideal.Value
public import proofs.«01_k».proof.Proof.Gen.Reference4Ideal.Run
public import Idealize.ShloMosaic.Lib.Claim
public import Idealize.ShloMosaic.Lib.Routing.OpsOne

@[expose] public section

set_option maxRecDepth 16384

noncomputable section

namespace Cert.Proof.Ada

open Idealize.ShloMosaic Idealize.ShloMosaic.TcCoe Idealize.SL.Sem
open Cert.Kernel4Ideal Cert.Kernel4Ideal.Gen

/-- The silu of one element. -/
def silu (x : EReal) : EReal := x * (1 + Ideal.exp (-x))⁻¹

theorem exp_nonneg (x : EReal) : 0 ≤ Ideal.exp x := by
  induction x with
  | bot => exact le_refl _
  | top => exact le_top
  | coe r => exact EReal.coe_nonneg.2 (Real.exp_pos r).le

theorem one_add_exp (x : EReal) : 1 + Ideal.exp x ≠ 0 := fun h =>
  absurd (h ▸ add_le_add_right (exp_nonneg x) 1 : (1 : EReal) + 0 ≤ 0) (by norm_num)

theorem div_silu (x : EReal) : Ideal.div x (1 + Ideal.exp (0 - x)) = silu x := by
  rw [zero_sub, silu, Ideal.div, if_neg (one_add_exp _)]

theorem mul_silu (x : EReal) : x * Ideal.div 1 (1 + Ideal.exp (-x)) = silu x := by
  rw [silu, Ideal.div, if_neg (one_add_exp _), one_mul]

theorem silu_zero : silu 0 = 0 := zero_mul _

theorem pay1_at (v0 : Vec Ideal S8x1024 .f32) (v8 : Vec Ideal S1024x1024 .f32) (v10 : Vec Ideal S1x1024 .f32)
    (r : Fin 8) (k : Fin 1024) :
    k0_pay1 (F := Ideal) v0 v8 v10 (ix2 r k) = ∑ x : Fin 1024, silu (v0 (ix2 r x)) * v8 (ix2 x k) + v10 (ix2 0 k) := by
  pointwise [k0_pay1]
  simp only [div_silu]

/-- The reference: the projection, and the bias in the padding rows. -/
def ref (x : FVec Ideal Reference4Ideal.S2x1024 .f32) (w : FVec Ideal Reference4Ideal.S1024x6144 .f32) (b : FVec Ideal Reference4Ideal.S6144 .f32) : FVec Ideal Reference4Ideal.S8x6144 .f32 :=
  concatenate Reference4Ideal.S8x6144 0 [⟨Reference4Ideal.S2x6144, addf (Host.dotGeneral Reference4Ideal.dot_S2x1024_S1024x6144_S2x6144_1_0_0_1_n_n none
      (mulf x (Host.divf (broadcastInDim Reference4Ideal.S2x1024 ![] Reference4Ideal.Facts₀.bcast_S_S2x1024 (constant Reference4Ideal.S_ .f32 0x3F800000#32))
        (addf (broadcastInDim Reference4Ideal.S2x1024 ![] Reference4Ideal.Facts₀.bcast_S_S2x1024 (constant Reference4Ideal.S_ .f32 0x3F800000#32))
          (Host.exp (Host.negf x))))) w)
      (broadcastInDim Reference4Ideal.S2x6144 ![0, 1] Reference4Ideal.Facts₀.bcast_S1x6144_S2x6144_0_1 (broadcastInDim Reference4Ideal.S1x6144 ![1] Reference4Ideal.Facts₀.bcast_S6144_S1x6144_1 b))⟩,
    ⟨Reference4Ideal.S6x6144, broadcastInDim Reference4Ideal.S6x6144 ![1] Reference4Ideal.Facts₀.bcast_S6144_S6x6144_1 b⟩]
    Reference4Ideal.Facts₀.concatenates_S2x6144_S6x6144_S8x6144_d0

theorem ref_at (x : FVec Ideal Reference4Ideal.S2x1024 .f32) (w : FVec Ideal Reference4Ideal.S1024x6144 .f32) (b : FVec Ideal Reference4Ideal.S6144 .f32)
    (r : Fin 8) (k : Fin 6144) :
    ref x w b (ix2 r k) = if h : r.val < 2 then ∑ j : Fin 1024, silu (x (ix2 ⟨r.val, h⟩ j)) * w (ix2 j k) + b (ix1 k) else b (ix1 k) := by
  pointwise [ref]
  simp only [mul_silu]

/-- The conditioning in the first two of eight rows. -/
def pad (x : FVec Ideal S2x1024 .f32) : FVec Ideal S8x1024 .f32 :=
  Host.scatter scatter_S8x1024_S1_S2x1024_01_n_0_0 (fun _ b => b)
    (broadcastInDim S8x1024 ![] bcast_S_S8x1024 (constant S_ .f32 0x00000000#32))
    (broadcastInDim S1 ![] bcast_S_S1 (constantI S_ 32 0#32)) x

/-- Row `j` of the conditioning lands on row `j`. -/
theorem lands (idx : IVec S1 32) (hidx : (idx (ix1 0)).toInt = 0) (j : Fin 2) (l : Fin 1024) (r : Fin 8) (k : Fin 1024) :
    scatter_S8x1024_S1_S2x1024_01_n_0_0.resultIdx? (ix2 j l) idx = some (ix2 r k) ↔ j.val = r.val ∧ l = k := by
  have h0 : scatter_S8x1024_S1_S2x1024_01_n_0_0.start (ix2 j l) idx 0 = 0 := by
    unfold ScatterDims.start
    rw [dif_pos (show (0 : Fin 2) ∈ scatter_S8x1024_S1_S2x1024_01_n_0_0.scatterDimsToOperandDims from List.mem_singleton.2 rfl)]
    refine Eq.trans (congrArg (fun q => (idx q).toInt) ?_) hidx
    exact (eq_ix1 _).trans (congrArg ix1 (Subsingleton.elim (α := Fin 1) _ _))
  have h1 : scatter_S8x1024_S1_S2x1024_01_n_0_0.start (ix2 j l) idx 1 = 0 := rfl
  have w0 : scatter_S8x1024_S1_S2x1024_01_n_0_0.window (ix2 j l) 0 = j.val := rfl
  have w1 : scatter_S8x1024_S1_S2x1024_01_n_0_0.window (ix2 j l) 1 = l.val := rfl
  refine (Routing.resultIdx?_ix2 (R := 8) (C := 1024) scatter_S8x1024_S1_S2x1024_01_n_0_0 (ix2 j l) idx r k).trans ?_
  rw [Fin.ext_iff]
  erw [h0, h1, w0, w1]
  omega

theorem pad_at (x : FVec Ideal S2x1024 .f32) (r : Fin 8) (k : Fin 1024) :
    pad x (ix2 r k) = if h : r.val < 2 then x (ix2 ⟨r.val, h⟩ k) else 0 := by
  have hidx : ((broadcastInDim S1 ![] bcast_S_S1 (constantI S_ 32 0#32) : IVec S1 32) (ix1 0)).toInt = 0 := rfl
  have key : ∀ j : S2x1024.Idx, scatter_S8x1024_S1_S2x1024_01_n_0_0.resultIdx? j
      (broadcastInDim S1 ![] bcast_S_S1 (constantI S_ 32 0#32)) = some (ix2 r k) → (j 0).val = r.val ∧ j 1 = k := fun j hj =>
    (lands _ hidx (j 0) (j 1) r k).1 ((congrArg (fun t => scatter_S8x1024_S1_S2x1024_01_n_0_0.resultIdx? t _) (eq_ix2 j).symm).trans hj)
  unfold pad
  split_ifs with h
  · refine Routing.scatter_set_hit _ _ _ _ _ _ (fun j hj => ?_) (ix2 ⟨r.val, h⟩ k) ((lands _ hidx _ _ r k).2 ⟨rfl, rfl⟩)
    obtain ⟨e0, e1⟩ := key j hj
    rw [eq_ix2 j]
    exact congrArg₂ (fun a b => x (ix2 a b)) (Fin.ext e0) e1
  · rw [Routing.scatter_set_miss _ _ _ _ _ fun j hj => h ((key j hj).1 ▸ (j 0).isLt)]
    pointwise

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem t_lt (t : Fin cfg0.N) : t.val < 6 := (by decide +kernel : ∀ t : Fin grid0.N, t.val < 6) t

/-- A column of a grid point's block, among all the columns. -/
def col (t : Fin cfg0.N) (k : Fin 1024) : Fin 6144 := ⟨t.val * 1024 + k.val, by have := t_lt t; omega⟩

theorem V_pad (c : Dev nD) : V m c main_v2 = pad (m ((c : Thread nD τ).loc main_arg0)) := by
  unfold V
  after_results
  rfl

theorem c_at (c : Dev nD) (t : Fin cfg0.N) (r : Fin 8) (k : Fin 1024) :
    iblk m c 0 t (ix2 r k) = pad (m ((c : Thread nD τ).loc main_arg0)) (ix2 r k) := by
  have h : iblk m c 0 t (ix2 r k) = V m c main_v2 (ix2 r k) := by
    blk_point [iblk, idx t]
  rw [h, V_pad]

theorem w_at (c : Dev nD) (t : Fin cfg0.N) (r : Fin 1024) (k : Fin 1024) :
    iblk m c 1 t (ix2 r k) = m ((c : Thread nD τ).loc main_arg1) (ix2 r (col t k)) := by
  blk_point [iblk, V, idx t, col]

theorem b_at (c : Dev nD) (t : Fin cfg0.N) (k : Fin 1024) :
    iblk m c 2 t (ix2 0 k) = m ((c : Thread nD τ).loc main_arg2) (ix1 (col t k)) := by
  blk_point [iblk, V, idx t, col]

/-- The reference over the kernel's arguments. -/
abbrev refK (c : Dev nD) : FVec Ideal Reference4Ideal.S8x6144 .f32 :=
  ref (m ((c : Thread nD τ).loc main_arg0)) (m ((c : Thread nD τ).loc main_arg1)) (m ((c : Thread nD τ).loc main_arg2))

theorem core (c : Dev nD) (t : Fin cfg0.N) (r : Fin 8) (k : Fin 1024) :
    k0_pay1 (F := Ideal) (iblk m c 0 t) (iblk m c 1 t) (iblk m c 2 t) (ix2 r k) = refK m c (ix2 r (col t k)) := by
  rw [pay1_at, refK, ref_at, b_at]
  simp only [c_at, pad_at, w_at]
  split_ifs with h
  · rfl
  · simp only [silu_zero, zero_mul, Finset.sum_const_zero, zero_add]

theorem final (c : Dev nD) : (dats m 0 c).arrAt 3 cfg0.N = refK m c := by
  refine (dats m 0 c).arrAt_eq_of_covers 3 _ (by decide +kernel) fun t _ y => ?_
  blk_simp
  rw [after0_3]
  frame_out
  obtain ⟨r, k, rfl⟩ : ∃ (r : Fin 8) (k : Fin 1024), y = ix2 r k := ⟨y 0, y 1, eq_ix2 y⟩
  refine (core m c t r k).trans (congrArg (refK m c) ?_)
  blk_ext [idx t, col]

theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    refine Eq.trans (b := ref (m ((c.tc : Thread nD τ).loc main_arg0)) (m ((c.tc : Thread nD τ).loc main_arg1))
      (m' ((c.tc : Thread Reference4Ideal.nD Reference4Ideal.τ).loc Reference4Ideal.main_arg2))) ?_ ?_
    · unfold ref; rfl
    · rw [(hagree c).2.2]; exact (final m c).symm

end Cert.Proof.Ada

end
-- ==== Proof.SsdRef.lean ====
/- The scan's reference in stages, each read at an index. -/
module

public import proofs.«01_k».proof.Defs
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Proof.Ssd

open Idealize.ShloMosaic Idealize.ShloMosaic.TcCoe Idealize.SL.Sem
open Cert.Reference5Ideal Cert.Reference5Ideal.Gen

/-- Place `l` of chunk `j`. -/
def tok (j : Fin 32) (l : Fin 256) : Fin 8192 := ⟨256 * j.val + l.val, by omega⟩

/-- Head `r` of group `g`. -/
def hd (g : Fin 2) (r : Fin 4) : Fin 8 := ⟨4 * g.val + r.val, by omega⟩

/-- The convolution of four taps over the past, and its bias. -/
def conv (x : FVec Ideal S2x8192x1024 .f32) (w : FVec Ideal S4x1024 .f32) (b : FVec Ideal S1024 .f32) : FVec Ideal S2x8192x1024 .f32 :=
  addf (addf (addf (addf (addf (broadcastInDim S2x8192x1024 ![] bcast_S_S2x8192x1024 (constant S_ .f32 0x00000000#32)) (mulf (extractStridedSlice S2x8192x1024 ![0, 0, 0] (pad S2x8195x1024 ![0, 3, 0] ![0, 0, 0] ![0, 0, 0] x (sitofp .f32 (constantI S_ 32 0#32)) pads_S2x8192x1024_S2x8195x1024_000_300_000 h_S_) slices_S2x8195x1024_S2x8192x1024_0_0_0) (broadcastInDim S2x8192x1024 ![0, 1, 2] bcast_S1x1x1024_S2x8192x1024_0_1_2 (broadcastInDim S1x1x1024 ![2] bcast_S1024_S1x1x1024_2 (shapeCast S1024 (extractStridedSlice S1x1024 ![0, 0] w slices_S4x1024_S1x1024_0_0) shapeCasts_S1x1024_S1024))))) (mulf (extractStridedSlice S2x8192x1024 ![0, 1, 0] (pad S2x8195x1024 ![0, 3, 0] ![0, 0, 0] ![0, 0, 0] x (sitofp .f32 (constantI S_ 32 0#32)) pads_S2x8192x1024_S2x8195x1024_000_300_000 h_S_) slices_S2x8195x1024_S2x8192x1024_0_1_0) (broadcastInDim S2x8192x1024 ![0, 1, 2] bcast_S1x1x1024_S2x8192x1024_0_1_2 (broadcastInDim S1x1x1024 ![2] bcast_S1024_S1x1x1024_2 (shapeCast S1024 (extractStridedSlice S1x1024 ![1, 0] w slices_S4x1024_S1x1024_1_0) shapeCasts_S1x1024_S1024))))) (mulf (extractStridedSlice S2x8192x1024 ![0, 2, 0] (pad S2x8195x1024 ![0, 3, 0] ![0, 0, 0] ![0, 0, 0] x (sitofp .f32 (constantI S_ 32 0#32)) pads_S2x8192x1024_S2x8195x1024_000_300_000 h_S_) slices_S2x8195x1024_S2x8192x1024_0_2_0) (broadcastInDim S2x8192x1024 ![0, 1, 2] bcast_S1x1x1024_S2x8192x1024_0_1_2 (broadcastInDim S1x1x1024 ![2] bcast_S1024_S1x1x1024_2 (shapeCast S1024 (extractStridedSlice S1x1024 ![2, 0] w slices_S4x1024_S1x1024_2_0) shapeCasts_S1x1024_S1024))))) (mulf (extractStridedSlice S2x8192x1024 ![0, 3, 0] (pad S2x8195x1024 ![0, 3, 0] ![0, 0, 0] ![0, 0, 0] x (sitofp .f32 (constantI S_ 32 0#32)) pads_S2x8192x1024_S2x8195x1024_000_300_000 h_S_) slices_S2x8195x1024_S2x8192x1024_0_3_0) (broadcastInDim S2x8192x1024 ![0, 1, 2] bcast_S1x1x1024_S2x8192x1024_0_1_2 (broadcastInDim S1x1x1024 ![2] bcast_S1024_S1x1x1024_2 (shapeCast S1024 (extractStridedSlice S1x1024 ![3, 0] w slices_S4x1024_S1x1024_3_0) shapeCasts_S1x1024_S1024))))) (broadcastInDim S2x8192x1024 ![0, 1, 2] bcast_S1x1x1024_S2x8192x1024_0_1_2 (broadcastInDim S1x1x1024 ![2] bcast_S1024_S1x1x1024_2 b))

/-- The silu of the convolution. -/
def act (x : FVec Ideal S2x8192x1024 .f32) : FVec Ideal S2x8192x1024 .f32 :=
  mulf x (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf x))))

/-- The step before its softplus. -/
def raw (misc : FVec Ideal S2x8192x128 .f32) (b : FVec Ideal S8 .f32) : FVec Ideal S2x8192x8 .f32 :=
  addf (extractStridedSlice S2x8192x8 ![0, 0, 72] misc slices_S2x8192x128_S2x8192x8_0_0_72) (broadcastInDim S2x8192x8 ![0, 1, 2] bcast_S1x1x8_S2x8192x8_0_1_2 (broadcastInDim S1x1x8 ![2] bcast_S8_S1x1x8_2 b))

/-- The step: a softplus. -/
def step (x : FVec Ideal S2x8192x8 .f32) : FVec Ideal S2x8192x8 .f32 :=
  select (cmpf .une (subf x (broadcastInDim S2x8192x8 ![] bcast_S_S2x8192x8 (constant S_ .f32 0x00000000#32))) (subf x (broadcastInDim S2x8192x8 ![] bcast_S_S2x8192x8 (constant S_ .f32 0x00000000#32)))) (addf x (broadcastInDim S2x8192x8 ![] bcast_S_S2x8192x8 (constant S_ .f32 0x00000000#32))) (addf (maximumf x (broadcastInDim S2x8192x8 ![] bcast_S_S2x8192x8 (constant S_ .f32 0x00000000#32))) (Host.log1p (Host.exp (Host.negf (Host.absf (subf x (broadcastInDim S2x8192x8 ![] bcast_S_S2x8192x8 (constant S_ .f32 0x00000000#32))))))))

/-- The running decay within a chunk. -/
def acs (a : FVec Ideal S8 .f32) (dt : FVec Ideal S2x8192x8 .f32) : FVec Ideal S2x32x256x8 .f32 :=
  Host.reduceWindowAdd ![1, 1, 256, 1] ![1, 1, 1, 1] ![0, 0, 255, 0] ![0, 0, 0, 0] (shapeCast S2x32x256x8 (mulf (broadcastInDim S2x8192x8 ![0, 1, 2] bcast_S1x1x8_S2x8192x8_0_1_2 (broadcastInDim S1x1x8 ![2] bcast_S8_S1x1x8_2 (mulf a (broadcastInDim S8 ![] bcast_S_S8 (Host.log (constant S_ .f32 0x40000000#32)))))) dt) shapeCasts_S2x8192x8_S2x32x256x8) (broadcastInDim S_ ![] bcast_S_S_ (constant S_ .f32 0x00000000#32)) reduceWindows_S2x32x256x8_S2x32x256x8_w1s1p0_0_w1s1p0_0_w256s1p255_0_w1s1p0_0 h_S_

/-- The heads' values. -/
def xh (u : FVec Ideal S2x8192x1024 .f32) : FVec Ideal S2x8192x8x64 .f32 :=
  shapeCast S2x8192x8x64 (extractStridedSlice S2x8192x512 ![0, 0, 0] u slices_S2x8192x1024_S2x8192x512_0_0_0) shapeCasts_S2x8192x512_S2x8192x8x64

/-- The values times the step. -/
def xdt (x : FVec Ideal S2x8192x8x64 .f32) (dt : FVec Ideal S2x8192x8 .f32) : FVec Ideal S2x32x256x2x4x64 .f32 :=
  shapeCast S2x32x256x2x4x64 (mulf x (broadcastInDim S2x8192x8x64 ![0, 1, 2, 3] bcast_S2x8192x8x1_S2x8192x8x64_0_1_2_3 (broadcastInDim S2x8192x8x1 ![0, 1, 2] bcast_S2x8192x8_S2x8192x8x1_0_1_2 dt))) shapeCasts_S2x8192x8x64_S2x32x256x2x4x64

/-- The keys of the scan. -/
def bc (u : FVec Ideal S2x8192x1024 .f32) : FVec Ideal S2x32x256x2x128 .f32 :=
  shapeCast S2x32x256x2x128 (extractStridedSlice S2x8192x256 ![0, 0, 512] u slices_S2x8192x1024_S2x8192x256_0_0_512) shapeCasts_S2x8192x256_S2x32x256x2x128

/-- The queries of the scan. -/
def cc (u : FVec Ideal S2x8192x1024 .f32) : FVec Ideal S2x32x256x2x128 .f32 :=
  shapeCast S2x32x256x2x128 (extractStridedSlice S2x8192x256 ![0, 0, 768] u slices_S2x8192x1024_S2x8192x256_0_0_768) shapeCasts_S2x8192x256_S2x32x256x2x128

/-- The decay between two places of a chunk. -/
def lmat (s : FVec Ideal S2x32x256x8 .f32) : FVec Ideal S2x32x256x256x2x4 .f32 :=
  shapeCast S2x32x256x256x2x4 (Host.exp (select (broadcastInDim S2x32x256x256x8 ![0, 1, 2, 3, 4] bcast_S1x1x256x256x1_S2x32x256x256x8_0_1_2_3_4 (broadcastInDim S1x1x256x256x1 ![2, 3] bcast_S256x256_S1x1x256x256x1_2_3 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1))))) (subf (broadcastInDim S2x32x256x256x8 ![0, 1, 2, 3, 4] bcast_S2x32x256x1x8_S2x32x256x256x8_0_1_2_3_4 (broadcastInDim S2x32x256x1x8 ![0, 1, 2, 4] bcast_S2x32x256x8_S2x32x256x1x8_0_1_2_4 s)) (broadcastInDim S2x32x256x256x8 ![0, 1, 2, 3, 4] bcast_S2x32x1x256x8_S2x32x256x256x8_0_1_2_3_4 (broadcastInDim S2x32x1x256x8 ![0, 1, 3, 4] bcast_S2x32x256x8_S2x32x1x256x8_0_1_3_4 s))) (broadcastInDim S2x32x256x256x8 ![] bcast_S_S2x32x256x256x8 (constant S_ .f32 0xFF800000#32)))) shapeCasts_S2x32x256x256x8_S2x32x256x256x2x4

/-- The part of a chunk's output that comes from the chunk itself. -/
def diag (bc : FVec Ideal S2x32x256x2x128 .f32) (cc : FVec Ideal S2x32x256x2x128 .f32) (l : FVec Ideal S2x32x256x256x2x4 .f32) (x : FVec Ideal S2x32x256x2x4x64 .f32) : FVec Ideal S2x32x256x2x4x64 .f32 :=
  transpose S2x32x256x2x4x64 [0, 1, 5, 2, 3, 4] (Host.dotGeneral dot_S2x32x256x2x4x64_S2x32x256x256x2x4_S2x32x2x4x64x256_2_3_5_2_0134_0145 none x (mulf (broadcastInDim S2x32x256x256x2x4 ![0, 1, 2, 3, 4, 5] bcast_S2x32x256x256x2x1_S2x32x256x256x2x4_0_1_2_3_4_5 (broadcastInDim S2x32x256x256x2x1 ![0, 1, 2, 3, 4] bcast_S2x32x256x256x2_S2x32x256x256x2x1_0_1_2_3_4 (transpose S2x32x256x256x2 [0, 1, 4, 3, 2] (Host.dotGeneral dot_S2x32x256x2x128_S2x32x256x2x128_S2x32x2x256x256_4_4_2_2_013_013 none bc cc) transposes_S2x32x2x256x256_S2x32x256x256x2_0_1_4_3_2))) l)) transposes_S2x32x2x4x64x256_S2x32x256x2x4x64_0_1_5_2_3_4

/-- What a chunk adds to the state. -/
def states (s : FVec Ideal S2x32x256x8 .f32) (x : FVec Ideal S2x32x256x2x4x64 .f32) (bc : FVec Ideal S2x32x256x2x128 .f32) : FVec Ideal S2x32x2x4x64x128 .f32 :=
  Host.dotGeneral dot_S2x32x256x2x4x64_S2x32x256x2x128_S2x32x2x4x64x128_2_2_45_4_013_013 none (mulf x (broadcastInDim S2x32x256x2x4x64 ![0, 1, 2, 3, 4, 5] bcast_S2x32x256x2x4x1_S2x32x256x2x4x64_0_1_2_3_4_5 (broadcastInDim S2x32x256x2x4x1 ![0, 1, 2, 3, 4] bcast_S2x32x256x2x4_S2x32x256x2x4x1_0_1_2_3_4 (shapeCast S2x32x256x2x4 (Host.exp (subf (broadcastInDim S2x32x256x8 ![0, 1, 2, 3] bcast_S2x32x1x8_S2x32x256x8_0_1_2_3 (extractStridedSlice S2x32x1x8 ![0, 0, 255, 0] s slices_S2x32x256x8_S2x32x1x8_0_0_255_0)) s)) shapeCasts_S2x32x256x8_S2x32x256x2x4)))) bc

/-- The chunks' states, chunk first. -/
def sts (x : FVec Ideal S2x32x2x4x64x128 .f32) : FVec Ideal S32x2x2x4x64x128 .f32 :=
  transpose S32x2x2x4x64x128 [1, 0, 2, 3, 4, 5] x transposes_S2x32x2x4x64x128_S32x2x2x4x64x128_1_0_2_3_4_5

/-- The decay over a whole chunk, chunk first. -/
def dec (s : FVec Ideal S2x32x256x8 .f32) : FVec Ideal S32x2x2x4 .f32 :=
  transpose S32x2x2x4 [1, 0, 2, 3] (shapeCast S2x32x2x4 (Host.exp (shapeCast S2x32x8 (extractStridedSlice S2x32x1x8 ![0, 0, 255, 0] s slices_S2x32x256x8_S2x32x1x8_0_0_255_0) shapeCasts_S2x32x1x8_S2x32x8)) shapeCasts_S2x32x8_S2x32x2x4) transposes_S2x32x2x4_S32x2x2x4_1_0_2_3

/-- The part of a chunk's output that comes from the state before it. -/
def off (h : FVec Ideal S32x2x2x4x64x128 .f32) (cc : FVec Ideal S2x32x256x2x128 .f32) (s : FVec Ideal S2x32x256x8 .f32) : FVec Ideal S2x32x256x2x4x64 .f32 :=
  mulf (transpose S2x32x256x2x4x64 [0, 1, 5, 2, 3, 4] (Host.dotGeneral dot_S2x32x2x4x64x128_S2x32x256x2x128_S2x32x2x4x64x256_5_4_34_2_012_013 none (transpose S2x32x2x4x64x128 [1, 0, 2, 3, 4, 5] h transposes_S32x2x2x4x64x128_S2x32x2x4x64x128_1_0_2_3_4_5) cc) transposes_S2x32x2x4x64x256_S2x32x256x2x4x64_0_1_5_2_3_4) (broadcastInDim S2x32x256x2x4x64 ![0, 1, 2, 3, 4, 5] bcast_S2x32x256x2x4x1_S2x32x256x2x4x64_0_1_2_3_4_5 (broadcastInDim S2x32x256x2x4x1 ![0, 1, 2, 3, 4] bcast_S2x32x256x2x4_S2x32x256x2x4x1_0_1_2_3_4 (shapeCast S2x32x256x2x4 (Host.exp s) shapeCasts_S2x32x256x8_S2x32x256x2x4)))

/-- The scan's output with the skip. -/
def tot (d : FVec Ideal S2x32x256x2x4x64 .f32) (o : FVec Ideal S2x32x256x2x4x64 .f32) (x : FVec Ideal S2x8192x8x64 .f32) (k : FVec Ideal S8 .f32) : FVec Ideal S2x8192x512 .f32 :=
  shapeCast S2x8192x512 (addf (addf d o) (mulf (shapeCast S2x32x256x2x4x64 x shapeCasts_S2x8192x8x64_S2x32x256x2x4x64) (broadcastInDim S2x32x256x2x4x64 ![0, 1, 2, 3, 4, 5] bcast_S1x1x1x2x4x1_S2x32x256x2x4x64_0_1_2_3_4_5 (broadcastInDim S1x1x1x2x4x1 ![3, 4, 5] bcast_S2x4x1_S1x1x1x2x4x1_3_4_5 (broadcastInDim S2x4x1 ![0, 1] bcast_S2x4_S2x4x1_0_1 (shapeCast S2x4 k shapeCasts_S8_S2x4)))))) shapeCasts_S2x32x256x2x4x64_S2x8192x512

/-- The gated output. -/
def gate (y : FVec Ideal S2x8192x512 .f32) (z : FVec Ideal S2x8192x512 .f32) : FVec Ideal S2x8192x512 .f32 :=
  mulf y (mulf z (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf z)))))

/-- Its norm. -/
def res (y : FVec Ideal S2x8192x512 .f32) (w : FVec Ideal S512 .f32) : FVec Ideal S2x8192x512 .bf16 :=
  truncf .bf16 (mulf (mulf y (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf y y) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![2] bcast_S512_S1x1x512_2 w))) bitsLt_bf16_f32

end Cert.Proof.Ssd

end
-- ==== Proof.SsdRefAt.lean ====
/- The scan's reference, stage by stage, at an index. -/
module

public import proofs.«01_k».proof.Proof.SsdRef
public import proofs.«01_k».proof.Proof.Ada
public import Idealize.ShloMosaic.Lib.StableHlo.Predicate

@[expose] public section

set_option maxRecDepth 16384

noncomputable section

namespace Cert.Proof.Ssd

open Idealize.ShloMosaic Idealize.ShloMosaic.TcCoe Idealize.SL.Sem
open Cert.Reference5Ideal Cert.Reference5Ideal.Gen
open Cert.Proof.Ada (silu div_silu mul_silu)

/-- The softplus of one element. -/
def sp (x : EReal) : EReal := max x 0 + Ideal.log1p (Ideal.exp (-(max x (-x))))

/-- The array `d` places back, zero before the first. -/
def tap (x : FVec Ideal S2x8192x1024 .f32) (i : Fin 2) (t : Fin 8192) (k : Fin 1024) (d : ℕ) : EReal :=
  if d ≤ t.val then x (ix3 i ⟨t.val - d, by omega⟩ k) else 0

theorem sitofp_zero : (FloatOps.sitofp (F := Ideal) FTy.f32 0#32 : EReal) = 0 := by
  show ((((0#32 : BitVec 32).toInt : ℝ)) : EReal) = 0
  simp

theorem conv_at (x : FVec Ideal S2x8192x1024 .f32) (w : FVec Ideal S4x1024 .f32) (b : FVec Ideal S1024 .f32) (i : Fin 2)
    (t : Fin 8192) (k : Fin 1024) :
    conv x w b (ix3 i t k) = tap x i t k 3 * w (ix2 0 k) + tap x i t k 2 * w (ix2 1 k) + tap x i t k 1 * w (ix2 2 k)
      + x (ix3 i t k) * w (ix2 3 k) + b (ix1 k) := by
  pointwise [conv]
  have ht := t.isLt
  congr 1; congr 1; congr 1; congr 1
  · congr 1
    unfold tap
    split_ifs with h1 h2 h2
    · rfl
    · omega
    · omega
    · exact sitofp_zero
  · congr 1
    unfold tap
    split_ifs with h1 h2 h2
    · blk_ext []
    · omega
    · omega
    · exact sitofp_zero
  · congr 1
    unfold tap
    split_ifs with h1 h2 h2
    · blk_ext []
    · omega
    · omega
    · exact sitofp_zero

theorem act_at (x : FVec Ideal S2x8192x1024 .f32) (b : Fin 2) (t : Fin 8192) (k : Fin 1024) :
    act x (ix3 b t k) = silu (x (ix3 b t k)) := by
  pointwise [act]
  rw [mul_silu]

theorem raw_at (misc : FVec Ideal S2x8192x128 .f32) (b : FVec Ideal S8 .f32) (i : Fin 2) (t : Fin 8192) (h : Fin 8) :
    raw misc b (ix3 i t h) = misc (ix3 i t ⟨72 + h.val, by omega⟩) + b (ix1 h) := by
  pointwise [raw]

theorem step_at (x : FVec Ideal S2x8192x8 .f32) (b : Fin 2) (t : Fin 8192) (k : Fin 8) :
    step x (ix3 b t k) = sp (x (ix3 b t k)) := by
  pointwise [step]
  rw [if_neg (by simp)]
  rfl

theorem xh_at (u : FVec Ideal S2x8192x1024 .f32) (b : Fin 2) (t : Fin 8192) (h : Fin 8) (p : Fin 64) :
    xh u (ix4 b t h p) = u (ix3 b t ⟨64 * h.val + p.val, by omega⟩) := by
  pointwise [xh]
  blk_ext []

theorem bc_at (u : FVec Ideal S2x8192x1024 .f32) (b : Fin 2) (j : Fin 32) (l : Fin 256) (g : Fin 2) (n : Fin 128) :
    bc u (ix5 b j l g n) = u (ix3 b (tok j l) ⟨512 + (128 * g.val + n.val), by omega⟩) := by
  pointwise [bc]
  blk_ext [tok]

theorem cc_at (u : FVec Ideal S2x8192x1024 .f32) (b : Fin 2) (j : Fin 32) (l : Fin 256) (g : Fin 2) (n : Fin 128) :
    cc u (ix5 b j l g n) = u (ix3 b (tok j l) ⟨768 + (128 * g.val + n.val), by omega⟩) := by
  pointwise [cc]
  blk_ext [tok]

theorem xdt_at (x : FVec Ideal S2x8192x8x64 .f32) (dt : FVec Ideal S2x8192x8 .f32) (b : Fin 2) (j : Fin 32) (l : Fin 256)
    (g : Fin 2) (r : Fin 4) (p : Fin 64) :
    xdt x dt (ix6 b j l g r p) = x (ix4 b (tok j l) (hd g r) p) * dt (ix3 b (tok j l) (hd g r)) := by
  pointwise [xdt]
  congr 1 <;> blk_ext [tok, hd]

theorem lmat_at (s : FVec Ideal S2x32x256x8 .f32) (b : Fin 2) (j : Fin 32) (l l' : Fin 256) (g : Fin 2) (r : Fin 4) :
    lmat s (ix6 b j l l' g r) = if l' ≤ l then Ideal.exp (s (ix4 b j l (hd g r)) - s (ix4 b j l' (hd g r))) else 0 := by
  have hl := l.isLt
  have hl' := l'.isLt
  pointwise [lmat]
  have e : IntOp.cmpi CmpIPredicate.sge (IntOp.addi (BitVec.ofNat 32 l.val) 0#32) (BitVec.ofNat 32 l'.val)
      = if l' ≤ l then 1#1 else 0#1 := by
    have key := StableHlo.Predicate.sge_iff_toNat (a := BitVec.ofNat 32 l.val) (b := BitVec.ofNat 32 l'.val)
      (by simp only [BitVec.toNat_ofNat]; omega) (by simp only [BitVec.toNat_ofNat]; omega)
    simp only [BitVec.toNat_ofNat, Nat.mod_eq_of_lt (show l.val < 2 ^ 32 by omega), Nat.mod_eq_of_lt (show l'.val < 2 ^ 32 by omega)] at key
    rw [show IntOp.addi (BitVec.ofNat 32 l.val) 0#32 = BitVec.ofNat 32 l.val from BitVec.add_zero _]
    split_ifs with h
    · exact key.2 h
    · rcases BitVec.eq_zero_or_eq_one (IntOp.cmpi CmpIPredicate.sge (BitVec.ofNat 32 l.val) (BitVec.ofNat 32 l'.val)) with e | e
      · exact e
      · exact absurd (key.1 e) h
  rw [e]
  have hh : (⟨g.val * 4 + r.val, by omega⟩ : Fin 8) = hd g r := by ext; simp only [hd]; omega
  rw [hh]
  split_ifs
  · rfl
  · show Ideal.exp (Ideal.ofBits FTy.f32 4286578688#32) = 0
    rw [show Ideal.ofBits FTy.f32 4286578688#32 = ⊥ by simp [Ideal.ofBits, Ideal.ieee]]
    rfl

theorem dec_at (s : FVec Ideal S2x32x256x8 .f32) (b : Fin 2) (j : Fin 32) (g : Fin 2) (r : Fin 4) :
    dec s (ix4 j b g r) = Ideal.exp (s (ix4 b j 255 (hd g r))) := by
  pointwise [dec]
  congr 1
  blk_ext [hd]

theorem sts_at (x : FVec Ideal S2x32x2x4x64x128 .f32) (b : Fin 2) (j : Fin 32) (g : Fin 2) (r : Fin 4) (p : Fin 64) (n : Fin 128) :
    sts x (ix6 j b g r p n) = x (ix6 b j g r p n) := by
  pointwise [sts]

theorem states_at (s : FVec Ideal S2x32x256x8 .f32) (x : FVec Ideal S2x32x256x2x4x64 .f32) (bc : FVec Ideal S2x32x256x2x128 .f32)
    (b : Fin 2) (j : Fin 32) (g : Fin 2) (r : Fin 4) (p : Fin 64) (n : Fin 128) :
    states s x bc (ix6 b j g r p n) = ∑ l : Fin 256, x (ix6 b j l g r p)
      * Ideal.exp (s (ix4 b j 255 (hd g r)) - s (ix4 b j l (hd g r))) * bc (ix5 b j l g n) := by
  have hh : (⟨g.val * 4 + r.val, by omega⟩ : Fin 8) = hd g r := by ext; simp only [hd]; omega
  pointwise [states, hh]

theorem off_at (h : FVec Ideal S32x2x2x4x64x128 .f32) (cc : FVec Ideal S2x32x256x2x128 .f32) (s : FVec Ideal S2x32x256x8 .f32)
    (b : Fin 2) (j : Fin 32) (l : Fin 256) (g : Fin 2) (r : Fin 4) (p : Fin 64) :
    off h cc s (ix6 b j l g r p) = (∑ n : Fin 128, h (ix6 j b g r p n) * cc (ix5 b j l g n)) * Ideal.exp (s (ix4 b j l (hd g r))) := by
  have hh : (⟨g.val * 4 + r.val, by omega⟩ : Fin 8) = hd g r := by ext; simp only [hd]; omega
  pointwise [off, hh]

theorem diag_at (bc : FVec Ideal S2x32x256x2x128 .f32) (cc : FVec Ideal S2x32x256x2x128 .f32)
    (lm : FVec Ideal S2x32x256x256x2x4 .f32) (x : FVec Ideal S2x32x256x2x4x64 .f32) (b : Fin 2) (j : Fin 32) (l : Fin 256)
    (g : Fin 2) (r : Fin 4) (p : Fin 64) :
    diag bc cc lm x (ix6 b j l g r p) = ∑ s : Fin 256, x (ix6 b j s g r p)
      * ((∑ n : Fin 128, bc (ix5 b j s g n) * cc (ix5 b j l g n)) * lm (ix6 b j l s g r)) := by
  pointwise [diag]

theorem tot_at (d : FVec Ideal S2x32x256x2x4x64 .f32) (o : FVec Ideal S2x32x256x2x4x64 .f32) (x : FVec Ideal S2x8192x8x64 .f32)
    (k : FVec Ideal S8 .f32) (b : Fin 2) (j : Fin 32) (l : Fin 256) (g : Fin 2) (r : Fin 4) (p : Fin 64) :
    tot d o x k (ix3 b (tok j l) ⟨256 * g.val + 64 * r.val + p.val, by omega⟩)
      = d (ix6 b j l g r p) + o (ix6 b j l g r p) + x (ix4 b (tok j l) (hd g r) p) * k (ix1 (hd g r)) := by
  pointwise [tot, tok]
  congr 1
  congr 1 <;> blk_ext [tok, hd]

theorem gate_at (y z : FVec Ideal S2x8192x512 .f32) (b : Fin 2) (t : Fin 8192) (k : Fin 512) :
    gate y z (ix3 b t k) = y (ix3 b t k) * silu (z (ix3 b t k)) := by
  pointwise [gate]
  rw [mul_silu]

/-- One row's norm. -/
def rms (f w : Fin 512 → EReal) (k : Fin 512) : EReal :=
  f k * Ideal.rsqrt (Ideal.div (∑ x : Fin 512, f x * f x) (Ideal.ofBits FTy.f32 1140850688#32)
    + Ideal.ofBits FTy.f32 897988541#32) * w k

theorem res_at (y : FVec Ideal S2x8192x512 .f32) (w : FVec Ideal S512 .f32) (b : Fin 2) (t : Fin 8192) (k : Fin 512) :
    res y w (ix3 b t k) = rms (fun x => y (ix3 b t x)) (fun x => w (ix1 x)) k := by
  pointwise [res, rms]

end Cert.Proof.Ssd

end
-- ==== Proof.SsdKer.lean ====
/- The scan's payloads, each read at an index. -/
module

public import proofs.«01_k».proof.Defs
public import proofs.«01_k».proof.Proof.SsdRefAt
public import proofs.«01_k».proof.Proof.Gen.Kernel5Ideal.Skeleton
public import Idealize.ShloMosaic.Lib.StableHlo.Predicate
public import Idealize.ShloMosaic.Lib.Pointwise
public import Idealize.ShloMosaic.Lib.Pipeline.ValueKit

@[expose] public section

set_option maxRecDepth 16384

noncomputable section

namespace Cert.Proof.Ssd.Ker

open Idealize.ShloMosaic Idealize.ShloMosaic.TcCoe Idealize.SL.Sem
open Cert.Kernel5Ideal Cert.Kernel5Ideal.Gen
open Cert.Proof.Ssd (sp rms)
open Cert.Proof.Ada (silu div_silu mul_silu)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem pick (a : Fin 128 → EReal) (c : ℕ) (hc : c < 128) : ∑ x : Fin 128, a x * (if x.val = c then 1 else 0) = a ⟨c, hc⟩ := by
  rw [Finset.sum_eq_single ⟨c, hc⟩]
  · rw [if_pos rfl, mul_one]
  · intro b _ hb
    rw [if_neg (fun h => hb (Fin.ext h)), mul_zero]
  · intro h; exact absurd (Finset.mem_univ _) h

theorem sle_small (x l : Fin 256) : IntOp.cmpi CmpIPredicate.sle (BitVec.ofNat 32 x.val) (BitVec.ofNat 32 l.val) = if x ≤ l then 1#1 else 0#1 := by
  have hx := x.isLt
  have hl := l.isLt
  have key := StableHlo.Predicate.sle_iff_toNat (a := BitVec.ofNat 32 x.val) (b := BitVec.ofNat 32 l.val)
    (by simp only [BitVec.toNat_ofNat]; omega) (by simp only [BitVec.toNat_ofNat]; omega)
  simp only [BitVec.toNat_ofNat, Nat.mod_eq_of_lt (show x.val < 2 ^ 32 by omega), Nat.mod_eq_of_lt (show l.val < 2 ^ 32 by omega)] at key
  split_ifs with h
  · exact key.2 h
  · rcases BitVec.eq_zero_or_eq_one (IntOp.cmpi CmpIPredicate.sle (BitVec.ofNat 32 x.val) (BitVec.ofNat 32 l.val)) with e | e
    · exact e
    · exact absurd (key.1 e) h

theorem conv_at (v11 : Vec Ideal S1x1024 .f32) (v13 : Vec Ideal S264x1024 .f32) (v16 v23 v29 v34 : Vec Ideal S1x1024 .f32)
    (l : Fin 256) (k : Fin 1024) : k0_pay7 (F := Ideal) v13 (k0_pay6 v11 v13 v16 v23 v29) v34 (ix2 l k)
      = silu (v11 (ix2 0 k) + v13 (ix2 ⟨l.val + 5, by omega⟩ k) * v16 (ix2 0 k) + v13 (ix2 ⟨l.val + 6, by omega⟩ k) * v23 (ix2 0 k)
        + v13 (ix2 ⟨l.val + 7, by omega⟩ k) * v29 (ix2 0 k) + v13 (ix2 ⟨l.val + 8, by omega⟩ k) * v34 (ix2 0 k)) := by
  have hl := l.isLt
  have e1 : ∀ p, (⟨(8 + l.val + 264 - 3) % 264, p⟩ : Fin 264) = ⟨l.val + 5, by omega⟩ := fun p => Fin.ext (show (8 + l.val + 264 - 3) % 264 = l.val + 5 by omega)
  have e2 : ∀ p, (⟨(8 + l.val + 264 - 2) % 264, p⟩ : Fin 264) = ⟨l.val + 6, by omega⟩ := fun p => Fin.ext (show (8 + l.val + 264 - 2) % 264 = l.val + 6 by omega)
  have e3 : ∀ p, (⟨(8 + l.val + 264 - 1) % 264, p⟩ : Fin 264) = ⟨l.val + 7, by omega⟩ := fun p => Fin.ext (show (8 + l.val + 264 - 1) % 264 = l.val + 7 by omega)
  have e4 : ∀ p, (⟨8 + l.val, p⟩ : Fin 264) = ⟨l.val + 8, by omega⟩ := fun p => Fin.ext (show 8 + l.val = l.val + 8 by omega)
  pointwise [k0_pay7, k0_pay6]
  simp only [div_silu, e1, e2, e3, e4]

theorem pay11_at (v47 : Vec Ideal S1x256x128 .f32) (v49 : Vec Ideal S1x128 .f32) (l : Fin 256) (k : Fin 128) :
    k0_pay11 (F := Ideal) v47 v49 (ix2 l k) = sp (v47 (ix3 0 l k) + v49 (ix2 0 k)) := by
  pointwise [k0_pay11]
  rw [zero_sub]
  rfl

theorem pay12_at (v47 : Vec Ideal S1x256x128 .f32) (v49 v61 : Vec Ideal S1x128 .f32) (l : Fin 256) (k : Fin 128) :
    k0_pay12 (F := Ideal) v47 v49 v61 (ix2 l k) = sp (v47 (ix3 0 l k) + v49 (ix2 0 k)) * v61 (ix2 0 k) := by
  rw [← pay11_at]
  pointwise [k0_pay12]

theorem pay14_at (l x : Fin 256) : k0_pay14 (F := Ideal) (ix2 l x) = if x ≤ l then 1 else 0 := by
  pointwise [k0_pay14, k0_pay13]
  rw [sle_small]
  split_ifs
  · rfl
  · rfl

/-- The running sum of the lanes. -/
def cs (f : Fin 256 → Fin 128 → ℝ) (l : Fin 256) (k : Fin 128) : ℝ := ∑ x : Fin 256, if x ≤ l then f x k else 0

theorem pay18_at (v64 : FVec Ideal S256x128 .f32) (v74 : FVec Ideal S256x128 .bf16) (v75 : FVec Ideal S256x128 .f32)
    (f : Fin 256 → Fin 128 → ℝ) (h64 : ∀ l k, v64 (ix2 l k) = (f l k : EReal)) (h74 : ∀ l k, v74 (ix2 l k) = (f l k : EReal))
    (h75 : ∀ l k, v75 (ix2 l k) = (f l k : EReal)) (l : Fin 256) (k : Fin 128) :
    k0_pay18 (F := Ideal) v64 k0_pay14 v74 v75 (ix2 l k) = (cs f l k : EReal) := by
  pointwise [k0_pay18]
  simp only [h64, h74, h75, ← EReal.coe_sub, sub_self, EReal.coe_zero, sub_zero, mul_zero, Finset.sum_const_zero, add_zero, pay14_at]
  rw [cs]
  refine Eq.trans ?_ (coe_sum Finset.univ _).symm
  refine Finset.sum_congr rfl fun x _ => ?_
  split_ifs
  · rw [one_mul]
  · rw [zero_mul, EReal.coe_zero]

theorem pay19_at (v64 : FVec Ideal S256x128 .f32) (v71 : FVec Ideal S256x256 .bf16) (v73 : FVec Ideal S128x512 .bf16)
    (v74 : FVec Ideal S256x128 .bf16) (v75 : FVec Ideal S256x128 .f32) (f : Fin 256 → Fin 128 → ℝ)
    (h : ∀ l k, k0_pay18 (F := Ideal) v64 v71 v74 v75 (ix2 l k) = (f l k : EReal))
    (hE : ∀ x k, v73 (ix2 x k) = if x.val = 72 + k.val / 64 then 1 else 0) (l : Fin 256) (k : Fin 512) :
    k0_pay19 (F := Ideal) v64 v71 v73 v74 v75 (ix2 l k) = (f l ⟨72 + k.val / 64, by omega⟩ : EReal) := by
  pointwise [k0_pay19]
  simp only [h, ← EReal.coe_sub, sub_self, EReal.coe_zero, sub_zero, zero_mul, Finset.sum_const_zero, add_zero, hE]
  exact pick (fun x => (f l x : EReal)) (72 + k.val / 64) (by omega)

theorem pay21_at (v44 : FVec Ideal S256x512 .f32) (v60 : FVec Ideal S256x128 .f32) (v73 : FVec Ideal S128x512 .bf16)
    (hf : ∀ (l : Fin 256) (h : Fin 8), v60 (ix2 l ⟨72 + h.val, by omega⟩) - v60 (ix2 l ⟨72 + h.val, by omega⟩) = 0)
    (hE : ∀ x k, v73 (ix2 x k) = if x.val = 72 + k.val / 64 then 1 else 0) (l : Fin 256) (k : Fin 512) :
    k0_pay21 (F := Ideal) v44 v60 v73 (ix2 l k) = v44 (ix2 l k) * v60 (ix2 l ⟨72 + k.val / 64, by omega⟩) := by
  pointwise [k0_pay21]
  have e := hf l ⟨k.val / 64, by omega⟩
  simp only [hE]
  rw [pick (fun x => v60 (ix2 l x)) (72 + k.val / 64) (by omega), pick (fun x => v60 (ix2 l x) - v60 (ix2 l x)) (72 + k.val / 64) (by omega),
    pick (fun x => v60 (ix2 l x) - v60 (ix2 l x) - (v60 (ix2 l x) - v60 (ix2 l x))) (72 + k.val / 64) (by omega)]
  simp only [e, sub_zero, add_zero]

theorem st0_at (v44 : FVec Ideal S256x512 .f32) (v45 : FVec Ideal S256x256 .f32) (v60 v64 : FVec Ideal S256x128 .f32) (v71 : FVec Ideal S256x256 .bf16) (v73 : FVec Ideal S128x512 .bf16)
    (v74 : FVec Ideal S256x128 .bf16) (v75 : FVec Ideal S256x128 .f32) (s : Vec Ideal S1x128x256 .f32) (n : Fin 128) (k : Fin 256) :
    k0_pay37 (F := Ideal) (k0_pay22 v64 v71 v73 v74 v75) (k0_pay23 v44 v60 v64 v71 v73 v74 v75) (k0_pay27 v45) s (ix3 0 n k)
      = s (ix3 0 n k) * Ideal.exp2 (k0_pay19 v64 v71 v73 v74 v75 (ix2 255 ⟨k.val, by omega⟩))
        + ∑ x : Fin 256, v45 (ix2 x ⟨n.val, by omega⟩) * (k0_pay21 v44 v60 v73 (ix2 x ⟨k.val, by omega⟩)
          * Ideal.exp2 (k0_pay19 v64 v71 v73 v74 v75 (ix2 255 ⟨k.val, by omega⟩) - k0_pay19 v64 v71 v73 v74 v75 (ix2 x ⟨k.val, by omega⟩))) := by
  pointwise [k0_pay37, k0_pay35, k0_pay27, k0_pay22, k0_pay23]
  rfl

theorem st1_at (v44 : FVec Ideal S256x512 .f32) (v45 : FVec Ideal S256x256 .f32) (v60 v64 : FVec Ideal S256x128 .f32) (v71 : FVec Ideal S256x256 .bf16) (v73 : FVec Ideal S128x512 .bf16)
    (v74 : FVec Ideal S256x128 .bf16) (v75 : FVec Ideal S256x128 .f32) (s : Vec Ideal S1x128x256 .f32) (n : Fin 128) (k : Fin 256) :
    k0_pay44 (F := Ideal) (k0_pay22 v64 v71 v73 v74 v75) (k0_pay23 v44 v60 v64 v71 v73 v74 v75) (k0_pay27 v45) s (ix3 0 n k)
      = s (ix3 0 n k) * Ideal.exp2 (k0_pay19 v64 v71 v73 v74 v75 (ix2 255 ⟨256 + k.val, by omega⟩))
        + ∑ x : Fin 256, v45 (ix2 x ⟨128 + n.val, by omega⟩) * (k0_pay21 v44 v60 v73 (ix2 x ⟨256 + k.val, by omega⟩)
          * Ideal.exp2 (k0_pay19 v64 v71 v73 v74 v75 (ix2 255 ⟨256 + k.val, by omega⟩) - k0_pay19 v64 v71 v73 v74 v75 (ix2 x ⟨256 + k.val, by omega⟩))) := by
  pointwise [k0_pay44, k0_pay43, k0_pay27, k0_pay22, k0_pay23]
  rfl

theorem fin_of (x l : Fin 256) (a : EReal) : FloatOps.exp2 (F := Ideal) (φ := FTy.f32) (Scalar.select (IntOp.cmpi CmpIPredicate.sle (BitVec.ofNat 32 x.val) (BitVec.ofNat 32 l.val)) a
    (Ideal.ofBits FTy.f32 4286578688#32)) = if x ≤ l then Ideal.exp2 a else 0 := by
  rw [sle_small]
  split_ifs
  · rfl
  · show Ideal.exp2 (Ideal.ofBits FTy.f32 4286578688#32) = 0
    rw [show Ideal.ofBits FTy.f32 4286578688#32 = ⊥ by simp [Ideal.ofBits, Ideal.ieee]]
    rfl

/-- Lane `n` of group `g`. -/
def gi (g : Fin 2) (n : Fin 128) : Fin 256 := ⟨128 * g.val + n.val, by omega⟩

/-- One decayed score. -/
def score (v45 v46 : FVec Ideal S256x256 .f32) (v87 : FVec Ideal S256x128 .f32) (v116 : FVec Ideal S128x256 .f32)
    (l x : Fin 256) (g : Fin 2) (h : Fin 128) : EReal :=
  (∑ n : Fin 128, v46 (ix2 l (gi g n)) * v45 (ix2 x (gi g n))) * (if x ≤ l then Ideal.exp2 (v87 (ix2 l h) - v116 (ix2 h x)) else 0)

/-- One head's part from the chunk itself. -/
def headv (v45 v46 : FVec Ideal S256x256 .f32) (v87 : FVec Ideal S256x128 .f32) (v116 : FVec Ideal S128x256 .f32)
    (v117 : FVec Ideal S256x512 .f32) (l : Fin 256) (g : Fin 2) (h : Fin 128) (k : Fin 512) : EReal :=
  ∑ x : Fin 256, score v45 v46 v87 v116 l x g h * v117 (ix2 x k)

theorem gi0 (n : Fin 128) (h : n.val < 256) : (⟨n.val, h⟩ : Fin 256) = gi 0 n := Fin.ext (by simp [gi])
theorem gi1 (n : Fin 128) (h : 128 + n.val < 256) : (⟨128 + n.val, h⟩ : Fin 256) = gi 1 n := Fin.ext (by simp [gi])

theorem h0_at (v45 v46 : FVec Ideal S256x256 .f32) (v87 : FVec Ideal S256x128 .f32) (v117 : FVec Ideal S256x512 .f32) (v116 : FVec Ideal S128x256 .f32)
    (l : Fin 256) (p : Fin 64) : k0_pay30 (F := Ideal) v45 v46 k0_pay13 v87 v116 v117 (ix2 l p) = headv v45 v46 v87 v116 v117 l 0 72 ⟨p.val, by omega⟩ := by
  pointwise [k0_pay24, k0_pay29, k0_pay28, k0_pay26, k0_pay25, k0_pay13, k0_pay38, k0_pay39, k0_pay30]
  simp only [fin_of, gi0, gi1, headv, score]

theorem h1_at (v45 v46 : FVec Ideal S256x256 .f32) (v87 : FVec Ideal S256x128 .f32) (v117 : FVec Ideal S256x512 .f32) (v116 : FVec Ideal S128x256 .f32)
    (l : Fin 256) (p : Fin 64) : k0_pay31 (F := Ideal) v45 v46 k0_pay13 v87 v116 v117 (ix2 l p) = headv v45 v46 v87 v116 v117 l 0 73 ⟨64 + p.val, by omega⟩ := by
  pointwise [k0_pay24, k0_pay29, k0_pay28, k0_pay26, k0_pay25, k0_pay13, k0_pay38, k0_pay39, k0_pay31]
  simp only [fin_of, gi0, gi1, headv, score]

theorem h2_at (v45 v46 : FVec Ideal S256x256 .f32) (v87 : FVec Ideal S256x128 .f32) (v117 : FVec Ideal S256x512 .f32) (v116 : FVec Ideal S128x256 .f32)
    (l : Fin 256) (p : Fin 64) : k0_pay32 (F := Ideal) v45 v46 k0_pay13 v87 v116 v117 (ix2 l p) = headv v45 v46 v87 v116 v117 l 0 74 ⟨128 + p.val, by omega⟩ := by
  pointwise [k0_pay24, k0_pay29, k0_pay28, k0_pay26, k0_pay25, k0_pay13, k0_pay38, k0_pay39, k0_pay32]
  simp only [fin_of, gi0, gi1, headv, score]

theorem h3_at (v45 v46 : FVec Ideal S256x256 .f32) (v87 : FVec Ideal S256x128 .f32) (v117 : FVec Ideal S256x512 .f32) (v116 : FVec Ideal S128x256 .f32)
    (l : Fin 256) (p : Fin 64) : k0_pay34 (F := Ideal) (k0_pay24 v117) (k0_pay29 v45 v46) (k0_pay33 k0_pay13 v87 v116) (ix2 l p) = headv v45 v46 v87 v116 v117 l 0 75 ⟨192 + p.val, by omega⟩ := by
  pointwise [k0_pay24, k0_pay29, k0_pay28, k0_pay26, k0_pay25, k0_pay13, k0_pay38, k0_pay39, k0_pay33, k0_pay34]
  simp only [fin_of, gi0, gi1, headv, score]

theorem h4_at (v45 v46 : FVec Ideal S256x256 .f32) (v87 : FVec Ideal S256x128 .f32) (v117 : FVec Ideal S256x512 .f32) (v116 : FVec Ideal S128x256 .f32)
    (l : Fin 256) (p : Fin 64) : k0_pay40 (F := Ideal) k0_pay13 v87 v116 (k0_pay24 v117) (k0_pay25 v45) (k0_pay26 v46) (ix2 l p) = headv v45 v46 v87 v116 v117 l 1 76 ⟨256 + p.val, by omega⟩ := by
  pointwise [k0_pay24, k0_pay29, k0_pay28, k0_pay26, k0_pay25, k0_pay13, k0_pay38, k0_pay39, k0_pay40]
  simp only [fin_of, gi0, gi1, headv, score]

theorem h5_at (v45 v46 : FVec Ideal S256x256 .f32) (v87 : FVec Ideal S256x128 .f32) (v116 : FVec Ideal S128x256 .f32)
    (l x : Fin 256) : k0_pay41 (F := Ideal) k0_pay13 v87 v116 (k0_pay25 v45) (k0_pay26 v46) (ix2 l x) = score v45 v46 v87 v116 l x 1 77 := by
  pointwise [k0_pay25, k0_pay26, k0_pay38, k0_pay39, k0_pay13, k0_pay41]
  simp only [fin_of, gi1, score]

theorem y_at (v45 v46 : FVec Ideal S256x256 .f32) (v87 : FVec Ideal S256x128 .f32) (v115 v117 : FVec Ideal S256x512 .f32) (v116 : FVec Ideal S128x256 .f32)
    (a b c d e : FVec Ideal S256x64 .f32) (f : FVec Ideal S256x256 .bf16)
    (s0 s1 : Vec Ideal S1x128x256 .f32) (l : Fin 256) (k : Fin 512) (H : ℕ → EReal)
    (ha : ∀ p, a (ix2 l p) = H p.val)
    (hb : ∀ p, b (ix2 l p) = H (64 + p.val))
    (hc : ∀ p, c (ix2 l p) = H (128 + p.val))
    (hd : ∀ p, d (ix2 l p) = H (192 + p.val))
    (he : ∀ p, e (ix2 l p) = H (256 + p.val))
    (hf : ∀ q : Fin 64, ∑ x, f (ix2 l x) * v117 (ix2 x ⟨320 + q.val, by omega⟩) = H (320 + q.val))
    (h6 : ∀ q : Fin 64, ∑ x, score v45 v46 v87 v116 l x 1 78 * v117 (ix2 x ⟨384 + q.val, by omega⟩) = H (384 + q.val))
    (h7 : ∀ q : Fin 64, ∑ x, score v45 v46 v87 v116 l x 1 79 * v117 (ix2 x ⟨448 + q.val, by omega⟩) = H (448 + q.val)) :
    k0_pay45 (F := Ideal) k0_pay13 v87 v115 v116 (k0_pay24 v117) a b c d (k0_pay36 (k0_pay28 v46) s0) (k0_pay38 (k0_pay26 v46))
      (k0_pay39 (k0_pay25 v45) (k0_pay26 v46)) e f (k0_pay42 (k0_pay24 v117)) (constant S256x64 .f32 0x00000000#32) s1
      (ix2 l k) = H k.val
        + (∑ n : Fin 128, v46 (ix2 l (gi ⟨k.val / 256, by omega⟩ n)) * (if k.val < 256 then s0 else s1) (ix3 0 n ⟨k.val % 256, by omega⟩))
          * Ideal.exp2 (v115 (ix2 l k)) := by
  have hk := k.isLt
  have hH : ∀ q r : ℕ, q = r → H q = H r := fun q r h => by rw [h]
  pointwise [k0_pay45, k0_pay24, k0_pay36, k0_pay28, k0_pay38, k0_pay26, k0_pay25, k0_pay39, k0_pay42, k0_pay13, k0_pay43, k0_pay35]
  refine congrArg₂ (· + ·) ?_ (congrArg₂ (· * ·) ?_ rfl)
  · split_ifs <;> first | exact absurd rfl (by assumption) | skip
    · exact ha _
    · exact (hb _).trans (hH _ _ (by show _ + (_ - _) = _; omega))
    · exact (hc _).trans (hH _ _ (by show _ + (_ - _) = _; omega))
    · exact (hd _).trans (hH _ _ (by show _ + (_ - _) = _; omega))
    · exact (he _).trans (hH _ _ (by show _ + (_ - _) = _; omega))
    · exact (hf ⟨k.val - 64 - 64 - 64 - 64 - 64, by omega⟩).trans (hH _ _ (by show _ + (_ - _) = _; omega))
    · refine Eq.trans ?_ ((h6 ⟨k.val - 64 - 64 - 64 - 64 - 64 - 64, by omega⟩).trans (hH _ _ (by show _ + (_ - _) = _; omega)))
      refine Finset.sum_congr rfl fun x _ => ?_
      rw [fin_of, score]
      simp only [gi1]
    · refine Eq.trans ?_ ((h7 ⟨k.val - 64 - 64 - 64 - 64 - 64 - 64 - 64, by omega⟩).trans (hH _ _ (by show _ + (_ - _) = _; omega)))
      refine Finset.sum_congr rfl fun x _ => ?_
      rw [fin_of, score]
      simp only [gi1]
  · by_cases h : k.val < 256
    · rw [dif_pos h, if_pos h, show (⟨k.val / 256, by omega⟩ : Fin 2) = 0 from Fin.ext (by show k.val / 256 = 0; omega)]
      refine Finset.sum_congr rfl fun n _ => ?_
      rw [gi0, show (⟨k.val, h⟩ : Fin 256) = ⟨k.val % 256, by omega⟩ from Fin.ext (by show k.val = k.val % 256; omega)]
    · rw [dif_neg h, if_neg h, show (⟨k.val / 256, by omega⟩ : Fin 2) = 1 from Fin.ext (by show k.val / 256 = 1; omega)]
      refine Finset.sum_congr rfl fun n _ => ?_
      rw [gi1, show (⟨k.val - 256, by omega⟩ : Fin 256) = ⟨k.val % 256, by omega⟩ from Fin.ext (by show k.val - 256 = k.val % 256; omega)]

theorem pay1_at (v44 v265 : FVec Ideal S256x512 .f32) (v266 : Vec Ideal S1x512 .f32) (v271 : Vec Ideal S1x256x512 .f32) (v280 : Vec Ideal S1x512 .f32) (l : Fin 256) (k : Fin 512) :
    k0_pay1 (F := Ideal) v44 v265 v266 v271 v280 (ix3 0 l k)
      = rms (fun k => (v265 (ix2 l k) + v44 (ix2 l k) * v266 (ix2 0 k)) * silu (v271 (ix3 0 l k))) (fun k => v280 (ix2 0 k)) k := by
  pointwise [k0_pay1]
  simp only [div_silu, rms]

end Cert.Proof.Ssd.Ker

end
-- ==== Proof.SsdHost.lean ====
/- The scan's operand arrays, made on the host. -/
module

public import proofs.«01_k».proof.Proof.SsdKer
public import proofs.«01_k».proof.Proof.Gen.Kernel5Ideal.Value
public import Idealize.ShloMosaic.Lib.StableHlo.Predicate

@[expose] public section

set_option maxRecDepth 16384

noncomputable section

namespace Cert.Proof.Ssd.Ker

open Idealize.ShloMosaic Idealize.ShloMosaic.TcCoe Idealize.SL.Sem
open Cert.Kernel5Ideal Cert.Kernel5Ideal.Gen
open Idealize.ShloMosaic.Tactic Idealize.ShloMosaic.StableHlo

variable (m : (ℓ : Loc nD τ sig) → Buf (Elt Ideal) ℓ) (c : Dev nD)

theorem v40_at (k : Fin 1024) : V m c main_v40 (ix2 0 k) = m ((c : Thread nD τ).loc main_arg4) (ix1 k) := by
  unfold V
  after_reads_simp
  pointwise []

theorem v41_at (k : Fin 512) : V m c main_v41 (ix2 0 k) = m ((c : Thread nD τ).loc main_arg8) (ix1 k) := by
  unfold V
  after_reads_simp
  pointwise []

theorem v39_at (k : Fin 512) : V m c main_v39 (ix2 0 k) = m ((c : Thread nD τ).loc main_arg7) (ix1 ⟨k.val / 64, by omega⟩) := by
  unfold V
  after_reads_simp
  pointwise []

/-- The lanes of the steps. -/
def hmask  : IVec S128 1 :=
  andi (cmpi .sge (iotaInDim S128 32 0) (broadcastInDim S128 ![] bcast_S_S128 (constantI S_ 32 72#32))) (cmpi .slt (iotaInDim S128 32 0) (broadcastInDim S128 ![] bcast_S_S128 (constantI S_ 32 80#32)))

/-- The head of every lane, clipped. -/
def hidx  : IVec S128x1 32 :=
  broadcastInDim S128x1 ![0] bcast_S128_S128x1_0 (select (cmpi .slt (minsi (broadcastInDim S128 ![] bcast_S_S128 (constantI S_ 32 7#32)) (maxsi (broadcastInDim S128 ![] bcast_S_S128 (constantI S_ 32 0#32)) (subi (iotaInDim S128 32 0) (broadcastInDim S128 ![] bcast_S_S128 (constantI S_ 32 72#32))))) (broadcastInDim S128 ![] bcast_S_S128 (constantI S_ 32 0#32))) (addi (minsi (broadcastInDim S128 ![] bcast_S_S128 (constantI S_ 32 7#32)) (maxsi (broadcastInDim S128 ![] bcast_S_S128 (constantI S_ 32 0#32)) (subi (iotaInDim S128 32 0) (broadcastInDim S128 ![] bcast_S_S128 (constantI S_ 32 72#32))))) (broadcastInDim S128 ![] bcast_S_S128 (constantI S_ 32 8#32))) (minsi (broadcastInDim S128 ![] bcast_S_S128 (constantI S_ 32 7#32)) (maxsi (broadcastInDim S128 ![] bcast_S_S128 (constantI S_ 32 0#32)) (subi (iotaInDim S128 32 0) (broadcastInDim S128 ![] bcast_S_S128 (constantI S_ 32 72#32))))))

/-- The lane counted from the first step. -/
def hrow  : IVec S128x1 32 :=
  subi (broadcastInDim S128x1 ![0] bcast_S128_S128x1_0 (iotaInDim S128 32 0)) (broadcastInDim S128x1 ![] bcast_S_S128x1 (constantI S_ 32 72#32))

/-- The head of every column. -/
def hhead  : IVec S1x512 32 :=
  select (andi (cmpi .ne (signi (broadcastInDim S1x512 ![1] bcast_S512_S1x512_1 (iotaInDim S512 32 0))) (broadcastInDim S1x512 ![] bcast_S_S1x512 (signi (constantI S_ 32 64#32)))) (cmpi .ne (Host.remsi (broadcastInDim S1x512 ![1] bcast_S512_S1x512_1 (iotaInDim S512 32 0)) (broadcastInDim S1x512 ![] bcast_S_S1x512 (constantI S_ 32 64#32))) (broadcastInDim S1x512 ![] bcast_S_S1x512 (constantI S_ 32 0#32)))) (subi (Host.divsi (broadcastInDim S1x512 ![1] bcast_S512_S1x512_1 (iotaInDim S512 32 0)) (broadcastInDim S1x512 ![] bcast_S_S1x512 (constantI S_ 32 64#32))) (broadcastInDim S1x512 ![] bcast_S_S1x512 (constantI S_ 32 1#32))) (Host.divsi (broadcastInDim S1x512 ![1] bcast_S512_S1x512_1 (iotaInDim S512 32 0)) (broadcastInDim S1x512 ![] bcast_S_S1x512 (constantI S_ 32 64#32)))

/-- A head's number in its step's lane. -/
def hsel (x : FVec Ideal S8 .f32) : FVec Ideal S1x128 .f32 :=
  broadcastInDim S1x128 ![1] bcast_S128_S1x128_1 (select hmask (Host.gather gather_S8_S128x1_S128_n_0_n_n_0_1_1 x hidx) (broadcastInDim S128 ![] bcast_S_S128 (constant S_ .f32 0x00000000#32)))

/-- The lanes' heads against the columns'. -/
def hexp  : FVec Ideal S128x512 .bf16 :=
  uitofp .bf16 (cmpi .eq (broadcastInDim S128x512 ![0, 1] bcast_S128x1_S128x512_0_1 hrow) (broadcastInDim S128x512 ![0, 1] bcast_S1x512_S128x512_0_1 hhead))

theorem hmask_at : ∀ x : Fin 128, hmask (ix1 x) = if 72 ≤ x.val ∧ x.val < 80 then 1#1 else 0#1 := by decide +kernel
theorem hidx_at : ∀ h : Fin 8, hidx (ix2 ⟨72 + h.val, by omega⟩ 0) = BitVec.ofNat 32 h.val := by decide +kernel
theorem hhead_at : ∀ k : Fin 512, hhead (ix2 0 k) = BitVec.ofNat 32 (k.val / 64) := by decide +kernel
theorem hrow_at : ∀ (x : Fin 128) (h : Fin 8), IntOp.cmpi .eq (hrow (ix2 x 0)) (BitVec.ofNat 32 h.val) = if x.val = 72 + h.val then 1#1 else 0#1 := by decide +kernel

theorem v17_eq : V m c main_v17 = hsel (m ((c : Thread nD τ).loc main_arg5)) := by
  unfold V
  after_reads_simp
  rfl

theorem v26_eq : V m c main_v26 = hsel (m ((c : Thread nD τ).loc main_arg6)) := by
  unfold V
  after_reads_simp
  rfl

theorem v36_eq : V m c main_v36 = hexp := by
  unfold V
  after_reads_simp
  rfl

attribute [local irreducible] hmask hidx hrow hhead

theorem htake (x : FVec Ideal S8 .f32) (l : Fin 128) : Host.gather gather_S8_S128x1_S128_n_0_n_n_0_1_1 x hidx (ix1 l)
    = x (ix1 ⟨min (hidx (ix2 l 0)).toInt.toNat (8 - 1), by omega⟩) := by
  have e := StableHlo.Predicate.gather_take (N := 8) (n := 128) gather_S8_S128x1_S128_n_0_n_n_0_1_1 rfl rfl rfl rfl x hidx l (by decide)
  have e1 : (ix1 l : S128.Idx) = Shape.Idx.ofFin l := by
    funext a; fin_cases a; rfl
  rw [e1, e]
  refine congrArg x (funext fun a => ?_)
  fin_cases a
  refine Fin.ext ?_
  show min (hidx _).toInt.toNat (8 - 1) = min (hidx _).toInt.toNat (8 - 1)
  congr 4
  funext a
  fin_cases a <;> rfl

theorem hsel_in (x : FVec Ideal S8 .f32) (h : Fin 8) : hsel x (ix2 0 ⟨72 + h.val, by omega⟩) = x (ix1 h) := by
  pointwise [hsel]
  rw [hmask_at, if_pos ⟨by show 72 ≤ 72 + h.val; omega, by show 72 + h.val < 80; omega⟩]
  refine (htake x ⟨72 + h.val, by omega⟩).trans (congrArg x ?_)
  refine congrArg ix1 (Fin.ext ?_)
  show min (hidx (ix2 ⟨72 + h.val, _⟩ 0)).toInt.toNat (8 - 1) = h.val
  rw [hidx_at h]
  show min (BitVec.ofNat 32 h.val).toInt.toNat (8 - 1) = h.val
  revert h
  decide

theorem hsel_out (x : FVec Ideal S8 .f32) (l : Fin 128) (hl : ¬ (72 ≤ l.val ∧ l.val < 80)) : hsel x (ix2 0 l) = 0 := by
  pointwise [hsel]
  rw [hmask_at, if_neg hl]
  rfl

theorem hexp_at (x : Fin 128) (k : Fin 512) : hexp (ix2 x k) = if x.val = 72 + k.val / 64 then (1 : EReal) else 0 := by
  pointwise [hexp]
  rw [hhead_at, hrow_at x ⟨k.val / 64, by omega⟩]
  show FloatOps.uitofp FTy.bf16 (if x.val = 72 + k.val / 64 then 1#1 else 0#1) = _
  split_ifs
  · show ((1 : ℕ) : EReal) = 1
    simp
  · show ((0 : ℕ) : EReal) = 0
    simp

end Cert.Proof.Ssd.Ker

end
-- ==== Proof.SsdAcs.lean ====
/- The scan's reference, its running sum. -/
module

public import proofs.«01_k».proof.Proof.SsdRef

@[expose] public section

set_option maxRecDepth 16384

noncomputable section

namespace Cert.Proof.Ssd

open Idealize.ShloMosaic Idealize.ShloMosaic.TcCoe Idealize.SL.Sem
open Cert.Reference5Ideal Cert.Reference5Ideal.Gen

theorem foldl_add {N : ℕ} (f : Fin N → EReal) (v : EReal) :
    (List.finRange N).foldl (fun r n => r + f n) v = v + ∑ n, f n := by
  rw [Fin.sum_univ_def]
  generalize List.finRange N = L
  induction L generalizing v with
  | nil => simp
  | cons a L ih => rw [List.foldl_cons, ih, List.map_cons, List.sum_cons, add_assoc]

theorem window_at (x : FVec Ideal S2x32x256x8 .f32) (h : S2x32x256x8.ReduceWindows ![1, 1, 256, 1] ![1, 1, 1, 1] ![0, 0, 255, 0] ![0, 0, 0, 0] S2x32x256x8)
    (h' : 0 < (⟨0, ![]⟩ : Shape).numel) (b : Fin 2) (j : Fin 32) (l : Fin 256) (k : Fin 8) :
    Host.reduceWindow (s := S2x32x256x8) (t := S2x32x256x8) (u := ⟨0, ![]⟩) (fun a b : EReal => a + b) ![1, 1, 256, 1] ![1, 1, 1, 1] ![0, 0, 255, 0] ![0, 0, 0, 0] x (fun _ => (0 : EReal)) h
      h' (ix4 b j l k) = ∑ s : Fin 256, if s ≤ l then x (ix4 b j s k) else 0 := by
  unfold Host.reduceWindow
  dsimp only
  rw [foldl_add, zero_add]
  let g : (⟨4, ![1, 1, 256, 1]⟩ : Shape).Idx → EReal := fun q =>
    if hq : 255 ≤ l.val + (q 2).val ∧ l.val + (q 2).val - 255 < 256 then x (ix4 b j ⟨l.val + (q 2).val - 255, hq.2⟩ k) else 0
  have hg : ∀ q : (⟨4, ![1, 1, 256, 1]⟩ : Shape).Idx, (if hin : ∀ a : Fin 4, (![0, 0, 255, 0] : Fin 4 → ℕ) a ≤ ((ix4 b j l k : S2x32x256x8.Idx) a).val * (![1, 1, 1, 1] : Fin 4 → ℕ) a + (q a).val ∧ ((ix4 b j l k : S2x32x256x8.Idx) a).val * (![1, 1, 1, 1] : Fin 4 → ℕ) a + (q a).val - (![0, 0, 255, 0] : Fin 4 → ℕ) a < S2x32x256x8.size a then
      x (fun a => ⟨((ix4 b j l k : S2x32x256x8.Idx) a).val * (![1, 1, 1, 1] : Fin 4 → ℕ) a + (q a).val - (![0, 0, 255, 0] : Fin 4 → ℕ) a, (hin a).2⟩) else (0 : EReal)) = g q := by
    intro q
    have q0 : (q 0).val = 0 := Nat.lt_one_iff.mp (q 0).isLt
    have q1 : (q 1).val = 0 := Nat.lt_one_iff.mp (q 1).isLt
    have q3 : (q 3).val = 0 := Nat.lt_one_iff.mp (q 3).isLt
    show dite _ _ _ = dite _ _ _
    by_cases hq : 255 ≤ l.val + (q 2).val ∧ l.val + (q 2).val - 255 < 256
    · rw [dif_pos hq, dif_pos]
      · refine congrArg x (funext fun a => Fin.ext ?_)
        fin_cases a
        · show b.val * 1 + (q 0).val - 0 = b.val; omega
        · show j.val * 1 + (q 1).val - 0 = j.val; omega
        · show l.val * 1 + (q 2).val - 255 = l.val + (q 2).val - 255; rw [mul_one]
        · show k.val * 1 + (q 3).val - 0 = k.val; omega
      · intro a
        fin_cases a
        · show 0 ≤ b.val * 1 + (q 0).val ∧ b.val * 1 + (q 0).val - 0 < 2; omega
        · show 0 ≤ j.val * 1 + (q 1).val ∧ j.val * 1 + (q 1).val - 0 < 32; omega
        · show 255 ≤ l.val * 1 + (q 2).val ∧ l.val * 1 + (q 2).val - 255 < 256; omega
        · show 0 ≤ k.val * 1 + (q 3).val ∧ k.val * 1 + (q 3).val - 0 < 8; omega
    · rw [dif_neg hq, dif_neg]
      intro hn
      have h2 : 255 ≤ l.val * 1 + (q 2).val ∧ l.val * 1 + (q 2).val - 255 < 256 := hn 2
      omega
  refine Eq.trans (b := ∑ n, g ((Shape.rowMajor ⟨4, ![1, 1, 256, 1]⟩).symm n)) (Finset.sum_congr rfl fun n _ => ?_) ?_
  · rw [← hg]
    congr 1
  rw [Equiv.sum_comp (Shape.rowMajor ⟨4, ![1, 1, 256, 1]⟩).symm g, sum_idx4]
  simp only [Fin.sum_univ_one]
  refine Finset.sum_bij_ne_zero (fun s _ _ => ⟨l.val + s.val - 255, by omega⟩) (fun _ _ _ => Finset.mem_univ _) ?_ ?_ ?_
  · intro s _ hs s' _ hs' e
    have e' : l.val + s.val - 255 = l.val + s'.val - 255 := congrArg Fin.val e
    have c1 : 255 ≤ l.val + s.val := by
      by_contra hc
      exact hs (dif_neg (fun h => hc h.1))
    have c2 : 255 ≤ l.val + s'.val := by
      by_contra hc
      exact hs' (dif_neg (fun h => hc h.1))
    exact Fin.ext (by omega)
  · intro s _ hs
    have hl : s ≤ l := by
      by_contra hc
      exact hs (if_neg hc)
    have hl' : s.val ≤ l.val := hl
    refine ⟨⟨s.val + 255 - l.val, by omega⟩, Finset.mem_univ _, ?_, Fin.ext (by show l.val + (s.val + 255 - l.val) - 255 = s.val; omega)⟩
    rw [if_pos hl] at hs
    have hq : 255 ≤ l.val + (s.val + 255 - l.val) ∧ l.val + (s.val + 255 - l.val) - 255 < 256 := by omega
    refine fun h0 => hs (Eq.trans ?_ h0)
    refine Eq.trans ?_ (dif_pos hq).symm
    exact congrArg (fun z => x (ix4 b j z k)) (Fin.ext (by show s.val = l.val + (s.val + 255 - l.val) - 255; omega))
  · intro s _ hs
    have c1 : 255 ≤ l.val + s.val := by
      by_contra hc
      exact hs (dif_neg (fun h => hc h.1))
    have hq : 255 ≤ l.val + s.val ∧ l.val + s.val - 255 < 256 := by omega
    refine (dif_pos hq).trans (Eq.symm (if_pos ?_))
    show l.val + s.val - 255 ≤ l.val
    omega

theorem acs_at (a : FVec Ideal S8 .f32) (dt : FVec Ideal S2x8192x8 .f32) (b : Fin 2) (j : Fin 32) (l : Fin 256) (h : Fin 8) :
    acs a dt (ix4 b j l h) = ∑ s : Fin 256, if s ≤ l then a (ix1 h) * Ideal.log (Ideal.ofBits .f32 0x40000000#32) * dt (ix3 b (tok j s) h) else 0 := by
  have e : ∀ (s : Fin 256), shapeCast S2x32x256x8 (mulf (broadcastInDim S2x8192x8 ![0, 1, 2] bcast_S1x1x8_S2x8192x8_0_1_2 (broadcastInDim S1x1x8 ![2] bcast_S8_S1x1x8_2 (mulf a (broadcastInDim S8 ![] bcast_S_S8 (Host.log (constant (F := Ideal) S_ .f32 0x40000000#32)))))) dt) shapeCasts_S2x8192x8_S2x32x256x8 (ix4 b j s h)
      = a (ix1 h) * Ideal.log (Ideal.ofBits .f32 0x40000000#32) * dt (ix3 b (tok j s) h) := by
    intro s
    pointwise []
    congr 1
    blk_ext [tok]
  unfold acs Host.reduceWindowAdd
  rw [show (broadcastInDim S_ ![] bcast_S_S_ (constant (F := Ideal) S_ .f32 0x00000000#32)) (Shape.Idx.first h_S_) = (0 : EReal) by pointwise []]
  refine (window_at _ reduceWindows_S2x32x256x8_S2x32x256x8_w1s1p0_0_w1s1p0_0_w256s1p255_0_w1s1p0_0 (by decide) b j l h).trans ?_
  simp only [e]

end Cert.Proof.Ssd

end
-- ==== Proof.SsdBuf.lean ====
/- The scan's chunk: what a grid point leaves, as one function of its windows and of what the point before left. -/
module

public import proofs.«01_k».proof.Proof.SsdKer
public import proofs.«01_k».proof.Proof.Gen.Kernel5Ideal.Value
public import Idealize.ShloMosaic.Lib.Claim

@[expose] public section

set_option maxRecDepth 16384

noncomputable section

namespace Cert.Proof.Ssd.Ker

open Idealize.ShloMosaic Idealize.ShloMosaic.TcCoe Idealize.SL.Sem
open Cert.Kernel5Ideal Cert.Kernel5Ideal.Gen

/-- The rows a chunk's convolution reads: eight before it, then its own. -/
def rows (h : Vec Ideal S8x1024 .f32) (x : Vec Ideal S1x256x1024 .f32) :
    (Rect.unit (s := S264x1024) ![0, 0] ![264, 1024] inb_S264x1024_S264x1024_0_0).shape.Idx → Elt Ideal cc0_scratch0.ty.elt :=
  (View.whole cc0_scratch0).readCov
    [⟨Rect.unit (s := S264x1024) ![8, 0] ![256, 1024] inb_S264x1024_S256x1024_8_0, k0_pay5 x⟩,
      ⟨Rect.unit (s := S264x1024) ![0, 0] ![8, 1024] inb_S264x1024_S8x1024_0_0, h⟩]
    (Rect.unit (s := S264x1024) ![0, 0] ![264, 1024] inb_S264x1024_S264x1024_0_0).toLoadRect

/-- The last eight rows of the chunk before. -/
def last8 (p : Vec Ideal S264x1024 .f32) : Vec Ideal S8x1024 .f32 :=
  k0_pay4 (View.ld (View.read (Elt Ideal) (View.whole cc0_scratch0) ((Memref.isWhole_whole cc0_scratch0).unread p))
    (Rect.unit (s := S264x1024) ![256, 0] ![8, 1024] inb_S264x1024_S8x1024_256_0))

/-- One group's state. -/
def grp0 (p : Vec Ideal S2x128x256 .f32) : Vec Ideal S1x128x256 .f32 :=
  View.ld (View.read (Elt Ideal) (View.whole cc0_scratch1) ((Memref.isWhole_whole cc0_scratch1).unread p))
    (Rect.unit (s := S2x128x256) ![0, 0, 0] ![1, 128, 256] inb_S2x128x256_S1x128x256_0_0_0)

/-- The other group's. -/
def grp1 (p : Vec Ideal S2x128x256 .f32) : Vec Ideal S1x128x256 .f32 :=
  View.ld (View.read (Elt Ideal) (View.whole cc0_scratch1) ((Memref.isWhole_whole cc0_scratch1).unread p))
    (Rect.unit (s := S2x128x256) ![1, 0, 0] ![1, 128, 256] inb_S2x128x256_S1x128x256_1_0_0)

section
variable (X : Vec Ideal S264x1024 .f32) (x3 : Vec Ideal S4x1024 .f32) (x4 : Vec Ideal S1x1024 .f32)

def cpart : FVec Ideal S256x1024 .f32 :=
  k0_pay6 x4 X (View.ld x3 (Rect.unit (s := S4x1024) ![0, 0] ![1, 1024] inb_S4x1024_S1x1024_0_0)) (View.ld x3 (Rect.unit (s := S4x1024) ![1, 0] ![1, 1024] inb_S4x1024_S1x1024_1_0))
    (View.ld x3 (Rect.unit (s := S4x1024) ![2, 0] ![1, 1024] inb_S4x1024_S1x1024_2_0))
def w3 : Vec Ideal S1x1024 .f32 := View.ld x3 (Rect.unit (s := S4x1024) ![3, 0] ![1, 1024] inb_S4x1024_S1x1024_3_0)
/-- The chunk's values, keys and queries. -/
def vx : FVec Ideal S256x512 .f32 := k0_pay8 X (cpart X x3 x4) (w3 x3)
def vb : FVec Ideal S256x256 .f32 := k0_pay9 X (cpart X x3 x4) (w3 x3)
def vc : FVec Ideal S256x256 .f32 := k0_pay10 X (cpart X x3 x4) (w3 x3)
end

section
variable (x2 : Vec Ideal S1x256x128 .f32) (x5 x6 : Vec Ideal S1x128 .f32) (x7 : Vec Ideal S128x512 .bf16) (v44 : FVec Ideal S256x512 .f32)

/-- The running decay, by lane; by column; transposed. -/
def lane : FVec Ideal S256x128 .f32 := k0_pay18 (k0_pay12 x2 x5 x6) k0_pay14 (k0_pay16 x2 x5 x6) (k0_pay17 x2 x5 x6)
def cols : FVec Ideal S256x512 .f32 := k0_pay19 (k0_pay12 x2 x5 x6) k0_pay14 (k0_pay15 x7) (k0_pay16 x2 x5 x6) (k0_pay17 x2 x5 x6)
def lanet : FVec Ideal S128x256 .f32 := k0_pay20 (k0_pay12 x2 x5 x6) k0_pay14 (k0_pay16 x2 x5 x6) (k0_pay17 x2 x5 x6)
/-- The values times the step. -/
def vxdt : FVec Ideal S256x512 .f32 := k0_pay21 v44 (k0_pay11 x2 x5) (k0_pay15 x7)
/-- The chunk's decay, and the values decayed to its end. -/
def dlast : FVec Ideal S1x512 .f32 := k0_pay22 (k0_pay12 x2 x5 x6) k0_pay14 (k0_pay15 x7) (k0_pay16 x2 x5 x6) (k0_pay17 x2 x5 x6)
def vdec : FVec Ideal S256x512 .bf16 := k0_pay23 v44 (k0_pay11 x2 x5) (k0_pay12 x2 x5 x6) k0_pay14 (k0_pay15 x7) (k0_pay16 x2 x5 x6) (k0_pay17 x2 x5 x6)
end

/-- The scan's output over the chunk. -/
def yout (v45 v46 : FVec Ideal S256x256 .f32) (v87 : FVec Ideal S256x128 .f32) (v115 : FVec Ideal S256x512 .f32) (v116 : FVec Ideal S128x256 .f32)
    (v117 : FVec Ideal S256x512 .f32) (s0 s1 : Vec Ideal S1x128x256 .f32) : FVec Ideal S256x512 .f32 :=
  k0_pay45 k0_pay13 v87 v115 v116 (k0_pay24 v117) (k0_pay30 v45 v46 k0_pay13 v87 v116 v117) (k0_pay31 v45 v46 k0_pay13 v87 v116 v117)
    (k0_pay32 v45 v46 k0_pay13 v87 v116 v117) (k0_pay34 (k0_pay24 v117) (k0_pay29 v45 v46) (k0_pay33 k0_pay13 v87 v116))
    (k0_pay36 (k0_pay28 v46) s0) (k0_pay38 (k0_pay26 v46)) (k0_pay39 (k0_pay25 v45) (k0_pay26 v46))
    (k0_pay40 k0_pay13 v87 v116 (k0_pay24 v117) (k0_pay25 v45) (k0_pay26 v46)) (k0_pay41 k0_pay13 v87 v116 (k0_pay25 v45) (k0_pay26 v46))
    (k0_pay42 (k0_pay24 v117)) (constant S256x64 .f32 0x00000000#32) s1

/-- What a point writes. -/
def wout (X : Vec Ideal S264x1024 .f32) (x1 : Vec Ideal S1x256x512 .f32) (x2 : Vec Ideal S1x256x128 .f32) (x3 : Vec Ideal S4x1024 .f32) (x4 : Vec Ideal S1x1024 .f32)
    (x5 x6 : Vec Ideal S1x128 .f32) (x7 : Vec Ideal S128x512 .bf16) (x8 x9 : Vec Ideal S1x512 .f32) (s0 s1 : Vec Ideal S1x128x256 .f32) : Vec Ideal S1x256x512 .bf16 :=
  k0_pay1 (vx X x3 x4) (yout (vb X x3 x4) (vc X x3 x4) (lane x2 x5 x6) (cols x2 x5 x6 x7) (lanet x2 x5 x6) (vxdt x2 x5 x7 (vx X x3 x4)) s0 s1) x8 x1 x9

/-- What a point leaves of the two groups' states. -/
def ns0 (X : Vec Ideal S264x1024 .f32) (x2 : Vec Ideal S1x256x128 .f32) (x3 : Vec Ideal S4x1024 .f32) (x4 : Vec Ideal S1x1024 .f32)
    (x5 x6 : Vec Ideal S1x128 .f32) (x7 : Vec Ideal S128x512 .bf16) (s : Vec Ideal S1x128x256 .f32) : Vec Ideal S1x128x256 .f32 :=
  k0_pay37 (dlast x2 x5 x6 x7) (vdec x2 x5 x6 x7 (vx X x3 x4)) (k0_pay27 (vb X x3 x4)) s
def ns1 (X : Vec Ideal S264x1024 .f32) (x2 : Vec Ideal S1x256x128 .f32) (x3 : Vec Ideal S4x1024 .f32) (x4 : Vec Ideal S1x1024 .f32)
    (x5 x6 : Vec Ideal S1x128 .f32) (x7 : Vec Ideal S128x512 .bf16) (s : Vec Ideal S1x128x256 .f32) : Vec Ideal S1x128x256 .f32 :=
  k0_pay44 (dlast x2 x5 x6 x7) (vdec x2 x5 x6 x7 (vx X x3 x4)) (k0_pay27 (vb X x3 x4)) s

theorem rows_hi (h : Vec Ideal S8x1024 .f32) (x : Vec Ideal S1x256x1024 .f32) (i : Fin 264) (l : Fin 256) (k : Fin 1024) (hi : i.val = 8 + l.val) :
    rows h x (ix2 i k) = x (ix3 0 l k) := by
  unfold rows
  rw [View.readCov_eq_canon']
  have e : (Rect.unit (s := S264x1024) ![0, 0] ![264, 1024] inb_S264x1024_S264x1024_0_0).toLoadRect.idx (ix2 i k)
      = (Rect.unit (s := S264x1024) ![8, 0] ![256, 1024] inb_S264x1024_S256x1024_8_0).emb (ix2 l k) := by
    blk_ext [hi] <;> first | exact (show 0 + 1 * i.val = 8 + l.val by omega) | exact (show 0 + 1 * k.val = k.val by omega)
  show View.canon _ _ = _
  rw [e]
  refine (View.canon_cons_emb _ _ _ _).trans ?_
  pointwise [k0_pay5]

theorem canon_hi (h : Vec Ideal S8x1024 .f32) (x : Vec Ideal S1x256x1024 .f32) (i : Fin 8) (k : Fin 1024) :
    View.canon [⟨Rect.unit (s := S264x1024) ![8, 0] ![256, 1024] inb_S264x1024_S256x1024_8_0, k0_pay5 x⟩,
      ⟨Rect.unit (s := S264x1024) ![0, 0] ![8, 1024] inb_S264x1024_S8x1024_0_0, h⟩] (ix2 ⟨256 + i.val, by omega⟩ k) = x (ix3 0 ⟨248 + i.val, by omega⟩ k) := by
  have e : (ix2 ⟨256 + i.val, by omega⟩ k : S264x1024.Idx)
      = (Rect.unit (s := S264x1024) ![8, 0] ![256, 1024] inb_S264x1024_S256x1024_8_0).emb (ix2 ⟨248 + i.val, by omega⟩ k) := by
    blk_ext []
  rw [e]
  refine (View.canon_cons_emb _ _ _ _).trans ?_
  pointwise [k0_pay5]

theorem rows_lo (h : Vec Ideal S8x1024 .f32) (x : Vec Ideal S1x256x1024 .f32) (i : Fin 264) (l : Fin 8) (k : Fin 1024) (hi : i.val = l.val) :
    rows h x (ix2 i k) = h (ix2 l k) := by
  unfold rows
  rw [View.readCov_eq_canon']
  have e : (Rect.unit (s := S264x1024) ![0, 0] ![264, 1024] inb_S264x1024_S264x1024_0_0).toLoadRect.idx (ix2 i k)
      = (Rect.unit (s := S264x1024) ![0, 0] ![8, 1024] inb_S264x1024_S8x1024_0_0).emb (ix2 l k) := by
    blk_ext [hi] <;> first | exact (show 0 + 1 * i.val = l.val by omega) | exact (show 0 + 1 * k.val = k.val by omega)
  show View.canon _ _ = _
  rw [e]
  refine (View.canon_cons_of_not_mem _ _ ?_).trans (View.canon_cons_emb _ _ _ _)
  intro hm
  have := (Rect.mem_set_unit (inb := inb_S264x1024_S256x1024_8_0)).1 hm 0
  have hl := l.isLt
  have h8 : 8 ≤ 0 + 1 * l.val := this.1
  omega

theorem last8_at (p : Vec Ideal S264x1024 .f32) (i : Fin 8) (k : Fin 1024) : last8 p (ix2 i k) = p (ix2 ⟨256 + i.val, by omega⟩ k) := by
  unfold last8
  rw [show View.read (Elt Ideal) (View.whole cc0_scratch0) ((Memref.isWhole_whole cc0_scratch0).unread p) = p from (Memref.isWhole_whole cc0_scratch0).read_unread p, View.ld_unit]
  pointwise [k0_pay4]

theorem grp0_at (p : Vec Ideal S2x128x256 .f32) (n : Fin 128) (k : Fin 256) : grp0 p (ix3 0 n k) = p (ix3 0 n k) := by
  unfold grp0
  rw [show View.read (Elt Ideal) (View.whole cc0_scratch1) ((Memref.isWhole_whole cc0_scratch1).unread p) = p from (Memref.isWhole_whole cc0_scratch1).read_unread p, View.ld_unit]
  pointwise []

theorem grp1_at (p : Vec Ideal S2x128x256 .f32) (n : Fin 128) (k : Fin 256) : grp1 p (ix3 0 n k) = p (ix3 1 n k) := by
  unfold grp1
  rw [show View.read (Elt Ideal) (View.whole cc0_scratch1) ((Memref.isWhole_whole cc0_scratch1).unread p) = p from (Memref.isWhole_whole cc0_scratch1).read_unread p, View.ld_unit]
  pointwise []

theorem canon_st1 (a b : Vec Ideal S1x128x256 .f32) (L : List (View.Piece (Elt Ideal) S2x128x256 .f32)) (n : Fin 128) (k : Fin 256) :
    View.canon (⟨Rect.unit (s := S2x128x256) ![1, 0, 0] ![1, 128, 256] inb_S2x128x256_S1x128x256_1_0_0, a⟩
      :: ⟨Rect.unit (s := S2x128x256) ![0, 0, 0] ![1, 128, 256] inb_S2x128x256_S1x128x256_0_0_0, b⟩ :: L) (ix3 1 n k) = a (ix3 0 n k) := by
  have e : (ix3 1 n k : S2x128x256.Idx)
      = (Rect.unit (s := S2x128x256) ![1, 0, 0] ![1, 128, 256] inb_S2x128x256_S1x128x256_1_0_0).emb (ix3 0 n k) := by
    blk_ext []
  rw [e]
  exact View.canon_cons_emb _ _ _ _

theorem canon_st0 (a b : Vec Ideal S1x128x256 .f32) (L : List (View.Piece (Elt Ideal) S2x128x256 .f32)) (n : Fin 128) (k : Fin 256) :
    View.canon (⟨Rect.unit (s := S2x128x256) ![1, 0, 0] ![1, 128, 256] inb_S2x128x256_S1x128x256_1_0_0, a⟩
      :: ⟨Rect.unit (s := S2x128x256) ![0, 0, 0] ![1, 128, 256] inb_S2x128x256_S1x128x256_0_0_0, b⟩ :: L) (ix3 0 n k) = b (ix3 0 n k) := by
  have e : (ix3 0 n k : S2x128x256.Idx)
      = (Rect.unit (s := S2x128x256) ![0, 0, 0] ![1, 128, 256] inb_S2x128x256_S1x128x256_0_0_0).emb (ix3 0 n k) := by
    blk_ext []
  rw [e]
  refine (View.canon_cons_of_not_mem _ _ ?_).trans (View.canon_cons_emb _ _ _ _)
  intro hm
  have := (Rect.mem_set_unit (inb := inb_S2x128x256_S1x128x256_1_0_0)).1 hm 0
  have h8 : 1 ≤ 0 + 1 * 0 := this.1
  omega

theorem pay3_at (g : Fin 2) (n : Fin 128) (k : Fin 256) : k0_pay3 (F := Ideal) (ix3 g n k) = 0 := by
  pointwise [k0_pay3]

theorem pay2_at (n : Fin 8) (k : Fin 1024) : k0_pay2 (F := Ideal) (ix2 n k) = 0 := by
  pointwise [k0_pay2]

theorem zero0 (n : Fin 128) (k : Fin 256) : ((View.whole cc0_scratch1).readCov
    [⟨Rect.unit (s := S2x128x256) ![0, 0, 0] ![2, 128, 256] inb_S2x128x256_S2x128x256_0_0_0, k0_pay3 (F := Ideal)⟩]
    (Rect.unit (s := S2x128x256) ![0, 0, 0] ![1, 128, 256] inb_S2x128x256_S1x128x256_0_0_0).toLoadRect : Vec Ideal S1x128x256 .f32) (ix3 0 n k) = (0 : EReal) := by
  rw [View.readCov_eq_canon']
  have e : (Rect.unit (s := S2x128x256) ![0, 0, 0] ![1, 128, 256] inb_S2x128x256_S1x128x256_0_0_0).toLoadRect.idx (ix3 0 n k)
      = (Rect.unit (s := S2x128x256) ![0, 0, 0] ![2, 128, 256] inb_S2x128x256_S2x128x256_0_0_0).emb (ix3 0 n k) := by
    blk_ext [] <;> first | rfl | exact (show 0 + 1 * n.val = n.val by omega) | exact (show 0 + 1 * k.val = k.val by omega)
  show View.canon _ _ = _
  rw [e]
  exact (View.canon_cons_emb _ _ _ _).trans (pay3_at 0 n k)

theorem zero1 (a : Vec Ideal S1x128x256 .f32) (n : Fin 128) (k : Fin 256) : ((View.whole cc0_scratch1).readCov
    [⟨Rect.unit (s := S2x128x256) ![0, 0, 0] ![1, 128, 256] inb_S2x128x256_S1x128x256_0_0_0, a⟩,
      ⟨Rect.unit (s := S2x128x256) ![0, 0, 0] ![2, 128, 256] inb_S2x128x256_S2x128x256_0_0_0, k0_pay3 (F := Ideal)⟩]
    (Rect.unit (s := S2x128x256) ![1, 0, 0] ![1, 128, 256] inb_S2x128x256_S1x128x256_1_0_0).toLoadRect : Vec Ideal S1x128x256 .f32) (ix3 0 n k) = (0 : EReal) := by
  rw [View.readCov_eq_canon']
  have e : (Rect.unit (s := S2x128x256) ![1, 0, 0] ![1, 128, 256] inb_S2x128x256_S1x128x256_1_0_0).toLoadRect.idx (ix3 0 n k)
      = (Rect.unit (s := S2x128x256) ![0, 0, 0] ![2, 128, 256] inb_S2x128x256_S2x128x256_0_0_0).emb (ix3 1 n k) := by
    blk_ext [] <;> first | rfl | exact (show 0 + 1 * n.val = n.val by omega) | exact (show 0 + 1 * k.val = k.val by omega)
  show View.canon _ _ = _
  rw [e]
  refine (View.canon_cons_of_not_mem _ _ ?_).trans ((View.canon_cons_emb _ _ _ _).trans (pay3_at 1 n k))
  intro hm
  have := (Rect.mem_set_unit (inb := inb_S2x128x256_S1x128x256_0_0_0)).1 hm 0
  have h8 : 0 + 1 * 1 < 0 + 1 := this.2
  omega

variable (m : (ℓ : Loc nD τ sig) → Buf (Elt Ideal) ℓ)

theorem out_A (c : Dev nD) (t : Fin cfg0.N) (h0 : t.val % 32 = 0) (h1 : ¬1 ≤ t.val % 32) : ∃ s0 s1, (∀ n k, s0 (ix3 0 n k) = 0) ∧ (∀ n k, s1 (ix3 0 n k) = 0) ∧ (outsAt0 m c t.val t.isLt).1
    = wout (rows (k0_pay2 (F := Ideal)) (iblk m c 0 t)) (iblk m c 1 t) (iblk m c 2 t) (iblk m c 3 t) (iblk m c 4 t) (iblk m c 5 t) (iblk m c 6 t)
      (iblk m c 7 t) (iblk m c 8 t) (iblk m c 9 t) s0 s1 := by
  rw [outsAt0_A m c t h0 h1]
  frame_out
  refine ⟨_, _, ?_, ?_, rfl⟩
  · intro n k
    exact zero0 n k
  · intro n k
    exact zero1 _ n k

theorem buf_A (c : Dev nD) (t : Fin cfg0.N) (h0 : t.val % 32 = 0) (h1 : ¬1 ≤ t.val % 32) : (outsAt0 m c t.val t.isLt).2.1
    = View.canon [⟨Rect.unit (s := S264x1024) ![8, 0] ![256, 1024] inb_S264x1024_S256x1024_8_0, k0_pay5 (iblk m c 0 t)⟩,
      ⟨Rect.unit (s := S264x1024) ![0, 0] ![8, 1024] inb_S264x1024_S8x1024_0_0, k0_pay2 (F := Ideal)⟩] := by
  rw [outsAt0_A m c t h0 h1]
  frame_out

theorem st_A (c : Dev nD) (t : Fin cfg0.N) (h0 : t.val % 32 = 0) (h1 : ¬1 ≤ t.val % 32) : ∃ s0 s1 L, (∀ n k, s0 (ix3 0 n k) = 0) ∧ (∀ n k, s1 (ix3 0 n k) = 0) ∧ (outsAt0 m c t.val t.isLt).2.2
    = View.canon (⟨Rect.unit (s := S2x128x256) ![1, 0, 0] ![1, 128, 256] inb_S2x128x256_S1x128x256_1_0_0, ns1 (rows (k0_pay2 (F := Ideal)) (iblk m c 0 t)) (iblk m c 2 t) (iblk m c 3 t) (iblk m c 4 t) (iblk m c 5 t) (iblk m c 6 t)
      (iblk m c 7 t) s1⟩ :: ⟨Rect.unit (s := S2x128x256) ![0, 0, 0] ![1, 128, 256] inb_S2x128x256_S1x128x256_0_0_0, ns0 (rows (k0_pay2 (F := Ideal)) (iblk m c 0 t)) (iblk m c 2 t) (iblk m c 3 t) (iblk m c 4 t) (iblk m c 5 t) (iblk m c 6 t)
      (iblk m c 7 t) s0⟩ :: L) := by
  rw [outsAt0_A m c t h0 h1]
  frame_out
  refine ⟨_, _, _, ?_, ?_, rfl⟩
  · intro n k
    exact zero0 n k
  · intro n k
    exact zero1 _ n k

theorem out_B (c : Dev nD) (t : Fin cfg0.N) (h0 : ¬t.val % 32 = 0) (h1 : 1 ≤ t.val % 32) (p) (hp : p = outsAt0 m c (t.val - 1) (by omega)) : (outsAt0 m c t.val t.isLt).1
    = wout (rows (last8 p.2.1) (iblk m c 0 t)) (iblk m c 1 t) (iblk m c 2 t) (iblk m c 3 t) (iblk m c 4 t) (iblk m c 5 t) (iblk m c 6 t)
      (iblk m c 7 t) (iblk m c 8 t) (iblk m c 9 t) (grp0 p.2.2) (grp1 p.2.2) := by
  subst hp
  rw [outsAt0_B m c t h0 h1]
  frame_out
  rfl

theorem buf_B (c : Dev nD) (t : Fin cfg0.N) (h0 : ¬t.val % 32 = 0) (h1 : 1 ≤ t.val % 32) : ∃ h, (outsAt0 m c t.val t.isLt).2.1
    = View.canon [⟨Rect.unit (s := S264x1024) ![8, 0] ![256, 1024] inb_S264x1024_S256x1024_8_0, k0_pay5 (iblk m c 0 t)⟩,
      ⟨Rect.unit (s := S264x1024) ![0, 0] ![8, 1024] inb_S264x1024_S8x1024_0_0, h⟩] := by
  rw [outsAt0_B m c t h0 h1]
  frame_out
  exact ⟨_, rfl⟩

theorem st_B (c : Dev nD) (t : Fin cfg0.N) (h0 : ¬t.val % 32 = 0) (h1 : 1 ≤ t.val % 32) (p) (hp : p = outsAt0 m c (t.val - 1) (by omega)) : (outsAt0 m c t.val t.isLt).2.2
    = View.canon [⟨Rect.unit (s := S2x128x256) ![1, 0, 0] ![1, 128, 256] inb_S2x128x256_S1x128x256_1_0_0, ns1 (rows (last8 p.2.1) (iblk m c 0 t)) (iblk m c 2 t) (iblk m c 3 t) (iblk m c 4 t) (iblk m c 5 t) (iblk m c 6 t)
      (iblk m c 7 t) (grp1 p.2.2)⟩, ⟨Rect.unit (s := S2x128x256) ![0, 0, 0] ![1, 128, 256] inb_S2x128x256_S1x128x256_0_0_0, ns0 (rows (last8 p.2.1) (iblk m c 0 t)) (iblk m c 2 t) (iblk m c 3 t) (iblk m c 4 t) (iblk m c 5 t) (iblk m c 6 t)
      (iblk m c 7 t) (grp0 p.2.2)⟩] := by
  subst hp
  rw [outsAt0_B m c t h0 h1]
  frame_out
  rfl

end Cert.Proof.Ssd.Ker

end
-- ==== Proof.SsdChunk.lean ====
/- The scan's chunk beside the reference's: the same sums. -/
module

public import proofs.«01_k».proof.Proof.SsdRefAt
public import proofs.«01_k».proof.Proof.SsdBuf

@[expose] public section

set_option maxRecDepth 16384

noncomputable section

namespace Cert.Proof.Ssd.Ker

open Idealize.ShloMosaic Idealize.ShloMosaic.TcCoe Idealize.SL.Sem
open Cert.Kernel5Ideal Cert.Kernel5Ideal.Gen

/-- A power of two, by the exponential. -/
theorem exp2_eq (x : ℝ) : Ideal.exp2 (x : EReal) = Ideal.exp ((x * Real.log 2 : ℝ) : EReal) := by
  rw [Ideal.exp2_coe, Ideal.exp_coe]
  refine congrArg _ ?_
  show (2 : ℝ) ^ x = _
  rw [Real.rpow_def_of_pos (by norm_num), mul_comm]

theorem exp2_sub (x y : ℝ) : Ideal.exp2 ((x : EReal) - (y : EReal))
    = Ideal.exp (((x * Real.log 2 : ℝ) : EReal) - ((y * Real.log 2 : ℝ) : EReal)) := by
  rw [← EReal.coe_sub, ← EReal.coe_sub, exp2_eq, sub_mul]

/-- The column of value `p` of head `r` of group `g`. -/
def col (g : Fin 2) (r : Fin 4) (p : Fin 64) : Fin 512 := ⟨256 * g.val + 64 * r.val + p.val, by omega⟩

/-- A head's column of a group's state. -/
def scol (r : Fin 4) (p : Fin 64) : Fin 256 := ⟨64 * r.val + p.val, by omega⟩

/-- A group's state. -/
def pickg (g : Fin 2) (s0 s1 : Vec Ideal S1x128x256 .f32) : Vec Ideal S1x128x256 .f32 := if g = 0 then s0 else s1

section
variable (u : FVec Ideal Reference5Ideal.S2x8192x1024 .f32) (dt : FVec Ideal Reference5Ideal.S2x8192x8 .f32)
  (sA : FVec Ideal Reference5Ideal.S2x32x256x8 .f32) (K : Fin 256 → Fin 8 → ℝ) (b : Fin 2) (j : Fin 32)

theorem yout_eq (X4 : FVec Ideal Reference5Ideal.S32x2x2x4x64x128 .f32) (v45 v46 : FVec Ideal S256x256 .f32) (v87 : FVec Ideal S256x128 .f32) (v115 : FVec Ideal S256x512 .f32) (v116 : FVec Ideal S128x256 .f32)
    (v117 : FVec Ideal S256x512 .f32) (s0 s1 : Vec Ideal S1x128x256 .f32)
    (hb : ∀ l g n, v45 (ix2 l (gi g n)) = u (ix3 b (tok j l) ⟨512 + (128 * g.val + n.val), by omega⟩))
    (hc : ∀ l g n, v46 (ix2 l (gi g n)) = u (ix3 b (tok j l) ⟨768 + (128 * g.val + n.val), by omega⟩))
    (h87 : ∀ l (h : Fin 8), v87 (ix2 l ⟨72 + h.val, by omega⟩) = (K l h : EReal))
    (h116 : ∀ l (h : Fin 8), v116 (ix2 ⟨72 + h.val, by omega⟩ l) = (K l h : EReal))
    (h115 : ∀ l g r p, v115 (ix2 l (col g r p)) = (K l (hd g r) : EReal))
    (h117 : ∀ l g r p, v117 (ix2 l (col g r p)) = u (ix3 b (tok j l) ⟨64 * (hd g r).val + p.val, by omega⟩) * dt (ix3 b (tok j l) (hd g r)))
    (hs : ∀ l h, sA (ix4 b j l h) = ((K l h * Real.log 2 : ℝ) : EReal))
    (hst : ∀ g r p n, pickg g s0 s1 (ix3 0 n (scol r p)) = X4 (ix6 j b g r p n))
    (l : Fin 256) (g : Fin 2) (r : Fin 4) (p : Fin 64) :
    yout v45 v46 v87 v115 v116 v117 s0 s1 (ix2 l (col g r p))
      = diag (bc u) (cc u) (lmat sA) (xdt (xh u) dt) (ix6 b j l g r p) + off X4 (cc u) sA (ix6 b j l g r p) := by
  have hg := g.isLt
  have hr := r.isLt
  have hp := p.isLt
  have key : ∀ (q : ℕ) (h : q < 512) (g : Fin 2) (e : Fin 128), g.val = q / 256 → e.val = 72 + q / 64 →
      headv v45 v46 v87 v116 v117 l g e ⟨q, h⟩
        = (fun q => if h : q < 512 then headv v45 v46 v87 v116 v117 l ⟨q / 256, by omega⟩ ⟨72 + q / 64, by omega⟩ ⟨q, h⟩ else 0) q := by
    intro q h g e hg he
    refine Eq.trans ?_ (dif_pos h).symm
    exact congrArg₂ (fun g e => headv v45 v46 v87 v116 v117 l g e ⟨q, h⟩) (Fin.ext hg) (Fin.ext he)
  unfold yout
  rw [y_at v45 v46 v87 v115 v117 v116 _ _ _ _ _ _ s0 s1 l (col g r p)
    (fun q => if h : q < 512 then headv v45 v46 v87 v116 v117 l ⟨q / 256, by omega⟩ ⟨72 + q / 64, by omega⟩ ⟨q, h⟩ else 0)
    (fun p => (h0_at _ _ _ _ _ _ p).trans (key _ _ _ _ (by show 0 = p.val / 256; omega) (by show 72 = 72 + p.val / 64; omega)))
    (fun p => (h1_at _ _ _ _ _ _ p).trans (key _ _ _ _ (by show 0 = (64 + p.val) / 256; omega) (by show 73 = 72 + (64 + p.val) / 64; omega)))
    (fun p => (h2_at _ _ _ _ _ _ p).trans (key _ _ _ _ (by show 0 = (128 + p.val) / 256; omega) (by show 74 = 72 + (128 + p.val) / 64; omega)))
    (fun p => (h3_at _ _ _ _ _ _ p).trans (key _ _ _ _ (by show 0 = (192 + p.val) / 256; omega) (by show 75 = 72 + (192 + p.val) / 64; omega)))
    (fun p => (h4_at _ _ _ _ _ _ p).trans (key _ _ _ _ (by show 1 = (256 + p.val) / 256; omega) (by show 76 = 72 + (256 + p.val) / 64; omega)))
    (fun p => (Finset.sum_congr rfl fun x _ => congrArg (· * _) (h5_at _ _ _ _ _ _)).trans (key (320 + p.val) (by omega) 1 77 (by show 1 = (320 + p.val) / 256; omega) (by show 77 = 72 + (320 + p.val) / 64; omega)))
    (fun p => key (384 + p.val) (by omega) 1 78 (by show 1 = (384 + p.val) / 256; omega) (by show 78 = 72 + (384 + p.val) / 64; omega))
    (fun p => key (448 + p.val) (by omega) 1 79 (by show 1 = (448 + p.val) / 256; omega) (by show 79 = 72 + (448 + p.val) / 64; omega))]
  have e1 : (⟨(col g r p).val / 256, by omega⟩ : Fin 2) = g := Fin.ext (by show (256 * g.val + 64 * r.val + p.val) / 256 = g.val; omega)
  have e2 : (⟨(col g r p).val % 256, by omega⟩ : Fin 256) = scol r p := Fin.ext (by show (256 * g.val + 64 * r.val + p.val) % 256 = 64 * r.val + p.val; omega)
  have e3 : (if (col g r p).val < 256 then s0 else s1) = pickg g s0 s1 := by
    unfold pickg
    refine if_congr ?_ rfl rfl
    constructor
    · intro h; exact Fin.ext (by have : 256 * g.val + 64 * r.val + p.val < 256 := h; show g.val = 0; omega)
    · rintro rfl; show 256 * 0 + 64 * r.val + p.val < 256; omega
  refine congrArg₂ (· + ·) ?_ ?_
  · refine (key (col g r p).val (col g r p).isLt g ⟨72 + (hd g r).val, by omega⟩ (by show g.val = (256 * g.val + 64 * r.val + p.val) / 256; omega) (by show 72 + (4 * g.val + r.val) = 72 + (256 * g.val + 64 * r.val + p.val) / 64; omega)).symm.trans ?_
    rw [diag_at]
    unfold headv
    refine Finset.sum_congr rfl fun x _ => ?_
    rw [mul_comm, score, lmat_at, xdt_at, xh_at, h87, h116, hs, hs, exp2_sub]
    refine congrArg₂ (· * ·) (h117 x g r p) (congrArg₂ (· * ·) (Finset.sum_congr rfl fun n _ => ?_) rfl)
    rw [bc_at, cc_at, hb, hc, mul_comm]
  · rw [off_at, h115, hs, exp2_eq, e1, e2, e3]
    refine congrArg (· * _) (Finset.sum_congr rfl fun n _ => ?_)
    rw [hc, hst, cc_at, mul_comm]

theorem st_eq (v45 : FVec Ideal S256x256 .f32) (v115 v117 : FVec Ideal S256x512 .f32) (s : EReal) (v : EReal)
    (hb : ∀ l g n, v45 (ix2 l (gi g n)) = u (ix3 b (tok j l) ⟨512 + (128 * g.val + n.val), by omega⟩))
    (h115 : ∀ l g r p, v115 (ix2 l (col g r p)) = (K l (hd g r) : EReal))
    (h117 : ∀ l g r p, v117 (ix2 l (col g r p)) = u (ix3 b (tok j l) ⟨64 * (hd g r).val + p.val, by omega⟩) * dt (ix3 b (tok j l) (hd g r)))
    (hs : ∀ l h, sA (ix4 b j l h) = ((K l h * Real.log 2 : ℝ) : EReal))
    (g : Fin 2) (r : Fin 4) (p : Fin 64) (n : Fin 128) (gn : Fin 256) (cp : Fin 512) (hgn : gn = gi g n) (hcp : cp = col g r p)
    (hv : v = s * Ideal.exp2 (v115 (ix2 255 cp)) + ∑ x : Fin 256, v45 (ix2 x gn) * (v117 (ix2 x cp)
          * Ideal.exp2 (v115 (ix2 255 cp) - v115 (ix2 x cp)))) :
    v = s * dec sA (ix4 j b g r) + sts (states sA (xdt (xh u) dt) (bc u)) (ix6 j b g r p n) := by
  subst hgn hcp
  rw [hv, dec_at, sts_at, states_at, h115, hs, exp2_eq]
  refine congrArg (_ + ·) (Finset.sum_congr rfl fun x _ => ?_)
  rw [hb, h117, h115, exp2_sub, xdt_at, xh_at, bc_at, hs, mul_comm]

end

end Cert.Proof.Ssd.Ker

end
-- ==== Proof.SsdPoint.lean ====
/- One grid point of the scan: what it writes and what it leaves, beside the reference's chunk. -/
module

public import proofs.«01_k».proof.Proof.SsdAcs
public import proofs.«01_k».proof.Proof.SsdChunk

@[expose] public section

set_option maxRecDepth 16384

noncomputable section

namespace Cert.Proof.Ssd.Ker

open Idealize.ShloMosaic Idealize.ShloMosaic.TcCoe Idealize.SL.Sem
open Cert.Kernel5Ideal Cert.Kernel5Ideal.Gen
open Cert.Proof.Ada (silu div_silu mul_silu)

/-- What a grid point's windows hold. -/
structure Reads (x : FVec Ideal Reference5Ideal.S2x8192x1024 .f32) (zz : FVec Ideal Reference5Ideal.S2x8192x512 .f32)
    (misc : FVec Ideal Reference5Ideal.S2x8192x128 .f32) (cw : FVec Ideal Reference5Ideal.S4x1024 .f32) (cb : FVec Ideal Reference5Ideal.S1024 .f32)
    (dtb aa ds : FVec Ideal Reference5Ideal.S8 .f32) (nw : FVec Ideal Reference5Ideal.S512 .f32) (b : Fin 2) (j : Fin 32)
    (x0 : Vec Ideal S1x256x1024 .f32) (x1 : Vec Ideal S1x256x512 .f32) (x2 : Vec Ideal S1x256x128 .f32) (x3 : Vec Ideal S4x1024 .f32)
    (x4 : Vec Ideal S1x1024 .f32) (x5 x6 : Vec Ideal S1x128 .f32) (x7 : Vec Ideal S128x512 .bf16) (x8 x9 : Vec Ideal S1x512 .f32) : Prop where
  h0 : ∀ l k, x0 (ix3 0 l k) = x (ix3 b (tok j l) k)
  h1 : ∀ l k, x1 (ix3 0 l k) = zz (ix3 b (tok j l) k)
  h2 : ∀ l k, x2 (ix3 0 l k) = misc (ix3 b (tok j l) k)
  h3 : ∀ i k, x3 (ix2 i k) = cw (ix2 i k)
  h4 : ∀ k, x4 (ix2 0 k) = cb (ix1 k)
  h5 : ∀ h : Fin 8, x5 (ix2 0 ⟨72 + h.val, by omega⟩) = dtb (ix1 h)
  h6 : ∀ h : Fin 8, x6 (ix2 0 ⟨72 + h.val, by omega⟩) = aa (ix1 h)
  h6' : ∀ l : Fin 128, ¬ (72 ≤ l.val ∧ l.val < 80) → x6 (ix2 0 l) = 0
  h7 : ∀ i k, x7 (ix2 i k) = if i.val = 72 + k.val / 64 then (1 : EReal) else 0
  h8 : ∀ k, x8 (ix2 0 k) = ds (ix1 ⟨k.val / 64, by omega⟩)
  h9 : ∀ k, x9 (ix2 0 k) = nw (ix1 k)

/-- The step's and the decay's arguments are numbers. -/
structure Fine (misc : FVec Ideal Reference5Ideal.S2x8192x128 .f32) (dtb aa : FVec Ideal Reference5Ideal.S8 .f32) : Prop where
  hm : ∀ (b : Fin 2) (t : Fin 8192) (h : Fin 8), ∃ r : ℝ, misc (ix3 b t ⟨72 + h.val, by omega⟩) = (r : EReal)
  hd : ∀ h : Fin 8, ∃ r : ℝ, dtb (ix1 h) = (r : EReal)
  ha : ∀ h : Fin 8, ∃ r : ℝ, aa (ix1 h) = (r : EReal)

theorem sp_real (r : ℝ) : ∃ q : ℝ, sp (r : EReal) = (q : EReal) := by
  refine ⟨max r 0 + Real.log (1 + Real.exp (-(max r (-r)))), ?_⟩
  have hpos : ¬ (1 + Real.exp (-(max r (-r))) ≤ 0) := not_le.2 (by positivity)
  unfold sp
  rw [← EReal.coe_neg, ← EReal.coe_zero, ← EReal.coe_strictMono.monotone.map_max, ← EReal.coe_strictMono.monotone.map_max,
    ← EReal.coe_neg, Ideal.exp_coe]
  show _ + Ideal.log (1 + _) = _
  rw [← EReal.coe_one, ← EReal.coe_add, Ideal.log_coe, if_neg hpos, ← EReal.coe_add]

theorem log_two : Ideal.log (Ideal.ofBits FTy.f32 0x40000000#32) = ((Real.log 2 : ℝ) : EReal) := by
  rw [show Ideal.ofBits FTy.f32 0x40000000#32 = ((2 : ℝ) : EReal) by simp [Ideal.ofBits, Ideal.ieee]; rw [← EReal.coe_mul]; norm_num, Ideal.log_coe, if_neg (by norm_num)]

section
/-- The token eight rows before row `i` of chunk `j`. -/
def prv (j : Fin 32) (i : Fin 8) : Fin 8192 := ⟨256 * j.val + i.val - 8, by omega⟩

variable {x : FVec Ideal Reference5Ideal.S2x8192x1024 .f32} {zz : FVec Ideal Reference5Ideal.S2x8192x512 .f32}
    {misc : FVec Ideal Reference5Ideal.S2x8192x128 .f32} {cw : FVec Ideal Reference5Ideal.S4x1024 .f32} {cb : FVec Ideal Reference5Ideal.S1024 .f32}
    {dtb aa ds : FVec Ideal Reference5Ideal.S8 .f32} {nw : FVec Ideal Reference5Ideal.S512 .f32} {b : Fin 2} {j : Fin 32}
    {x0 : Vec Ideal S1x256x1024 .f32} {x1 : Vec Ideal S1x256x512 .f32} {x2 : Vec Ideal S1x256x128 .f32} {x3 : Vec Ideal S4x1024 .f32}
    {x4 : Vec Ideal S1x1024 .f32} {x5 x6 : Vec Ideal S1x128 .f32} {x7 : Vec Ideal S128x512 .bf16} {x8 x9 : Vec Ideal S1x512 .f32}
    (R : Reads x zz misc cw cb dtb aa ds nw b j x0 x1 x2 x3 x4 x5 x6 x7 x8 x9) (N : Fine misc dtb aa)
    {h : Vec Ideal S8x1024 .f32} (hh : ∀ (i : Fin 8) k, h (ix2 i k) = if j.val = 0 then 0 else x (ix3 b (prv j i) k))
include R

include hh in
theorem rows_tap (l : Fin 256) (k : Fin 1024) (d : ℕ) (hd : d ≤ 3) (i : Fin 264) (hi : i.val + d = l.val + 8) :
    rows h x0 (ix2 i k) = tap x b (tok j l) k d := by
  have hl := l.isLt
  unfold tap
  by_cases hdl : d ≤ l.val
  · rw [rows_hi h x0 i ⟨l.val - d, by omega⟩ k (by show i.val = 8 + (l.val - d); omega), R.h0, if_pos (by show d ≤ 256 * j.val + l.val; omega)]
    refine congrArg x ?_
    refine congrArg (fun t => ix3 b t k) (Fin.ext ?_)
    show 256 * j.val + (l.val - d) = 256 * j.val + l.val - d
    omega
  · rw [rows_lo h x0 i ⟨8 + l.val - d, by omega⟩ k (by show i.val = 8 + l.val - d; omega), hh]
    by_cases hj : j.val = 0
    · rw [if_pos hj, if_neg (by show ¬ d ≤ 256 * j.val + l.val; omega)]
    · rw [if_neg hj, if_pos (by show d ≤ 256 * j.val + l.val; omega)]
      refine congrArg (fun t => x (ix3 b t k)) (Fin.ext ?_)
      show 256 * j.val + (8 + l.val - d) - 8 = 256 * j.val + l.val - d
      omega

include hh in
theorem u_at (l : Fin 256) (k : Fin 1024) : k0_pay7 (F := Ideal) (rows h x0) (cpart (rows h x0) x3 x4) (w3 x3) (ix2 l k)
    = act (conv x cw cb) (ix3 b (tok j l) k) := by
  have e : ∀ (i : Fin 4) (inb), (View.ld x3 (Rect.unit (s := S4x1024) ![i.val, 0] ![1, 1024] inb) : Vec Ideal S1x1024 .f32) (ix2 0 k) = cw (ix2 i k) := by
    intro i inb
    rw [View.ld_unit, ← R.h3]
    pointwise []
  unfold cpart w3
  rw [conv_at, act_at, Cert.Proof.Ssd.conv_at, rows_tap R hh l k 3 (by omega) ⟨l.val + 5, by omega⟩ rfl, rows_tap R hh l k 2 (by omega) ⟨l.val + 6, by omega⟩ rfl,
    rows_tap R hh l k 1 (by omega) ⟨l.val + 7, by omega⟩ rfl, rows_tap R hh l k 0 (by omega) ⟨l.val + 8, by omega⟩ rfl]
  have e0 := e 0 inb_S4x1024_S1x1024_0_0
  have e1 := e 1 inb_S4x1024_S1x1024_1_0
  have e2 := e 2 inb_S4x1024_S1x1024_2_0
  have e3 := e 3 inb_S4x1024_S1x1024_3_0
  refine congrArg silu ?_
  have t0 : tap x b (tok j l) k 0 = x (ix3 b (tok j l) k) := if_pos (Nat.zero_le _)
  rw [t0, R.h4]
  refine (congrArg₂ (· + ·) (congrArg₂ (· + ·) (congrArg₂ (· + ·) (congrArg₂ (· + ·) rfl (congrArg (_ * ·) e0)) (congrArg (_ * ·) e1)) (congrArg (_ * ·) e2)) (congrArg (_ * ·) e3)).trans ?_
  ac_rfl

include hh in
theorem vx_at (l : Fin 256) (g : Fin 2) (r : Fin 4) (p : Fin 64) : vx (rows h x0) x3 x4 (ix2 l (col g r p))
    = act (conv x cw cb) (ix3 b (tok j l) ⟨64 * (hd g r).val + p.val, by omega⟩) := by
  rw [← u_at R hh]
  pointwise [vx, k0_pay8]
  refine congrArg _ ?_
  blk_ext [hd, col]

include hh in
theorem vb_at (l : Fin 256) (g : Fin 2) (n : Fin 128) : vb (rows h x0) x3 x4 (ix2 l (gi g n))
    = act (conv x cw cb) (ix3 b (tok j l) ⟨512 + (128 * g.val + n.val), by omega⟩) := by
  rw [← u_at R hh]
  pointwise [vb, k0_pay9]
  rfl

include hh in
theorem vc_at (l : Fin 256) (g : Fin 2) (n : Fin 128) : vc (rows h x0) x3 x4 (ix2 l (gi g n))
    = act (conv x cw cb) (ix3 b (tok j l) ⟨768 + (128 * g.val + n.val), by omega⟩) := by
  rw [← u_at R hh]
  pointwise [vc, k0_pay10]
  rfl

theorem dt_at (l : Fin 256) (h : Fin 8) : k0_pay11 (F := Ideal) x2 x5 (ix2 l ⟨72 + h.val, by omega⟩) = step (raw misc dtb) (ix3 b (tok j l) h) := by
  rw [pay11_at, step_at, raw_at, R.h2, R.h5]

omit R in
include N in
theorem dt_real (t : Fin 8192) (h : Fin 8) : ∃ q : ℝ, step (raw misc dtb) (ix3 b t h) = (q : EReal) := by
  obtain ⟨r, hr⟩ := N.hm b t h
  obtain ⟨s, hs⟩ := N.hd h
  rw [step_at, raw_at, hr, hs, ← EReal.coe_add]
  exact sp_real _

/-- The decay's increments, as numbers. -/
def incr (x2 : Vec Ideal S1x256x128 .f32) (x5 x6 : Vec Ideal S1x128 .f32) (l : Fin 256) (k : Fin 128) : ℝ := (k0_pay12 (F := Ideal) x2 x5 x6 (ix2 l k)).toReal

theorem p12_in (l : Fin 256) (h : Fin 8) : k0_pay12 (F := Ideal) x2 x5 x6 (ix2 l ⟨72 + h.val, by omega⟩) = step (raw misc dtb) (ix3 b (tok j l) h) * aa (ix1 h) := by
  rw [pay12_at, ← pay11_at, dt_at R, R.h6]

include N in
theorem p12_real (l : Fin 256) (k : Fin 128) : k0_pay12 (F := Ideal) x2 x5 x6 (ix2 l k) = (incr x2 x5 x6 l k : EReal) := by
  unfold incr
  by_cases hk : 72 ≤ k.val ∧ k.val < 80
  · obtain ⟨h, e⟩ : ∃ h : Fin 8, k = ⟨72 + h.val, by omega⟩ := ⟨⟨k.val - 72, by omega⟩, Fin.ext (by show k.val = 72 + (k.val - 72); omega)⟩
    obtain ⟨q, hq⟩ := dt_real (b := b) N (tok j l) h
    obtain ⟨s, hs⟩ := N.ha h
    rw [e, p12_in R, hq, hs, ← EReal.coe_mul, EReal.toReal_coe]
  · rw [pay12_at, R.h6' k hk, mul_zero, EReal.toReal_zero, EReal.coe_zero]

/-- The running decay of a head. -/
def run (x2 : Vec Ideal S1x256x128 .f32) (x5 x6 : Vec Ideal S1x128 .f32) (l : Fin 256) (h : Fin 8) : ℝ := cs (incr x2 x5 x6) l ⟨72 + h.val, by omega⟩

include N in
theorem lane_at (l : Fin 256) (k : Fin 128) : lane x2 x5 x6 (ix2 l k) = (cs (incr x2 x5 x6) l k : EReal) :=
  pay18_at _ _ _ _ (p12_real R N) (fun l k => by rw [← p12_real R N]; rfl)
    (fun l k => by rw [← p12_real R N]; rfl) l k

include N in
theorem lanet_at (l : Fin 256) (k : Fin 128) : lanet x2 x5 x6 (ix2 k l) = (cs (incr x2 x5 x6) l k : EReal) := by
  rw [← lane_at R N]
  pointwise [lanet, lane, k0_pay20]

theorem p15_at (i : Fin 128) (k : Fin 512) : k0_pay15 (F := Ideal) x7 (ix2 i k) = if i.val = 72 + k.val / 64 then (1 : EReal) else 0 := by
  rw [← R.h7]
  pointwise [k0_pay15]

include N in
theorem cols_at (l : Fin 256) (g : Fin 2) (r : Fin 4) (p : Fin 64) : cols x2 x5 x6 x7 (ix2 l (col g r p)) = (run x2 x5 x6 l (hd g r) : EReal) := by
  unfold cols run
  rw [pay19_at _ _ _ _ _ (cs (incr x2 x5 x6)) (lane_at R N) (p15_at R)]
  refine congrArg (fun k => ((cs (incr x2 x5 x6) l k : ℝ) : EReal)) (Fin.ext ?_)
  show 72 + (256 * g.val + 64 * r.val + p.val) / 64 = 72 + (4 * g.val + r.val)
  omega

include N hh in
theorem vxdt_at (l : Fin 256) (g : Fin 2) (r : Fin 4) (p : Fin 64) : vxdt x2 x5 x7 (vx (rows h x0) x3 x4) (ix2 l (col g r p))
    = act (conv x cw cb) (ix3 b (tok j l) ⟨64 * (hd g r).val + p.val, by omega⟩) * step (raw misc dtb) (ix3 b (tok j l) (hd g r)) := by
  unfold vxdt
  rw [pay21_at _ _ _ (fun l h => by
    obtain ⟨q, hq⟩ := dt_real (b := b) N (tok j l) h
    rw [dt_at R, hq, ← EReal.coe_sub, sub_self, EReal.coe_zero]) (p15_at R), vx_at R hh, ← dt_at R]
  refine congrArg (fun k => _ * k0_pay11 (F := Ideal) x2 x5 (ix2 l k)) (Fin.ext ?_)
  show 72 + (256 * g.val + 64 * r.val + p.val) / 64 = 72 + (4 * g.val + r.val)
  omega

include N in
theorem acs_run (l : Fin 256) (h : Fin 8) : acs aa (step (raw misc dtb)) (ix4 b j l h) = ((run x2 x5 x6 l h * Real.log 2 : ℝ) : EReal) := by
  rw [acs_at, run, cs, Finset.sum_mul, coe_sum]
  refine Finset.sum_congr rfl fun s _ => ?_
  obtain ⟨a, ha⟩ := N.ha h
  obtain ⟨q, hq⟩ := dt_real (b := b) N (tok j s) h
  split_ifs
  · rw [incr, p12_in R, hq, ha, log_two, ← EReal.coe_mul, ← EReal.coe_mul, ← EReal.coe_mul, EReal.toReal_coe]
    refine congrArg _ ?_
    ring
  · rw [zero_mul, EReal.coe_zero]

omit R in
theorem col_of (k : Fin 512) : ∃ g r p, k = col g r p :=
  ⟨⟨k.val / 256, by omega⟩, ⟨k.val % 256 / 64, by omega⟩, ⟨k.val % 64, by omega⟩, Fin.ext (by show k.val = 256 * (k.val / 256) + 64 * (k.val % 256 / 64) + k.val % 64; omega)⟩

include N hh in
theorem wout_at (X4 : FVec Ideal Reference5Ideal.S32x2x2x4x64x128 .f32) (s0 s1 : Vec Ideal S1x128x256 .f32)
    (hst : ∀ g r p n, pickg g s0 s1 (ix3 0 n (scol r p)) = X4 (ix6 j b g r p n)) (l : Fin 256) (k : Fin 512) :
    wout (rows h x0) x1 x2 x3 x4 x5 x6 x7 x8 x9 s0 s1 (ix3 0 l k)
      = res (gate (tot (diag (bc (act (conv x cw cb))) (cc (act (conv x cw cb))) (lmat (acs aa (step (raw misc dtb)))) (xdt (xh (act (conv x cw cb))) (step (raw misc dtb))))
          (off X4 (cc (act (conv x cw cb))) (acs aa (step (raw misc dtb)))) (xh (act (conv x cw cb))) ds) zz) nw (ix3 b (tok j l) k) := by
  unfold wout
  rw [pay1_at, res_at]
  refine congrArg₂ (fun f w => rms f w k) (funext fun k => ?_) (funext fun k => R.h9 k)
  obtain ⟨g, r, p, rfl⟩ := col_of k
  rw [gate_at, R.h1]
  refine congrArg (· * _) ?_
  refine Eq.trans ?_ (tot_at _ _ _ _ b j l g r p).symm
  refine congrArg₂ (· + ·) (yout_eq (act (conv x cw cb)) (step (raw misc dtb)) (acs aa (step (raw misc dtb))) (run x2 x5 x6) b j X4 _ _ _ _ _ _ s0 s1
    (vb_at R hh) (vc_at R hh) (fun l h => lane_at R N l _) (fun l h => lanet_at R N l _) (cols_at R N) (vxdt_at R N hh) (acs_run R N) hst l g r p) ?_
  rw [vx_at R hh, R.h8, xh_at]
  refine congrArg (fun k => _ * ds (ix1 k)) (Fin.ext ?_)
  show (256 * g.val + 64 * r.val + p.val) / 64 = 4 * g.val + r.val
  omega

include N hh in
theorem ns_at (s0 s1 : Vec Ideal S1x128x256 .f32) (g : Fin 2) (r : Fin 4) (p : Fin 64) (n : Fin 128) :
    pickg g (ns0 (rows h x0) x2 x3 x4 x5 x6 x7 s0) (ns1 (rows h x0) x2 x3 x4 x5 x6 x7 s1) (ix3 0 n (scol r p))
      = pickg g s0 s1 (ix3 0 n (scol r p)) * dec (acs aa (step (raw misc dtb))) (ix4 j b g r)
        + sts (states (acs aa (step (raw misc dtb))) (xdt (xh (act (conv x cw cb))) (step (raw misc dtb))) (bc (act (conv x cw cb)))) (ix6 j b g r p n) := by
  have key := fun v s gn cp => st_eq (act (conv x cw cb)) (step (raw misc dtb)) (acs aa (step (raw misc dtb))) (run x2 x5 x6) b j _ _ _ s v
    (vb_at R hh) (cols_at R N) (vxdt_at R N hh) (acs_run R N) g r p n gn cp
  by_cases hg : g = 0
  · subst hg
    exact key _ _ _ _ (Fin.ext (show n.val = 128 * 0 + n.val by omega)) (Fin.ext (show 64 * r.val + p.val = 256 * 0 + 64 * r.val + p.val by omega))
      (st0_at _ _ _ _ _ _ _ _ s0 n (scol r p))
  · obtain rfl : g = 1 := by omega
    exact key _ _ _ _ (Fin.ext (show 128 + n.val = 128 * 1 + n.val by omega)) (Fin.ext (show 256 + (64 * r.val + p.val) = 256 * 1 + 64 * r.val + p.val by omega))
      (st1_at _ _ _ _ _ _ _ _ s1 n (scol r p))

end

end Cert.Proof.Ssd.Ker

end
-- ==== Proof.SsdLoop.lean ====
/- The scan's reference program at its end: the stages of its arguments. -/
module

public import proofs.«01_k».proof.Proof.SsdRef
public import Idealize.ShloMosaic.Lib.WordCmp

@[expose] public section

set_option maxRecDepth 16384

noncomputable section

namespace Cert.Proof.Ssd

open Idealize.ShloMosaic Idealize.ShloMosaic.TcCoe Idealize.SL.Sem
open Cert.Reference5Ideal Cert.Reference5Ideal.Gen Cert.Reference5Ideal.Value
open Idealize.ShloMosaic.Tactic Idealize.ShloMosaic.StableHlo

variable (W : Valuation τ sig (Elt Ideal))

theorem post_at : afterL postI W (Proc.devRef .tc main_v127)
    = res (gate (tot (W (Proc.devRef .tc main_v74)) (off (W (Proc.devRef .tc main_v94_4)) (W (Proc.devRef .tc main_v56)) (W (Proc.devRef .tc main_v54)))
        (W (Proc.devRef .tc main_v45)) (W (Proc.devRef .tc main_arg7))) (W (Proc.devRef .tc main_arg1))) (W (Proc.devRef .tc main_arg8)) := by
  simp only [postI, afterL_cons, afterL_nil]
  after_reads_simp
  rfl

/-- The stages before the loop, at its entry. -/
abbrev eU : FVec Ideal S2x8192x1024 .f32 := act (conv (W (Proc.devRef .tc main_arg0)) (W (Proc.devRef .tc main_arg3)) (W (Proc.devRef .tc main_arg4)))
abbrev eDt : FVec Ideal S2x8192x8 .f32 := step (raw (W (Proc.devRef .tc main_arg2)) (W (Proc.devRef .tc main_arg5)))
abbrev eS : FVec Ideal S2x32x256x8 .f32 := acs (W (Proc.devRef .tc main_arg6)) (eDt W)

theorem pre_v54 : afterL preI W (Proc.devRef .tc main_v54) = eS W := by
  simp only [preI, afterL_cons, afterL_nil]
  after_reads_simp
  rfl

theorem pre_v45 : afterL preI W (Proc.devRef .tc main_v45) = xh (eU W) := by
  simp only [preI, afterL_cons, afterL_nil]
  after_reads_simp
  rfl

theorem pre_v56 : afterL preI W (Proc.devRef .tc main_v56) = cc (eU W) := by
  simp only [preI, afterL_cons, afterL_nil]
  after_reads_simp
  rfl

theorem pre_v74 : afterL preI W (Proc.devRef .tc main_v74) = diag (bc (eU W)) (cc (eU W)) (lmat (eS W)) (xdt (xh (eU W)) (eDt W)) := by
  simp only [preI, afterL_cons, afterL_nil]
  after_reads_simp
  rfl

theorem pre_0 : afterL preI W (Proc.devRef .tc main_v94_0) = sts (states (eS W) (xdt (xh (eU W)) (eDt W)) (bc (eU W))) := by
  simp only [preI, afterL_cons, afterL_nil]
  after_reads_simp
  rfl

theorem pre_1 : afterL preI W (Proc.devRef .tc main_v94_1) = dec (eS W) := by
  simp only [preI, afterL_cons, afterL_nil]
  after_reads_simp
  rfl

theorem pre_3 : afterL preI W (Proc.devRef .tc main_v94_3) = (fun _ => 0 : FVec Ideal S2x2x4x64x128 .f32) := by
  simp only [preI, afterL_cons, afterL_nil]
  after_reads_simp
  refine funext fun i => ?_
  show Ideal.ofBits .f32 0x00000000#32 = 0
  simp [Ideal.ofBits, Ideal.ieee]

theorem pre_arg7 : afterL preI W (Proc.devRef .tc main_arg7) = W (Proc.devRef .tc main_arg7) := by
  simp only [preI, afterL_cons, afterL_nil]
  after_reads_simp

theorem pre_arg1 : afterL preI W (Proc.devRef .tc main_arg1) = W (Proc.devRef .tc main_arg1) := by
  simp only [preI, afterL_cons, afterL_nil]
  after_reads_simp

theorem pre_arg8 : afterL preI W (Proc.devRef .tc main_arg8) = W (Proc.devRef .tc main_arg8) := by
  simp only [preI, afterL_cons, afterL_nil]
  after_reads_simp

/-- A buffer the loop does not write. -/
theorem keep (c : Dev nD) (E : Dev nD → Valuation τ sig (Elt Ideal)) (b : Ref sig .tc)
    (hb : b ∉ condOps_W ++ while0Ops0_W ++ while0Ops0_1_W ++ while0Ops0_2_W ++ while0Ops0_3_W ++ while0Ops0_4_W) :
    ∀ k, after condOps (atTrip condOps bodyI E k c) (Proc.devRef .tc b) = E c (Proc.devRef .tc b) := by
  simp only [List.mem_append, not_or] at hb
  obtain ⟨⟨⟨⟨⟨h0, h1⟩, h2⟩, h3⟩, h4⟩, h5⟩ := hb
  intro k
  induction k with
  | zero => exact after_of_writes_sub condOps _ condOps_writes h0
  | succ k ih =>
    refine (after_of_writes_sub condOps _ condOps_writes h0).trans ?_
    rw [atTrip_succ]
    simp only [bodyI, afterL_cons, afterL_nil]
    rw [after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1]
    exact ih

/-- The state carried over the chunks. -/
def rec (D S : ℕ → EReal) : ℕ → EReal
  | 0 => 0
  | k + 1 => rec D S k * D k + S k

theorem step2_at (V : Valuation τ sig (Elt Ideal)) (k : ℕ) (h : V (Proc.devRef .tc main_v94_2) = fun _ => BitVec.ofNat 32 k) :
    step_main_v94_2 V = fun _ => BitVec.ofNat 32 (k + 1) := by
  unfold step_main_v94_2
  rw [h]
  refine funext fun i => ?_
  show BitVec.ofNat 32 k + 1#32 = _
  rw [← BitVec.ofNat_add]

/-- A word below the sign bit, read signed. -/
theorem ofNat_toInt (k : Fin 32) : (BitVec.ofNat 32 k.val).toInt = (k.val : Int) := by
  have := k.isLt
  rw [BitVec.toInt_eq_toNat_of_lt (by rw [BitVec.toNat_ofNat]; omega), BitVec.toNat_ofNat]
  omega

/-- One trip's state, of the carried values. -/
def trip3 (X3 : FVec Ideal S2x2x4x64x128 .f32) (X1 : FVec Ideal S32x2x2x4 .f32) (X0 : FVec Ideal S32x2x2x4x64x128 .f32) (Z : IVec S_ 32) :
    FVec Ideal S2x2x4x64x128 .f32 :=
  id (addf (mulf X3 (broadcastInDim S2x2x4x64x128 ![0, 1, 2, 3, 4] bcast_S2x2x4x1x1_S2x2x4x64x128_0_1_2_3_4 (broadcastInDim S2x2x4x1x1 ![0, 1, 2] bcast_S2x2x4_S2x2x4x1x1_0_1_2 (shapeCast S2x2x4 (Host.dynamicSlice S1x2x2x4 X1 (fun k => (((![Z, constantI S_ 32 0#32, constantI S_ 32 0#32, constantI S_ 32 0#32] : Fin 4 → (⟨S_, .i32⟩ : BufTy).Contents (Elt Ideal))) k (Shape.Idx.first h_S_)).toInt) sliceFits_S32x2x2x4_S1x2x2x4) shapeCasts_S1x2x2x4_S2x2x4)))) (shapeCast S2x2x4x64x128 (Host.dynamicSlice S1x2x2x4x64x128 X0 (fun k => (((![Z, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) sliceFits_S32x2x2x4x64x128_S1x2x2x4x64x128) shapeCasts_S1x2x2x4x64x128_S2x2x4x64x128))

/-- One trip's kept state, of the carried values. -/
def trip4 (X3 : FVec Ideal S2x2x4x64x128 .f32) (X4 : FVec Ideal S32x2x2x4x64x128 .f32) (Z : IVec S_ 32) :
    FVec Ideal S32x2x2x4x64x128 .f32 :=
  id (Host.dynamicUpdateSlice X4 (broadcastInDim S1x2x2x4x64x128 ![1, 2, 3, 4, 5] bcast_S2x2x4x64x128_S1x2x2x4x64x128_1_2_3_4_5 X3) (fun k => (((![Z, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) updateFits_S32x2x2x4x64x128_S1x2x2x4x64x128)

theorem trip3_at (X3 : FVec Ideal S2x2x4x64x128 .f32) (X1 : FVec Ideal S32x2x2x4 .f32) (X0 : FVec Ideal S32x2x2x4x64x128 .f32) (k : Fin 32)
    (b : Fin 2) (g : Fin 2) (r : Fin 4) (p : Fin 64) (n : Fin 128) :
    trip3 X3 X1 X0 (fun _ => BitVec.ofNat 32 k.val) (ix5 b g r p n) = X3 (ix5 b g r p n) * X1 (ix4 k b g r) + X0 (ix6 k b g r p n) := by
  have hk := k.isLt
  unfold trip3
  rw [id]
  rw [Idealize.ShloMosaic.WordCmp.dynamicSlice_eq_extract (s := S32x2x2x4) S1x2x2x4 X1 _ sliceFits_S32x2x2x4_S1x2x2x4 ![k.val, 0, 0, 0] ⟨rfl, by intro a; fin_cases a <;> simp <;> omega⟩
      (by intro a; fin_cases a <;> first | exact ofNat_toInt k | rfl),
    Idealize.ShloMosaic.WordCmp.dynamicSlice_eq_extract (s := S32x2x2x4x64x128) S1x2x2x4x64x128 X0 _ sliceFits_S32x2x2x4x64x128_S1x2x2x4x64x128 ![k.val, 0, 0, 0, 0, 0] ⟨rfl, by intro a; fin_cases a <;> simp <;> omega⟩
      (by intro a; fin_cases a <;> first | exact ofNat_toInt k | rfl)]
  pointwise []

theorem trip4_at (X3 : FVec Ideal S2x2x4x64x128 .f32) (X4 : FVec Ideal S32x2x2x4x64x128 .f32) (k j : Fin 32)
    (b : Fin 2) (g : Fin 2) (r : Fin 4) (p : Fin 64) (n : Fin 128) :
    trip4 X3 X4 (fun _ => BitVec.ofNat 32 k.val) (ix6 j b g r p n) = if j = k then X3 (ix5 b g r p n) else X4 (ix6 j b g r p n) := by
  have hk := k.isLt
  unfold trip4
  rw [id]
  rw [Idealize.ShloMosaic.WordCmp.dynamicUpdateSlice_eq_update (s := S32x2x2x4x64x128) (u := S1x2x2x4x64x128) X4 _ _ updateFits_S32x2x2x4x64x128_S1x2x2x4x64x128 ![k.val, 0, 0, 0, 0, 0] ⟨rfl, by intro a; fin_cases a <;> simp <;> omega⟩
      (by intro a; fin_cases a <;> first | exact ofNat_toInt k | rfl)]
  pointwise []
  by_cases h : j = k
  · subst h
    rw [if_pos rfl, dif_pos ⟨le_refl _, Nat.lt_succ_self _⟩]
  · rw [if_neg h, dif_neg (fun e => h (Fin.ext (by omega)))]

/-- The carried buffers before trip `k`. -/
theorem carried (E : Valuation τ sig (Elt Ideal)) (h2 : E (Proc.devRef .tc main_v94_2) = fun _ => (0#32 : BitVec 32))
    (A : FVec Ideal S32x2x2x4x64x128 .f32) (hA : E (Proc.devRef .tc main_v94_0) = A)
    (D : FVec Ideal S32x2x2x4 .f32) (hD : E (Proc.devRef .tc main_v94_1) = D)
    (h3 : E (Proc.devRef .tc main_v94_3) = (fun _ => 0 : FVec Ideal S2x2x4x64x128 .f32)) (k : ℕ) (hk : k ≤ 32) :
    STEP^[k] E (Proc.devRef .tc main_v94_0) = A ∧ STEP^[k] E (Proc.devRef .tc main_v94_1) = D
      ∧ STEP^[k] E (Proc.devRef .tc main_v94_2) = (fun _ => BitVec.ofNat 32 k)
      ∧ ∃ X3 : FVec Ideal S2x2x4x64x128 .f32, ∃ X4 : FVec Ideal S32x2x2x4x64x128 .f32,
        STEP^[k] E (Proc.devRef .tc main_v94_3) = X3 ∧ STEP^[k] E (Proc.devRef .tc main_v94_4) = X4
        ∧ ∀ (b : Fin 2) (g : Fin 2) (r : Fin 4) (p : Fin 64) (n : Fin 128),
          X3 (ix5 b g r p n) = rec (fun j => D (ix4 (Fin.ofNat 32 j) b g r)) (fun j => A (ix6 (Fin.ofNat 32 j) b g r p n)) k
          ∧ ∀ j : Fin 32, j.val < k → X4 (ix6 j b g r p n)
            = rec (fun j => D (ix4 (Fin.ofNat 32 j) b g r)) (fun j => A (ix6 (Fin.ofNat 32 j) b g r p n)) j.val := by
  induction k with
  | zero => exact ⟨hA, hD, h2, _, _, h3, rfl, fun b g r p n => ⟨rfl, fun j hj => absurd hj (Nat.not_lt_zero _)⟩⟩
  | succ k ih =>
    obtain ⟨i0, i1, i2, X3, X4, i3, i4, hx⟩ := ih (by omega)
    rw [Function.iterate_succ_apply']
    refine ⟨(STEP_main_v94_0 _).trans i0, (STEP_main_v94_1 _).trans i1, (STEP_main_v94_2 _).trans (step2_at _ k i2),
      trip3 X3 D A (fun _ => BitVec.ofNat 32 k), trip4 X3 X4 (fun _ => BitVec.ofNat 32 k), ?_, ?_, ?_⟩
    · refine (STEP_main_v94_3 _).trans ?_
      unfold step_main_v94_3
      rw [i0, i1, i2, i3]
      rfl
    · refine (STEP_main_v94_4 _).trans ?_
      unfold step_main_v94_4
      rw [i2, i3, i4]
      rfl
    · intro b g r p n
      have e : (Fin.ofNat 32 k : Fin 32) = ⟨k, by omega⟩ := Fin.ext (Nat.mod_eq_of_lt (by omega))
      refine ⟨?_, fun j hj => ?_⟩
      · rw [trip3_at X3 D A ⟨k, by omega⟩, (hx b g r p n).1, rec, e]
      · rw [trip4_at X3 X4 ⟨k, by omega⟩]
        by_cases hjk : j = ⟨k, by omega⟩
        · rw [if_pos hjk, (hx b g r p n).1, hjk]
        · rw [if_neg hjk]
          exact (hx b g r p n).2 j (by have : j.val ≠ k := fun h => hjk (Fin.ext h); omega)

/-- The reference's result, of the launch contents. -/
theorem ref_final (m : (ℓ : Loc nD τ sig) → Buf (Elt Ideal) ℓ) (c : Dev nD) (M : Valuation τ sig (Elt Ideal)) (hM : M = launchContents m c) :
    ∃ X4 : FVec Ideal S32x2x2x4x64x128 .f32,
      (∀ (b : Fin 2) (g : Fin 2) (r : Fin 4) (p : Fin 64) (n : Fin 128) (j : Fin 32), X4 (ix6 j b g r p n)
        = rec (fun j => dec (eS M) (ix4 (Fin.ofNat 32 j) b g r))
            (fun j => sts (states (eS M) (xdt (xh (eU M)) (eDt M)) (bc (eU M))) (ix6 (Fin.ofNat 32 j) b g r p n)) j.val)
      ∧ finalContents condOps preI bodyI postI 32 m c (Proc.devRef .tc main_v127)
        = res (gate (tot (diag (bc (eU M)) (cc (eU M)) (lmat (eS M)) (xdt (xh (eU M)) (eDt M))) (off X4 (cc (eU M)) (eS M))
            (xh (eU M)) (M (Proc.devRef .tc main_arg7))) (M (Proc.devRef .tc main_arg1))) (M (Proc.devRef .tc main_arg8)) := by
  subst hM
  obtain ⟨-, -, -, X3, X4, -, e4, hx⟩ := carried (entryContents preI m c) (ctr_entry m c) _ (pre_0 _) _ (pre_1 _) (pre_3 _) 32 (le_refl _)
  refine ⟨X4, fun b g r p n j => (hx b g r p n).2 j j.isLt, ?_⟩
  have h4 : after condOps (atTrip condOps bodyI (entryContents preI m) 32 c) (Proc.devRef .tc main_v94_4) = X4 :=
    (cond_keeps _ main_v94_4 (by decide)).trans ((atK_agree m c 32 main_v94_4 (by decide)).trans e4)
  refine (post_at _).trans ?_
  rw [h4, keep c _ main_v74 (by decide), keep c _ main_v56 (by decide), keep c _ main_v54 (by decide), keep c _ main_v45 (by decide),
    keep c _ main_arg7 (by decide), keep c _ main_arg1 (by decide), keep c _ main_arg8 (by decide)]
  simp only [entryContents]
  rw [pre_v74, pre_v56, pre_v54, pre_v45, pre_arg7, pre_arg1, pre_arg8]

end Cert.Proof.Ssd

end
-- ==== Proof.Ssd.lean ====
/- The scan: its result array is the reference's, and the two programs agree. -/
module

public import proofs.«01_k».proof.Proof.SsdHost
public import proofs.«01_k».proof.Proof.SsdPoint
public import proofs.«01_k».proof.Proof.SsdLoop
public import proofs.«01_k».proof.Proof.SsdBuf
public import proofs.«01_k».proof.Proof.Gen.Kernel5Ideal.Value
public import Idealize.ShloMosaic.Lib.Claim

@[expose] public section

set_option maxRecDepth 16384

noncomputable section

namespace Cert.Proof.Ssd.Ker

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- The block index of every window, by the grid point. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 32, t.val % 32, 0] ∧ t.val / 32 < 2 :=
  (by decide +kernel : ∀ t : Fin grid0.N, _)

/-- The batch row and the chunk of a grid point. -/
def bat (t : Fin cfg0.N) : Fin 2 := ⟨t.val / 32, (idx t).2.2.2.2.2.2.2.2.2.2.2⟩
def chk (t : Fin cfg0.N) : Fin 32 := ⟨t.val % 32, Nat.mod_lt _ (by decide)⟩

theorem blk4 (t : Fin cfg0.N) (k : Fin 1024) : iblk m c 4 t (ix2 0 k) = V m c main_v40 (ix2 0 k) := by blk_point [iblk, idx t]
theorem blk5 (t : Fin cfg0.N) (k : Fin 128) : iblk m c 5 t (ix2 0 k) = V m c main_v17 (ix2 0 k) := by blk_point [iblk, idx t]
theorem blk6 (t : Fin cfg0.N) (k : Fin 128) : iblk m c 6 t (ix2 0 k) = V m c main_v26 (ix2 0 k) := by blk_point [iblk, idx t]
theorem blk7 (t : Fin cfg0.N) (i : Fin 128) (k : Fin 512) : iblk m c 7 t (ix2 i k) = V m c main_v36 (ix2 i k) := by blk_point [iblk, idx t]
theorem blk8 (t : Fin cfg0.N) (k : Fin 512) : iblk m c 8 t (ix2 0 k) = V m c main_v39 (ix2 0 k) := by blk_point [iblk, idx t]
theorem blk9 (t : Fin cfg0.N) (k : Fin 512) : iblk m c 9 t (ix2 0 k) = V m c main_v41 (ix2 0 k) := by blk_point [iblk, idx t]

theorem reads (t : Fin cfg0.N) : Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (bat t) (chk t)
    (iblk m c 0 t) (iblk m c 1 t) (iblk m c 2 t) (iblk m c 3 t) (iblk m c 4 t) (iblk m c 5 t) (iblk m c 6 t) (iblk m c 7 t) (iblk m c 8 t) (iblk m c 9 t) where
  h0 l k := by blk_point [iblk, V, idx t, tok, bat, chk]
  h1 l k := by blk_point [iblk, V, idx t, tok, bat, chk]
  h2 l k := by blk_point [iblk, V, idx t, tok, bat, chk]
  h3 i k := by blk_point [iblk, V, idx t]
  h4 k := (blk4 m c t k).trans (v40_at m c k)
  h5 h := (blk5 m c t _).trans ((congrFun (v17_eq m c) _).trans (hsel_in _ h))
  h6 h := (blk6 m c t _).trans ((congrFun (v26_eq m c) _).trans (hsel_in _ h))
  h6' l hl := (blk6 m c t l).trans ((congrFun (v26_eq m c) _).trans (hsel_out _ l hl))
  h7 i k := (blk7 m c t i k).trans ((congrFun (v36_eq m c) _).trans (hexp_at i k))
  h8 k := (blk8 m c t k).trans (v39_at m c k)
  h9 k := (blk9 m c t k).trans (v41_at m c k)

/-- The last rows a point keeps of its tokens. -/
theorem buf_at (t : Fin cfg0.N) (i : Fin 8) (k : Fin 1024) : (outsAt0 m c t.val t.isLt).2.1 (ix2 ⟨256 + i.val, by omega⟩ k)
    = m ((c : Thread nD τ).loc main_arg0) (ix3 (bat t) (tok (chk t) ⟨248 + i.val, by omega⟩) k) := by
  by_cases h0 : t.val % 32 = 0
  · rw [buf_A m c t h0 (by omega), canon_hi]
    exact (reads m c t).h0 _ k
  · obtain ⟨h, e⟩ := buf_B m c t h0 (by omega)
    rw [e, canon_hi]
    exact (reads m c t).h0 _ k

theorem hist_A (t : Fin cfg0.N) (h0 : t.val % 32 = 0) (i : Fin 8) (k : Fin 1024) : k0_pay2 (F := Ideal) (ix2 i k)
    = if (chk t).val = 0 then (0 : EReal) else m ((c : Thread nD τ).loc main_arg0) (ix3 (bat t) (prv (chk t) i) k) := by
  rw [pay2_at, if_pos (show (chk t).val = 0 from h0)]

theorem hist_B (t : Fin cfg0.N) (h0 : ¬ t.val % 32 = 0) (p) (hp : p = outsAt0 m c (t.val - 1) (by have := t.isLt; omega)) (i : Fin 8) (k : Fin 1024) : last8 p.2.1 (ix2 i k)
    = if (chk t).val = 0 then (0 : EReal) else m ((c : Thread nD τ).loc main_arg0) (ix3 (bat t) (prv (chk t) i) k) := by
  subst hp
  rw [last8_at, if_neg (show ¬ (chk t).val = 0 from h0), buf_at m c ⟨t.val - 1, by have := t.isLt; omega⟩]
  refine congrArg (m ((c : Thread nD τ).loc main_arg0)) (congrArg₂ (fun a b => ix3 a b k) (Fin.ext ?_) (Fin.ext ?_))
  · show (t.val - 1) / 32 = t.val / 32
    omega
  · show 256 * ((t.val - 1) % 32) + (248 + i.val) = 256 * (t.val % 32) + i.val - 8
    omega

abbrev U : FVec Ideal Reference5Ideal.S2x8192x1024 .f32 :=
  act (conv (m ((c : Thread nD τ).loc main_arg0)) (m ((c : Thread nD τ).loc main_arg3)) (m ((c : Thread nD τ).loc main_arg4)))
abbrev DT : FVec Ideal Reference5Ideal.S2x8192x8 .f32 := step (raw (m ((c : Thread nD τ).loc main_arg2)) (m ((c : Thread nD τ).loc main_arg5)))
abbrev SA : FVec Ideal Reference5Ideal.S2x32x256x8 .f32 := acs (m ((c : Thread nD τ).loc main_arg6)) (DT m c)

/-- The reference's carried state before chunk `j`. -/
abbrev carryTo (b g : Fin 2) (r : Fin 4) (p : Fin 64) (n : Fin 128) (j : ℕ) : EReal :=
  rec (fun j => dec (SA m c) (ix4 (Fin.ofNat 32 j) b g r))
    (fun j => sts (states (SA m c) (xdt (xh (U m c)) (DT m c)) (bc (U m c))) (ix6 (Fin.ofNat 32 j) b g r p n)) j

/-- The reference's result over the kernel's arguments, from the carried states. -/
abbrev goal (X4 : FVec Ideal Reference5Ideal.S32x2x2x4x64x128 .f32) : FVec Ideal Reference5Ideal.S2x8192x512 .bf16 :=
  res (gate (tot (diag (bc (U m c)) (cc (U m c)) (lmat (SA m c)) (xdt (xh (U m c)) (DT m c))) (off X4 (cc (U m c)) (SA m c)) (xh (U m c))
    (m ((c : Thread nD τ).loc main_arg7))) (m ((c : Thread nD τ).loc main_arg1))) (m ((c : Thread nD τ).loc main_arg8))

variable (N : Fine (m ((c : Thread nD τ).loc main_arg2)) (m ((c : Thread nD τ).loc main_arg5)) (m ((c : Thread nD τ).loc main_arg6)))
include N

/-- The state buffer after a point is the reference's carried state after its chunk. -/
theorem carry (b : Fin 2) : ∀ (j : ℕ) (hj : j < 32) (t : Fin cfg0.N) (ht : t.val = 32 * b.val + j) (g : Fin 2) (r : Fin 4) (p : Fin 64) (n : Fin 128),
    (outsAt0 m c t.val t.isLt).2.2 (ix3 g n (scol r p)) = carryTo m c b g r p n (j + 1) := by
  intro j
  induction j with
  | zero =>
    intro hj t ht g r p n
    have h0 : t.val % 32 = 0 := by omega
    have eb : bat t = b := Fin.ext (show t.val / 32 = b.val by omega)
    have ej : chk t = Fin.ofNat 32 0 := Fin.ext (show t.val % 32 = 0 % 32 by omega)
    obtain ⟨s0, s1, L, z0, z1, e⟩ := st_A m c t h0 (by omega)
    have key := ns_at (reads m c t) N (hist_A m c t h0) s0 s1 g r p n
    have hz : pickg g s0 s1 (ix3 0 n (scol r p)) = 0 := by
      unfold pickg
      split
      · exact z0 _ _
      · exact z1 _ _
    rw [hz, eb, ej] at key
    refine Eq.trans ?_ key
    rw [e]
    by_cases hg : g = 0
    · subst hg
      exact canon_st0 _ _ _ _ _
    · obtain rfl : g = 1 := by omega
      exact canon_st1 _ _ _ _ _
  | succ j ih =>
    intro hj t ht g r p n
    have h0 : ¬ t.val % 32 = 0 := by omega
    have eb : bat t = b := Fin.ext (show t.val / 32 = b.val by omega)
    have ej : chk t = Fin.ofNat 32 (j + 1) := Fin.ext (show t.val % 32 = (j + 1) % 32 by omega)
    have e := st_B m c t h0 (by omega) _ rfl
    have key := ns_at (reads m c t) N (hist_B m c t h0 _ rfl) (grp0 (outsAt0 m c (t.val - 1) (by have := t.isLt; omega)).2.2)
      (grp1 (outsAt0 m c (t.val - 1) (by have := t.isLt; omega)).2.2) g r p n
    have hz : pickg g (grp0 (outsAt0 m c (t.val - 1) (by have := t.isLt; omega)).2.2) (grp1 (outsAt0 m c (t.val - 1) (by have := t.isLt; omega)).2.2)
        (ix3 0 n (scol r p)) = carryTo m c b g r p n (j + 1) := by
      refine Eq.trans ?_ (ih (by omega) ⟨t.val - 1, by have := t.isLt; omega⟩ (by show t.val - 1 = _; omega) g r p n)
      by_cases hg : g = 0
      · subst hg
        exact grp0_at _ _ _
      · obtain rfl : g = 1 := by omega
        exact grp1_at _ _ _
    rw [hz, eb, ej] at key
    refine Eq.trans ?_ key
    rw [e]
    by_cases hg : g = 0
    · subst hg
      exact canon_st0 _ _ _ _ _
    · obtain rfl : g = 1 := by omega
      exact canon_st1 _ _ _ _ _

/-- The result a point writes. -/
theorem point (X4 : FVec Ideal Reference5Ideal.S32x2x2x4x64x128 .f32) (hX : ∀ b g r p n (j : Fin 32), X4 (ix6 j b g r p n) = carryTo m c b g r p n j.val)
    (t : Fin cfg0.N) (l : Fin 256) (k : Fin 512) : (outsAt0 m c t.val t.isLt).1 (ix3 0 l k) = goal m c X4 (ix3 (bat t) (tok (chk t) l) k) := by
  by_cases h0 : t.val % 32 = 0
  · obtain ⟨s0, s1, z0, z1, e⟩ := out_A m c t h0 (by omega)
    rw [e]
    refine wout_at (reads m c t) N (hist_A m c t h0) X4 s0 s1 (fun g r p n => ?_) l k
    rw [hX, show (chk t).val = 0 from h0]
    show _ = (0 : EReal)
    unfold pickg
    split
    · exact z0 _ _
    · exact z1 _ _
  · rw [out_B m c t h0 (by omega) _ rfl]
    refine wout_at (reads m c t) N (hist_B m c t h0 _ rfl) X4 _ _ (fun g r p n => ?_) l k
    have hlt := (bat t).isLt
    have ev : (bat t).val = t.val / 32 := rfl
    have h := carry m c N (bat t) (t.val % 32 - 1) (by omega) ⟨t.val - 1, by have := t.isLt; omega⟩ (by show t.val - 1 = _; omega) g r p n
    rw [hX, show (chk t).val = t.val % 32 - 1 + 1 by show t.val % 32 = _; omega]
    refine Eq.trans ?_ h
    by_cases hg : g = 0
    · subst hg
      exact grp0_at _ _ _
    · obtain rfl : g = 1 := by omega
      exact grp1_at _ _ _

theorem final (X4 : FVec Ideal Reference5Ideal.S32x2x2x4x64x128 .f32) (hX : ∀ b g r p n (j : Fin 32), X4 (ix6 j b g r p n) = carryTo m c b g r p n j.val) :
    (dats m 0 c).arrAt 10 cfg0.N = goal m c X4 := by
  refine (dats m 0 c).arrAt_eq_of_covers 10 _ (by decide +kernel) fun t _ y => ?_
  blk_simp
  rw [after0_10]
  obtain ⟨z, r, k, rfl⟩ : ∃ (z : Fin 1) (r : Fin 256) (k : Fin 512), y = ix3 z r k := ⟨y 0, y 1, y 2, eq_ix3 y⟩
  obtain rfl : z = 0 := Subsingleton.elim _ _
  refine (point m c N X4 hX t r k).trans (congrArg (goal m c X4) ?_)
  blk_ext [idx t, tok, bat, chk]

end Cert.Proof.Ssd.Ker

end
-- ==== Proof.SsdPre.lean ====
/- The scan's precondition read, and what its reference leaves of its arguments. -/
module

public import proofs.«01_k».proof.Proof.SsdLoop
public import proofs.«01_k».proof.Proof.SsdPoint
public import proofs.«01_k».proof.Pre_finite5
public import Idealize.ShloMosaic.Lib.ReduceAll
public import Idealize.ShloMosaic.Lib.Claim

@[expose] public section

set_option maxRecDepth 16384

noncomputable section

namespace Cert.Proof.Ssd

open Idealize.ShloMosaic Idealize.ShloMosaic.TcCoe Idealize.SL.Sem

/-- The shape relations the precondition's operations take. -/
theorem preFacts : Cert.Pre_finite5.Facts := by
  constructor <;> decide +kernel

/-- A number whose size is below infinity is real. -/
theorem real_of_lt (x : EReal) (h : max x (-x) < ⊤) : ∃ r : ℝ, x = (r : EReal) := by
  induction x with
  | bot => simp at h
  | top => simp at h
  | coe r => exact ⟨r, rfl⟩

theorem real_of_cmp (x y : EReal) (hy : y = ⊤) (h : Ideal.cmp .olt (max x (-x)) y = 1) : ∃ r : ℝ, x = (r : EReal) :=
  real_of_lt x (hy ▸ ((Ideal.cmp_olt_eq_one _ _).1 h))

theorem inf_eq : Ideal.ofBits .f32 0x7F800000#32 = ⊤ := by
  simp [Ideal.ofBits, Ideal.ieee]

open Cert.Reference5Ideal Cert.Reference5Ideal.Gen Cert.Reference5Ideal.Value
open Idealize.ShloMosaic.Tactic Idealize.ShloMosaic.StableHlo

/-! What the operations after the loop write. -/
abbrev hostOps0_13_W : List (Ref sig .tc) := [main_v95, main_v96, main_v97, main_v98, main_v99, main_v100, main_v101, main_v102, main_v103, main_v104, main_v105, main_v106, main_v107, main_v108, main_v109, main_v110, main_v111]
theorem hostOps0_13_writes : (hostOps0_13 : List (HloOp τ sig (Elt Ideal))).Forall fun op => op.writes ⊆ (hostOps0_13_W.map (Proc.devRef (τ := τ) .tc)).toFinset :=
  StableHlo.forall_writes_sub_of_map rfl
abbrev hostOps0_14_W : List (Ref sig .tc) := [main_call9_v0, main_call9_v1, main_call9_cst, main_call9_v2, main_call9_v3, main_call9_cst_0, main_call9_v4, main_call9_v5, main_v112]
theorem hostOps0_14_writes : (hostOps0_14 : List (HloOp τ sig (Elt Ideal))).Forall fun op => op.writes ⊆ (hostOps0_14_W.map (Proc.devRef (τ := τ) .tc)).toFinset :=
  StableHlo.forall_writes_sub_of_map rfl
abbrev hostOps0_15_W : List (Ref sig .tc) := [main_v113, main_v114, main_cst_6, main_v115, main_v116, main_cst_7, main_v117, main_v118, main_cst_8, main_v119, main_v120, main_v121, main_v122, main_v123, main_v124, main_v125, main_v126, main_v127]
theorem hostOps0_15_writes : (hostOps0_15 : List (HloOp τ sig (Elt Ideal))).Forall fun op => op.writes ⊆ (hostOps0_15_W.map (Proc.devRef (τ := τ) .tc)).toFinset :=
  StableHlo.forall_writes_sub_of_map rfl

abbrev loopW : List (Ref sig .tc) := condOps_W ++ while0Ops0_W ++ while0Ops0_1_W ++ while0Ops0_2_W ++ while0Ops0_3_W ++ while0Ops0_4_W
abbrev lineW : List (Ref sig .tc) := hostOps0_W ++ hostOps0_1_W ++ hostOps0_2_W ++ hostOps0_3_W ++ hostOps0_4_W ++ hostOps0_5_W ++ hostOps0_6_W ++ hostOps0_7_W
      ++ hostOps0_8_W ++ hostOps0_9_W ++ hostOps0_10_W ++ hostOps0_11_W ++ hostOps0_12_W ++ hostOps0_13_W ++ hostOps0_14_W ++ hostOps0_15_W

/-- What no operation of the reference writes. -/
theorem kept (m : (ℓ : Loc nD τ sig) → Buf (Elt Ideal) ℓ) (c : Dev nD) (b : Ref sig .tc)
    (h : b ∉ loopW)
    (h' : b ∉ lineW) :
    finalContents condOps preI bodyI postI 32 m c (Proc.devRef .tc b) = m ((c : Thread nD τ).loc b) := by
  simp only [lineW, List.mem_append, not_or, and_assoc] at h'
  obtain ⟨a0, a1, a2, a3, a4, a5, a6, a7, a8, a9, a10, a11, a12, a13, a14, a15⟩ := h'
  have e : afterL preI (launchContents m c) (Proc.devRef .tc b) = m ((c : Thread nD τ).loc b) := by
    simp only [preI, afterL_cons, afterL_nil]
    rw [after_of_writes_sub hostOps0_12 _ hostOps0_12_writes a12, after_of_writes_sub hostOps0_11 _ hostOps0_11_writes a11,
      after_of_writes_sub hostOps0_10 _ hostOps0_10_writes a10, after_of_writes_sub hostOps0_9 _ hostOps0_9_writes a9,
      after_of_writes_sub hostOps0_8 _ hostOps0_8_writes a8, after_of_writes_sub hostOps0_7 _ hostOps0_7_writes a7,
      after_of_writes_sub hostOps0_6 _ hostOps0_6_writes a6, after_of_writes_sub hostOps0_5 _ hostOps0_5_writes a5,
      after_of_writes_sub hostOps0_4 _ hostOps0_4_writes a4, after_of_writes_sub hostOps0_3 _ hostOps0_3_writes a3,
      after_of_writes_sub hostOps0_2 _ hostOps0_2_writes a2, after_of_writes_sub hostOps0_1 _ hostOps0_1_writes a1,
      after_of_writes_sub hostOps0 _ hostOps0_writes a0]
  refine Eq.trans ?_ ((keep c (entryContents preI m) b h 32).trans e)
  show afterL postI _ _ = _
  simp only [postI, afterL_cons, afterL_nil]
  rw [after_of_writes_sub hostOps0_15 _ hostOps0_15_writes a15, after_of_writes_sub hostOps0_14 _ hostOps0_14_writes a14,
    after_of_writes_sub hostOps0_13 _ hostOps0_13_writes a13]

/-- The reference runs and gives its arguments back. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v127) = finalContents condOps preI bodyI postI 32 m c (Proc.devRef .tc main_v127)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
    have k : ∀ b : Ref sig .tc, (Proc.devRef .tc b : DevRef τ sig).isScoped = false → b ∉ loopW → b ∉ lineW →
        r.2.mem ((c : Thread nD τ).loc b) = m ((c : Thread nD τ).loc b) := fun b hs hl hr => (h c b hs).trans (kept m c b hl hr)
    ⟨h c _ (by decide), k main_arg0 (by decide) (by decide) (by decide), k main_arg1 (by decide) (by decide) (by decide),
      k main_arg2 (by decide) (by decide) (by decide), k main_arg3 (by decide) (by decide) (by decide),
      k main_arg4 (by decide) (by decide) (by decide), k main_arg5 (by decide) (by decide) (by decide),
      k main_arg6 (by decide) (by decide) (by decide), k main_arg7 (by decide) (by decide) (by decide),
      k main_arg8 (by decide) (by decide) (by decide)⟩) (run_fold (F := Ideal) m ρ)

open Cert.Proof.Ssd.Ker in
/-- The precondition, read. -/
theorem fine_of (x : FVec Ideal S2x8192x1024 .f32) (z : FVec Ideal S2x8192x512 .f32) (misc : FVec Ideal S2x8192x128 .f32) (cw : FVec Ideal S4x1024 .f32)
    (cb : FVec Ideal S1024 .f32) (dtb aa ds : FVec Ideal S8 .f32) (nw : FVec Ideal S512 .f32)
    (h : @Cert.Pre_finite5.fn preFacts Ideal _ x z misc cw cb dtb aa ds nw = fun _ => 1#1) : Fine misc dtb aa := by
  have h0 := congrFun h (fun d => d.elim0)
  simp only [Cert.Pre_finite5.fn] at h0
  obtain ⟨h1, h2⟩ := IntOp.andi_eq_one.1 h0
  obtain ⟨h3, h4⟩ := IntOp.andi_eq_one.1 h1
  have hsub : Subsingleton Cert.Pre_finite5.S_.Idx := ⟨fun _ _ => funext fun d => d.elim0⟩
  refine ⟨fun b t h => ?_, fun h => ?_, fun h => ?_⟩
  · have e := Host.reduce_andi_all _ _ _ _ _ h3 (ix3 b t h)
    have q := real_of_cmp _ _ inf_eq e
    obtain ⟨r, hr⟩ := q
    refine ⟨r, Eq.trans ?_ hr⟩
    pointwise []
  · exact real_of_cmp _ _ inf_eq (Host.reduce_andi_all _ _ _ _ _ h4 (ix1 h))
  · exact real_of_cmp _ _ inf_eq (Host.reduce_andi_all _ _ _ _ _ h2 (ix1 h))

end Cert.Proof.Ssd

end
-- ==== Proof.SsdPair.lean ====
/- The scan's two programs agree, and its reference gives its arguments back. -/
module

public import proofs.«01_k».proof.Defs
public import proofs.«01_k».proof.Proof.Ssd
public import proofs.«01_k».proof.Proof.SsdPre
public import Idealize.ShloMosaic.Lib.Claim

@[expose] public section

set_option maxRecDepth 16384

noncomputable section

namespace Cert.Proof.Ssd

open Idealize.ShloMosaic Idealize.ShloMosaic.TcCoe Idealize.SL.Sem

theorem quiescent : Cert.quiescent_Reference5Ideal (hReference5Ideal := Cert.Reference5Ideal.Gen.facts) := fun m g _ =>
  (θ_run _ _ _).mono (fun _ h => ⟨fun c => (h c).2, sem_eq_zero_of_no_sems rfl _⟩) (run m g)

theorem quiescent_pre : Cert.quiescent_Reference5Ideal_pre_finite5 (hReference5Ideal := Cert.Reference5Ideal.Gen.facts) (hPre_finite5 := preFacts) :=
  fun m g _ => quiescent m g trivial

open Cert.Kernel5Ideal Cert.Kernel5Ideal.Gen Cert.Proof.Ssd.Ker in
/-- The reference's result is the kernel's result array. -/
theorem result (m : (ℓ : Loc nD τ sig) → Buf (Elt Ideal) ℓ)
    (m' : (ℓ : Loc Cert.Reference5Ideal.nD Cert.Reference5Ideal.τ Cert.Reference5Ideal.sig) → Buf (Elt Ideal) ℓ) (c : Dev nD)
    (N : Fine (m ((c : Thread nD τ).loc main_arg2)) (m ((c : Thread nD τ).loc main_arg5)) (m ((c : Thread nD τ).loc main_arg6)))
    (e0 : m' ((c.tc : Thread Cert.Reference5Ideal.nD Cert.Reference5Ideal.τ).loc Cert.Reference5Ideal.main_arg0) = m ((c : Thread nD τ).loc main_arg0))
    (e1 : m' ((c.tc : Thread Cert.Reference5Ideal.nD Cert.Reference5Ideal.τ).loc Cert.Reference5Ideal.main_arg1) = m ((c : Thread nD τ).loc main_arg1))
    (e2 : m' ((c.tc : Thread Cert.Reference5Ideal.nD Cert.Reference5Ideal.τ).loc Cert.Reference5Ideal.main_arg2) = m ((c : Thread nD τ).loc main_arg2))
    (e3 : m' ((c.tc : Thread Cert.Reference5Ideal.nD Cert.Reference5Ideal.τ).loc Cert.Reference5Ideal.main_arg3) = m ((c : Thread nD τ).loc main_arg3))
    (e4 : m' ((c.tc : Thread Cert.Reference5Ideal.nD Cert.Reference5Ideal.τ).loc Cert.Reference5Ideal.main_arg4) = m ((c : Thread nD τ).loc main_arg4))
    (e5 : m' ((c.tc : Thread Cert.Reference5Ideal.nD Cert.Reference5Ideal.τ).loc Cert.Reference5Ideal.main_arg5) = m ((c : Thread nD τ).loc main_arg5))
    (e6 : m' ((c.tc : Thread Cert.Reference5Ideal.nD Cert.Reference5Ideal.τ).loc Cert.Reference5Ideal.main_arg6) = m ((c : Thread nD τ).loc main_arg6))
    (e7 : m' ((c.tc : Thread Cert.Reference5Ideal.nD Cert.Reference5Ideal.τ).loc Cert.Reference5Ideal.main_arg7) = m ((c : Thread nD τ).loc main_arg7))
    (e8 : m' ((c.tc : Thread Cert.Reference5Ideal.nD Cert.Reference5Ideal.τ).loc Cert.Reference5Ideal.main_arg8) = m ((c : Thread nD τ).loc main_arg8)) :
    StableHlo.finalContents Cert.Reference5Ideal.Value.condOps Cert.Reference5Ideal.Value.preI Cert.Reference5Ideal.Value.bodyI Cert.Reference5Ideal.Value.postI
      32 m' c (Proc.devRef .tc Cert.Reference5Ideal.main_v127) = (dats m 0 c).arrAt 10 cfg0.N := by
  obtain ⟨X4, hX, e⟩ := ref_final m' c _ rfl
  have f0 : StableHlo.launchContents m' c (Proc.devRef .tc Cert.Reference5Ideal.main_arg0) = m ((c : Thread nD τ).loc main_arg0) := e0
  have f1 : StableHlo.launchContents m' c (Proc.devRef .tc Cert.Reference5Ideal.main_arg1) = m ((c : Thread nD τ).loc main_arg1) := e1
  have f2 : StableHlo.launchContents m' c (Proc.devRef .tc Cert.Reference5Ideal.main_arg2) = m ((c : Thread nD τ).loc main_arg2) := e2
  have f3 : StableHlo.launchContents m' c (Proc.devRef .tc Cert.Reference5Ideal.main_arg3) = m ((c : Thread nD τ).loc main_arg3) := e3
  have f4 : StableHlo.launchContents m' c (Proc.devRef .tc Cert.Reference5Ideal.main_arg4) = m ((c : Thread nD τ).loc main_arg4) := e4
  have f5 : StableHlo.launchContents m' c (Proc.devRef .tc Cert.Reference5Ideal.main_arg5) = m ((c : Thread nD τ).loc main_arg5) := e5
  have f6 : StableHlo.launchContents m' c (Proc.devRef .tc Cert.Reference5Ideal.main_arg6) = m ((c : Thread nD τ).loc main_arg6) := e6
  have f7 : StableHlo.launchContents m' c (Proc.devRef .tc Cert.Reference5Ideal.main_arg7) = m ((c : Thread nD τ).loc main_arg7) := e7
  have f8 : StableHlo.launchContents m' c (Proc.devRef .tc Cert.Reference5Ideal.main_arg8) = m ((c : Thread nD τ).loc main_arg8) := e8
  simp only [eS, eU, eDt] at hX e
  rw [f0, f1, f2, f3, f4, f5, f6, f7, f8] at e
  rw [f0, f2, f3, f4, f5, f6] at hX
  exact e.trans (final m c N X4 (fun b g r p n j => hX b g r p n j)).symm

theorem algebraic : Cert.algebraic_Kernel5Ideal_Reference5Ideal_pre_finite5 (hKernel5Ideal := Cert.Kernel5Ideal.Gen.facts)
    (hReference5Ideal := Cert.Reference5Ideal.Gen.facts) (hPre_finite5 := preFacts) := by
  intro m g m' g' hpre hagree
  refine ⟨fun c => (Cert.Kernel5Ideal.Gen.dats m 0 c).arrAt 10 Cert.Kernel5Ideal.cfg0.N, ?_, ?_⟩
  · run_from Cert.Kernel5Ideal.Value.run_blocks m g
  · run_from run m' g'
    obtain ⟨e0, e1, e2, e3, e4, e5, e6, e7, e8⟩ := hagree c
    exact result m m' c (fine_of _ _ _ _ _ _ _ _ _ (hpre c)) e0 e1 e2 e3 e4 e5 e6 e7 e8

end Cert.Proof.Ssd

end
-- ==== Proof.lean ====
/- The proof of this directory's certificate (Defs.lean). -/
module

public import proofs.«01_k».proof.Defs
public import proofs.«01_k».proof.Proof.Body
public import proofs.«01_k».proof.Proof.Gen.Kernel2.Frame
public import proofs.«01_k».proof.Proof.Gen.Kernel2Ideal.Value
public import proofs.«01_k».proof.Proof.Gen.Reference2Ideal.Run
public import proofs.«01_k».proof.Proof.Tail
public import proofs.«01_k».proof.Proof.InProj
public import proofs.«01_k».proof.Proof.Ada
public import proofs.«01_k».proof.Proof.SsdPair
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init

@[expose] public section

noncomputable section

namespace Cert.Proof

open Idealize.ShloMosaic Idealize.ShloMosaic.TcCoe Idealize.SL.Sem
open Cert.Kernel Cert.Kernel.Gen

/-- The sparse-attention call runs and gives its arguments back. -/
theorem quiescent_kernel : Cert.quiescent_Kernel := fun m ρ _ =>
  (θ_run Cert.Kernel.defs _ _).mono
    (fun _ h => ⟨fun c =>
      ⟨(Hand.final_in h.1 c 0 rfl).trans (V_main_arg0 m c), (Hand.final_in h.1 c 2 rfl).trans (V_main_arg1 m c),
        (Hand.final_in h.1 c 5 rfl).trans (V_main_arg2 m c), (Hand.final_in h.1 c 6 rfl).trans (V_main_arg3 m c),
        (Hand.final_in h.1 c 7 rfl).trans (V_main_arg4 m c), (Hand.final_in h.1 c 8 rfl).trans (V_main_arg5 m c),
        (Hand.final_in h.1 c 9 rfl).trans (V_main_arg6 m c), (Hand.final_in h.1 c 10 rfl).trans (V_main_arg7 m c)⟩, h.2⟩)
    (Hand.run_main (F := Bits) m ρ)

/-- The tail's reference runs and gives its arguments back. -/
theorem quiescent_reference2 : Cert.quiescent_Reference2Ideal (hReference2Ideal := Cert.Reference2Ideal.Gen.facts) := by
  intro m g _
  run_from Cert.Reference2Ideal.Value.run m g
  · exact fun _ => by simp
  · exact sem_eq_zero_of_no_sems rfl _

/-- The input projection's reference runs and gives its arguments back. -/
theorem quiescent_reference3 : Cert.quiescent_Reference3Ideal (hReference3Ideal := Cert.Reference3Ideal.Gen.facts) := by
  intro m g _
  run_from Cert.Reference3Ideal.Value.run m g
  · exact fun _ => by simp
  · exact sem_eq_zero_of_no_sems rfl _

/-- The modulation's reference runs and gives its arguments back. -/
theorem quiescent_reference4 : Cert.quiescent_Reference4Ideal (hReference4Ideal := Cert.Reference4Ideal.Gen.facts) := by
  intro m g _
  run_from Cert.Reference4Ideal.Value.run m g
  · exact fun _ => by simp
  · exact sem_eq_zero_of_no_sems rfl _

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Ssd.preFacts,
    quiescent_kernel, fun m g _ => Cert.Kernel2.Gen.frame m g, fun m g _ => Cert.Kernel2Ideal.Gen.frame m g,
    quiescent_reference2, fun m g _ => Cert.Kernel3.Gen.frame m g, fun m g _ => Cert.Kernel3Ideal.Gen.frame m g,
    quiescent_reference3, fun m g _ => Cert.Kernel4.Gen.frame m g, fun m g _ => Cert.Kernel4Ideal.Gen.frame m g,
    quiescent_reference4, fun m g _ => Cert.Kernel5.Gen.frame m g, fun m g _ => Cert.Kernel5Ideal.Gen.frame m g,
    fun m g _ => Cert.Kernel5Ideal.Gen.frame m g, Ssd.quiescent, Ssd.quiescent_pre,
    trivial, Tail.algebraic, In.preserves, In.algebraic, trivial, Ada.algebraic, trivial, Ssd.algebraic⟩

end Cert.Proof

end
